-- ==== Defs.lean ====
def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OddInDx (m : (ℓ : Loc Cert.OddInDx.nD Cert.OddInDx.τ Cert.OddInDx.sig) → Buf (Elt Bits) ℓ) : Prop :=
  True

def Pre_OddInDxIdeal (m : (ℓ : Loc Cert.OddInDxIdeal.nD Cert.OddInDxIdeal.τ Cert.OddInDxIdeal.sig) → Buf (Elt Ideal) ℓ) : Prop :=
  True

def Pre_OddInDxRefIdeal (m : (ℓ : Loc Cert.OddInDxRefIdeal.nD Cert.OddInDxRefIdeal.τ Cert.OddInDxRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_finite [hPre_glu_finite : Cert.Pre_glu_finite.Facts] (m : (ℓ : Loc Cert.GluIdeal.nD Cert.GluIdeal.τ Cert.GluIdeal.sig) → Buf (Elt Ideal) ℓ) : Prop :=
  ∀ c : Dev Cert.GluIdeal.nD,
    (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))).1 = (fun _ => 1#1)
    ∧ (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))).2.1 = (fun _ => 1#1)
    ∧ (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))).2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))).1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))).2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))).2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.2 = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_poolf_finite [hPre_poolf_finite : Cert.Pre_poolf_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_poolf_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_poolf_finite [hPre_poolf_finite : Cert.Pre_poolf_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_poolf_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdRefIdeal (m : (ℓ : Loc Cert.SconvFwdRefIdeal.nD Cert.SconvFwdRefIdeal.τ Cert.SconvFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_S5Bwd (m : (ℓ : Loc Cert.S5Bwd.nD Cert.S5Bwd.τ Cert.S5Bwd.sig) → Buf (Elt Bits) ℓ) : Prop :=
  True

def Pre_S5BwdIdeal (m : (ℓ : Loc Cert.S5BwdIdeal.nD Cert.S5BwdIdeal.τ Cert.S5BwdIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_DownLast (m : (ℓ : Loc Cert.DownLast.nD Cert.DownLast.τ Cert.DownLast.sig) → Buf (Elt Bits) ℓ) : Prop :=
  True

def Pre_DownLastIdeal (m : (ℓ : Loc Cert.DownLastIdeal.nD Cert.DownLastIdeal.τ Cert.DownLastIdeal.sig) → Buf (Elt Ideal) ℓ) : Prop :=
  True

def Pre_DownLastRefIdeal (m : (ℓ : Loc Cert.DownLastRefIdeal.nD Cert.DownLastRefIdeal.τ Cert.DownLastRefIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwRefIdeal (m : (ℓ : Loc Cert.EvenInDwRefIdeal.nD Cert.EvenInDwRefIdeal.τ Cert.EvenInDwRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwRefIdeal (m : (ℓ : Loc Cert.OddInDwRefIdeal.nD Cert.OddInDwRefIdeal.τ Cert.OddInDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInRefIdeal (m : (ℓ : Loc Cert.AdamEvenInRefIdeal.nD Cert.AdamEvenInRefIdeal.τ Cert.AdamEvenInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInRefIdeal (m : (ℓ : Loc Cert.AdamOddInRefIdeal.nD Cert.AdamOddInRefIdeal.τ Cert.AdamOddInRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumPartsRefIdeal (m : (ℓ : Loc Cert.SumPartsRefIdeal.nD Cert.SumPartsRefIdeal.τ Cert.SumPartsRefIdeal.sig) → Buf (Elt Ideal) ℓ) : Prop :=
  True

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_OddInDx [hOddInDx : Cert.OddInDx.Facts] : Prop :=
  ∀ (m : (ℓ : Loc Cert.OddInDx.nD Cert.OddInDx.τ Cert.OddInDx.sig) → Buf (Elt Bits) ℓ) (g : Dev Cert.OddInDx.nD → PrngReg), Pre_OddInDx m →
    θ_run (Cert.OddInDx.defs (F := Bits)) (onTc (τ := Cert.OddInDx.τ) (Cert.OddInDx.main (F := Bits))) ⟨m, fun _ => 0, g⟩ (fun r => (∀ c : Dev Cert.OddInDx.nD,
      r.2.mem ((c.tc : Thread Cert.OddInDx.nD Cert.OddInDx.τ).loc Cert.OddInDx.main_arg0) = m ((c.tc : Thread Cert.OddInDx.nD Cert.OddInDx.τ).loc Cert.OddInDx.main_arg0)
      ∧ r.2.mem ((c.tc : Thread Cert.OddInDx.nD Cert.OddInDx.τ).loc Cert.OddInDx.main_arg1) = m ((c.tc : Thread Cert.OddInDx.nD Cert.OddInDx.τ).loc Cert.OddInDx.main_arg1)
      ∧ r.2.mem ((c.tc : Thread Cert.OddInDx.nD Cert.OddInDx.τ).loc Cert.OddInDx.main_arg2) = m ((c.tc : Thread Cert.OddInDx.nD Cert.OddInDx.τ).loc Cert.OddInDx.main_arg2)
      ∧ r.2.mem ((c.tc : Thread Cert.OddInDx.nD Cert.OddInDx.τ).loc Cert.OddInDx.main_arg3) = m ((c.tc : Thread Cert.OddInDx.nD Cert.OddInDx.τ).loc Cert.OddInDx.main_arg3)
      ∧ r.2.mem ((c.tc : Thread Cert.OddInDx.nD Cert.OddInDx.τ).loc Cert.OddInDx.main_arg4) = m ((c.tc : Thread Cert.OddInDx.nD Cert.OddInDx.τ).loc Cert.OddInDx.main_arg4))
      ∧ r.2.sem = fun _ => 0)

def quiescent_OddInDxIdeal [hOddInDxIdeal : Cert.OddInDxIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg), Pre_OddInDxIdeal m →
    θ_run (Cert.OddInDxIdeal.defs (F := Ideal)) (onTc (τ := Cert.OddInDxIdeal.τ) (Cert.OddInDxIdeal.main (F := Ideal))) ⟨m, fun _ => 0, g⟩ (fun r => (∀ c : Dev Cert.OddInDxIdeal.nD,
      r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
      ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
      ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2)
      ∧ r.2.mem ((c.tc : Thread Cert.OddInDxIdeal.nD Cert.OddInDxIdeal.τ).loc Cert.OddInDxIdeal.main_arg3) = m ((c.tc : Thread Cert.OddInDxIdeal.nD Cert.OddInDxIdeal.τ).loc Cert.OddInDxIdeal.main_arg3)
      ∧ r.2.mem ((c.tc : Thread Cert.OddInDxIdeal.nD Cert.OddInDxIdeal.τ).loc Cert.OddInDxIdeal.main_arg4) = m ((c.tc : Thread Cert.OddInDxIdeal.nD Cert.OddInDxIdeal.τ).loc Cert.OddInDxIdeal.main_arg4))
      ∧ r.2.sem = fun _ => 0)

def quiescent_OddInDxRefIdeal [hOddInDxRefIdeal : Cert.OddInDxRefIdeal.Facts] : Prop :=
  ∀ (m : (ℓ : Loc Cert.OddInDxRefIdeal.nD Cert.OddInDxRefIdeal.τ Cert.OddInDxRefIdeal.sig) → Buf (Elt Ideal) ℓ) (g : Dev Cert.OddInDxRefIdeal.nD → PrngReg), Pre_OddInDxRefIdeal m →
    θ_run (Cert.OddInDxRefIdeal.defs (F := Ideal)) (onTc (τ := Cert.OddInDxRefIdeal.τ) (Cert.OddInDxRefIdeal.main (F := Ideal))) ⟨m, fun _ => 0, g⟩ (fun r => (∀ c : Dev Cert.OddInDxRefIdeal.nD,
      r.2.mem ((c.tc : Thread Cert.OddInDxRefIdeal.nD Cert.OddInDxRefIdeal.τ).loc Cert.OddInDxRefIdeal.main_arg0) = m ((c.tc : Thread Cert.OddInDxRefIdeal.nD Cert.OddInDxRefIdeal.τ).loc Cert.OddInDxRefIdeal.main_arg0)
      ∧ r.2.mem ((c.tc : Thread Cert.OddInDxRefIdeal.nD Cert.OddInDxRefIdeal.τ).loc Cert.OddInDxRefIdeal.main_arg1) = m ((c.tc : Thread Cert.OddInDxRefIdeal.nD Cert.OddInDxRefIdeal.τ).loc Cert.OddInDxRefIdeal.main_arg1)
      ∧ r.2.mem ((c.tc : Thread Cert.OddInDxRefIdeal.nD Cert.OddInDxRefIdeal.τ).loc Cert.OddInDxRefIdeal.main_arg2) = m ((c.tc : Thread Cert.OddInDxRefIdeal.nD Cert.OddInDxRefIdeal.τ).loc Cert.OddInDxRefIdeal.main_arg2)
      ∧ r.2.mem ((c.tc : Thread Cert.OddInDxRefIdeal.nD Cert.OddInDxRefIdeal.τ).loc Cert.OddInDxRefIdeal.main_arg3) = m ((c.tc : Thread Cert.OddInDxRefIdeal.nD Cert.OddInDxRefIdeal.τ).loc Cert.OddInDxRefIdeal.main_arg3)
      ∧ r.2.mem ((c.tc : Thread Cert.OddInDxRefIdeal.nD Cert.OddInDxRefIdeal.τ).loc Cert.OddInDxRefIdeal.main_arg4) = m ((c.tc : Thread Cert.OddInDxRefIdeal.nD Cert.OddInDxRefIdeal.τ).loc Cert.OddInDxRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluIdeal_pre_glu_finite [hGluIdeal : Cert.GluIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_poolf_finite [hPoolFwdIdeal : Cert.PoolFwdIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_poolf_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_poolf_finite [hPoolFwdRefIdeal : Cert.PoolFwdRefIdeal.Facts] [hPre_poolf_finite : Cert.Pre_poolf_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_poolf_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ r.2.sem = fun _ => 0)

def quiescent_SconvFwdRefIdeal [hSconvFwdRefIdeal : Cert.SconvFwdRefIdeal.Facts] : Prop :=
  ∀ (m : (ℓ : Loc Cert.SconvFwdRefIdeal.nD Cert.SconvFwdRefIdeal.τ Cert.SconvFwdRefIdeal.sig) → Buf (Elt Ideal) ℓ) (g : Dev Cert.SconvFwdRefIdeal.nD → PrngReg), Pre_SconvFwdRefIdeal m →
    θ_run (Cert.SconvFwdRefIdeal.defs (F := Ideal)) (onTc (τ := Cert.SconvFwdRefIdeal.τ) (Cert.SconvFwdRefIdeal.main (F := Ideal))) ⟨m, fun _ => 0, g⟩ (fun r => (∀ c : Dev Cert.SconvFwdRefIdeal.nD,
      r.2.mem ((c.tc : Thread Cert.SconvFwdRefIdeal.nD Cert.SconvFwdRefIdeal.τ).loc Cert.SconvFwdRefIdeal.main_arg0) = m ((c.tc : Thread Cert.SconvFwdRefIdeal.nD Cert.SconvFwdRefIdeal.τ).loc Cert.SconvFwdRefIdeal.main_arg0)
      ∧ r.2.mem ((c.tc : Thread Cert.SconvFwdRefIdeal.nD Cert.SconvFwdRefIdeal.τ).loc Cert.SconvFwdRefIdeal.main_arg1) = m ((c.tc : Thread Cert.SconvFwdRefIdeal.nD Cert.SconvFwdRefIdeal.τ).loc Cert.SconvFwdRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4)
      ∧ r.2.mem ((c.tc : Thread Cert.S5Fwd.nD Cert.S5Fwd.τ).loc Cert.S5Fwd.main_arg5) = m ((c.tc : Thread Cert.S5Fwd.nD Cert.S5Fwd.τ).loc Cert.S5Fwd.main_arg5)
      ∧ r.2.mem ((c.tc : Thread Cert.S5Fwd.nD Cert.S5Fwd.τ).loc Cert.S5Fwd.main_arg6) = m ((c.tc : Thread Cert.S5Fwd.nD Cert.S5Fwd.τ).loc Cert.S5Fwd.main_arg6)
      ∧ r.2.mem ((c.tc : Thread Cert.S5Fwd.nD Cert.S5Fwd.τ).loc Cert.S5Fwd.main_arg7) = m ((c.tc : Thread Cert.S5Fwd.nD Cert.S5Fwd.τ).loc Cert.S5Fwd.main_arg7)
      ∧ r.2.mem ((c.tc : Thread Cert.S5Fwd.nD Cert.S5Fwd.τ).loc Cert.S5Fwd.main_arg8) = m ((c.tc : Thread Cert.S5Fwd.nD Cert.S5Fwd.τ).loc Cert.S5Fwd.main_arg8))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8))
      ∧ r.2.sem = fun _ => 0)

def quiescent_S5Bwd [hS5Bwd : Cert.S5Bwd.Facts] : Prop :=
  ∀ (m : (ℓ : Loc Cert.S5Bwd.nD Cert.S5Bwd.τ Cert.S5Bwd.sig) → Buf (Elt Bits) ℓ) (g : Dev Cert.S5Bwd.nD → PrngReg), Pre_S5Bwd m →
    θ_run (Cert.S5Bwd.defs (F := Bits)) (onTc (τ := Cert.S5Bwd.τ) (Cert.S5Bwd.main (F := Bits))) ⟨m, fun _ => 0, g⟩ (fun r => (∀ c : Dev Cert.S5Bwd.nD,
      r.2.mem ((c.tc : Thread Cert.S5Bwd.nD Cert.S5Bwd.τ).loc Cert.S5Bwd.main_arg0) = m ((c.tc : Thread Cert.S5Bwd.nD Cert.S5Bwd.τ).loc Cert.S5Bwd.main_arg0)
      ∧ r.2.mem ((c.tc : Thread Cert.S5Bwd.nD Cert.S5Bwd.τ).loc Cert.S5Bwd.main_arg1) = m ((c.tc : Thread Cert.S5Bwd.nD Cert.S5Bwd.τ).loc Cert.S5Bwd.main_arg1)
      ∧ r.2.mem ((c.tc : Thread Cert.S5Bwd.nD Cert.S5Bwd.τ).loc Cert.S5Bwd.main_arg2) = m ((c.tc : Thread Cert.S5Bwd.nD Cert.S5Bwd.τ).loc Cert.S5Bwd.main_arg2)
      ∧ r.2.mem ((c.tc : Thread Cert.S5Bwd.nD Cert.S5Bwd.τ).loc Cert.S5Bwd.main_arg3) = m ((c.tc : Thread Cert.S5Bwd.nD Cert.S5Bwd.τ).loc Cert.S5Bwd.main_arg3)
      ∧ r.2.mem ((c.tc : Thread Cert.S5Bwd.nD Cert.S5Bwd.τ).loc Cert.S5Bwd.main_arg4) = m ((c.tc : Thread Cert.S5Bwd.nD Cert.S5Bwd.τ).loc Cert.S5Bwd.main_arg4)
      ∧ r.2.mem ((c.tc : Thread Cert.S5Bwd.nD Cert.S5Bwd.τ).loc Cert.S5Bwd.main_arg5) = m ((c.tc : Thread Cert.S5Bwd.nD Cert.S5Bwd.τ).loc Cert.S5Bwd.main_arg5)
      ∧ r.2.mem ((c.tc : Thread Cert.S5Bwd.nD Cert.S5Bwd.τ).loc Cert.S5Bwd.main_arg6) = m ((c.tc : Thread Cert.S5Bwd.nD Cert.S5Bwd.τ).loc Cert.S5Bwd.main_arg6)
      ∧ r.2.mem ((c.tc : Thread Cert.S5Bwd.nD Cert.S5Bwd.τ).loc Cert.S5Bwd.main_arg7) = m ((c.tc : Thread Cert.S5Bwd.nD Cert.S5Bwd.τ).loc Cert.S5Bwd.main_arg7)
      ∧ r.2.mem ((c.tc : Thread Cert.S5Bwd.nD Cert.S5Bwd.τ).loc Cert.S5Bwd.main_arg8) = m ((c.tc : Thread Cert.S5Bwd.nD Cert.S5Bwd.τ).loc Cert.S5Bwd.main_arg8)
      ∧ r.2.mem ((c.tc : Thread Cert.S5Bwd.nD Cert.S5Bwd.τ).loc Cert.S5Bwd.main_arg9) = m ((c.tc : Thread Cert.S5Bwd.nD Cert.S5Bwd.τ).loc Cert.S5Bwd.main_arg9)
      ∧ r.2.mem ((c.tc : Thread Cert.S5Bwd.nD Cert.S5Bwd.τ).loc Cert.S5Bwd.main_arg10) = m ((c.tc : Thread Cert.S5Bwd.nD Cert.S5Bwd.τ).loc Cert.S5Bwd.main_arg10))
      ∧ r.2.sem = fun _ => 0)

def quiescent_S5BwdIdeal [hS5BwdIdeal : Cert.S5BwdIdeal.Facts] : Prop :=
  ∀ (m : (ℓ : Loc Cert.S5BwdIdeal.nD Cert.S5BwdIdeal.τ Cert.S5BwdIdeal.sig) → Buf (Elt Ideal) ℓ) (g : Dev Cert.S5BwdIdeal.nD → PrngReg), Pre_S5BwdIdeal m →
    θ_run (Cert.S5BwdIdeal.defs (F := Ideal)) (onTc (τ := Cert.S5BwdIdeal.τ) (Cert.S5BwdIdeal.main (F := Ideal))) ⟨m, fun _ => 0, g⟩ (fun r => (∀ c : Dev Cert.S5BwdIdeal.nD,
      r.2.mem ((c.tc : Thread Cert.S5BwdIdeal.nD Cert.S5BwdIdeal.τ).loc Cert.S5BwdIdeal.main_arg0) = m ((c.tc : Thread Cert.S5BwdIdeal.nD Cert.S5BwdIdeal.τ).loc Cert.S5BwdIdeal.main_arg0)
      ∧ r.2.mem ((c.tc : Thread Cert.S5BwdIdeal.nD Cert.S5BwdIdeal.τ).loc Cert.S5BwdIdeal.main_arg1) = m ((c.tc : Thread Cert.S5BwdIdeal.nD Cert.S5BwdIdeal.τ).loc Cert.S5BwdIdeal.main_arg1)
      ∧ r.2.mem ((c.tc : Thread Cert.S5BwdIdeal.nD Cert.S5BwdIdeal.τ).loc Cert.S5BwdIdeal.main_arg2) = m ((c.tc : Thread Cert.S5BwdIdeal.nD Cert.S5BwdIdeal.τ).loc Cert.S5BwdIdeal.main_arg2)
      ∧ r.2.mem ((c.tc : Thread Cert.S5BwdIdeal.nD Cert.S5BwdIdeal.τ).loc Cert.S5BwdIdeal.main_arg3) = m ((c.tc : Thread Cert.S5BwdIdeal.nD Cert.S5BwdIdeal.τ).loc Cert.S5BwdIdeal.main_arg3)
      ∧ r.2.mem ((c.tc : Thread Cert.S5BwdIdeal.nD Cert.S5BwdIdeal.τ).loc Cert.S5BwdIdeal.main_arg4) = m ((c.tc : Thread Cert.S5BwdIdeal.nD Cert.S5BwdIdeal.τ).loc Cert.S5BwdIdeal.main_arg4)
      ∧ r.2.mem ((c.tc : Thread Cert.S5BwdIdeal.nD Cert.S5BwdIdeal.τ).loc Cert.S5BwdIdeal.main_arg5) = m ((c.tc : Thread Cert.S5BwdIdeal.nD Cert.S5BwdIdeal.τ).loc Cert.S5BwdIdeal.main_arg5)
      ∧ r.2.mem ((c.tc : Thread Cert.S5BwdIdeal.nD Cert.S5BwdIdeal.τ).loc Cert.S5BwdIdeal.main_arg6) = m ((c.tc : Thread Cert.S5BwdIdeal.nD Cert.S5BwdIdeal.τ).loc Cert.S5BwdIdeal.main_arg6)
      ∧ r.2.mem ((c.tc : Thread Cert.S5BwdIdeal.nD Cert.S5BwdIdeal.τ).loc Cert.S5BwdIdeal.main_arg7) = m ((c.tc : Thread Cert.S5BwdIdeal.nD Cert.S5BwdIdeal.τ).loc Cert.S5BwdIdeal.main_arg7)
      ∧ r.2.mem ((c.tc : Thread Cert.S5BwdIdeal.nD Cert.S5BwdIdeal.τ).loc Cert.S5BwdIdeal.main_arg8) = m ((c.tc : Thread Cert.S5BwdIdeal.nD Cert.S5BwdIdeal.τ).loc Cert.S5BwdIdeal.main_arg8)
      ∧ r.2.mem ((c.tc : Thread Cert.S5BwdIdeal.nD Cert.S5BwdIdeal.τ).loc Cert.S5BwdIdeal.main_arg9) = m ((c.tc : Thread Cert.S5BwdIdeal.nD Cert.S5BwdIdeal.τ).loc Cert.S5BwdIdeal.main_arg9)
      ∧ r.2.mem ((c.tc : Thread Cert.S5BwdIdeal.nD Cert.S5BwdIdeal.τ).loc Cert.S5BwdIdeal.main_arg10) = m ((c.tc : Thread Cert.S5BwdIdeal.nD Cert.S5BwdIdeal.τ).loc Cert.S5BwdIdeal.main_arg10))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_DownLast [hDownLast : Cert.DownLast.Facts] : Prop :=
  ∀ (m : (ℓ : Loc Cert.DownLast.nD Cert.DownLast.τ Cert.DownLast.sig) → Buf (Elt Bits) ℓ) (g : Dev Cert.DownLast.nD → PrngReg), Pre_DownLast m →
    θ_run (Cert.DownLast.defs (F := Bits)) (onTc (τ := Cert.DownLast.τ) (Cert.DownLast.main (F := Bits))) ⟨m, fun _ => 0, g⟩ (fun r => (∀ c : Dev Cert.DownLast.nD,
      r.2.mem ((c.tc : Thread Cert.DownLast.nD Cert.DownLast.τ).loc Cert.DownLast.main_arg0) = m ((c.tc : Thread Cert.DownLast.nD Cert.DownLast.τ).loc Cert.DownLast.main_arg0)
      ∧ r.2.mem ((c.tc : Thread Cert.DownLast.nD Cert.DownLast.τ).loc Cert.DownLast.main_arg1) = m ((c.tc : Thread Cert.DownLast.nD Cert.DownLast.τ).loc Cert.DownLast.main_arg1)
      ∧ r.2.mem ((c.tc : Thread Cert.DownLast.nD Cert.DownLast.τ).loc Cert.DownLast.main_arg2) = m ((c.tc : Thread Cert.DownLast.nD Cert.DownLast.τ).loc Cert.DownLast.main_arg2))
      ∧ r.2.sem = fun _ => 0)

def quiescent_DownLastIdeal [hDownLastIdeal : Cert.DownLastIdeal.Facts] : Prop :=
  ∀ (m : (ℓ : Loc Cert.DownLastIdeal.nD Cert.DownLastIdeal.τ Cert.DownLastIdeal.sig) → Buf (Elt Ideal) ℓ) (g : Dev Cert.DownLastIdeal.nD → PrngReg), Pre_DownLastIdeal m →
    θ_run (Cert.DownLastIdeal.defs (F := Ideal)) (onTc (τ := Cert.DownLastIdeal.τ) (Cert.DownLastIdeal.main (F := Ideal))) ⟨m, fun _ => 0, g⟩ (fun r => (∀ c : Dev Cert.DownLastIdeal.nD,
      r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
      ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
      ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ r.2.sem = fun _ => 0)

def quiescent_DownLastRefIdeal [hDownLastRefIdeal : Cert.DownLastRefIdeal.Facts] : Prop :=
  ∀ (m : (ℓ : Loc Cert.DownLastRefIdeal.nD Cert.DownLastRefIdeal.τ Cert.DownLastRefIdeal.sig) → Buf (Elt Ideal) ℓ) (g : Dev Cert.DownLastRefIdeal.nD → PrngReg), Pre_DownLastRefIdeal m →
    θ_run (Cert.DownLastRefIdeal.defs (F := Ideal)) (onTc (τ := Cert.DownLastRefIdeal.τ) (Cert.DownLastRefIdeal.main (F := Ideal))) ⟨m, fun _ => 0, g⟩ (fun r => (∀ c : Dev Cert.DownLastRefIdeal.nD,
      r.2.mem ((c.tc : Thread Cert.DownLastRefIdeal.nD Cert.DownLastRefIdeal.τ).loc Cert.DownLastRefIdeal.main_arg0) = m ((c.tc : Thread Cert.DownLastRefIdeal.nD Cert.DownLastRefIdeal.τ).loc Cert.DownLastRefIdeal.main_arg0)
      ∧ r.2.mem ((c.tc : Thread Cert.DownLastRefIdeal.nD Cert.DownLastRefIdeal.τ).loc Cert.DownLastRefIdeal.main_arg1) = m ((c.tc : Thread Cert.DownLastRefIdeal.nD Cert.DownLastRefIdeal.τ).loc Cert.DownLastRefIdeal.main_arg1)
      ∧ r.2.mem ((c.tc : Thread Cert.DownLastRefIdeal.nD Cert.DownLastRefIdeal.τ).loc Cert.DownLastRefIdeal.main_arg2) = m ((c.tc : Thread Cert.DownLastRefIdeal.nD Cert.DownLastRefIdeal.τ).loc Cert.DownLastRefIdeal.main_arg2))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ r.2.sem = fun _ => 0)

def quiescent_EvenInDwRefIdeal [hEvenInDwRefIdeal : Cert.EvenInDwRefIdeal.Facts] : Prop :=
  ∀ (m : (ℓ : Loc Cert.EvenInDwRefIdeal.nD Cert.EvenInDwRefIdeal.τ Cert.EvenInDwRefIdeal.sig) → Buf (Elt Ideal) ℓ) (g : Dev Cert.EvenInDwRefIdeal.nD → PrngReg), Pre_EvenInDwRefIdeal m →
    θ_run (Cert.EvenInDwRefIdeal.defs (F := Ideal)) (onTc (τ := Cert.EvenInDwRefIdeal.τ) (Cert.EvenInDwRefIdeal.main (F := Ideal))) ⟨m, fun _ => 0, g⟩ (fun r => (∀ c : Dev Cert.EvenInDwRefIdeal.nD,
      r.2.mem ((c.tc : Thread Cert.EvenInDwRefIdeal.nD Cert.EvenInDwRefIdeal.τ).loc Cert.EvenInDwRefIdeal.main_arg0) = m ((c.tc : Thread Cert.EvenInDwRefIdeal.nD Cert.EvenInDwRefIdeal.τ).loc Cert.EvenInDwRefIdeal.main_arg0)
      ∧ r.2.mem ((c.tc : Thread Cert.EvenInDwRefIdeal.nD Cert.EvenInDwRefIdeal.τ).loc Cert.EvenInDwRefIdeal.main_arg1) = m ((c.tc : Thread Cert.EvenInDwRefIdeal.nD Cert.EvenInDwRefIdeal.τ).loc Cert.EvenInDwRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ r.2.sem = fun _ => 0)

def quiescent_OddInDwRefIdeal [hOddInDwRefIdeal : Cert.OddInDwRefIdeal.Facts] : Prop :=
  ∀ (m : (ℓ : Loc Cert.OddInDwRefIdeal.nD Cert.OddInDwRefIdeal.τ Cert.OddInDwRefIdeal.sig) → Buf (Elt Ideal) ℓ) (g : Dev Cert.OddInDwRefIdeal.nD → PrngReg), Pre_OddInDwRefIdeal m →
    θ_run (Cert.OddInDwRefIdeal.defs (F := Ideal)) (onTc (τ := Cert.OddInDwRefIdeal.τ) (Cert.OddInDwRefIdeal.main (F := Ideal))) ⟨m, fun _ => 0, g⟩ (fun r => (∀ c : Dev Cert.OddInDwRefIdeal.nD,
      r.2.mem ((c.tc : Thread Cert.OddInDwRefIdeal.nD Cert.OddInDwRefIdeal.τ).loc Cert.OddInDwRefIdeal.main_arg0) = m ((c.tc : Thread Cert.OddInDwRefIdeal.nD Cert.OddInDwRefIdeal.τ).loc Cert.OddInDwRefIdeal.main_arg0)
      ∧ r.2.mem ((c.tc : Thread Cert.OddInDwRefIdeal.nD Cert.OddInDwRefIdeal.τ).loc Cert.OddInDwRefIdeal.main_arg1) = m ((c.tc : Thread Cert.OddInDwRefIdeal.nD Cert.OddInDwRefIdeal.τ).loc Cert.OddInDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInRefIdeal [hAdamEvenInRefIdeal : Cert.AdamEvenInRefIdeal.Facts] : Prop :=
  ∀ (m : (ℓ : Loc Cert.AdamEvenInRefIdeal.nD Cert.AdamEvenInRefIdeal.τ Cert.AdamEvenInRefIdeal.sig) → Buf (Elt Ideal) ℓ) (g : Dev Cert.AdamEvenInRefIdeal.nD → PrngReg), Pre_AdamEvenInRefIdeal m →
    θ_run (Cert.AdamEvenInRefIdeal.defs (F := Ideal)) (onTc (τ := Cert.AdamEvenInRefIdeal.τ) (Cert.AdamEvenInRefIdeal.main (F := Ideal))) ⟨m, fun _ => 0, g⟩ (fun r => (∀ c : Dev Cert.AdamEvenInRefIdeal.nD,
      r.2.mem ((c.tc : Thread Cert.AdamEvenInRefIdeal.nD Cert.AdamEvenInRefIdeal.τ).loc Cert.AdamEvenInRefIdeal.main_arg0) = m ((c.tc : Thread Cert.AdamEvenInRefIdeal.nD Cert.AdamEvenInRefIdeal.τ).loc Cert.AdamEvenInRefIdeal.main_arg0)
      ∧ r.2.mem ((c.tc : Thread Cert.AdamEvenInRefIdeal.nD Cert.AdamEvenInRefIdeal.τ).loc Cert.AdamEvenInRefIdeal.main_arg1) = m ((c.tc : Thread Cert.AdamEvenInRefIdeal.nD Cert.AdamEvenInRefIdeal.τ).loc Cert.AdamEvenInRefIdeal.main_arg1)
      ∧ r.2.mem ((c.tc : Thread Cert.AdamEvenInRefIdeal.nD Cert.AdamEvenInRefIdeal.τ).loc Cert.AdamEvenInRefIdeal.main_arg2) = m ((c.tc : Thread Cert.AdamEvenInRefIdeal.nD Cert.AdamEvenInRefIdeal.τ).loc Cert.AdamEvenInRefIdeal.main_arg2)
      ∧ r.2.mem ((c.tc : Thread Cert.AdamEvenInRefIdeal.nD Cert.AdamEvenInRefIdeal.τ).loc Cert.AdamEvenInRefIdeal.main_arg3) = m ((c.tc : Thread Cert.AdamEvenInRefIdeal.nD Cert.AdamEvenInRefIdeal.τ).loc Cert.AdamEvenInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInRefIdeal [hAdamOddInRefIdeal : Cert.AdamOddInRefIdeal.Facts] : Prop :=
  ∀ (m : (ℓ : Loc Cert.AdamOddInRefIdeal.nD Cert.AdamOddInRefIdeal.τ Cert.AdamOddInRefIdeal.sig) → Buf (Elt Ideal) ℓ) (g : Dev Cert.AdamOddInRefIdeal.nD → PrngReg), Pre_AdamOddInRefIdeal m →
    θ_run (Cert.AdamOddInRefIdeal.defs (F := Ideal)) (onTc (τ := Cert.AdamOddInRefIdeal.τ) (Cert.AdamOddInRefIdeal.main (F := Ideal))) ⟨m, fun _ => 0, g⟩ (fun r => (∀ c : Dev Cert.AdamOddInRefIdeal.nD,
      r.2.mem ((c.tc : Thread Cert.AdamOddInRefIdeal.nD Cert.AdamOddInRefIdeal.τ).loc Cert.AdamOddInRefIdeal.main_arg0) = m ((c.tc : Thread Cert.AdamOddInRefIdeal.nD Cert.AdamOddInRefIdeal.τ).loc Cert.AdamOddInRefIdeal.main_arg0)
      ∧ r.2.mem ((c.tc : Thread Cert.AdamOddInRefIdeal.nD Cert.AdamOddInRefIdeal.τ).loc Cert.AdamOddInRefIdeal.main_arg1) = m ((c.tc : Thread Cert.AdamOddInRefIdeal.nD Cert.AdamOddInRefIdeal.τ).loc Cert.AdamOddInRefIdeal.main_arg1)
      ∧ r.2.mem ((c.tc : Thread Cert.AdamOddInRefIdeal.nD Cert.AdamOddInRefIdeal.τ).loc Cert.AdamOddInRefIdeal.main_arg2) = m ((c.tc : Thread Cert.AdamOddInRefIdeal.nD Cert.AdamOddInRefIdeal.τ).loc Cert.AdamOddInRefIdeal.main_arg2)
      ∧ r.2.mem ((c.tc : Thread Cert.AdamOddInRefIdeal.nD Cert.AdamOddInRefIdeal.τ).loc Cert.AdamOddInRefIdeal.main_arg3) = m ((c.tc : Thread Cert.AdamOddInRefIdeal.nD Cert.AdamOddInRefIdeal.τ).loc Cert.AdamOddInRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_SumPartsRefIdeal [hSumPartsRefIdeal : Cert.SumPartsRefIdeal.Facts] : Prop :=
  ∀ (m : (ℓ : Loc Cert.SumPartsRefIdeal.nD Cert.SumPartsRefIdeal.τ Cert.SumPartsRefIdeal.sig) → Buf (Elt Ideal) ℓ) (g : Dev Cert.SumPartsRefIdeal.nD → PrngReg), Pre_SumPartsRefIdeal m →
    θ_run (Cert.SumPartsRefIdeal.defs (F := Ideal)) (onTc (τ := Cert.SumPartsRefIdeal.τ) (Cert.SumPartsRefIdeal.main (F := Ideal))) ⟨m, fun _ => 0, g⟩ (fun r => (∀ c : Dev Cert.SumPartsRefIdeal.nD,
      r.2.mem ((c.tc : Thread Cert.SumPartsRefIdeal.nD Cert.SumPartsRefIdeal.τ).loc Cert.SumPartsRefIdeal.main_arg0) = m ((c.tc : Thread Cert.SumPartsRefIdeal.nD Cert.SumPartsRefIdeal.τ).loc Cert.SumPartsRefIdeal.main_arg0))
      ∧ r.2.sem = fun _ => 0)

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v0_0)) (v1 : (c : Dev Cert.SconvIdeal.nD) → Buf (Elt Ideal) ((c.tc : Thread Cert.SconvIdeal.nD Cert.SconvIdeal.τ).loc Cert.SconvIdeal.main_v0_1)) (v2 : (c : Dev Cert.SconvIdeal.nD) → Buf (Elt Ideal) ((c.tc : Thread Cert.SconvIdeal.nD Cert.SconvIdeal.τ).loc Cert.SconvIdeal.main_v0_2)) (v3 : (c : Dev Cert.SconvIdeal.nD) → Buf (Elt Ideal) ((c.tc : Thread Cert.SconvIdeal.nD Cert.SconvIdeal.τ).loc Cert.SconvIdeal.main_v0_3)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0_0) = v0 c
          ∧ r.2.mem ((c.tc : Thread Cert.SconvIdeal.nD Cert.SconvIdeal.τ).loc Cert.SconvIdeal.main_v0_1) = v1 c
          ∧ r.2.mem ((c.tc : Thread Cert.SconvIdeal.nD Cert.SconvIdeal.τ).loc Cert.SconvIdeal.main_v0_2) = v2 c
          ∧ r.2.mem ((c.tc : Thread Cert.SconvIdeal.nD Cert.SconvIdeal.τ).loc Cert.SconvIdeal.main_v0_3) = v3 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v66) = v0 c
          ∧ r.2.mem ((c.tc : Thread Cert.SconvRefIdeal.nD Cert.SconvRefIdeal.τ).loc Cert.SconvRefIdeal.main_v67) = v1 c
          ∧ r.2.mem ((c.tc : Thread Cert.SconvRefIdeal.nD Cert.SconvRefIdeal.τ).loc Cert.SconvRefIdeal.main_v68) = v2 c
          ∧ r.2.mem ((c.tc : Thread Cert.SconvRefIdeal.nD Cert.SconvRefIdeal.τ).loc Cert.SconvRefIdeal.main_v59) = v3 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v2_0)) (v1 : (c : Dev Cert.UpDxIdeal.nD) → Buf (Elt Ideal) ((c.tc : Thread Cert.UpDxIdeal.nD Cert.UpDxIdeal.τ).loc Cert.UpDxIdeal.main_v2_1)) (v2 : (c : Dev Cert.UpDxIdeal.nD) → Buf (Elt Ideal) ((c.tc : Thread Cert.UpDxIdeal.nD Cert.UpDxIdeal.τ).loc Cert.UpDxIdeal.main_v2_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2_0) = v0 c
          ∧ r.2.mem ((c.tc : Thread Cert.UpDxIdeal.nD Cert.UpDxIdeal.τ).loc Cert.UpDxIdeal.main_v2_1) = v1 c
          ∧ r.2.mem ((c.tc : Thread Cert.UpDxIdeal.nD Cert.UpDxIdeal.τ).loc Cert.UpDxIdeal.main_v2_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v46) = v0 c
          ∧ r.2.mem ((c.tc : Thread Cert.UpDxRefIdeal.nD Cert.UpDxRefIdeal.τ).loc Cert.UpDxRefIdeal.main_v47) = v1 c
          ∧ r.2.mem ((c.tc : Thread Cert.UpDxRefIdeal.nD Cert.UpDxRefIdeal.τ).loc Cert.UpDxRefIdeal.main_v48) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)) (v2 : (c : Dev Cert.InDxIdeal.nD) → Buf (Elt Ideal) ((c.tc : Thread Cert.InDxIdeal.nD Cert.InDxIdeal.τ).loc Cert.InDxIdeal.main_v2_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_v2_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v41) = v0 c
          ∧ r.2.mem ((c.tc : Thread Cert.InDxRefIdeal.nD Cert.InDxRefIdeal.τ).loc Cert.InDxRefIdeal.main_v42) = v1 c
          ∧ r.2.mem ((c.tc : Thread Cert.InDxRefIdeal.nD Cert.InDxRefIdeal.τ).loc Cert.InDxRefIdeal.main_v43) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_OddInDx_OddInDxIdeal : Prop :=
  True

def algebraic_OddInDxIdeal_OddInDxRefIdeal [hOddInDxIdeal : Cert.OddInDxIdeal.Facts] [hOddInDxRefIdeal : Cert.OddInDxRefIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg)
    (m' : (ℓ : Loc Cert.OddInDxRefIdeal.nD Cert.OddInDxRefIdeal.τ Cert.OddInDxRefIdeal.sig) → Buf (Elt Ideal) ℓ) (g' : Dev Cert.OddInDxRefIdeal.nD → PrngReg), Pre_OddInDxIdeal m →
    (∀ c : Dev Cert.OddInDxIdeal.nD,
      m' ((c.tc : Thread Cert.OddInDxRefIdeal.nD Cert.OddInDxRefIdeal.τ).loc Cert.OddInDxRefIdeal.main_arg0) = m ((c.tc : Thread Cert.OddInDxIdeal.nD Cert.OddInDxIdeal.τ).loc Cert.OddInDxIdeal.main_arg0)
      ∧ m' ((c.tc : Thread Cert.OddInDxRefIdeal.nD Cert.OddInDxRefIdeal.τ).loc Cert.OddInDxRefIdeal.main_arg1) = m ((c.tc : Thread Cert.OddInDxIdeal.nD Cert.OddInDxIdeal.τ).loc Cert.OddInDxIdeal.main_arg1)
      ∧ m' ((c.tc : Thread Cert.OddInDxRefIdeal.nD Cert.OddInDxRefIdeal.τ).loc Cert.OddInDxRefIdeal.main_arg2) = m ((c.tc : Thread Cert.OddInDxIdeal.nD Cert.OddInDxIdeal.τ).loc Cert.OddInDxIdeal.main_arg2)
      ∧ m' ((c.tc : Thread Cert.OddInDxRefIdeal.nD Cert.OddInDxRefIdeal.τ).loc Cert.OddInDxRefIdeal.main_arg3) = m ((c.tc : Thread Cert.OddInDxIdeal.nD Cert.OddInDxIdeal.τ).loc Cert.OddInDxIdeal.main_arg3)
      ∧ m' ((c.tc : Thread Cert.OddInDxRefIdeal.nD Cert.OddInDxRefIdeal.τ).loc Cert.OddInDxRefIdeal.main_arg4) = m ((c.tc : Thread Cert.OddInDxIdeal.nD Cert.OddInDxIdeal.τ).loc Cert.OddInDxIdeal.main_arg4)) →
    ∃ (v0 : (c : Dev Cert.OddInDxIdeal.nD) → Buf (Elt Ideal) ((c.tc : Thread Cert.OddInDxIdeal.nD Cert.OddInDxIdeal.τ).loc Cert.OddInDxIdeal.main_v2_0)) (v1 : (c : Dev Cert.OddInDxIdeal.nD) → Buf (Elt Ideal) ((c.tc : Thread Cert.OddInDxIdeal.nD Cert.OddInDxIdeal.τ).loc Cert.OddInDxIdeal.main_v2_1)) (v2 : (c : Dev Cert.OddInDxIdeal.nD) → Buf (Elt Ideal) ((c.tc : Thread Cert.OddInDxIdeal.nD Cert.OddInDxIdeal.τ).loc Cert.OddInDxIdeal.main_v2_2)),
      θ_run (Cert.OddInDxIdeal.defs (F := Ideal)) (onTc (τ := Cert.OddInDxIdeal.τ) (Cert.OddInDxIdeal.main (F := Ideal))) ⟨m, fun _ => 0, g⟩ (fun r => ∀ c : Dev Cert.OddInDxIdeal.nD,
          r.2.mem ((c.tc : Thread Cert.OddInDxIdeal.nD Cert.OddInDxIdeal.τ).loc Cert.OddInDxIdeal.main_v2_0) = v0 c
          ∧ r.2.mem ((c.tc : Thread Cert.OddInDxIdeal.nD Cert.OddInDxIdeal.τ).loc Cert.OddInDxIdeal.main_v2_1) = v1 c
          ∧ r.2.mem ((c.tc : Thread Cert.OddInDxIdeal.nD Cert.OddInDxIdeal.τ).loc Cert.OddInDxIdeal.main_v2_2) = v2 c
          ∧ r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
          ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
          ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2)
          ∧ r.2.mem ((c.tc : Thread Cert.OddInDxIdeal.nD Cert.OddInDxIdeal.τ).loc Cert.OddInDxIdeal.main_arg3) = m ((c.tc : Thread Cert.OddInDxIdeal.nD Cert.OddInDxIdeal.τ).loc Cert.OddInDxIdeal.main_arg3)
          ∧ r.2.mem ((c.tc : Thread Cert.OddInDxIdeal.nD Cert.OddInDxIdeal.τ).loc Cert.OddInDxIdeal.main_arg4) = m ((c.tc : Thread Cert.OddInDxIdeal.nD Cert.OddInDxIdeal.τ).loc Cert.OddInDxIdeal.main_arg4))
      ∧ θ_run (Cert.OddInDxRefIdeal.defs (F := Ideal)) (onTc (τ := Cert.OddInDxRefIdeal.τ) (Cert.OddInDxRefIdeal.main (F := Ideal))) ⟨m', fun _ => 0, g'⟩ (fun r => ∀ c : Dev Cert.OddInDxRefIdeal.nD,
          r.2.mem ((c.tc : Thread Cert.OddInDxRefIdeal.nD Cert.OddInDxRefIdeal.τ).loc Cert.OddInDxRefIdeal.main_v41) = v0 c
          ∧ r.2.mem ((c.tc : Thread Cert.OddInDxRefIdeal.nD Cert.OddInDxRefIdeal.τ).loc Cert.OddInDxRefIdeal.main_v42) = v1 c
          ∧ r.2.mem ((c.tc : Thread Cert.OddInDxRefIdeal.nD Cert.OddInDxRefIdeal.τ).loc Cert.OddInDxRefIdeal.main_v43) = v2 c
          ∧ r.2.mem ((c.tc : Thread Cert.OddInDxRefIdeal.nD Cert.OddInDxRefIdeal.τ).loc Cert.OddInDxRefIdeal.main_arg0) = m' ((c.tc : Thread Cert.OddInDxRefIdeal.nD Cert.OddInDxRefIdeal.τ).loc Cert.OddInDxRefIdeal.main_arg0)
          ∧ r.2.mem ((c.tc : Thread Cert.OddInDxRefIdeal.nD Cert.OddInDxRefIdeal.τ).loc Cert.OddInDxRefIdeal.main_arg1) = m' ((c.tc : Thread Cert.OddInDxRefIdeal.nD Cert.OddInDxRefIdeal.τ).loc Cert.OddInDxRefIdeal.main_arg1)
          ∧ r.2.mem ((c.tc : Thread Cert.OddInDxRefIdeal.nD Cert.OddInDxRefIdeal.τ).loc Cert.OddInDxRefIdeal.main_arg2) = m' ((c.tc : Thread Cert.OddInDxRefIdeal.nD Cert.OddInDxRefIdeal.τ).loc Cert.OddInDxRefIdeal.main_arg2)
          ∧ r.2.mem ((c.tc : Thread Cert.OddInDxRefIdeal.nD Cert.OddInDxRefIdeal.τ).loc Cert.OddInDxRefIdeal.main_arg3) = m' ((c.tc : Thread Cert.OddInDxRefIdeal.nD Cert.OddInDxRefIdeal.τ).loc Cert.OddInDxRefIdeal.main_arg3)
          ∧ r.2.mem ((c.tc : Thread Cert.OddInDxRefIdeal.nD Cert.OddInDxRefIdeal.τ).loc Cert.OddInDxRefIdeal.main_arg4) = m' ((c.tc : Thread Cert.OddInDxRefIdeal.nD Cert.OddInDxRefIdeal.τ).loc Cert.OddInDxRefIdeal.main_arg4))

def preserves_Glu_GluIdeal : Prop :=
  IdealRules.named_const.Statement Cert.GluIdeal.κ "gelu_c" .f32 0x3D372713#32 ((8943 / 200000 : ℝ) : EReal)
  ∧ IdealRules.named_const.Statement Cert.GluIdeal.κ "gelu_3c" .f32 0x3E095D4F#32 ((26829 / 200000 : ℝ) : EReal)

def algebraic_GluIdeal_GluRefIdeal_pre_glu_finite [hGluIdeal : Cert.GluIdeal.Facts] [hGluRefIdeal : Cert.GluRefIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v2_1)) (v2 : (c : Dev Cert.GluIdeal.nD) → Buf (Elt Ideal) ((c.tc : Thread Cert.GluIdeal.nD Cert.GluIdeal.τ).loc Cert.GluIdeal.main_v2_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v2_1) = v1 c
          ∧ r.2.mem ((c.tc : Thread Cert.GluIdeal.nD Cert.GluIdeal.τ).loc Cert.GluIdeal.main_v2_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v61) = v0 c
          ∧ r.2.mem ((c.tc : Thread Cert.GluRefIdeal.nD Cert.GluRefIdeal.τ).loc Cert.GluRefIdeal.main_v45) = v1 c
          ∧ r.2.mem ((c.tc : Thread Cert.GluRefIdeal.nD Cert.GluRefIdeal.τ).loc Cert.GluRefIdeal.main_v62) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v1_0)) (v1 : (c : Dev Cert.PoolIdeal.nD) → Buf (Elt Ideal) ((c.tc : Thread Cert.PoolIdeal.nD Cert.PoolIdeal.τ).loc Cert.PoolIdeal.main_v1_1)) (v2 : (c : Dev Cert.PoolIdeal.nD) → Buf (Elt Ideal) ((c.tc : Thread Cert.PoolIdeal.nD Cert.PoolIdeal.τ).loc Cert.PoolIdeal.main_v1_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1_0) = v0 c
          ∧ r.2.mem ((c.tc : Thread Cert.PoolIdeal.nD Cert.PoolIdeal.τ).loc Cert.PoolIdeal.main_v1_1) = v1 c
          ∧ r.2.mem ((c.tc : Thread Cert.PoolIdeal.nD Cert.PoolIdeal.τ).loc Cert.PoolIdeal.main_v1_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v153) = v0 c
          ∧ r.2.mem ((c.tc : Thread Cert.PoolRefIdeal.nD Cert.PoolRefIdeal.τ).loc Cert.PoolRefIdeal.main_v87) = v1 c
          ∧ r.2.mem ((c.tc : Thread Cert.PoolRefIdeal.nD Cert.PoolRefIdeal.τ).loc Cert.PoolRefIdeal.main_v154) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Sgu_SguIdeal : Prop :=
  IdealRules.named_const.Statement Cert.SguIdeal.κ "gelu_c" .f32 0x3D372713#32 ((8943 / 200000 : ℝ) : EReal)
  ∧ IdealRules.named_const.Statement Cert.SguIdeal.κ "gelu_3c" .f32 0x3E095D4F#32 ((26829 / 200000 : ℝ) : EReal)

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v2_0)) (v1 : (c : Dev Cert.SguIdeal.nD) → Buf (Elt Ideal) ((c.tc : Thread Cert.SguIdeal.nD Cert.SguIdeal.τ).loc Cert.SguIdeal.main_v2_1)) (v2 : (c : Dev Cert.SguIdeal.nD) → Buf (Elt Ideal) ((c.tc : Thread Cert.SguIdeal.nD Cert.SguIdeal.τ).loc Cert.SguIdeal.main_v2_2)) (v3 : (c : Dev Cert.SguIdeal.nD) → Buf (Elt Ideal) ((c.tc : Thread Cert.SguIdeal.nD Cert.SguIdeal.τ).loc Cert.SguIdeal.main_v2_3)) (v4 : (c : Dev Cert.SguIdeal.nD) → Buf (Elt Ideal) ((c.tc : Thread Cert.SguIdeal.nD Cert.SguIdeal.τ).loc Cert.SguIdeal.main_v2_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v2_0) = v0 c
          ∧ r.2.mem ((c.tc : Thread Cert.SguIdeal.nD Cert.SguIdeal.τ).loc Cert.SguIdeal.main_v2_1) = v1 c
          ∧ r.2.mem ((c.tc : Thread Cert.SguIdeal.nD Cert.SguIdeal.τ).loc Cert.SguIdeal.main_v2_2) = v2 c
          ∧ r.2.mem ((c.tc : Thread Cert.SguIdeal.nD Cert.SguIdeal.τ).loc Cert.SguIdeal.main_v2_3) = v3 c
          ∧ r.2.mem ((c.tc : Thread Cert.SguIdeal.nD Cert.SguIdeal.τ).loc Cert.SguIdeal.main_v2_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v140) = v0 c
          ∧ r.2.mem ((c.tc : Thread Cert.SguRefIdeal.nD Cert.SguRefIdeal.τ).loc Cert.SguRefIdeal.main_v141) = v1 c
          ∧ r.2.mem ((c.tc : Thread Cert.SguRefIdeal.nD Cert.SguRefIdeal.τ).loc Cert.SguRefIdeal.main_v90) = v2 c
          ∧ r.2.mem ((c.tc : Thread Cert.SguRefIdeal.nD Cert.SguRefIdeal.τ).loc Cert.SguRefIdeal.main_v85) = v3 c
          ∧ r.2.mem ((c.tc : Thread Cert.SguRefIdeal.nD Cert.SguRefIdeal.τ).loc Cert.SguRefIdeal.main_v142) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v2_0)) (v2 : (c : Dev Cert.FfnIdeal.nD) → Buf (Elt Ideal) ((c.tc : Thread Cert.FfnIdeal.nD Cert.FfnIdeal.τ).loc Cert.FfnIdeal.main_v7)) (v3 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v2_0) = v1 c
          ∧ r.2.mem ((c.tc : Thread Cert.FfnIdeal.nD Cert.FfnIdeal.τ).loc Cert.FfnIdeal.main_v7) = v2 c
          ∧ r.2.mem ((c.tc : Thread Cert.FfnIdeal.nD Cert.FfnIdeal.τ).loc Cert.FfnIdeal.main_v12) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v71) = v0 c
          ∧ r.2.mem ((c.tc : Thread Cert.FfnRefIdeal.nD Cert.FfnRefIdeal.τ).loc Cert.FfnRefIdeal.main_v77) = v1 c
          ∧ r.2.mem ((c.tc : Thread Cert.FfnRefIdeal.nD Cert.FfnRefIdeal.τ).loc Cert.FfnRefIdeal.main_v66) = v2 c
          ∧ r.2.mem ((c.tc : Thread Cert.FfnRefIdeal.nD Cert.FfnRefIdeal.τ).loc Cert.FfnRefIdeal.main_v78) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_GluFwd_GluFwdIdeal : Prop :=
  IdealRules.named_const.Statement Cert.GluFwdIdeal.κ "gelu_c" .f32 0x3D372713#32 ((8943 / 200000 : ℝ) : EReal)

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v2)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v2) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v28) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v15) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PoolFwd_PoolFwdIdeal : Prop :=
  True

def algebraic_PoolFwdIdeal_PoolFwdRefIdeal_pre_poolf_finite [hPoolFwdIdeal : Cert.PoolFwdIdeal.Facts] [hPoolFwdRefIdeal : Cert.PoolFwdRefIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_poolf_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v71) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_SguFwd_SguFwdIdeal : Prop :=
  IdealRules.named_const.Statement Cert.SguFwdIdeal.κ "gelu_c" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v2)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v2) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v61) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_SconvFwd_SconvFwdIdeal : Prop :=
  True

def algebraic_SconvFwdIdeal_SconvFwdRefIdeal [hSconvFwdIdeal : Cert.SconvFwdIdeal.Facts] [hSconvFwdRefIdeal : Cert.SconvFwdRefIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdRefIdeal.nD Cert.SconvFwdRefIdeal.τ Cert.SconvFwdRefIdeal.sig) → Buf (Elt Ideal) ℓ) (g' : Dev Cert.SconvFwdRefIdeal.nD → PrngReg), Pre_SconvFwdIdeal m →
    (∀ c : Dev Cert.SconvFwdIdeal.nD,
      m' ((c.tc : Thread Cert.SconvFwdRefIdeal.nD Cert.SconvFwdRefIdeal.τ).loc Cert.SconvFwdRefIdeal.main_arg0) = m ((c.tc : Thread Cert.SconvFwdIdeal.nD Cert.SconvFwdIdeal.τ).loc Cert.SconvFwdIdeal.main_arg0)
      ∧ m' ((c.tc : Thread Cert.SconvFwdRefIdeal.nD Cert.SconvFwdRefIdeal.τ).loc Cert.SconvFwdRefIdeal.main_arg1) = m ((c.tc : Thread Cert.SconvFwdIdeal.nD Cert.SconvFwdIdeal.τ).loc Cert.SconvFwdIdeal.main_arg1)) →
    ∃ (v0 : (c : Dev Cert.SconvFwdIdeal.nD) → Buf (Elt Ideal) ((c.tc : Thread Cert.SconvFwdIdeal.nD Cert.SconvFwdIdeal.τ).loc Cert.SconvFwdIdeal.main_v1)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v1) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ θ_run (Cert.SconvFwdRefIdeal.defs (F := Ideal)) (onTc (τ := Cert.SconvFwdRefIdeal.τ) (Cert.SconvFwdRefIdeal.main (F := Ideal))) ⟨m', fun _ => 0, g'⟩ (fun r => ∀ c : Dev Cert.SconvFwdRefIdeal.nD,
          r.2.mem ((c.tc : Thread Cert.SconvFwdRefIdeal.nD Cert.SconvFwdRefIdeal.τ).loc Cert.SconvFwdRefIdeal.main_v27) = v0 c
          ∧ r.2.mem ((c.tc : Thread Cert.SconvFwdRefIdeal.nD Cert.SconvFwdRefIdeal.τ).loc Cert.SconvFwdRefIdeal.main_arg0) = m' ((c.tc : Thread Cert.SconvFwdRefIdeal.nD Cert.SconvFwdRefIdeal.τ).loc Cert.SconvFwdRefIdeal.main_arg0)
          ∧ r.2.mem ((c.tc : Thread Cert.SconvFwdRefIdeal.nD Cert.SconvFwdRefIdeal.τ).loc Cert.SconvFwdRefIdeal.main_arg1) = m' ((c.tc : Thread Cert.SconvFwdRefIdeal.nD Cert.SconvFwdRefIdeal.τ).loc Cert.SconvFwdRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v18) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_S5Fwd_S5FwdIdeal : Prop :=
  True

def preserves_S5Bwd_S5BwdIdeal : Prop :=
  True

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v3) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v4) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v2) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_DownLast_DownLastIdeal : Prop :=
  True

def algebraic_DownLastIdeal_DownLastRefIdeal [hDownLastIdeal : Cert.DownLastIdeal.Facts] [hDownLastRefIdeal : Cert.DownLastRefIdeal.Facts] : Prop :=
  ∀ (m : (ℓ : Loc Cert.DownLastIdeal.nD Cert.DownLastIdeal.τ Cert.DownLastIdeal.sig) → Buf (Elt Ideal) ℓ) (g : Dev Cert.DownLastIdeal.nD → PrngReg)
    (m' : (ℓ : Loc Cert.DownLastRefIdeal.nD Cert.DownLastRefIdeal.τ Cert.DownLastRefIdeal.sig) → Buf (Elt Ideal) ℓ) (g' : Dev Cert.DownLastRefIdeal.nD → PrngReg), Pre_DownLastIdeal m →
    (∀ c : Dev Cert.DownLastIdeal.nD,
      m' ((c.tc : Thread Cert.DownLastRefIdeal.nD Cert.DownLastRefIdeal.τ).loc Cert.DownLastRefIdeal.main_arg0) = m ((c.tc : Thread Cert.DownLastIdeal.nD Cert.DownLastIdeal.τ).loc Cert.DownLastIdeal.main_arg0)
      ∧ m' ((c.tc : Thread Cert.DownLastRefIdeal.nD Cert.DownLastRefIdeal.τ).loc Cert.DownLastRefIdeal.main_arg1) = m ((c.tc : Thread Cert.DownLastIdeal.nD Cert.DownLastIdeal.τ).loc Cert.DownLastIdeal.main_arg1)
      ∧ m' ((c.tc : Thread Cert.DownLastRefIdeal.nD Cert.DownLastRefIdeal.τ).loc Cert.DownLastRefIdeal.main_arg2) = m ((c.tc : Thread Cert.DownLastIdeal.nD Cert.DownLastIdeal.τ).loc Cert.DownLastIdeal.main_arg2)) →
    ∃ (v0 : (c : Dev Cert.DownLastIdeal.nD) → Buf (Elt Ideal) ((c.tc : Thread Cert.DownLastIdeal.nD Cert.DownLastIdeal.τ).loc Cert.DownLastIdeal.main_v0)),
      θ_run (Cert.DownLastIdeal.defs (F := Ideal)) (onTc (τ := Cert.DownLastIdeal.τ) (Cert.DownLastIdeal.main (F := Ideal))) ⟨m, fun _ => 0, g⟩ (fun r => ∀ c : Dev Cert.DownLastIdeal.nD,
          r.2.mem ((c.tc : Thread Cert.DownLastIdeal.nD Cert.DownLastIdeal.τ).loc Cert.DownLastIdeal.main_v0) = v0 c
          ∧ r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
          ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
          ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ θ_run (Cert.DownLastRefIdeal.defs (F := Ideal)) (onTc (τ := Cert.DownLastRefIdeal.τ) (Cert.DownLastRefIdeal.main (F := Ideal))) ⟨m', fun _ => 0, g'⟩ (fun r => ∀ c : Dev Cert.DownLastRefIdeal.nD,
          r.2.mem ((c.tc : Thread Cert.DownLastRefIdeal.nD Cert.DownLastRefIdeal.τ).loc Cert.DownLastRefIdeal.main_v3) = v0 c
          ∧ r.2.mem ((c.tc : Thread Cert.DownLastRefIdeal.nD Cert.DownLastRefIdeal.τ).loc Cert.DownLastRefIdeal.main_arg0) = m' ((c.tc : Thread Cert.DownLastRefIdeal.nD Cert.DownLastRefIdeal.τ).loc Cert.DownLastRefIdeal.main_arg0)
          ∧ r.2.mem ((c.tc : Thread Cert.DownLastRefIdeal.nD Cert.DownLastRefIdeal.τ).loc Cert.DownLastRefIdeal.main_arg1) = m' ((c.tc : Thread Cert.DownLastRefIdeal.nD Cert.DownLastRefIdeal.τ).loc Cert.DownLastRefIdeal.main_arg1)
          ∧ r.2.mem ((c.tc : Thread Cert.DownLastRefIdeal.nD Cert.DownLastRefIdeal.τ).loc Cert.DownLastRefIdeal.main_arg2) = m' ((c.tc : Thread Cert.DownLastRefIdeal.nD Cert.DownLastRefIdeal.τ).loc Cert.DownLastRefIdeal.main_arg2))

def preserves_EvenInDw_EvenInDwIdeal : Prop :=
  True

def algebraic_EvenInDwIdeal_EvenInDwRefIdeal [hEvenInDwIdeal : Cert.EvenInDwIdeal.Facts] [hEvenInDwRefIdeal : Cert.EvenInDwRefIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwRefIdeal.nD Cert.EvenInDwRefIdeal.τ Cert.EvenInDwRefIdeal.sig) → Buf (Elt Ideal) ℓ) (g' : Dev Cert.EvenInDwRefIdeal.nD → PrngReg), Pre_EvenInDwIdeal m →
    (∀ c : Dev Cert.EvenInDwIdeal.nD,
      m' ((c.tc : Thread Cert.EvenInDwRefIdeal.nD Cert.EvenInDwRefIdeal.τ).loc Cert.EvenInDwRefIdeal.main_arg0) = m ((c.tc : Thread Cert.EvenInDwIdeal.nD Cert.EvenInDwIdeal.τ).loc Cert.EvenInDwIdeal.main_arg0)
      ∧ m' ((c.tc : Thread Cert.EvenInDwRefIdeal.nD Cert.EvenInDwRefIdeal.τ).loc Cert.EvenInDwRefIdeal.main_arg1) = m ((c.tc : Thread Cert.EvenInDwIdeal.nD Cert.EvenInDwIdeal.τ).loc Cert.EvenInDwIdeal.main_arg1)) →
    ∃ (v0 : (c : Dev Cert.EvenInDwIdeal.nD) → Buf (Elt Ideal) ((c.tc : Thread Cert.EvenInDwIdeal.nD Cert.EvenInDwIdeal.τ).loc Cert.EvenInDwIdeal.main_v0)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v0) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ θ_run (Cert.EvenInDwRefIdeal.defs (F := Ideal)) (onTc (τ := Cert.EvenInDwRefIdeal.τ) (Cert.EvenInDwRefIdeal.main (F := Ideal))) ⟨m', fun _ => 0, g'⟩ (fun r => ∀ c : Dev Cert.EvenInDwRefIdeal.nD,
          r.2.mem ((c.tc : Thread Cert.EvenInDwRefIdeal.nD Cert.EvenInDwRefIdeal.τ).loc Cert.EvenInDwRefIdeal.main_v4) = v0 c
          ∧ r.2.mem ((c.tc : Thread Cert.EvenInDwRefIdeal.nD Cert.EvenInDwRefIdeal.τ).loc Cert.EvenInDwRefIdeal.main_arg0) = m' ((c.tc : Thread Cert.EvenInDwRefIdeal.nD Cert.EvenInDwRefIdeal.τ).loc Cert.EvenInDwRefIdeal.main_arg0)
          ∧ r.2.mem ((c.tc : Thread Cert.EvenInDwRefIdeal.nD Cert.EvenInDwRefIdeal.τ).loc Cert.EvenInDwRefIdeal.main_arg1) = m' ((c.tc : Thread Cert.EvenInDwRefIdeal.nD Cert.EvenInDwRefIdeal.τ).loc Cert.EvenInDwRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v2) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddInDw_OddInDwIdeal : Prop :=
  True

def algebraic_OddInDwIdeal_OddInDwRefIdeal [hOddInDwIdeal : Cert.OddInDwIdeal.Facts] [hOddInDwRefIdeal : Cert.OddInDwRefIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwRefIdeal.nD Cert.OddInDwRefIdeal.τ Cert.OddInDwRefIdeal.sig) → Buf (Elt Ideal) ℓ) (g' : Dev Cert.OddInDwRefIdeal.nD → PrngReg), Pre_OddInDwIdeal m →
    (∀ c : Dev Cert.OddInDwIdeal.nD,
      m' ((c.tc : Thread Cert.OddInDwRefIdeal.nD Cert.OddInDwRefIdeal.τ).loc Cert.OddInDwRefIdeal.main_arg0) = m ((c.tc : Thread Cert.OddInDwIdeal.nD Cert.OddInDwIdeal.τ).loc Cert.OddInDwIdeal.main_arg0)
      ∧ m' ((c.tc : Thread Cert.OddInDwRefIdeal.nD Cert.OddInDwRefIdeal.τ).loc Cert.OddInDwRefIdeal.main_arg1) = m ((c.tc : Thread Cert.OddInDwIdeal.nD Cert.OddInDwIdeal.τ).loc Cert.OddInDwIdeal.main_arg1)) →
    ∃ (v0 : (c : Dev Cert.OddInDwIdeal.nD) → Buf (Elt Ideal) ((c.tc : Thread Cert.OddInDwIdeal.nD Cert.OddInDwIdeal.τ).loc Cert.OddInDwIdeal.main_v0)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v0) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ θ_run (Cert.OddInDwRefIdeal.defs (F := Ideal)) (onTc (τ := Cert.OddInDwRefIdeal.τ) (Cert.OddInDwRefIdeal.main (F := Ideal))) ⟨m', fun _ => 0, g'⟩ (fun r => ∀ c : Dev Cert.OddInDwRefIdeal.nD,
          r.2.mem ((c.tc : Thread Cert.OddInDwRefIdeal.nD Cert.OddInDwRefIdeal.τ).loc Cert.OddInDwRefIdeal.main_v4) = v0 c
          ∧ r.2.mem ((c.tc : Thread Cert.OddInDwRefIdeal.nD Cert.OddInDwRefIdeal.τ).loc Cert.OddInDwRefIdeal.main_arg0) = m' ((c.tc : Thread Cert.OddInDwRefIdeal.nD Cert.OddInDwRefIdeal.τ).loc Cert.OddInDwRefIdeal.main_arg0)
          ∧ r.2.mem ((c.tc : Thread Cert.OddInDwRefIdeal.nD Cert.OddInDwRefIdeal.τ).loc Cert.OddInDwRefIdeal.main_arg1) = m' ((c.tc : Thread Cert.OddInDwRefIdeal.nD Cert.OddInDwRefIdeal.τ).loc Cert.OddInDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamEvenIn_AdamEvenInIdeal : Prop :=
  True

def algebraic_AdamEvenInIdeal_AdamEvenInRefIdeal [hAdamEvenInIdeal : Cert.AdamEvenInIdeal.Facts] [hAdamEvenInRefIdeal : Cert.AdamEvenInRefIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInRefIdeal.nD Cert.AdamEvenInRefIdeal.τ Cert.AdamEvenInRefIdeal.sig) → Buf (Elt Ideal) ℓ) (g' : Dev Cert.AdamEvenInRefIdeal.nD → PrngReg), Pre_AdamEvenInIdeal m →
    (∀ c : Dev Cert.AdamEvenInIdeal.nD,
      m' ((c.tc : Thread Cert.AdamEvenInRefIdeal.nD Cert.AdamEvenInRefIdeal.τ).loc Cert.AdamEvenInRefIdeal.main_arg0) = m ((c.tc : Thread Cert.AdamEvenInIdeal.nD Cert.AdamEvenInIdeal.τ).loc Cert.AdamEvenInIdeal.main_arg0)
      ∧ m' ((c.tc : Thread Cert.AdamEvenInRefIdeal.nD Cert.AdamEvenInRefIdeal.τ).loc Cert.AdamEvenInRefIdeal.main_arg1) = m ((c.tc : Thread Cert.AdamEvenInIdeal.nD Cert.AdamEvenInIdeal.τ).loc Cert.AdamEvenInIdeal.main_arg1)
      ∧ m' ((c.tc : Thread Cert.AdamEvenInRefIdeal.nD Cert.AdamEvenInRefIdeal.τ).loc Cert.AdamEvenInRefIdeal.main_arg2) = m ((c.tc : Thread Cert.AdamEvenInIdeal.nD Cert.AdamEvenInIdeal.τ).loc Cert.AdamEvenInIdeal.main_arg2)
      ∧ m' ((c.tc : Thread Cert.AdamEvenInRefIdeal.nD Cert.AdamEvenInRefIdeal.τ).loc Cert.AdamEvenInRefIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v0_0)) (v1 : (c : Dev Cert.AdamEvenInIdeal.nD) → Buf (Elt Ideal) ((c.tc : Thread Cert.AdamEvenInIdeal.nD Cert.AdamEvenInIdeal.τ).loc Cert.AdamEvenInIdeal.main_v0_1)) (v2 : (c : Dev Cert.AdamEvenInIdeal.nD) → Buf (Elt Ideal) ((c.tc : Thread Cert.AdamEvenInIdeal.nD Cert.AdamEvenInIdeal.τ).loc Cert.AdamEvenInIdeal.main_v0_2)) (v3 : (c : Dev Cert.AdamEvenInIdeal.nD) → Buf (Elt Ideal) ((c.tc : Thread Cert.AdamEvenInIdeal.nD Cert.AdamEvenInIdeal.τ).loc Cert.AdamEvenInIdeal.main_v0_3)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v0_0) = v0 c
          ∧ r.2.mem ((c.tc : Thread Cert.AdamEvenInIdeal.nD Cert.AdamEvenInIdeal.τ).loc Cert.AdamEvenInIdeal.main_v0_1) = v1 c
          ∧ r.2.mem ((c.tc : Thread Cert.AdamEvenInIdeal.nD Cert.AdamEvenInIdeal.τ).loc Cert.AdamEvenInIdeal.main_v0_2) = v2 c
          ∧ r.2.mem ((c.tc : Thread Cert.AdamEvenInIdeal.nD Cert.AdamEvenInIdeal.τ).loc Cert.AdamEvenInIdeal.main_v0_3) = v3 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInRefIdeal.defs (F := Ideal)) (onTc (τ := Cert.AdamEvenInRefIdeal.τ) (Cert.AdamEvenInRefIdeal.main (F := Ideal))) ⟨m', fun _ => 0, g'⟩ (fun r => ∀ c : Dev Cert.AdamEvenInRefIdeal.nD,
          r.2.mem ((c.tc : Thread Cert.AdamEvenInRefIdeal.nD Cert.AdamEvenInRefIdeal.τ).loc Cert.AdamEvenInRefIdeal.main_v1) = v0 c
          ∧ r.2.mem ((c.tc : Thread Cert.AdamEvenInRefIdeal.nD Cert.AdamEvenInRefIdeal.τ).loc Cert.AdamEvenInRefIdeal.main_v25) = v1 c
          ∧ r.2.mem ((c.tc : Thread Cert.AdamEvenInRefIdeal.nD Cert.AdamEvenInRefIdeal.τ).loc Cert.AdamEvenInRefIdeal.main_v6) = v2 c
          ∧ r.2.mem ((c.tc : Thread Cert.AdamEvenInRefIdeal.nD Cert.AdamEvenInRefIdeal.τ).loc Cert.AdamEvenInRefIdeal.main_v12) = v3 c
          ∧ r.2.mem ((c.tc : Thread Cert.AdamEvenInRefIdeal.nD Cert.AdamEvenInRefIdeal.τ).loc Cert.AdamEvenInRefIdeal.main_arg0) = m' ((c.tc : Thread Cert.AdamEvenInRefIdeal.nD Cert.AdamEvenInRefIdeal.τ).loc Cert.AdamEvenInRefIdeal.main_arg0)
          ∧ r.2.mem ((c.tc : Thread Cert.AdamEvenInRefIdeal.nD Cert.AdamEvenInRefIdeal.τ).loc Cert.AdamEvenInRefIdeal.main_arg1) = m' ((c.tc : Thread Cert.AdamEvenInRefIdeal.nD Cert.AdamEvenInRefIdeal.τ).loc Cert.AdamEvenInRefIdeal.main_arg1)
          ∧ r.2.mem ((c.tc : Thread Cert.AdamEvenInRefIdeal.nD Cert.AdamEvenInRefIdeal.τ).loc Cert.AdamEvenInRefIdeal.main_arg2) = m' ((c.tc : Thread Cert.AdamEvenInRefIdeal.nD Cert.AdamEvenInRefIdeal.τ).loc Cert.AdamEvenInRefIdeal.main_arg2)
          ∧ r.2.mem ((c.tc : Thread Cert.AdamEvenInRefIdeal.nD Cert.AdamEvenInRefIdeal.τ).loc Cert.AdamEvenInRefIdeal.main_arg3) = m' ((c.tc : Thread Cert.AdamEvenInRefIdeal.nD Cert.AdamEvenInRefIdeal.τ).loc Cert.AdamEvenInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamOddIn_AdamOddInIdeal : Prop :=
  True

def algebraic_AdamOddInIdeal_AdamOddInRefIdeal [hAdamOddInIdeal : Cert.AdamOddInIdeal.Facts] [hAdamOddInRefIdeal : Cert.AdamOddInRefIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInRefIdeal.nD Cert.AdamOddInRefIdeal.τ Cert.AdamOddInRefIdeal.sig) → Buf (Elt Ideal) ℓ) (g' : Dev Cert.AdamOddInRefIdeal.nD → PrngReg), Pre_AdamOddInIdeal m →
    (∀ c : Dev Cert.AdamOddInIdeal.nD,
      m' ((c.tc : Thread Cert.AdamOddInRefIdeal.nD Cert.AdamOddInRefIdeal.τ).loc Cert.AdamOddInRefIdeal.main_arg0) = m ((c.tc : Thread Cert.AdamOddInIdeal.nD Cert.AdamOddInIdeal.τ).loc Cert.AdamOddInIdeal.main_arg0)
      ∧ m' ((c.tc : Thread Cert.AdamOddInRefIdeal.nD Cert.AdamOddInRefIdeal.τ).loc Cert.AdamOddInRefIdeal.main_arg1) = m ((c.tc : Thread Cert.AdamOddInIdeal.nD Cert.AdamOddInIdeal.τ).loc Cert.AdamOddInIdeal.main_arg1)
      ∧ m' ((c.tc : Thread Cert.AdamOddInRefIdeal.nD Cert.AdamOddInRefIdeal.τ).loc Cert.AdamOddInRefIdeal.main_arg2) = m ((c.tc : Thread Cert.AdamOddInIdeal.nD Cert.AdamOddInIdeal.τ).loc Cert.AdamOddInIdeal.main_arg2)
      ∧ m' ((c.tc : Thread Cert.AdamOddInRefIdeal.nD Cert.AdamOddInRefIdeal.τ).loc Cert.AdamOddInRefIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)) (v3 : (c : Dev Cert.AdamOddInIdeal.nD) → Buf (Elt Ideal) ((c.tc : Thread Cert.AdamOddInIdeal.nD Cert.AdamOddInIdeal.τ).loc Cert.AdamOddInIdeal.main_v0_3)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_v0_3) = v3 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInRefIdeal.defs (F := Ideal)) (onTc (τ := Cert.AdamOddInRefIdeal.τ) (Cert.AdamOddInRefIdeal.main (F := Ideal))) ⟨m', fun _ => 0, g'⟩ (fun r => ∀ c : Dev Cert.AdamOddInRefIdeal.nD,
          r.2.mem ((c.tc : Thread Cert.AdamOddInRefIdeal.nD Cert.AdamOddInRefIdeal.τ).loc Cert.AdamOddInRefIdeal.main_v1) = v0 c
          ∧ r.2.mem ((c.tc : Thread Cert.AdamOddInRefIdeal.nD Cert.AdamOddInRefIdeal.τ).loc Cert.AdamOddInRefIdeal.main_v25) = v1 c
          ∧ r.2.mem ((c.tc : Thread Cert.AdamOddInRefIdeal.nD Cert.AdamOddInRefIdeal.τ).loc Cert.AdamOddInRefIdeal.main_v6) = v2 c
          ∧ r.2.mem ((c.tc : Thread Cert.AdamOddInRefIdeal.nD Cert.AdamOddInRefIdeal.τ).loc Cert.AdamOddInRefIdeal.main_v12) = v3 c
          ∧ r.2.mem ((c.tc : Thread Cert.AdamOddInRefIdeal.nD Cert.AdamOddInRefIdeal.τ).loc Cert.AdamOddInRefIdeal.main_arg0) = m' ((c.tc : Thread Cert.AdamOddInRefIdeal.nD Cert.AdamOddInRefIdeal.τ).loc Cert.AdamOddInRefIdeal.main_arg0)
          ∧ r.2.mem ((c.tc : Thread Cert.AdamOddInRefIdeal.nD Cert.AdamOddInRefIdeal.τ).loc Cert.AdamOddInRefIdeal.main_arg1) = m' ((c.tc : Thread Cert.AdamOddInRefIdeal.nD Cert.AdamOddInRefIdeal.τ).loc Cert.AdamOddInRefIdeal.main_arg1)
          ∧ r.2.mem ((c.tc : Thread Cert.AdamOddInRefIdeal.nD Cert.AdamOddInRefIdeal.τ).loc Cert.AdamOddInRefIdeal.main_arg2) = m' ((c.tc : Thread Cert.AdamOddInRefIdeal.nD Cert.AdamOddInRefIdeal.τ).loc Cert.AdamOddInRefIdeal.main_arg2)
          ∧ r.2.mem ((c.tc : Thread Cert.AdamOddInRefIdeal.nD Cert.AdamOddInRefIdeal.τ).loc Cert.AdamOddInRefIdeal.main_arg3) = m' ((c.tc : Thread Cert.AdamOddInRefIdeal.nD Cert.AdamOddInRefIdeal.τ).loc Cert.AdamOddInRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumParts_SumPartsIdeal : Prop :=
  True

def algebraic_SumPartsIdeal_SumPartsRefIdeal [hSumPartsIdeal : Cert.SumPartsIdeal.Facts] [hSumPartsRefIdeal : Cert.SumPartsRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumPartsRefIdeal.nD Cert.SumPartsRefIdeal.τ Cert.SumPartsRefIdeal.sig) → Buf (Elt Ideal) ℓ) (g' : Dev Cert.SumPartsRefIdeal.nD → PrngReg), Pre_SumPartsIdeal m →
    (∀ c : Dev Cert.SumPartsIdeal.nD,
      m' ((c.tc : Thread Cert.SumPartsRefIdeal.nD Cert.SumPartsRefIdeal.τ).loc Cert.SumPartsRefIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.SumPartsRefIdeal.defs (F := Ideal)) (onTc (τ := Cert.SumPartsRefIdeal.τ) (Cert.SumPartsRefIdeal.main (F := Ideal))) ⟨m', fun _ => 0, g'⟩ (fun r => ∀ c : Dev Cert.SumPartsRefIdeal.nD,
          r.2.mem ((c.tc : Thread Cert.SumPartsRefIdeal.nD Cert.SumPartsRefIdeal.τ).loc Cert.SumPartsRefIdeal.main_v0) = v0 c
          ∧ r.2.mem ((c.tc : Thread Cert.SumPartsRefIdeal.nD Cert.SumPartsRefIdeal.τ).loc Cert.SumPartsRefIdeal.main_arg0) = m' ((c.tc : Thread Cert.SumPartsRefIdeal.nD Cert.SumPartsRefIdeal.τ).loc Cert.SumPartsRefIdeal.main_arg0))

def Claim : Prop :=
  ∃ (hSconv : Cert.Sconv.Facts) (hSconvIdeal : Cert.SconvIdeal.Facts) (hSconvRefIdeal : Cert.SconvRefIdeal.Facts) (hLoss : Cert.Loss.Facts) (hLossIdeal : Cert.LossIdeal.Facts) (hLossRefIdeal : Cert.LossRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hOddInDx : Cert.OddInDx.Facts) (hOddInDxIdeal : Cert.OddInDxIdeal.Facts) (hOddInDxRefIdeal : Cert.OddInDxRefIdeal.Facts) (hGlu : Cert.Glu.Facts) (hGluIdeal : Cert.GluIdeal.Facts) (hGluRefIdeal : Cert.GluRefIdeal.Facts) (hPool : Cert.Pool.Facts) (hPoolIdeal : Cert.PoolIdeal.Facts) (hPoolRefIdeal : Cert.PoolRefIdeal.Facts) (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hGluFwd : Cert.GluFwd.Facts) (hGluFwdIdeal : Cert.GluFwdIdeal.Facts) (hGluFwdRefIdeal : Cert.GluFwdRefIdeal.Facts) (hRmsFwd : Cert.RmsFwd.Facts) (hRmsFwdIdeal : Cert.RmsFwdIdeal.Facts) (hRmsFwdRefIdeal : Cert.RmsFwdRefIdeal.Facts) (hPoolFwd : Cert.PoolFwd.Facts) (hPoolFwdIdeal : Cert.PoolFwdIdeal.Facts) (hPoolFwdRefIdeal : Cert.PoolFwdRefIdeal.Facts) (hSguFwd : Cert.SguFwd.Facts) (hSguFwdIdeal : Cert.SguFwdIdeal.Facts) (hSguFwdRefIdeal : Cert.SguFwdRefIdeal.Facts) (hSconvFwd : Cert.SconvFwd.Facts) (hSconvFwdIdeal : Cert.SconvFwdIdeal.Facts) (hSconvFwdRefIdeal : Cert.SconvFwdRefIdeal.Facts) (hMixOut : Cert.MixOut.Facts) (hMixOutIdeal : Cert.MixOutIdeal.Facts) (hMixOutRefIdeal : Cert.MixOutRefIdeal.Facts) (hDown : Cert.Down.Facts) (hDownIdeal : Cert.DownIdeal.Facts) (hDownRefIdeal : Cert.DownRefIdeal.Facts) (hS5Fwd : Cert.S5Fwd.Facts) (hS5FwdIdeal : Cert.S5FwdIdeal.Facts) (hS5Bwd : Cert.S5Bwd.Facts) (hS5BwdIdeal : Cert.S5BwdIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hUp : Cert.Up.Facts) (hUpIdeal : Cert.UpIdeal.Facts) (hUpRefIdeal : Cert.UpRefIdeal.Facts) (hEvenIn : Cert.EvenIn.Facts) (hEvenInIdeal : Cert.EvenInIdeal.Facts) (hEvenInRefIdeal : Cert.EvenInRefIdeal.Facts) (hDownLast : Cert.DownLast.Facts) (hDownLastIdeal : Cert.DownLastIdeal.Facts) (hDownLastRefIdeal : Cert.DownLastRefIdeal.Facts) (hEvenInDw : Cert.EvenInDw.Facts) (hEvenInDwIdeal : Cert.EvenInDwIdeal.Facts) (hEvenInDwRefIdeal : Cert.EvenInDwRefIdeal.Facts) (hOddIn : Cert.OddIn.Facts) (hOddInIdeal : Cert.OddInIdeal.Facts) (hOddInRefIdeal : Cert.OddInRefIdeal.Facts) (hOddInDw : Cert.OddInDw.Facts) (hOddInDwIdeal : Cert.OddInDwIdeal.Facts) (hOddInDwRefIdeal : Cert.OddInDwRefIdeal.Facts) (hUpDw : Cert.UpDw.Facts) (hUpDwIdeal : Cert.UpDwIdeal.Facts) (hUpDwRefIdeal : Cert.UpDwRefIdeal.Facts) (hAdam : Cert.Adam.Facts) (hAdamIdeal : Cert.AdamIdeal.Facts) (hAdamRefIdeal : Cert.AdamRefIdeal.Facts) (hAdamEvenIn : Cert.AdamEvenIn.Facts) (hAdamEvenInIdeal : Cert.AdamEvenInIdeal.Facts) (hAdamEvenInRefIdeal : Cert.AdamEvenInRefIdeal.Facts) (hAdamGlu : Cert.AdamGlu.Facts) (hAdamGluIdeal : Cert.AdamGluIdeal.Facts) (hAdamGluRefIdeal : Cert.AdamGluRefIdeal.Facts) (hAdamOut : Cert.AdamOut.Facts) (hAdamOutIdeal : Cert.AdamOutIdeal.Facts) (hAdamOutRefIdeal : Cert.AdamOutRefIdeal.Facts) (hAdamOddIn : Cert.AdamOddIn.Facts) (hAdamOddInIdeal : Cert.AdamOddInIdeal.Facts) (hAdamOddInRefIdeal : Cert.AdamOddInRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumParts : Cert.SumParts.Facts) (hSumPartsIdeal : Cert.SumPartsIdeal.Facts) (hSumPartsRefIdeal : Cert.SumPartsRefIdeal.Facts) (hPre_glu_finite : Cert.Pre_glu_finite.Facts) (hPre_pool_finite : Cert.Pre_pool_finite.Facts) (hPre_sgu_finite : Cert.Pre_sgu_finite.Facts) (hPre_ffn_finite : Cert.Pre_ffn_finite.Facts) (hPre_poolf_finite : Cert.Pre_poolf_finite.Facts),
    quiescent_Sconv (hSconv := hSconv)
    ∧ quiescent_SconvIdeal (hSconvIdeal := hSconvIdeal)
    ∧ quiescent_SconvRefIdeal (hSconvRefIdeal := hSconvRefIdeal)
    ∧ quiescent_Loss (hLoss := hLoss)
    ∧ quiescent_LossIdeal (hLossIdeal := hLossIdeal)
    ∧ quiescent_LossRefIdeal (hLossRefIdeal := hLossRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_OddInDx (hOddInDx := hOddInDx)
    ∧ quiescent_OddInDxIdeal (hOddInDxIdeal := hOddInDxIdeal)
    ∧ quiescent_OddInDxRefIdeal (hOddInDxRefIdeal := hOddInDxRefIdeal)
    ∧ quiescent_Glu (hGlu := hGlu)
    ∧ quiescent_GluIdeal (hGluIdeal := hGluIdeal)
    ∧ quiescent_GluIdeal_pre_glu_finite (hGluIdeal := hGluIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PoolFwd (hPoolFwd := hPoolFwd)
    ∧ quiescent_PoolFwdIdeal (hPoolFwdIdeal := hPoolFwdIdeal)
    ∧ quiescent_PoolFwdIdeal_pre_poolf_finite (hPoolFwdIdeal := hPoolFwdIdeal) (hPre_poolf_finite := hPre_poolf_finite)
    ∧ quiescent_PoolFwdRefIdeal (hPoolFwdRefIdeal := hPoolFwdRefIdeal)
    ∧ quiescent_PoolFwdRefIdeal_pre_poolf_finite (hPoolFwdRefIdeal := hPoolFwdRefIdeal) (hPre_poolf_finite := hPre_poolf_finite)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_SconvFwd (hSconvFwd := hSconvFwd)
    ∧ quiescent_SconvFwdIdeal (hSconvFwdIdeal := hSconvFwdIdeal)
    ∧ quiescent_SconvFwdRefIdeal (hSconvFwdRefIdeal := hSconvFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Down (hDown := hDown)
    ∧ quiescent_DownIdeal (hDownIdeal := hDownIdeal)
    ∧ quiescent_DownRefIdeal (hDownRefIdeal := hDownRefIdeal)
    ∧ quiescent_S5Fwd (hS5Fwd := hS5Fwd)
    ∧ quiescent_S5FwdIdeal (hS5FwdIdeal := hS5FwdIdeal)
    ∧ quiescent_S5Bwd (hS5Bwd := hS5Bwd)
    ∧ quiescent_S5BwdIdeal (hS5BwdIdeal := hS5BwdIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_Up (hUp := hUp)
    ∧ quiescent_UpIdeal (hUpIdeal := hUpIdeal)
    ∧ quiescent_UpRefIdeal (hUpRefIdeal := hUpRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_DownLast (hDownLast := hDownLast)
    ∧ quiescent_DownLastIdeal (hDownLastIdeal := hDownLastIdeal)
    ∧ quiescent_DownLastRefIdeal (hDownLastRefIdeal := hDownLastRefIdeal)
    ∧ quiescent_EvenInDw (hEvenInDw := hEvenInDw)
    ∧ quiescent_EvenInDwIdeal (hEvenInDwIdeal := hEvenInDwIdeal)
    ∧ quiescent_EvenInDwRefIdeal (hEvenInDwRefIdeal := hEvenInDwRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddInDw (hOddInDw := hOddInDw)
    ∧ quiescent_OddInDwIdeal (hOddInDwIdeal := hOddInDwIdeal)
    ∧ quiescent_OddInDwRefIdeal (hOddInDwRefIdeal := hOddInDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamEvenIn (hAdamEvenIn := hAdamEvenIn)
    ∧ quiescent_AdamEvenInIdeal (hAdamEvenInIdeal := hAdamEvenInIdeal)
    ∧ quiescent_AdamEvenInRefIdeal (hAdamEvenInRefIdeal := hAdamEvenInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamOddIn (hAdamOddIn := hAdamOddIn)
    ∧ quiescent_AdamOddInIdeal (hAdamOddInIdeal := hAdamOddInIdeal)
    ∧ quiescent_AdamOddInRefIdeal (hAdamOddInRefIdeal := hAdamOddInRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumParts (hSumParts := hSumParts)
    ∧ quiescent_SumPartsIdeal (hSumPartsIdeal := hSumPartsIdeal)
    ∧ quiescent_SumPartsRefIdeal (hSumPartsRefIdeal := hSumPartsRefIdeal)
    ∧ preserves_Sconv_SconvIdeal
    ∧ algebraic_SconvIdeal_SconvRefIdeal (hSconvIdeal := hSconvIdeal) (hSconvRefIdeal := hSconvRefIdeal)
    ∧ preserves_Loss_LossIdeal
    ∧ algebraic_LossIdeal_LossRefIdeal (hLossIdeal := hLossIdeal) (hLossRefIdeal := hLossRefIdeal)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_OddInDx_OddInDxIdeal
    ∧ algebraic_OddInDxIdeal_OddInDxRefIdeal (hOddInDxIdeal := hOddInDxIdeal) (hOddInDxRefIdeal := hOddInDxRefIdeal)
    ∧ preserves_Glu_GluIdeal
    ∧ algebraic_GluIdeal_GluRefIdeal_pre_glu_finite (hGluIdeal := hGluIdeal) (hGluRefIdeal := hGluRefIdeal) (hPre_glu_finite := hPre_glu_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_GluFwd_GluFwdIdeal
    ∧ algebraic_GluFwdIdeal_GluFwdRefIdeal (hGluFwdIdeal := hGluFwdIdeal) (hGluFwdRefIdeal := hGluFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PoolFwd_PoolFwdIdeal
    ∧ algebraic_PoolFwdIdeal_PoolFwdRefIdeal_pre_poolf_finite (hPoolFwdIdeal := hPoolFwdIdeal) (hPoolFwdRefIdeal := hPoolFwdRefIdeal) (hPre_poolf_finite := hPre_poolf_finite)
    ∧ preserves_SguFwd_SguFwdIdeal
    ∧ algebraic_SguFwdIdeal_SguFwdRefIdeal (hSguFwdIdeal := hSguFwdIdeal) (hSguFwdRefIdeal := hSguFwdRefIdeal)
    ∧ preserves_SconvFwd_SconvFwdIdeal
    ∧ algebraic_SconvFwdIdeal_SconvFwdRefIdeal (hSconvFwdIdeal := hSconvFwdIdeal) (hSconvFwdRefIdeal := hSconvFwdRefIdeal)
    ∧ preserves_MixOut_MixOutIdeal
    ∧ algebraic_MixOutIdeal_MixOutRefIdeal (hMixOutIdeal := hMixOutIdeal) (hMixOutRefIdeal := hMixOutRefIdeal)
    ∧ preserves_Down_DownIdeal
    ∧ algebraic_DownIdeal_DownRefIdeal (hDownIdeal := hDownIdeal) (hDownRefIdeal := hDownRefIdeal)
    ∧ preserves_S5Fwd_S5FwdIdeal
    ∧ preserves_S5Bwd_S5BwdIdeal
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_Up_UpIdeal
    ∧ algebraic_UpIdeal_UpRefIdeal (hUpIdeal := hUpIdeal) (hUpRefIdeal := hUpRefIdeal)
    ∧ preserves_EvenIn_EvenInIdeal
    ∧ algebraic_EvenInIdeal_EvenInRefIdeal (hEvenInIdeal := hEvenInIdeal) (hEvenInRefIdeal := hEvenInRefIdeal)
    ∧ preserves_DownLast_DownLastIdeal
    ∧ algebraic_DownLastIdeal_DownLastRefIdeal (hDownLastIdeal := hDownLastIdeal) (hDownLastRefIdeal := hDownLastRefIdeal)
    ∧ preserves_EvenInDw_EvenInDwIdeal
    ∧ algebraic_EvenInDwIdeal_EvenInDwRefIdeal (hEvenInDwIdeal := hEvenInDwIdeal) (hEvenInDwRefIdeal := hEvenInDwRefIdeal)
    ∧ preserves_OddIn_OddInIdeal
    ∧ algebraic_OddInIdeal_OddInRefIdeal (hOddInIdeal := hOddInIdeal) (hOddInRefIdeal := hOddInRefIdeal)
    ∧ preserves_OddInDw_OddInDwIdeal
    ∧ algebraic_OddInDwIdeal_OddInDwRefIdeal (hOddInDwIdeal := hOddInDwIdeal) (hOddInDwRefIdeal := hOddInDwRefIdeal)
    ∧ preserves_UpDw_UpDwIdeal
    ∧ algebraic_UpDwIdeal_UpDwRefIdeal (hUpDwIdeal := hUpDwIdeal) (hUpDwRefIdeal := hUpDwRefIdeal)
    ∧ preserves_Adam_AdamIdeal
    ∧ algebraic_AdamIdeal_AdamRefIdeal (hAdamIdeal := hAdamIdeal) (hAdamRefIdeal := hAdamRefIdeal)
    ∧ preserves_AdamEvenIn_AdamEvenInIdeal
    ∧ algebraic_AdamEvenInIdeal_AdamEvenInRefIdeal (hAdamEvenInIdeal := hAdamEvenInIdeal) (hAdamEvenInRefIdeal := hAdamEvenInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamOddIn_AdamOddInIdeal
    ∧ algebraic_AdamOddInIdeal_AdamOddInRefIdeal (hAdamOddInIdeal := hAdamOddInIdeal) (hAdamOddInRefIdeal := hAdamOddInRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumParts_SumPartsIdeal
    ∧ algebraic_SumPartsIdeal_SumPartsRefIdeal (hSumPartsIdeal := hSumPartsIdeal) (hSumPartsRefIdeal := hSumPartsRefIdeal)
-- ==== Pre_ffn_finite.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S_ : Shape := ⟨0, ![]⟩

class Facts : Prop where
  bcast_S_S4096x5632 : S_.BroadcastsInDim S4096x5632 (![] : Fin 0 → Fin S4096x5632.rank)
  bitsLt_bf16_f32 : FTy.bits .bf16 < FTy.bits .f32
  bcast_S_S4096x2816 : S_.BroadcastsInDim S4096x2816 (![] : Fin 0 → Fin S4096x2816.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S4096x5632 .f32) (main_arg1 : FVec F S4096x2816 .bf16) (main_arg2 : FVec F S3x5632 .f32) (main_arg3 : FVec F S5632 .f32) : IVec S4096x5632 1 × IVec S4096x2816 1 × IVec S3x5632 1 × IVec S5632 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S4096x2816 .f32 := (extf .f32 · bitsLt_bf16_f32) main_arg1
  let main_v4 : FVec F S4096x2816 .f32 := Host.absf main_v3
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S3x5632 .f32 := Host.absf main_arg2
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S5632 .f32 := Host.absf main_arg3
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  (main_v2, main_v6, main_v9, main_v12)
-- ==== Pre_glu_finite.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S512x512 : S_.BroadcastsInDim S512x512 (![] : Fin 0 → Fin S512x512.rank)

variable [Facts]

def fn {F : FTy → Type} [FloatOps F] (main_arg0 : FVec F S4096x1024 .f32) (main_arg1 : FVec F S4096x512 .f32) (main_arg2 : FVec F S512x512 .f32) (main_arg3 : FVec F S512 .f32) : IVec S4096x1024 1 × IVec S4096x512 1 × IVec S512x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S512x512 .f32 := Host.absf main_arg2
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  (main_v2, main_v5, main_v8)
-- ==== Pre_pool_finite.lean ====
abbrev S4096x1536 : Shape := ⟨2, ![4096, 1536]⟩
abbrev S4096x1024 : Shape := ⟨2, ![4096, 1024]⟩
abbrev S4x128x128 : Shape := ⟨3, ![4, 128, 128]⟩
abbrev S512 : Shape := ⟨1, ![512]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S4096x1536 .f32) (main_arg1 : FVec F S4096x1024 .f32) (main_arg2 : FVec F S4x128x128 .f32) (main_arg3 : FVec F S512 .f32) : IVec S4096x1536 1 × IVec S4096x1024 1 × IVec S4x128x128 1 × IVec S512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Pre_poolf_finite.lean ====
abbrev S4096x1536 : Shape := ⟨2, ![4096, 1536]⟩
abbrev S4x128x128 : Shape := ⟨3, ![4, 128, 128]⟩
abbrev S512 : Shape := ⟨1, ![512]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x1536 .f32) (main_arg1 : FVec F S4x128x128 .f32) (main_arg2 : FVec F S512 .f32) : IVec S4096x1536 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Pre_sgu_finite.lean ====
abbrev S4096x1536 : Shape := ⟨2, ![4096, 1536]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S4096x1536 .f32) (main_arg1 : FVec F S4096x1024 .f32) (main_arg2 : FVec F S512 .f32) (main_arg3 : FVec F S4x128x128 .f32) (main_arg4 : FVec F S4x128 .f32) : IVec S4096x1536 1 × IVec S4096x1024 1 × IVec S512 1 × IVec S4x128x128 1 × IVec S4x128 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  (main_v2, main_v5, main_v8, main_v11, main_v14)
-- ==== Sconv.lean ====
abbrev S4096x2048 : Shape := ⟨2, ![4096, 2048]⟩
abbrev S4096x1024 : Shape := ⟨2, ![4096, 1024]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvRefIdeal.lean ====
abbrev S4096x2048 : Shape := ⟨2, ![4096, 2048]⟩
abbrev S4096x1024 : Shape := ⟨2, ![4096, 1024]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S4096x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S4098x512, .f32⟩
  | .hbm, ⟨49, _⟩ => ⟨S4096x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S4098x512, .f32⟩
  | .hbm, ⟨63, _⟩ => ⟨S4098x512, .f32⟩
  | .hbm, ⟨64, _⟩ => ⟨S4096x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S4098x512, .f32⟩
  | .hbm, ⟨78, _⟩ => ⟨S4098x512, .f32⟩
  | .hbm, ⟨79, _⟩ => ⟨S2x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .bf16⟩
  | .hbm, ⟨84, _⟩ => ⟨S4096x512, .bf16⟩
  | .hbm, ⟨85, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1, .f32⟩
  | .hbm, ⟨71, _⟩ => ⟨S4096x1024, .bf16⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== UpDx.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1024x5632, .bf16⟩
  | .hbm, ⟨6, _⟩ => ⟨S4x1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDxRefIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S1x4096x2816, .bf16⟩
  | .hbm, ⟨29, _⟩ => ⟨S4096x2816, .bf16⟩
  | .hbm, ⟨30, _⟩ => ⟨S1x4096x2816, .bf16⟩
  | .hbm, ⟨31, _⟩ => ⟨S4096x2816, .bf16⟩
  | .hbm, ⟨32, _⟩ => ⟨S4096x5632, .bf16⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== InDx.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1024x2048, .bf16⟩
  | .hbm, ⟨6, _⟩ => ⟨S4x1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InDxRefIdeal.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== OddInDx.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x1536 : Shape := ⟨2, ![512, 1536]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1024x1536, .bf16⟩
  | .hbm, ⟨6, _⟩ => ⟨S4x1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== OddInDxRefIdeal.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1536, .f32⟩
  | .hbm, ⟨28, _⟩ => ⟨S4096x1536, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Glu.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S4096x512, .f32⟩
  | .hbm, ⟨7, _⟩ => ⟨S512x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GluRefIdeal.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S512, .f32⟩
  | .hbm, ⟨61, _⟩ => ⟨S512x512, .f32⟩
  | .hbm, ⟨62, _⟩ => ⟨S512x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Pool.lean ====
abbrev S4096x1536 : Shape := ⟨2, ![4096, 1536]⟩
abbrev S4096x1024 : Shape := ⟨2, ![4096, 1024]⟩
abbrev S4x128x128 : Shape := ⟨3, ![4, 128, 128]⟩
abbrev S512 : Shape := ⟨1, ![512]⟩
abbrev S1x512 : Shape := ⟨2, ![1, 512]⟩
abbrev S4096x512 : Shape := ⟨2, ![4096, 512]⟩
abbrev S4096x128 : Shape := ⟨2, ![4096, 128]⟩
abbrev S1x128x128 : Shape := ⟨3, ![1, 128, 128]⟩
abbrev S1x128 : Shape := ⟨2, ![1, 128]⟩
abbrev S8x128 : Shape := ⟨2, ![8, 128]⟩
abbrev S4088x128 : Shape := ⟨2, ![4088, 128]⟩
abbrev S128x128 : Shape := ⟨2, ![128, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4x128x128, .f32⟩
  | .hbm, ⟨3, _⟩ => ⟨S512, .f32⟩
  | .hbm, ⟨4, _⟩ => ⟨S1x512, .f32⟩
  | .hbm, ⟨5, _⟩ => ⟨S4096x512, .bf16⟩
  | .hbm, ⟨6, _⟩ => ⟨S4x128x128, .f32⟩
  | .hbm, ⟨7, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_4 : BitVec 32 := 0#32
  let v7 : BitVec 1 := Scalar.cmpi .ne v6 c0_i32_4
  v7

def k0_cond3 (i : grid0.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S4096x1536 : Shape := ⟨2, ![4096, 1536]⟩
abbrev S4096x1024 : Shape := ⟨2, ![4096, 1024]⟩
abbrev S4x128x128 : Shape := ⟨3, ![4, 128, 128]⟩
abbrev S512 : Shape := ⟨1, ![512]⟩
abbrev S4096x512 : Shape := ⟨2, ![4096, 512]⟩
abbrev S4096x4x128 : Shape := ⟨3, ![4096, 4, 128]⟩
abbrev S_ : Shape := ⟨0, ![]⟩
abbrev S4096 : Shape := ⟨1, ![4096]⟩
abbrev S4096x1 : Shape := ⟨2, ![4096, 1]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S1x512 : Shape := ⟨2, ![1, 512]⟩
abbrev S4x4096x128 : Shape := ⟨3, ![4, 4096, 128]⟩

abbrev nBuf : Space → Nat
  | .hbm => 190
  | .vmem => 0
  | .smem => 0
  | _ => 0

abbrev hbmTy0_0 (i : Nat) : BufTy := match i % 128 with
  | 0 => ⟨S4096x1536, .f32⟩
  | 1 => ⟨S4096x1024, .f32⟩
  | 2 => ⟨S4x128x128, .f32⟩
  | 3 => ⟨S512, .f32⟩
  | 4 => ⟨S4096x512, .f32⟩
  | 5 => ⟨S4096x4x128, .f32⟩
  | 6 => ⟨S_, .f32⟩
  | 7 => ⟨S_, .f32⟩
  | 8 => ⟨S4096x4x128, .f32⟩
  | 9 => ⟨S4096, .i32⟩
  | 10 => ⟨S_, .i32⟩
  | 11 => ⟨S4096, .i32⟩
  | 12 => ⟨S4096, .i32⟩
  | 13 => ⟨S4096, .f32⟩
  | 14 => ⟨S4096x1, .f32⟩
  | 15 => ⟨S4096x1x128, .f32⟩
  | 16 => ⟨S4096x128, .f32⟩
  | 17 => ⟨S_, .f32⟩
  | 18 => ⟨S2x128, .f32⟩
  | 19 => ⟨S4098x128, .f32⟩
  | 20 => ⟨S_, .f32⟩
  | 21 => ⟨S2x128, .f32⟩
  | 22 => ⟨S4096x128, .f32⟩
  | 23 => ⟨S4096x128, .f32⟩
  | 24 => ⟨S_, .f32⟩
  | 25 => ⟨S4096x1, .f32⟩
  | 26 => ⟨S4096x1, .f32⟩
  | 27 => ⟨S4096x128, .f32⟩
  | 28 => ⟨S4096x128, .f32⟩
  | 29 => ⟨S4096x1x128, .f32⟩
  | 30 => ⟨S4096x128, .f32⟩
  | 31 => ⟨S4096x128, .f32⟩
  | 32 => ⟨S4096x1x128, .f32⟩
  | 33 => ⟨S4096x128, .f32⟩
  | 34 => ⟨S_, .f32⟩
  | 35 => ⟨S4x128, .f32⟩
  | 36 => ⟨S4100x128, .f32⟩
  | 37 => ⟨S_, .f32⟩
  | 38 => ⟨S4x128, .f32⟩
  | 39 => ⟨S4096x128, .f32⟩
  | 40 => ⟨S4096x128, .f32⟩
  | 41 => ⟨S_, .f32⟩
  | 42 => ⟨S4096x1, .f32⟩
  | 43 => ⟨S4096x1, .f32⟩
  | 44 => ⟨S4096x128, .f32⟩
  | 45 => ⟨S4096x128, .f32⟩
  | 46 => ⟨S4096x1x128, .f32⟩
  | 47 => ⟨S4096x128, .f32⟩
  | 48 => ⟨S4096x128, .f32⟩
  | 49 => ⟨S4096x1x128, .f32⟩
  | 50 => ⟨S4096x128, .f32⟩
  | 51 => ⟨S_, .f32⟩
  | 52 => ⟨S8x128, .f32⟩
  | 53 => ⟨S4104x128, .f32⟩
  | 54 => ⟨S_, .f32⟩
  | 55 => ⟨S8x128, .f32⟩
  | 56 => ⟨S4096x128, .f32⟩
  | 57 => ⟨S4096x128, .f32⟩
  | 58 => ⟨S_, .f32⟩
  | 59 => ⟨S4096x1, .f32⟩
  | 60 => ⟨S4096x1, .f32⟩
  | 61 => ⟨S4096x128, .f32⟩
  | 62 => ⟨S4096x128, .f32⟩
  | 63 => ⟨S4096x1x128, .f32⟩
  | 64 => ⟨S4096x128, .f32⟩
  | 65 => ⟨S4096x128, .f32⟩
  | 66 => ⟨S4096x1x128, .f32⟩
  | 67 => ⟨S4096x128, .f32⟩
  | 68 => ⟨S_, .f32⟩
  | 69 => ⟨S16x128, .f32⟩
  | 70 => ⟨S4112x128, .f32⟩
  | 71 => ⟨S_, .f32⟩
  | 72 => ⟨S16x128, .f32⟩
  | 73 => ⟨S4096x128, .f32⟩
  | 74 => ⟨S4096x128, .f32⟩
  | 75 => ⟨S_, .f32⟩
  | 76 => ⟨S4096x1, .f32⟩
  | 77 => ⟨S4096x1, .f32⟩
  | 78 => ⟨S4096x128, .f32⟩
  | 79 => ⟨S4096x128, .f32⟩
  | 80 => ⟨S4096x1x128, .f32⟩
  | 81 => ⟨S4096x128, .f32⟩
  | 82 => ⟨S4096x128, .f32⟩
  | 83 => ⟨S4096x1x128, .f32⟩
  | 84 => ⟨S4096x1x128, .f32⟩
  | 85 => ⟨S4096x1x128, .f32⟩
  | 86 => ⟨S4096x1x128, .f32⟩
  | 87 => ⟨S4096x4x128, .f32⟩
  | 88 => ⟨S4x128x4096, .f32⟩
  | 89 => ⟨S4096x4x128, .f32⟩
  | 90 => ⟨S4096x512, .f32⟩
  | 91 => ⟨S1x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S512, .f32⟩
  | 98 => ⟨S1x512, .f32⟩
  | 99 => ⟨S4096x512, .f32⟩
  | 100 => ⟨S4096x512, .f32⟩
  | 101 => ⟨S_, .f32⟩
  | 102 => ⟨S512, .f32⟩
  | 103 => ⟨S4096x4x128, .f32⟩
  | 104 => ⟨S4x128x4096, .f32⟩
  | 105 => ⟨S4x4096x128, .f32⟩
  | 106 => ⟨S4096x4x128, .f32⟩
  | 107 => ⟨S4x128x128, .f32⟩
  | 108 => ⟨S4x128x128, .f32⟩
  | 109 => ⟨S4096x1x128, .f32⟩
  | 110 => ⟨S4096x128, .f32⟩
  | 111 => ⟨S4096x1x128, .f32⟩
  | 112 => ⟨S4096x128, .f32⟩
  | 113 => ⟨S4096x1x128, .f32⟩
  | 114 => ⟨S4096x128, .f32⟩
  | 115 => ⟨S4096x1x128, .f32⟩
  | 116 => ⟨S4096x128, .f32⟩
  | 117 => ⟨S4096x128, .f32⟩
  | 118 => ⟨S4096x1x128, .f32⟩
  | 119 => ⟨S_, .f32⟩
  | 120 => ⟨S4096x4x128, .f32⟩
  | 121 => ⟨S4096x128, .f32⟩
  | 122 => ⟨S4096x128, .f32⟩
  | 123 => ⟨S4096x128, .f32⟩
  | 124 => ⟨S_, .f32⟩
  | 125 => ⟨S4112x128, .f32⟩
  | 126 => ⟨S16x128, .f32⟩
  | 127 => ⟨S4096x128, .f32⟩
  | _ => ⟨S4096x1536, .f32⟩

abbrev hbmTy0_1 (i : Nat) : BufTy := match i % 128 with
  | 0 => ⟨S4096x128, .f32⟩
  | 1 => ⟨S4096x1x128, .f32⟩
  | 2 => ⟨S_, .f32⟩
  | 3 => ⟨S4096x4x128, .f32⟩
  | 4 => ⟨S4096x128, .f32⟩
  | 5 => ⟨S4096x1x128, .f32⟩
  | 6 => ⟨S_, .f32⟩
  | 7 => ⟨S4096x4x128, .f32⟩
  | 8 => ⟨S4096x4x128, .f32⟩
  | 9 => ⟨S4096x128, .f32⟩
  | 10 => ⟨S4096x128, .f32⟩
  | 11 => ⟨S4096x128, .f32⟩
  | 12 => ⟨S_, .f32⟩
  | 13 => ⟨S4104x128, .f32⟩
  | 14 => ⟨S8x128, .f32⟩
  | 15 => ⟨S4096x128, .f32⟩
  | 16 => ⟨S4096x128, .f32⟩
  | 17 => ⟨S4096x1x128, .f32⟩
  | 18 => ⟨S_, .f32⟩
  | 19 => ⟨S4096x4x128, .f32⟩
  | 20 => ⟨S4096x4x128, .f32⟩
  | 21 => ⟨S4096x128, .f32⟩
  | 22 => ⟨S4096x1x128, .f32⟩
  | 23 => ⟨S_, .f32⟩
  | 24 => ⟨S4096x4x128, .f32⟩
  | 25 => ⟨S4096x4x128, .f32⟩
  | 26 => ⟨S4096x128, .f32⟩
  | 27 => ⟨S4096x128, .f32⟩
  | 28 => ⟨S4096x128, .f32⟩
  | 29 => ⟨S_, .f32⟩
  | 30 => ⟨S4100x128, .f32⟩
  | 31 => ⟨S4x128, .f32⟩
  | 32 => ⟨S4096x128, .f32⟩
  | 33 => ⟨S4096x128, .f32⟩
  | 34 => ⟨S4096x1x128, .f32⟩
  | 35 => ⟨S_, .f32⟩
  | 36 => ⟨S4096x4x128, .f32⟩
  | 37 => ⟨S4096x4x128, .f32⟩
  | 38 => ⟨S4096x128, .f32⟩
  | 39 => ⟨S4096x1x128, .f32⟩
  | 40 => ⟨S_, .f32⟩
  | 41 => ⟨S4096x4x128, .f32⟩
  | 42 => ⟨S4096x4x128, .f32⟩
  | 43 => ⟨S4096x128, .f32⟩
  | 44 => ⟨S4096x128, .f32⟩
  | 45 => ⟨S4096x128, .f32⟩
  | 46 => ⟨S_, .f32⟩
  | 47 => ⟨S4098x128, .f32⟩
  | 48 => ⟨S2x128, .f32⟩
  | 49 => ⟨S4096x128, .f32⟩
  | 50 => ⟨S4096x128, .f32⟩
  | 51 => ⟨S4096x1x128, .f32⟩
  | 52 => ⟨S_, .f32⟩
  | 53 => ⟨S4096x4x128, .f32⟩
  | 54 => ⟨S4096x4x128, .f32⟩
  | 55 => ⟨S_, .f32⟩
  | 56 => ⟨S_, .f32⟩
  | 57 => ⟨S4096x4x128, .f32⟩
  | 58 => ⟨S4096x4x128, .f32⟩
  | 59 => ⟨S4096x512, .f32⟩
  | 60 => ⟨S4096x512, .bf16⟩
  | 61 => ⟨S1x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_13 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_14 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_16 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_17 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_18 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_19 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_21 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_22 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_23 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_24 : Ref sig .tc := ⟨.hbm, 180, rfl⟩
abbrev main_v148 : Ref sig .tc := ⟨.hbm, 181, rfl⟩
abbrev main_v149 : Ref sig .tc := ⟨.hbm, 182, rfl⟩
abbrev main_call1_cst : Ref sig .tc := ⟨.hbm, 183, rfl⟩
abbrev main_call1_v0 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩

abbrev nD : Nat := 1
abbrev τ : Topo := Topo.v7x

variable {F : FTy → Type} [FloatOps F]
-- ==== Sgu.lean ====
abbrev S4096x1536 : Shape := ⟨2, ![4096, 1536]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S4096x512 : Shape := ⟨2, ![4096, 512]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S128x4, .f32⟩
  | .hbm, ⟨7, _⟩ => ⟨S4096x512, .bf16⟩
  | .hbm, ⟨8, _⟩ => ⟨S4096x512, .bf16⟩
  | .hbm, ⟨9, _⟩ => ⟨S4x128x128, .f32⟩
  | .hbm, ⟨10, _⟩ => ⟨S4x128x128, .f32⟩
  | .hbm, ⟨11, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S4x128x128, .f32⟩
  | .local _ .vmem, ⟨14, _⟩ => ⟨S4x128x128, .f32⟩
  | .local _ .vmem, ⟨15, _⟩ => ⟨S1x512, .f32⟩
  | .local _ .vmem, ⟨16, _⟩ => ⟨S512x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguRefIdeal.lean ====
abbrev S4096x1536 : Shape := ⟨2, ![4096, 1536]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S4x128x1 : Shape := ⟨3, ![4, 128, 1]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S4x32x128x128 : Shape := ⟨4, ![4, 32, 128, 128]⟩
abbrev S128x4x128 : Shape := ⟨3, ![128, 4, 128]⟩
abbrev S1x128x4x128 : Shape := ⟨4, ![1, 128, 4, 128]⟩

abbrev nBuf : Space → Nat
  | .hbm => 200
  | .vmem => 0
  | .smem => 0
  | _ => 0

abbrev hbmTy0_0 (i : Nat) : BufTy := match i % 128 with
  | 0 => ⟨S4096x1536, .f32⟩
  | 1 => ⟨S4096x1024, .f32⟩
  | 2 => ⟨S512, .f32⟩
  | 3 => ⟨S4x128x128, .f32⟩
  | 4 => ⟨S4x128, .f32⟩
  | 5 => ⟨S4096x512, .f32⟩
  | 6 => ⟨S4096x512, .f32⟩
  | 7 => ⟨S4x128x1, .f32⟩
  | 8 => ⟨S4x128x128, .f32⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x512, .f32⟩
  | 87 => ⟨S4096x512, .f32⟩
  | 88 => ⟨S1x512, .f32⟩
  | 89 => ⟨S4096x512, .f32⟩
  | 90 => ⟨S4096x512, .f32⟩
  | 91 => ⟨S32x128x4x128, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S_, .f32⟩
  | 109 => ⟨S4x128x128, .f32⟩
  | 110 => ⟨S4x32x128x128, .f32⟩
  | 111 => ⟨S32x128x4x128, .f32⟩
  | 112 => ⟨S128x4x128, .f32⟩
  | 113 => ⟨S1x128x4x128, .f32⟩
  | 114 => ⟨S32x128x4x128, .f32⟩
  | 115 => ⟨S32x128x4x128, .f32⟩
  | 116 => ⟨S4096x512, .f32⟩
  | 117 => ⟨S4096x512, .f32⟩
  | 118 => ⟨S4096x512, .f32⟩
  | 119 => ⟨S4096x512, .f32⟩
  | 120 => ⟨S4096x512, .f32⟩
  | 121 => ⟨S32x128x4x128, .f32⟩
  | 122 => ⟨S_, .f32⟩
  | 123 => ⟨S128x4x128, .f32⟩
  | 124 => ⟨S1x128x4x128, .f32⟩
  | 125 => ⟨S_, .f32⟩
  | 126 => ⟨S128x4x128, .f32⟩
  | 127 => ⟨S4x128x128, .f32⟩
  | _ => ⟨S4096x1536, .f32⟩

abbrev hbmTy0_1 (i : Nat) : BufTy := match i % 128 with
  | 0 => ⟨S4x32x128x128, .f32⟩
  | 1 => ⟨S4x128x128, .f32⟩
  | 2 => ⟨S4x32x128x128, .f32⟩
  | 3 => ⟨S32x128x4x128, .f32⟩
  | 4 => ⟨S_, .f32⟩
  | 5 => ⟨S4x128x128, .f32⟩
  | 6 => ⟨S4x128x128, .f32⟩
  | 7 => ⟨S4096x512, .f32⟩
  | 8 => ⟨S4096x512, .f32⟩
  | 9 => ⟨S_, .f32⟩
  | 10 => ⟨S512, .f32⟩
  | 11 => ⟨S1x512, .f32⟩
  | 12 => ⟨S4096x512, .f32⟩
  | 13 => ⟨S4096x512, .f32⟩
  | 14 => ⟨S_, .f32⟩
  | 15 => ⟨S512, .f32⟩
  | 16 => ⟨S4096x512, .f32⟩
  | 17 => ⟨S_, .f32⟩
  | 18 => ⟨S4096, .f32⟩
  | 19 => ⟨S4096x1, .f32⟩
  | 20 => ⟨S4096x512, .f32⟩
  | 21 => ⟨S4096x512, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S4096x512, .f32⟩
  | 69 => ⟨S4096x512, .bf16⟩
  | 70 => ⟨S4096x512, .bf16⟩
  | 71 => ⟨S1x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_c_0 : Ref sig .tc := ⟨.hbm, 100, rfl⟩
abbrev main_call0_v5 : Ref sig .tc := ⟨.hbm, 101, rfl⟩
abbrev main_v68 : Ref sig .tc := ⟨.hbm, 102, rfl⟩
abbrev main_cst_19 : Ref sig .tc := ⟨.hbm, 103, rfl⟩
abbrev main_call1_v0 : Ref sig .tc := ⟨.hbm, 104, rfl⟩
abbrev main_v69_1 : Ref sig .tc := ⟨.hbm, 105, rfl⟩
abbrev main_call1_v2 : Ref sig .tc := ⟨.hbm, 106, rfl⟩
abbrev main_v69_0 : Ref sig .tc := ⟨.hbm, 107, rfl⟩
abbrev main_call1_cst : Ref sig .tc := ⟨.hbm, 108, rfl⟩
abbrev main_v69_2 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_20 : Ref sig .tc := ⟨.hbm, 122, rfl⟩
abbrev main_v82 : Ref sig .tc := ⟨.hbm, 123, rfl⟩
abbrev main_v83 : Ref sig .tc := ⟨.hbm, 124, rfl⟩
abbrev main_cst_21 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call2_cst : Ref sig .tc := ⟨.hbm, 132, rfl⟩
abbrev main_call2_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_v98 : Ref sig .tc := ⟨.hbm, 144, rfl⟩
abbrev main_cst_24 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_25 : Ref sig .tc := ⟨.hbm, 151, rfl⟩
abbrev main_v104 : Ref sig .tc := ⟨.hbm, 152, rfl⟩
abbrev main_v105 : Ref sig .tc := ⟨.hbm, 153, rfl⟩
abbrev main_cst_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_28 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_29 : Ref sig .tc := ⟨.hbm, 171, rfl⟩
abbrev main_v120 : Ref sig .tc := ⟨.hbm, 172, rfl⟩
abbrev main_v121 : Ref sig .tc := ⟨.hbm, 173, rfl⟩
abbrev main_cst_30 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_31 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_32 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_33 : Ref sig .tc := ⟨.hbm, 189, rfl⟩
abbrev main_v134 : Ref sig .tc := ⟨.hbm, 190, rfl⟩
abbrev main_v135 : Ref sig .tc := ⟨.hbm, 191, rfl⟩
abbrev main_cst_34 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩

abbrev nD : Nat := 1
abbrev τ : Topo := Topo.v7x

variable {F : FTy → Type} [FloatOps F]
-- ==== Ffn.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S1x5632 : Shape := ⟨2, ![1, 5632]⟩
abbrev S2x4096x2816 : Shape := ⟨3, ![2, 4096, 2816]⟩
abbrev S4096x128 : Shape := ⟨2, ![4096, 128]⟩
abbrev S3x128 : Shape := ⟨2, ![3, 128]⟩
abbrev S1x128 : Shape := ⟨2, ![1, 128]⟩
abbrev S2x4096x128 : Shape := ⟨3, ![2, 4096, 128]⟩
abbrev S8x128 : Shape := ⟨2, ![8, 128]⟩
abbrev S4088x128 : Shape := ⟨2, ![4088, 128]⟩
abbrev S1x4096x128 : Shape := ⟨3, ![1, 4096, 128]⟩
abbrev S2x3x2816 : Shape := ⟨3, ![2, 3, 2816]⟩
abbrev S2x1x2816 : Shape := ⟨3, ![2, 1, 2816]⟩
abbrev S2x3x128 : Shape := ⟨3, ![2, 3, 128]⟩
abbrev S2x1x128 : Shape := ⟨3, ![2, 1, 128]⟩
abbrev S128 : Shape := ⟨1, ![128]⟩
abbrev S1x1x128 : Shape := ⟨3, ![1, 1, 128]⟩
abbrev S1x3x128 : Shape := ⟨3, ![1, 3, 128]⟩
abbrev S1x3x2816 : Shape := ⟨3, ![1, 3, 2816]⟩
abbrev S3x2816 : Shape := ⟨2, ![3, 2816]⟩
abbrev S1x1x2816 : Shape := ⟨3, ![1, 1, 2816]⟩
abbrev S1x2816 : Shape := ⟨2, ![1, 2816]⟩

abbrev nBuf : Space → Nat
  | .hbm => 20
  | .vmem => 34
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S4096x2816, .bf16⟩
  | .hbm, ⟨6, _⟩ => ⟨S2x4096x2816, .f32⟩
  | .hbm, ⟨7, _⟩ => ⟨S2x4096x2816, .bf16⟩
  | .hbm, ⟨8, _⟩ => ⟨S2x3x2816, .f32⟩
  | .hbm, ⟨9, _⟩ => ⟨S2x1x2816, .f32⟩
  | .hbm, ⟨10, _⟩ => ⟨S1x3x2816, .f32⟩
  | .hbm, ⟨11, _⟩ => ⟨S3x2816, .f32⟩
  | .hbm, ⟨12, _⟩ => ⟨S1x3x2816, .f32⟩
  | .hbm, ⟨13, _⟩ => ⟨S3x2816, .f32⟩
  | .hbm, ⟨14, _⟩ => ⟨S3x5632, .f32⟩
  | .hbm, ⟨15, _⟩ => ⟨S1x1x2816, .f32⟩
  | .hbm, ⟨16, _⟩ => ⟨S1x2816, .f32⟩
  | .hbm, ⟨17, _⟩ => ⟨S1x1x2816, .f32⟩
  | .hbm, ⟨18, _⟩ => ⟨S1x2816, .f32⟩
  | .hbm, ⟨19, _⟩ => ⟨S1x5632, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S2x4096x128, .f32⟩
  | .local _ .vmem, ⟨15, _⟩ => ⟨S2x4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S2x4096x128, .f32⟩
  | .local _ .vmem, ⟨21, _⟩ => ⟨S2x4096x128, .f32⟩
  | .local _ .vmem, ⟨22, _⟩ => ⟨S4096x128, .bf16⟩
  | .local _ .vmem, ⟨23, _⟩ => ⟨S4096x128, .bf16⟩
  | .local _ .vmem, ⟨24, _⟩ => ⟨S3x128, .f32⟩
  | .local _ .vmem, ⟨25, _⟩ => ⟨S3x128, .f32⟩
  | .local _ .vmem, ⟨26, _⟩ => ⟨S3x128, .f32⟩
  | .local _ .vmem, ⟨27, _⟩ => ⟨S3x128, .f32⟩
  | .local _ .vmem, ⟨28, _⟩ => ⟨S2x4096x128, .bf16⟩
  | .local _ .vmem, ⟨29, _⟩ => ⟨S2x4096x128, .bf16⟩
  | .local _ .vmem, ⟨30, _⟩ => ⟨S2x3x128, .f32⟩
  | .local _ .vmem, ⟨31, _⟩ => ⟨S2x3x128, .f32⟩
  | .local _ .vmem, ⟨32, _⟩ => ⟨S2x1x128, .f32⟩
  | .local _ .vmem, ⟨33, _⟩ => ⟨S2x1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x3x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== FfnRefIdeal.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S1x4096x2816 : Shape := ⟨3, ![1, 4096, 2816]⟩
abbrev S2x4096x2816 : Shape := ⟨3, ![2, 4096, 2816]⟩

abbrev nBuf : Space → Nat
  | .hbm => 114
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S3x5632, .f32⟩
  | .hbm, ⟨3, _⟩ => ⟨S5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S_, .f32⟩
  | .hbm, ⟨60, _⟩ => ⟨S5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S4096x5632, .f32⟩
  | .hbm, ⟨66, _⟩ => ⟨S4096x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S_, .f32⟩
  | .hbm, ⟨73, _⟩ => ⟨S4098x5632, .f32⟩
  | .hbm, ⟨74, _⟩ => ⟨S4096x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S4096x5632, .f32⟩
  | .hbm, ⟨79, _⟩ => ⟨S4096x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S4098x5632, .f32⟩
  | .hbm, ⟨88, _⟩ => ⟨S4098x5632, .f32⟩
  | .hbm, ⟨89, _⟩ => ⟨S4096x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S4096x5632, .f32⟩
  | .hbm, ⟨94, _⟩ => ⟨S4096x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S_, .f32⟩
  | .hbm, ⟨102, _⟩ => ⟨S4098x5632, .f32⟩
  | .hbm, ⟨103, _⟩ => ⟨S4098x5632, .f32⟩
  | .hbm, ⟨104, _⟩ => ⟨S2x5632, .f32⟩
  | .hbm, ⟨105, _⟩ => ⟨S4096x5632, .f32⟩
  | .hbm, ⟨106, _⟩ => ⟨S4096x2816, .bf16⟩
  | .hbm, ⟨107, _⟩ => ⟨S4096x2816, .f32⟩
  | .hbm, ⟨108, _⟩ => ⟨S4096x2816, .f32⟩
  | .hbm, ⟨109, _⟩ => ⟨S1x4096x2816, .f32⟩
  | .hbm, ⟨110, _⟩ => ⟨S1x4096x2816, .f32⟩
  | .hbm, ⟨111, _⟩ => ⟨S2x4096x2816, .f32⟩
  | .hbm, ⟨112, _⟩ => ⟨S2x4096x2816, .bf16⟩
  | .hbm, ⟨113, _⟩ => ⟨S1x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== GluFwd.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S1x512 : Shape := ⟨2, ![1, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x1024, .bf16⟩
  | .hbm, ⟨4, _⟩ => ⟨S512x512, .bf16⟩
  | .hbm, ⟨5, _⟩ => ⟨S1x512, .f32⟩
  | .hbm, ⟨6, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluFwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GluFwdRefIdeal.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S_ : Shape := ⟨0, ![]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x1024, .bf16⟩
  | .hbm, ⟨4, _⟩ => ⟨S4096x512, .bf16⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .bf16⟩
  | .hbm, ⟨39, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== RmsFwd.lean ====
abbrev S4096x1024 : Shape := ⟨2, ![4096, 1024]⟩
abbrev S4x1024 : Shape := ⟨2, ![4, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PoolFwd.lean ====
abbrev S4096x1536 : Shape := ⟨2, ![4096, 1536]⟩
abbrev S4x128x128 : Shape := ⟨3, ![4, 128, 128]⟩
abbrev S512 : Shape := ⟨1, ![512]⟩
abbrev S1x512 : Shape := ⟨2, ![1, 512]⟩
abbrev S4096x1024 : Shape := ⟨2, ![4096, 1024]⟩
abbrev S4096x128 : Shape := ⟨2, ![4096, 128]⟩
abbrev S1x128x128 : Shape := ⟨3, ![1, 128, 128]⟩
abbrev S1x128 : Shape := ⟨2, ![1, 128]⟩
abbrev S8x128 : Shape := ⟨2, ![8, 128]⟩
abbrev S4088x128 : Shape := ⟨2, ![4088, 128]⟩
abbrev S128x128 : Shape := ⟨2, ![128, 128]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S4096x1024, .bf16⟩
  | .hbm, ⟨5, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_3 : BitVec 32 := 0#32
  let v9 : BitVec 1 := Scalar.cmpi .ne v8 c0_i32_3
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S4096x1536 : Shape := ⟨2, ![4096, 1536]⟩
abbrev S4x128x128 : Shape := ⟨3, ![4, 128, 128]⟩
abbrev S512 : Shape := ⟨1, ![512]⟩
abbrev S4096x512 : Shape := ⟨2, ![4096, 512]⟩
abbrev S4096x4x128 : Shape := ⟨3, ![4096, 4, 128]⟩
abbrev S_ : Shape := ⟨0, ![]⟩
abbrev S4096 : Shape := ⟨1, ![4096]⟩
abbrev S4096x1 : Shape := ⟨2, ![4096, 1]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x128x128, .f32⟩
  | .hbm, ⟨2, _⟩ => ⟨S512, .f32⟩
  | .hbm, ⟨3, _⟩ => ⟨S4096x512, .f32⟩
  | .hbm, ⟨4, _⟩ => ⟨S4096x4x128, .f32⟩
  | .hbm, ⟨5, _⟩ => ⟨S_, .f32⟩
  | .hbm, ⟨6, _⟩ => ⟨S_, .f32⟩
  | .hbm, ⟨7, _⟩ => ⟨S4096x4x128, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .f32⟩
  | .hbm, ⟨13, _⟩ => ⟨S4096x1, .f32⟩
  | .hbm, ⟨14, _⟩ => ⟨S4096x1x128, .f32⟩
  | .hbm, ⟨15, _⟩ => ⟨S4096x128, .f32⟩
  | .hbm, ⟨16, _⟩ => ⟨S_, .f32⟩
  | .hbm, ⟨17, _⟩ => ⟨S2x128, .f32⟩
  | .hbm, ⟨18, _⟩ => ⟨S4098x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S4096x1x128, .f32⟩
  | .hbm, ⟨27, _⟩ => ⟨S4096x128, .f32⟩
  | .hbm, ⟨28, _⟩ => ⟨S4096x128, .f32⟩
  | .hbm, ⟨29, _⟩ => ⟨S4096x1x128, .f32⟩
  | .hbm, ⟨30, _⟩ => ⟨S4096x128, .f32⟩
  | .hbm, ⟨31, _⟩ => ⟨S_, .f32⟩
  | .hbm, ⟨32, _⟩ => ⟨S4x128, .f32⟩
  | .hbm, ⟨33, _⟩ => ⟨S4100x128, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x128, .f32⟩
  | .hbm, ⟨40, _⟩ => ⟨S4096x128, .f32⟩
  | .hbm, ⟨41, _⟩ => ⟨S4096x1x128, .f32⟩
  | .hbm, ⟨42, _⟩ => ⟨S4096x128, .f32⟩
  | .hbm, ⟨43, _⟩ => ⟨S4096x128, .f32⟩
  | .hbm, ⟨44, _⟩ => ⟨S4096x1x128, .f32⟩
  | .hbm, ⟨45, _⟩ => ⟨S4096x128, .f32⟩
  | .hbm, ⟨46, _⟩ => ⟨S_, .f32⟩
  | .hbm, ⟨47, _⟩ => ⟨S8x128, .f32⟩
  | .hbm, ⟨48, _⟩ => ⟨S4104x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x128, .f32⟩
  | .hbm, ⟨55, _⟩ => ⟨S4096x128, .f32⟩
  | .hbm, ⟨56, _⟩ => ⟨S4096x1x128, .f32⟩
  | .hbm, ⟨57, _⟩ => ⟨S4096x128, .f32⟩
  | .hbm, ⟨58, _⟩ => ⟨S4096x128, .f32⟩
  | .hbm, ⟨59, _⟩ => ⟨S4096x1x128, .f32⟩
  | .hbm, ⟨60, _⟩ => ⟨S4096x128, .f32⟩
  | .hbm, ⟨61, _⟩ => ⟨S_, .f32⟩
  | .hbm, ⟨62, _⟩ => ⟨S16x128, .f32⟩
  | .hbm, ⟨63, _⟩ => ⟨S4112x128, .f32⟩
  | .hbm, ⟨64, _⟩ => ⟨S4096x128, .f32⟩
  | .hbm, ⟨65, _⟩ => ⟨S4096x128, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x128, .f32⟩
  | .hbm, ⟨70, _⟩ => ⟨S4096x128, .f32⟩
  | .hbm, ⟨71, _⟩ => ⟨S4096x1x128, .f32⟩
  | .hbm, ⟨72, _⟩ => ⟨S4096x128, .f32⟩
  | .hbm, ⟨73, _⟩ => ⟨S4096x128, .f32⟩
  | .hbm, ⟨74, _⟩ => ⟨S4096x1x128, .f32⟩
  | .hbm, ⟨75, _⟩ => ⟨S4096x1x128, .f32⟩
  | .hbm, ⟨76, _⟩ => ⟨S4096x1x128, .f32⟩
  | .hbm, ⟨77, _⟩ => ⟨S4096x1x128, .f32⟩
  | .hbm, ⟨78, _⟩ => ⟨S4096x4x128, .f32⟩
  | .hbm, ⟨79, _⟩ => ⟨S4x128x4096, .f32⟩
  | .hbm, ⟨80, _⟩ => ⟨S4096x4x128, .f32⟩
  | .hbm, ⟨81, _⟩ => ⟨S4096x512, .f32⟩
  | .hbm, ⟨82, _⟩ => ⟨S1x512, .f32⟩
  | .hbm, ⟨83, _⟩ => ⟨S4096x512, .f32⟩
  | .hbm, ⟨84, _⟩ => ⟨S4096x512, .f32⟩
  | .hbm, ⟨85, _⟩ => ⟨S4096x512, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== SguFwd.lean ====
abbrev S4096x1536 : Shape := ⟨2, ![4096, 1536]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S1x512 : Shape := ⟨2, ![1, 512]⟩
abbrev S128x4 : Shape := ⟨2, ![128, 4]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S4096x1024, .bf16⟩
  | .hbm, ⟨5, _⟩ => ⟨S1x512, .f32⟩
  | .hbm, ⟨6, _⟩ => ⟨S128x4, .f32⟩
  | .hbm, ⟨7, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x512, .bf16⟩
  | .local _ .vmem, ⟨8, _⟩ => ⟨S512x512, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguFwdRefIdeal.lean ====
abbrev S4096x1536 : Shape := ⟨2, ![4096, 1536]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S4x128x1 : Shape := ⟨3, ![4, 128, 1]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S4x32x128x128 : Shape := ⟨4, ![4, 32, 128, 128]⟩
abbrev S128x4x128 : Shape := ⟨3, ![128, 4, 128]⟩
abbrev S1x128x4x128 : Shape := ⟨4, ![1, 128, 4, 128]⟩

abbrev nBuf : Space → Nat
  | .hbm => 93
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S4096x1024, .bf16⟩
  | .hbm, ⟨5, _⟩ => ⟨S4x128x1, .f32⟩
  | .hbm, ⟨6, _⟩ => ⟨S4x128x128, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x512, .f32⟩
  | .hbm, ⟨61, _⟩ => ⟨S4096x512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S32x128x4x128, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S_, .f32⟩
  | .hbm, ⟨78, _⟩ => ⟨S_, .f32⟩
  | .hbm, ⟨79, _⟩ => ⟨S4x128x128, .i1⟩
  | .hbm, ⟨80, _⟩ => ⟨S4x128x128, .f32⟩
  | .hbm, ⟨81, _⟩ => ⟨S4x128x128, .f32⟩
  | .hbm, ⟨82, _⟩ => ⟨S4x32x128x128, .f32⟩
  | .hbm, ⟨83, _⟩ => ⟨S32x128x4x128, .f32⟩
  | .hbm, ⟨84, _⟩ => ⟨S128x4x128, .f32⟩
  | .hbm, ⟨85, _⟩ => ⟨S1x128x4x128, .f32⟩
  | .hbm, ⟨86, _⟩ => ⟨S32x128x4x128, .f32⟩
  | .hbm, ⟨87, _⟩ => ⟨S32x128x4x128, .f32⟩
  | .hbm, ⟨88, _⟩ => ⟨S4096x512, .f32⟩
  | .hbm, ⟨89, _⟩ => ⟨S4096x512, .f32⟩
  | .hbm, ⟨90, _⟩ => ⟨S4096x512, .bf16⟩
  | .hbm, ⟨91, _⟩ => ⟨S4096x512, .bf16⟩
  | .hbm, ⟨92, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v49 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== SconvFwd.lean ====
abbrev S4096x2048 : Shape := ⟨2, ![4096, 2048]⟩
abbrev S3x512 : Shape := ⟨2, ![3, 512]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S4096x512 : Shape := ⟨2, ![4096, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S3x512, .f32⟩
  | .hbm, ⟨2, _⟩ => ⟨S4096x1024, .bf16⟩
  | .hbm, ⟨3, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SconvFwdRefIdeal.lean ====
abbrev S4096x2048 : Shape := ⟨2, ![4096, 2048]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S2x512, .f32⟩
  | .hbm, ⟨8, _⟩ => ⟨S4098x512, .f32⟩
  | .hbm, ⟨9, _⟩ => ⟨S4096x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4x1024, .f32⟩
  | .hbm, ⟨4, _⟩ => ⟨S1024x1024, .bf16⟩
  | .hbm, ⟨5, _⟩ => ⟨S4x1x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4x1024, .f32⟩
  | .hbm, ⟨4, _⟩ => ⟨S2816x1024, .bf16⟩
  | .hbm, ⟨5, _⟩ => ⟨S4x1x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== S5Fwd.lean ====
abbrev S4096x2048 : Shape := ⟨2, ![4096, 2048]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S4x8x16x64 : Shape := ⟨4, ![4, 8, 16, 64]⟩
abbrev S8x8 : Shape := ⟨2, ![8, 8]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S1x512 : Shape := ⟨2, ![1, 512]⟩
abbrev S4x1x512 : Shape := ⟨3, ![4, 1, 512]⟩
abbrev S8 : Shape := ⟨1, ![8]⟩
abbrev S1x8x1 : Shape := ⟨3, ![1, 8, 1]⟩
abbrev S4x8x512 : Shape := ⟨3, ![4, 8, 512]⟩
abbrev S4x8x1024 : Shape := ⟨3, ![4, 8, 1024]⟩
abbrev S4x1x8x1024 : Shape := ⟨4, ![4, 1, 8, 1024]⟩
abbrev S4x4x8x1024 : Shape := ⟨4, ![4, 4, 8, 1024]⟩
abbrev S4096x4096 : Shape := ⟨2, ![4096, 4096]⟩
abbrev S4096x512 : Shape := ⟨2, ![4096, 512]⟩
abbrev S512x128 : Shape := ⟨2, ![512, 128]⟩
abbrev S1x128x1024 : Shape := ⟨3, ![1, 128, 1024]⟩
abbrev S1x1024x128 : Shape := ⟨3, ![1, 1024, 128]⟩
abbrev S1x128 : Shape := ⟨2, ![1, 128]⟩
abbrev S1x4x8x1024 : Shape := ⟨4, ![1, 4, 8, 1024]⟩
abbrev S512x1024 : Shape := ⟨2, ![512, 1024]⟩
abbrev S8x1024 : Shape := ⟨2, ![8, 1024]⟩
abbrev S128x1024 : Shape := ⟨2, ![128, 1024]⟩
abbrev S8x128 : Shape := ⟨2, ![8, 128]⟩
abbrev S1x8x128 : Shape := ⟨3, ![1, 8, 128]⟩
abbrev S1024x128 : Shape := ⟨2, ![1024, 128]⟩

abbrev nBuf : Space → Nat
  | .hbm => 226
  | .vmem => 15
  | .smem => 0
  | _ => 0

abbrev hbmTy0_0 (i : Nat) : BufTy := match i % 128 with
  | 0 => ⟨S4096x2048, .f32⟩
  | 1 => ⟨S32, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S_, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64x1, .f32⟩
  | 37 => ⟨S32x64x16, .f32⟩
  | 38 => ⟨S32x64x16, .f32⟩
  | 39 => ⟨S32x64x1, .f32⟩
  | 40 => ⟨S32x64x16, .f32⟩
  | 41 => ⟨S32x64x16, .f32⟩
  | 42 => ⟨S32x64x16, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S32x16x64, .f32⟩
  | 51 => ⟨S4x8x16x64, .f32⟩
  | 52 => ⟨S8x8, .i32⟩
  | 53 => ⟨S8x8, .i32⟩
  | 54 => ⟨S_, .i32⟩
  | 55 => ⟨S8x8, .i32⟩
  | 56 => ⟨S8x8, .i32⟩
  | 57 => ⟨S8x8, .i1⟩
  | 58 => ⟨S8x8, .f32⟩
  | 59 => ⟨S4x8x16x1x64, .f32⟩
  | 60 => ⟨S1x8x1x8x1, .f32⟩
  | 61 => ⟨S4x8x16x8x64, .f32⟩
  | 62 => ⟨S4x8x16x8x64, .f32⟩
  | 63 => ⟨S4x8x16x8x64, .f32⟩
  | 64 => ⟨S4x128x512, .f32⟩
  | 65 => ⟨S32x16x64, .f32⟩
  | 66 => ⟨S4x8x16x64, .f32⟩
  | 67 => ⟨S8x8, .i32⟩
  | 68 => ⟨S8x8, .i32⟩
  | 69 => ⟨S_, .i32⟩
  | 70 => ⟨S8x8, .i32⟩
  | 71 => ⟨S8x8, .i32⟩
  | 72 => ⟨S8x8, .i1⟩
  | 73 => ⟨S8x8, .f32⟩
  | 74 => ⟨S4x8x16x1x64, .f32⟩
  | 75 => ⟨S1x8x1x8x1, .f32⟩
  | 76 => ⟨S4x8x16x8x64, .f32⟩
  | 77 => ⟨S4x8x16x8x64, .f32⟩
  | 78 => ⟨S4x8x16x8x64, .f32⟩
  | 79 => ⟨S4x128x512, .f32⟩
  | 80 => ⟨S4x128x1024, .f32⟩
  | 81 => ⟨S32x64x16, .f32⟩
  | 82 => ⟨S4x8x64x16, .f32⟩
  | 83 => ⟨S8x8, .i32⟩
  | 84 => ⟨S8x8, .i32⟩
  | 85 => ⟨S_, .i32⟩
  | 86 => ⟨S8x8, .i32⟩
  | 87 => ⟨S8x8, .i32⟩
  | 88 => ⟨S8x8, .i1⟩
  | 89 => ⟨S8x8, .f32⟩
  | 90 => ⟨S4x8x64x1x16, .f32⟩
  | 91 => ⟨S1x8x1x8x1, .f32⟩
  | 92 => ⟨S4x8x64x8x16, .f32⟩
  | 93 => ⟨S4x8x64x8x16, .f32⟩
  | 94 => ⟨S4x8x64x8x16, .f32⟩
  | 95 => ⟨S4x512x128, .f32⟩
  | 96 => ⟨S32x16x64, .f32⟩
  | 97 => ⟨S32x64x16, .f32⟩
  | 98 => ⟨S4x8x64x16, .f32⟩
  | 99 => ⟨S8x8, .i32⟩
  | 100 => ⟨S8x8, .i32⟩
  | 101 => ⟨S_, .i32⟩
  | 102 => ⟨S8x8, .i32⟩
  | 103 => ⟨S8x8, .i32⟩
  | 104 => ⟨S8x8, .i1⟩
  | 105 => ⟨S8x8, .f32⟩
  | 106 => ⟨S4x8x64x1x16, .f32⟩
  | 107 => ⟨S1x8x1x8x1, .f32⟩
  | 108 => ⟨S4x8x64x8x16, .f32⟩
  | 109 => ⟨S4x8x64x8x16, .f32⟩
  | 110 => ⟨S4x8x64x8x16, .f32⟩
  | 111 => ⟨S4x512x128, .f32⟩
  | 112 => ⟨S4x1024x128, .f32⟩
  | 113 => ⟨S4x128x1024, .bf16⟩
  | 114 => ⟨S4x1024x128, .bf16⟩
  | 115 => ⟨S1x512, .f32⟩
  | 116 => ⟨S32, .f32⟩
  | 117 => ⟨S32x1, .f32⟩
  | 118 => ⟨S32x64, .f32⟩
  | 119 => ⟨S32x64, .f32⟩
  | 120 => ⟨S4x1x512, .f32⟩
  | 121 => ⟨S32x64, .f32⟩
  | 122 => ⟨S32x64, .f32⟩
  | 123 => ⟨S4x1x512, .f32⟩
  | 124 => ⟨S8, .f32⟩
  | 125 => ⟨S1x8x1, .f32⟩
  | 126 => ⟨S_, .f32⟩
  | 127 => ⟨S1x8x1, .f32⟩
  | _ => ⟨S4096x2048, .f32⟩

abbrev hbmTy0_1 (i : Nat) : BufTy := match i % 128 with
  | 0 => ⟨S1x8x1, .i1⟩
  | 1 => ⟨S_, .f32⟩
  | 2 => ⟨S1x8x1, .f32⟩
  | 3 => ⟨S4x8x512, .f32⟩
  | 4 => ⟨S4x8x512, .f32⟩
  | 5 => ⟨S4x8x512, .f32⟩
  | 6 => ⟨S4x8x512, .f32⟩
  | 7 => ⟨S4x8x512, .f32⟩
  | 8 => ⟨S4x8x512, .f32⟩
  | 9 => ⟨S4x8x512, .f32⟩
  | 10 => ⟨S4x8x512, .f32⟩
  | 11 => ⟨S4x8x512, .f32⟩
  | 12 => ⟨S4x8x512, .f32⟩
  | 13 => ⟨S4x8x512, .f32⟩
  | 14 => ⟨S4x8x512, .f32⟩
  | 15 => ⟨S4x8x512, .f32⟩
  | 16 => ⟨S4x8x512, .f32⟩
  | 17 => ⟨S4x8x1024, .f32⟩
  | 18 => ⟨S_, .f32⟩
  | 19 => ⟨S_, .f32⟩
  | 20 => ⟨S4x8x1024, .i1⟩
  | 21 => ⟨S4x8x1024, .f32⟩
  | 22 => ⟨S4x8x1024, .f32⟩
  | 23 => ⟨S_, .f32⟩
  | 24 => ⟨S1x8x1, .f32⟩
  | 25 => ⟨S1x8x1, .i1⟩
  | 26 => ⟨S_, .f32⟩
  | 27 => ⟨S1x8x1, .f32⟩
  | 28 => ⟨S4x8x512, .f32⟩
  | 29 => ⟨S4x8x512, .f32⟩
  | 30 => ⟨S4x8x512, .f32⟩
  | 31 => ⟨S4x8x512, .f32⟩
  | 32 => ⟨S4x8x512, .f32⟩
  | 33 => ⟨S4x8x512, .f32⟩
  | 34 => ⟨S4x8x512, .f32⟩
  | 35 => ⟨S4x8x512, .f32⟩
  | 36 => ⟨S4x8x512, .f32⟩
  | 37 => ⟨S4x8x512, .f32⟩
  | 38 => ⟨S4x8x512, .f32⟩
  | 39 => ⟨S4x8x512, .f32⟩
  | 40 => ⟨S4x8x512, .f32⟩
  | 41 => ⟨S4x8x512, .f32⟩
  | 42 => ⟨S4x8x1024, .f32⟩
  | 43 => ⟨S_, .f32⟩
  | 44 => ⟨S_, .f32⟩
  | 45 => ⟨S4x8x1024, .i1⟩
  | 46 => ⟨S4x8x1024, .f32⟩
  | 47 => ⟨S4x8x1024, .f32⟩
  | 48 => ⟨S_, .f32⟩
  | 49 => ⟨S1x8x1, .f32⟩
  | 50 => ⟨S1x8x1, .i1⟩
  | 51 => ⟨S_, .f32⟩
  | 52 => ⟨S1x8x1, .f32⟩
  | 53 => ⟨S4x8x512, .f32⟩
  | 54 => ⟨S4x8x512, .f32⟩
  | 55 => ⟨S4x8x512, .f32⟩
  | 56 => ⟨S4x8x512, .f32⟩
  | 57 => ⟨S4x8x512, .f32⟩
  | 58 => ⟨S4x8x512, .f32⟩
  | 59 => ⟨S4x8x512, .f32⟩
  | 60 => ⟨S4x8x512, .f32⟩
  | 61 => ⟨S4x8x512, .f32⟩
  | 62 => ⟨S4x8x512, .f32⟩
  | 63 => ⟨S4x8x512, .f32⟩
  | 64 => ⟨S4x8x512, .f32⟩
  | 65 => ⟨S4x8x512, .f32⟩
  | 66 => ⟨S4x8x512, .f32⟩
  | 67 => ⟨S4x8x1024, .f32⟩
  | 68 => ⟨S_, .f32⟩
  | 69 => ⟨S_, .f32⟩
  | 70 => ⟨S4x8x1024, .i1⟩
  | 71 => ⟨S4x8x1024, .f32⟩
  | 72 => ⟨S4x8x1024, .f32⟩
  | 73 => ⟨S_, .f32⟩
  | 74 => ⟨S1x8x1, .f32⟩
  | 75 => ⟨S1x8x1, .f32⟩
  | 76 => ⟨S4x8x512, .f32⟩
  | 77 => ⟨S4x8x512, .f32⟩
  | 78 => ⟨S4x8x512, .f32⟩
  | 79 => ⟨S4x8x512, .f32⟩
  | 80 => ⟨S4x8x512, .f32⟩
  | 81 => ⟨S4x8x512, .f32⟩
  | 82 => ⟨S4x8x512, .f32⟩
  | 83 => ⟨S4x8x512, .f32⟩
  | 84 => ⟨S4x8x512, .f32⟩
  | 85 => ⟨S4x8x512, .f32⟩
  | 86 => ⟨S4x8x512, .f32⟩
  | 87 => ⟨S4x8x512, .f32⟩
  | 88 => ⟨S4x8x512, .f32⟩
  | 89 => ⟨S4x8x512, .f32⟩
  | 90 => ⟨S4x8x1024, .f32⟩
  | 91 => ⟨S4x1x8x1024, .f32⟩
  | 92 => ⟨S4x1x8x1024, .f32⟩
  | 93 => ⟨S4x1x8x1024, .f32⟩
  | 94 => ⟨S4x1x8x1024, .f32⟩
  | 95 => ⟨S4x4x8x1024, .f32⟩
  | 96 => ⟨S4096x4096, .f32⟩
  | 97 => ⟨S4096x512, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128, .f32⟩
  | .local _ .vmem, ⟨7, _⟩ => ⟨S1x128, .f32⟩
  | .local _ .vmem, ⟨8, _⟩ => ⟨S1x4x8x1024, .f32⟩
  | .local _ .vmem, ⟨9, _⟩ => ⟨S1x4x8x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c_0 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c_1 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_c_2 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_3 : Ref sig .tc := ⟨.hbm, 126, rfl⟩
abbrev main_v112 : Ref sig .tc := ⟨.hbm, 127, rfl⟩
abbrev main_v113 : Ref sig .tc := ⟨.hbm, 128, rfl⟩
abbrev main_cst_4 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_cst_5 : Ref sig .tc := ⟨.hbm, 146, rfl⟩
abbrev main_call0_v0 : Ref sig .tc := ⟨.hbm, 147, rfl⟩
abbrev main_call0_v1 : Ref sig .tc := ⟨.hbm, 148, rfl⟩
abbrev main_call0_v2 : Ref sig .tc := ⟨.hbm, 149, rfl⟩
abbrev main_v130 : Ref sig .tc := ⟨.hbm, 150, rfl⟩
abbrev main_cst_6 : Ref sig .tc := ⟨.hbm, 151, rfl⟩
abbrev main_v131 : Ref sig .tc := ⟨.hbm, 152, rfl⟩
abbrev main_v132 : Ref sig .tc := ⟨.hbm, 153, rfl⟩
abbrev main_cst_7 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_cst_8 : Ref sig .tc := ⟨.hbm, 171, rfl⟩
abbrev main_call1_v0 : Ref sig .tc := ⟨.hbm, 172, rfl⟩
abbrev main_call1_v1 : Ref sig .tc := ⟨.hbm, 173, rfl⟩
abbrev main_call1_v2 : Ref sig .tc := ⟨.hbm, 174, rfl⟩
abbrev main_v149 : Ref sig .tc := ⟨.hbm, 175, rfl⟩
abbrev main_cst_9 : Ref sig .tc := ⟨.hbm, 176, rfl⟩
abbrev main_v150 : Ref sig .tc := ⟨.hbm, 177, rfl⟩
abbrev main_v151 : Ref sig .tc := ⟨.hbm, 178, rfl⟩
abbrev main_cst_10 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_cst_11 : Ref sig .tc := ⟨.hbm, 196, rfl⟩
abbrev main_call2_v0 : Ref sig .tc := ⟨.hbm, 197, rfl⟩
abbrev main_call2_v1 : Ref sig .tc := ⟨.hbm, 198, rfl⟩
abbrev main_call2_v2 : Ref sig .tc := ⟨.hbm, 199, rfl⟩
abbrev main_v168 : Ref sig .tc := ⟨.hbm, 200, rfl⟩
abbrev main_cst_12 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191_0 : Ref sig .tc := ⟨.hbm, 224, rfl⟩
abbrev main_v191_1 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_17 : BitVec 32 := 0#32
  let c64_i32 : BitVec 32 := 64#32
  let v17 : BitVec 32 := Scalar.addi c0_i32_17 c64_i32
  let c1_i32 : BitVec 32 := 1#32
  ⟨c0_i32_17, v17, c1_i32⟩
def k0_mult1 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  v55
def k0_off1 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v57 : Index := Scalar.indexCast v56
  let c0_45 : Index := 0#32
  ![v57.toNat, 0]
def k0_off2 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v60 : Index := Scalar.indexCast v56
  let c512_46 : Index := 512#32
  ![v60.toNat, 512]
def k0_off3 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v143 : Index := Scalar.indexCast v56
  let c128_98 : Index := 128#32
  ![v143.toNat, 128]
def k0_off4 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v146 : Index := Scalar.indexCast v56
  let c640_99 : Index := 640#32
  ![v146.toNat, 640]
def k0_off5 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v229 : Index := Scalar.indexCast v56
  let c256_156 : Index := 256#32
  ![v229.toNat, 256]
def k0_off6 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v232 : Index := Scalar.indexCast v56
  let c768_157 : Index := 768#32
  ![v232.toNat, 768]
def k0_off7 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v315 : Index := Scalar.indexCast v56
  let c384_214 : Index := 384#32
  ![v315.toNat, 384]
def k0_off8 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c8_i32 : BitVec 32 := 8#32
  let v55 : BitVec 32 := Scalar.muli arg10 c8_i32
  let v56 : BitVec 32 := v55
  let v318 : Index := Scalar.indexCast v56
  let c896_215 : Index := 896#32
  ![v318.toNat, 896]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== S5Bwd.lean ====
abbrev S4096x2048 : Shape := ⟨2, ![4096, 2048]⟩
abbrev S4096x512 : Shape := ⟨2, ![4096, 512]⟩
abbrev S4096x4096 : Shape := ⟨2, ![4096, 4096]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S4x8x16x64 : Shape := ⟨4, ![4, 8, 16, 64]⟩
abbrev S8x8 : Shape := ⟨2, ![8, 8]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S1x512 : Shape := ⟨2, ![1, 512]⟩
abbrev S4x1x512 : Shape := ⟨3, ![4, 1, 512]⟩
abbrev S8 : Shape := ⟨1, ![8]⟩
abbrev S1x8x1 : Shape := ⟨3, ![1, 8, 1]⟩
abbrev S4x8x512 : Shape := ⟨3, ![4, 8, 512]⟩
abbrev S4x8x1024 : Shape := ⟨3, ![4, 8, 1024]⟩
abbrev S4x1x8x1024 : Shape := ⟨4, ![4, 1, 8, 1024]⟩
abbrev S4x4x8x1024 : Shape := ⟨4, ![4, 4, 8, 1024]⟩
abbrev S4x1x1024 : Shape := ⟨3, ![4, 1, 1024]⟩
abbrev S512x128 : Shape := ⟨2, ![512, 128]⟩
abbrev S512x1024 : Shape := ⟨2, ![512, 1024]⟩
abbrev S8x1024 : Shape := ⟨2, ![8, 1024]⟩
abbrev S1x128x1024 : Shape := ⟨3, ![1, 128, 1024]⟩
abbrev S1x1024x128 : Shape := ⟨3, ![1, 1024, 128]⟩
abbrev S1x128 : Shape := ⟨2, ![1, 128]⟩
abbrev S1x4x8x1024 : Shape := ⟨4, ![1, 4, 8, 1024]⟩
abbrev S1x1x1024 : Shape := ⟨3, ![1, 1, 1024]⟩
abbrev S1024x128 : Shape := ⟨2, ![1024, 128]⟩
abbrev S8x128 : Shape := ⟨2, ![8, 128]⟩
abbrev S1x8x128 : Shape := ⟨3, ![1, 8, 128]⟩
abbrev S128x1024 : Shape := ⟨2, ![128, 1024]⟩
abbrev S128 : Shape := ⟨1, ![128]⟩
abbrev S1x1024 : Shape := ⟨2, ![1, 1024]⟩
abbrev S512x512 : Shape := ⟨2, ![512, 512]⟩

abbrev nBuf : Space → Nat
  | .hbm => 232
  | .vmem => 28
  | .smem => 0
  | _ => 0

abbrev hbmTy0_0 (i : Nat) : BufTy := match i % 128 with
  | 0 => ⟨S4096x2048, .f32⟩
  | 1 => ⟨S4096x512, .f32⟩
  | 2 => ⟨S4096x4096, .f32⟩
  | 3 => ⟨S32, .f32⟩
  | 4 => ⟨S32x64, .f32⟩
  | 5 => ⟨S32x64, .f32⟩
  | 6 => ⟨S32x64x16, .f32⟩
  | 7 => ⟨S32x64x16, .f32⟩
  | 8 => ⟨S32x16x64, .f32⟩
  | 9 => ⟨S32x16x64, .f32⟩
  | 10 => ⟨S512, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64x1, .f32⟩
  | 39 => ⟨S32x64x16, .f32⟩
  | 40 => ⟨S32x64x16, .f32⟩
  | 41 => ⟨S32x64x1, .f32⟩
  | 42 => ⟨S32x64x16, .f32⟩
  | 43 => ⟨S32x64x16, .f32⟩
  | 44 => ⟨S32x64x16, .f32⟩
  | 45 => ⟨S32x64x1, .f32⟩
  | 46 => ⟨S32x64x16, .f32⟩
  | 47 => ⟨S32x64x16, .f32⟩
  | 48 => ⟨S32x64x1, .f32⟩
  | 49 => ⟨S32x64x16, .f32⟩
  | 50 => ⟨S32x64x16, .f32⟩
  | 51 => ⟨S32x64x16, .f32⟩
  | 52 => ⟨S32x16x64, .f32⟩
  | 53 => ⟨S4x8x16x64, .f32⟩
  | 54 => ⟨S8x8, .i32⟩
  | 55 => ⟨S8x8, .i32⟩
  | 56 => ⟨S_, .i32⟩
  | 57 => ⟨S8x8, .i32⟩
  | 58 => ⟨S8x8, .i32⟩
  | 59 => ⟨S8x8, .i1⟩
  | 60 => ⟨S8x8, .f32⟩
  | 61 => ⟨S4x8x16x1x64, .f32⟩
  | 62 => ⟨S1x8x1x8x1, .f32⟩
  | 63 => ⟨S4x8x16x8x64, .f32⟩
  | 64 => ⟨S4x8x16x8x64, .f32⟩
  | 65 => ⟨S4x8x16x8x64, .f32⟩
  | 66 => ⟨S4x128x512, .f32⟩
  | 67 => ⟨S32x16x64, .f32⟩
  | 68 => ⟨S4x8x16x64, .f32⟩
  | 69 => ⟨S8x8, .i32⟩
  | 70 => ⟨S8x8, .i32⟩
  | 71 => ⟨S_, .i32⟩
  | 72 => ⟨S8x8, .i32⟩
  | 73 => ⟨S8x8, .i32⟩
  | 74 => ⟨S8x8, .i1⟩
  | 75 => ⟨S8x8, .f32⟩
  | 76 => ⟨S4x8x16x1x64, .f32⟩
  | 77 => ⟨S1x8x1x8x1, .f32⟩
  | 78 => ⟨S4x8x16x8x64, .f32⟩
  | 79 => ⟨S4x8x16x8x64, .f32⟩
  | 80 => ⟨S4x8x16x8x64, .f32⟩
  | 81 => ⟨S4x128x512, .f32⟩
  | 82 => ⟨S4x128x1024, .f32⟩
  | 83 => ⟨S32x64x16, .f32⟩
  | 84 => ⟨S4x8x64x16, .f32⟩
  | 85 => ⟨S8x8, .i32⟩
  | 86 => ⟨S8x8, .i32⟩
  | 87 => ⟨S_, .i32⟩
  | 88 => ⟨S8x8, .i32⟩
  | 89 => ⟨S8x8, .i32⟩
  | 90 => ⟨S8x8, .i1⟩
  | 91 => ⟨S8x8, .f32⟩
  | 92 => ⟨S4x8x64x1x16, .f32⟩
  | 93 => ⟨S1x8x1x8x1, .f32⟩
  | 94 => ⟨S4x8x64x8x16, .f32⟩
  | 95 => ⟨S4x8x64x8x16, .f32⟩
  | 96 => ⟨S4x8x64x8x16, .f32⟩
  | 97 => ⟨S4x512x128, .f32⟩
  | 98 => ⟨S32x16x64, .f32⟩
  | 99 => ⟨S32x64x16, .f32⟩
  | 100 => ⟨S4x8x64x16, .f32⟩
  | 101 => ⟨S8x8, .i32⟩
  | 102 => ⟨S8x8, .i32⟩
  | 103 => ⟨S_, .i32⟩
  | 104 => ⟨S8x8, .i32⟩
  | 105 => ⟨S8x8, .i32⟩
  | 106 => ⟨S8x8, .i1⟩
  | 107 => ⟨S8x8, .f32⟩
  | 108 => ⟨S4x8x64x1x16, .f32⟩
  | 109 => ⟨S1x8x1x8x1, .f32⟩
  | 110 => ⟨S4x8x64x8x16, .f32⟩
  | 111 => ⟨S4x8x64x8x16, .f32⟩
  | 112 => ⟨S4x8x64x8x16, .f32⟩
  | 113 => ⟨S4x512x128, .f32⟩
  | 114 => ⟨S4x1024x128, .f32⟩
  | 115 => ⟨S4x128x1024, .bf16⟩
  | 116 => ⟨S4x1024x128, .bf16⟩
  | 117 => ⟨S1x512, .f32⟩
  | 118 => ⟨S32, .f32⟩
  | 119 => ⟨S32x1, .f32⟩
  | 120 => ⟨S32x64, .f32⟩
  | 121 => ⟨S32x64, .f32⟩
  | 122 => ⟨S4x1x512, .f32⟩
  | 123 => ⟨S32x64, .f32⟩
  | 124 => ⟨S32x64, .f32⟩
  | 125 => ⟨S4x1x512, .f32⟩
  | 126 => ⟨S4x1x512, .f32⟩
  | 127 => ⟨S8, .f32⟩
  | _ => ⟨S4096x2048, .f32⟩

abbrev hbmTy0_1 (i : Nat) : BufTy := match i % 128 with
  | 0 => ⟨S1x8x1, .f32⟩
  | 1 => ⟨S_, .f32⟩
  | 2 => ⟨S1x8x1, .f32⟩
  | 3 => ⟨S1x8x1, .i1⟩
  | 4 => ⟨S_, .f32⟩
  | 5 => ⟨S1x8x1, .f32⟩
  | 6 => ⟨S4x8x512, .f32⟩
  | 7 => ⟨S4x8x512, .f32⟩
  | 8 => ⟨S4x8x512, .f32⟩
  | 9 => ⟨S4x8x512, .f32⟩
  | 10 => ⟨S4x8x512, .f32⟩
  | 11 => ⟨S4x8x512, .f32⟩
  | 12 => ⟨S4x8x512, .f32⟩
  | 13 => ⟨S4x8x512, .f32⟩
  | 14 => ⟨S4x8x512, .f32⟩
  | 15 => ⟨S4x8x512, .f32⟩
  | 16 => ⟨S4x8x512, .f32⟩
  | 17 => ⟨S4x8x512, .f32⟩
  | 18 => ⟨S4x8x512, .f32⟩
  | 19 => ⟨S4x8x512, .f32⟩
  | 20 => ⟨S4x8x1024, .f32⟩
  | 21 => ⟨S_, .f32⟩
  | 22 => ⟨S_, .f32⟩
  | 23 => ⟨S4x8x1024, .i1⟩
  | 24 => ⟨S4x8x1024, .f32⟩
  | 25 => ⟨S4x8x1024, .f32⟩
  | 26 => ⟨S_, .f32⟩
  | 27 => ⟨S1x8x1, .f32⟩
  | 28 => ⟨S1x8x1, .i1⟩
  | 29 => ⟨S_, .f32⟩
  | 30 => ⟨S1x8x1, .f32⟩
  | 31 => ⟨S4x8x512, .f32⟩
  | 32 => ⟨S4x8x512, .f32⟩
  | 33 => ⟨S4x8x512, .f32⟩
  | 34 => ⟨S4x8x512, .f32⟩
  | 35 => ⟨S4x8x512, .f32⟩
  | 36 => ⟨S4x8x512, .f32⟩
  | 37 => ⟨S4x8x512, .f32⟩
  | 38 => ⟨S4x8x512, .f32⟩
  | 39 => ⟨S4x8x512, .f32⟩
  | 40 => ⟨S4x8x512, .f32⟩
  | 41 => ⟨S4x8x512, .f32⟩
  | 42 => ⟨S4x8x512, .f32⟩
  | 43 => ⟨S4x8x512, .f32⟩
  | 44 => ⟨S4x8x512, .f32⟩
  | 45 => ⟨S4x8x1024, .f32⟩
  | 46 => ⟨S_, .f32⟩
  | 47 => ⟨S_, .f32⟩
  | 48 => ⟨S4x8x1024, .i1⟩
  | 49 => ⟨S4x8x1024, .f32⟩
  | 50 => ⟨S4x8x1024, .f32⟩
  | 51 => ⟨S_, .f32⟩
  | 52 => ⟨S1x8x1, .f32⟩
  | 53 => ⟨S1x8x1, .i1⟩
  | 54 => ⟨S_, .f32⟩
  | 55 => ⟨S1x8x1, .f32⟩
  | 56 => ⟨S4x8x512, .f32⟩
  | 57 => ⟨S4x8x512, .f32⟩
  | 58 => ⟨S4x8x512, .f32⟩
  | 59 => ⟨S4x8x512, .f32⟩
  | 60 => ⟨S4x8x512, .f32⟩
  | 61 => ⟨S4x8x512, .f32⟩
  | 62 => ⟨S4x8x512, .f32⟩
  | 63 => ⟨S4x8x512, .f32⟩
  | 64 => ⟨S4x8x512, .f32⟩
  | 65 => ⟨S4x8x512, .f32⟩
  | 66 => ⟨S4x8x512, .f32⟩
  | 67 => ⟨S4x8x512, .f32⟩
  | 68 => ⟨S4x8x512, .f32⟩
  | 69 => ⟨S4x8x512, .f32⟩
  | 70 => ⟨S4x8x1024, .f32⟩
  | 71 => ⟨S_, .f32⟩
  | 72 => ⟨S_, .f32⟩
  | 73 => ⟨S4x8x1024, .i1⟩
  | 74 => ⟨S4x8x1024, .f32⟩
  | 75 => ⟨S4x8x1024, .f32⟩
  | 76 => ⟨S_, .f32⟩
  | 77 => ⟨S1x8x1, .f32⟩
  | 78 => ⟨S1x8x1, .f32⟩
  | 79 => ⟨S4x8x512, .f32⟩
  | 80 => ⟨S4x8x512, .f32⟩
  | 81 => ⟨S4x8x512, .f32⟩
  | 82 => ⟨S4x8x512, .f32⟩
  | 83 => ⟨S4x8x512, .f32⟩
  | 84 => ⟨S4x8x512, .f32⟩
  | 85 => ⟨S4x8x512, .f32⟩
  | 86 => ⟨S4x8x512, .f32⟩
  | 87 => ⟨S4x8x512, .f32⟩
  | 88 => ⟨S4x8x512, .f32⟩
  | 89 => ⟨S4x8x512, .f32⟩
  | 90 => ⟨S4x8x512, .f32⟩
  | 91 => ⟨S4x8x512, .f32⟩
  | 92 => ⟨S4x8x512, .f32⟩
  | 93 => ⟨S4x8x1024, .f32⟩
  | 94 => ⟨S4x1x8x1024, .f32⟩
  | 95 => ⟨S4x1x8x1024, .f32⟩
  | 96 => ⟨S4x1x8x1024, .f32⟩
  | 97 => ⟨S4x1x8x1024, .f32⟩
  | 98 => ⟨S4x4x8x1024, .f32⟩
  | 99 => ⟨S4096x512, .bf16⟩
  | 100 => ⟨S4x128x1024, .f32⟩
  | 101 => ⟨S4x1024x128, .f32⟩
  | 102 => ⟨S4x1x1024, .f32⟩
  | 103 => ⟨S1x512, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128, .f32⟩
  | .local _ .vmem, ⟨13, _⟩ => ⟨S1x128, .f32⟩
  | .local _ .vmem, ⟨14, _⟩ => ⟨S1x4x8x1024, .f32⟩
  | .local _ .vmem, ⟨15, _⟩ => ⟨S1x4x8x1024, .f32⟩
  | .local _ .vmem, ⟨16, _⟩ => ⟨S512x128, .bf16⟩
  | .local _ .vmem, ⟨17, _⟩ => ⟨S512x128, .bf16⟩
  | .local _ .vmem, ⟨18, _⟩ => ⟨S1x128x1024, .f32⟩
  | .local _ .vmem, ⟨19, _⟩ => ⟨S1x128x1024, .f32⟩
  | .local _ .vmem, ⟨20, _⟩ => ⟨S1x1024x128, .f32⟩
  | .local _ .vmem, ⟨21, _⟩ => ⟨S1x1024x128, .f32⟩
  | .local _ .vmem, ⟨22, _⟩ => ⟨S1x1x1024, .f32⟩
  | .local _ .vmem, ⟨23, _⟩ => ⟨S1x1x1024, .f32⟩
  | .local _ .vmem, ⟨24, _⟩ => ⟨S1x128, .f32⟩
  | .local _ .vmem, ⟨25, _⟩ => ⟨S1x128, .f32⟩
  | .local _ .vmem, ⟨26, _⟩ => ⟨S512x1024, .f32⟩
  | .local _ .vmem, ⟨27, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c_1 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_c_2 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_3 : Ref sig .tc := ⟨.hbm, 129, rfl⟩
abbrev main_v113 : Ref sig .tc := ⟨.hbm, 130, rfl⟩
abbrev main_v114 : Ref sig .tc := ⟨.hbm, 131, rfl⟩
abbrev main_cst_4 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_cst_5 : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_v131 : Ref sig .tc := ⟨.hbm, 153, rfl⟩
abbrev main_cst_6 : Ref sig .tc := ⟨.hbm, 154, rfl⟩
abbrev main_v132 : Ref sig .tc := ⟨.hbm, 155, rfl⟩
abbrev main_v133 : Ref sig .tc := ⟨.hbm, 156, rfl⟩
abbrev main_cst_7 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_8 : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_v150 : Ref sig .tc := ⟨.hbm, 178, rfl⟩
abbrev main_cst_9 : Ref sig .tc := ⟨.hbm, 179, rfl⟩
abbrev main_v151 : Ref sig .tc := ⟨.hbm, 180, rfl⟩
abbrev main_v152 : Ref sig .tc := ⟨.hbm, 181, rfl⟩
abbrev main_cst_10 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_11 : Ref sig .tc := ⟨.hbm, 199, rfl⟩
abbrev main_call2_v0 : Ref sig .tc := ⟨.hbm, 200, rfl⟩
abbrev main_call2_v1 : Ref sig .tc := ⟨.hbm, 201, rfl⟩
abbrev main_call2_v2 : Ref sig .tc := ⟨.hbm, 202, rfl⟩
abbrev main_v169 : Ref sig .tc := ⟨.hbm, 203, rfl⟩
abbrev main_cst_12 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192_0 : Ref sig .tc := ⟨.hbm, 227, rfl⟩
abbrev main_v192_1 : Ref sig .tc := ⟨.hbm, 228, rfl⟩
abbrev main_v192_2 : Ref sig .tc := ⟨.hbm, 229, rfl⟩
abbrev main_v192_3 : Ref sig .tc := ⟨.hbm, 230, rfl⟩
abbrev main_v192_4 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_19 : BitVec 32 := 0#32
  let c64_i32 : BitVec 32 := 64#32
  let v20 : BitVec 32 := Scalar.addi c0_i32_19 c64_i32
  let c1_i32 : BitVec 32 := 1#32
  ⟨c0_i32_19, v20, c1_i32⟩
def k0_mult1 (k0_t1 : Fin k0_t1_loop.trips) : BitVec 32 :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  v117
def k0_off1 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v119 : Index := Scalar.indexCast v118
  let c0_80 : Index := 0#32
  ![v119.toNat, 0]
def k0_off2 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v121 : Index := Scalar.indexCast v118
  let c512_81 : Index := 512#32
  ![v121.toNat, 512]
def k0_off3 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v207 : Index := Scalar.indexCast v118
  let c128_133 : Index := 128#32
  ![v207.toNat, 128]
def k0_off4 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v209 : Index := Scalar.indexCast v118
  let c640_134 : Index := 640#32
  ![v209.toNat, 640]
def k0_off5 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v295 : Index := Scalar.indexCast v118
  let c256_191 : Index := 256#32
  ![v295.toNat, 256]
def k0_off6 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v297 : Index := Scalar.indexCast v118
  let c768_192 : Index := 768#32
  ![v297.toNat, 768]
def k0_off7 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v383 : Index := Scalar.indexCast v118
  let c384_249 : Index := 384#32
  ![v383.toNat, 384]
def k0_off8 (k0_t1 : Fin k0_t1_loop.trips) : Fin 2 → Nat :=
  let c63_i32 : BitVec 32 := 63#32
  let c0_i32_19 : BitVec 32 := 0#32
  let c1_i32 : BitVec 32 := 1#32
  let arg17 : BitVec 32 := Scf.iv c0_i32_19 c1_i32 k0_t1
  let v116 : BitVec 32 := Scalar.subi c63_i32 arg17
  let c8_i32 : BitVec 32 := 8#32
  let v117 : BitVec 32 := Scalar.muli v116 c8_i32
  let v118 : BitVec 32 := v117
  let v385 : Index := Scalar.indexCast v118
  let c896_250 : Index := 896#32
  ![v385.toNat, 896]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c12_i32 : BitVec 32 := 12#32
  let v1 : BitVec 32 := Scalar.addi arg0 c12_i32
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOutDx.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutDxRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOutDw.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutDwRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenIn.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownLast.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownLastRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenInDw.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInDwRefIdeal.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S1024x4096, .f32⟩
  | .hbm, ⟨4, _⟩ => ⟨S4096x2048, .f32⟩
  | .hbm, ⟨5, _⟩ => ⟨S1024x2048, .f32⟩
  | .hbm, ⟨6, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddIn.lean ====
abbrev S4096x1024 : Shape := ⟨2, ![4096, 1024]⟩
abbrev S1024x1536 : Shape := ⟨2, ![1024, 1536]⟩
abbrev S4096x1536 : Shape := ⟨2, ![4096, 1536]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddInDw.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInDwRefIdeal.lean ====
abbrev S4096x1024 : Shape := ⟨2, ![4096, 1024]⟩
abbrev S4096x1536 : Shape := ⟨2, ![4096, 1536]⟩
abbrev S1024x4096 : Shape := ⟨2, ![1024, 4096]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .f32⟩
  | .hbm, ⟨3, _⟩ => ⟨S1024x4096, .f32⟩
  | .hbm, ⟨4, _⟩ => ⟨S4096x1536, .f32⟩
  | .hbm, ⟨5, _⟩ => ⟨S1024x1536, .f32⟩
  | .hbm, ⟨6, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDw.lean ====
abbrev S4096x1024 : Shape := ⟨2, ![4096, 1024]⟩
abbrev S2x4096x2816 : Shape := ⟨3, ![2, 4096, 2816]⟩
abbrev S1024x5632 : Shape := ⟨2, ![1024, 5632]⟩
abbrev S1x4096x1408 : Shape := ⟨3, ![1, 4096, 1408]⟩
abbrev S1024x1408 : Shape := ⟨2, ![1024, 1408]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x5632, .bf16⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1024x1408, .bf16⟩
  | .local _ .vmem, ⟨4, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x1024 : Shape := ⟨2, ![4096, 1024]⟩
abbrev S2x4096x2816 : Shape := ⟨3, ![2, 4096, 2816]⟩
abbrev S1024x4096 : Shape := ⟨2, ![1024, 4096]⟩
abbrev S1x4096x2816 : Shape := ⟨3, ![1, 4096, 2816]⟩
abbrev S4096x2816 : Shape := ⟨2, ![4096, 2816]⟩
abbrev S4096x5632 : Shape := ⟨2, ![4096, 5632]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S1024x4096, .f32⟩
  | .hbm, ⟨4, _⟩ => ⟨S1x4096x2816, .bf16⟩
  | .hbm, ⟨5, _⟩ => ⟨S4096x2816, .bf16⟩
  | .hbm, ⟨6, _⟩ => ⟨S1x4096x2816, .bf16⟩
  | .hbm, ⟨7, _⟩ => ⟨S4096x2816, .bf16⟩
  | .hbm, ⟨8, _⟩ => ⟨S4096x5632, .bf16⟩
  | .hbm, ⟨9, _⟩ => ⟨S4096x5632, .f32⟩
  | .hbm, ⟨10, _⟩ => ⟨S1024x5632, .f32⟩
  | .hbm, ⟨11, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Adam.lean ====
abbrev S4096x704 : Shape := ⟨2, ![4096, 704]⟩
abbrev S8x4096x704 : Shape := ⟨3, ![8, 4096, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x4096x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S4096x704 : Shape := ⟨2, ![4096, 704]⟩
abbrev S8x4096x704 : Shape := ⟨3, ![8, 4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x4096x704, .bf16⟩
  | .hbm, ⟨4, _⟩ => ⟨S8x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamEvenIn.lean ====
abbrev S2048x256 : Shape := ⟨2, ![2048, 256]⟩
abbrev S8x2048x256 : Shape := ⟨3, ![8, 2048, 256]⟩
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S8x2048x256, .bf16⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S8x1024x256, .bf16⟩
  | .local _ .vmem, ⟨7, _⟩ => ⟨S8x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamEvenInRefIdeal.lean ====
abbrev S2048x256 : Shape := ⟨2, ![2048, 256]⟩
abbrev S8x2048x256 : Shape := ⟨3, ![8, 2048, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S8x2048x256, .bf16⟩
  | .hbm, ⟨4, _⟩ => ⟨S8x2048x256, .f32⟩
  | .hbm, ⟨5, _⟩ => ⟨S_, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S_, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x128x512, .bf16⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGluRefIdeal.lean ====
abbrev S128x512 : Shape := ⟨2, ![128, 512]⟩
abbrev S8x128x512 : Shape := ⟨3, ![8, 128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x128x512, .bf16⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamOutRefIdeal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOddIn.lean ====
abbrev S2048x192 : Shape := ⟨2, ![2048, 192]⟩
abbrev S8x2048x192 : Shape := ⟨3, ![8, 2048, 192]⟩
abbrev S1024x192 : Shape := ⟨2, ![1024, 192]⟩
abbrev S8x1024x192 : Shape := ⟨3, ![8, 1024, 192]⟩
abbrev S1x1024x192 : Shape := ⟨3, ![1, 1024, 192]⟩

abbrev nBuf : Space → Nat
  | .hbm => 8
  | .vmem => 16
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S8x2048x192, .bf16⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .local _ .vmem, ⟨0, _⟩ => ⟨S1024x192, .f32⟩
  | .local _ .vmem, ⟨1, _⟩ => ⟨S1024x192, .f32⟩
  | .local _ .vmem, ⟨2, _⟩ => ⟨S1024x192, .f32⟩
  | .local _ .vmem, ⟨3, _⟩ => ⟨S1024x192, .f32⟩
  | .local _ .vmem, ⟨4, _⟩ => ⟨S1024x192, .f32⟩
  | .local _ .vmem, ⟨5, _⟩ => ⟨S1024x192, .f32⟩
  | .local _ .vmem, ⟨6, _⟩ => ⟨S8x1024x192, .bf16⟩
  | .local _ .vmem, ⟨7, _⟩ => ⟨S8x1024x192, .bf16⟩
  | .local _ .vmem, ⟨8, _⟩ => ⟨S1024x192, .f32⟩
  | .local _ .vmem, ⟨9, _⟩ => ⟨S1024x192, .f32⟩
  | .local _ .vmem, ⟨10, _⟩ => ⟨S1024x192, .f32⟩
  | .local _ .vmem, ⟨11, _⟩ => ⟨S1024x192, .f32⟩
  | .local _ .vmem, ⟨12, _⟩ => ⟨S1024x192, .f32⟩
  | .local _ .vmem, ⟨13, _⟩ => ⟨S1024x192, .f32⟩
  | .local _ .vmem, ⟨14, _⟩ => ⟨S1024x192, .f32⟩
  | .local _ .vmem, ⟨15, _⟩ => ⟨S1024x192, .f32⟩
  | _, _ => ⟨S2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOddInRefIdeal.lean ====
abbrev S2048x192 : Shape := ⟨2, ![2048, 192]⟩
abbrev S8x2048x192 : Shape := ⟨3, ![8, 2048, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S8x2048x192, .bf16⟩
  | .hbm, ⟨4, _⟩ => ⟨S8x2048x192, .f32⟩
  | .hbm, ⟨5, _⟩ => ⟨S_, .f32⟩
  | .hbm, ⟨6, _⟩ => ⟨S2048x192, .f32⟩
  | .hbm, ⟨7, _⟩ => ⟨S_, .f32⟩
  | .hbm, ⟨8, _⟩ => ⟨S2048x192, .f32⟩
  | .hbm, ⟨9, _⟩ => ⟨S2048x192, .f32⟩
  | .hbm, ⟨10, _⟩ => ⟨S_, .f32⟩
  | .hbm, ⟨11, _⟩ => ⟨S2048x192, .f32⟩
  | .hbm, ⟨12, _⟩ => ⟨S2048x192, .f32⟩
  | .hbm, ⟨13, _⟩ => ⟨S2048x192, .f32⟩
  | .hbm, ⟨14, _⟩ => ⟨S_, .f32⟩
  | .hbm, ⟨15, _⟩ => ⟨S2048x192, .f32⟩
  | .hbm, ⟨16, _⟩ => ⟨S2048x192, .f32⟩
  | .hbm, ⟨17, _⟩ => ⟨S2048x192, .f32⟩
  | .hbm, ⟨18, _⟩ => ⟨S_, .f32⟩
  | .hbm, ⟨19, _⟩ => ⟨S2048x192, .f32⟩
  | .hbm, ⟨20, _⟩ => ⟨S2048x192, .f32⟩
  | .hbm, ⟨21, _⟩ => ⟨S2048x192, .f32⟩
  | .hbm, ⟨22, _⟩ => ⟨S_, .f32⟩
  | .hbm, ⟨23, _⟩ => ⟨S2048x192, .f32⟩
  | .hbm, ⟨24, _⟩ => ⟨S2048x192, .f32⟩
  | .hbm, ⟨25, _⟩ => ⟨S_, .f32⟩
  | .hbm, ⟨26, _⟩ => ⟨S2048x192, .f32⟩
  | .hbm, ⟨27, _⟩ => ⟨S2048x192, .f32⟩
  | .hbm, ⟨28, _⟩ => ⟨S2048x192, .f32⟩
  | .hbm, ⟨29, _⟩ => ⟨S_, .f32⟩
  | .hbm, ⟨30, _⟩ => ⟨S2048x192, .f32⟩
  | .hbm, ⟨31, _⟩ => ⟨S2048x192, .f32⟩
  | .hbm, ⟨32, _⟩ => ⟨S2048x192, .f32⟩
  | .hbm, ⟨33, _⟩ => ⟨S_, .f32⟩
  | .hbm, ⟨34, _⟩ => ⟨S2048x192, .f32⟩
  | .hbm, ⟨35, _⟩ => ⟨S2048x192, .f32⟩
  | .hbm, ⟨36, _⟩ => ⟨S2048x192, .f32⟩
  | .hbm, ⟨37, _⟩ => ⟨S_, .f32⟩
  | .hbm, ⟨38, _⟩ => ⟨S2048x192, .f32⟩
  | .hbm, ⟨39, _⟩ => ⟨S2048x192, .f32⟩
  | _, _ => ⟨S2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S1408x1024 : Shape := ⟨2, ![1408, 1024]⟩
abbrev S8x1408x1024 : Shape := ⟨3, ![8, 1408, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S1408x1024 : Shape := ⟨2, ![1408, 1024]⟩
abbrev S8x1408x1024 : Shape := ⟨3, ![8, 1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S16x36480 : Shape := ⟨2, ![16, 36480]⟩
abbrev S1x16x36480 : Shape := ⟨3, ![1, 16, 36480]⟩
abbrev S16x7296 : Shape := ⟨2, ![16, 7296]⟩
abbrev S1x16x7296 : Shape := ⟨3, ![1, 16, 7296]⟩

abbrev nBuf : Space → Nat
  | .hbm => 8
  | .vmem => 16
  | .smem => 0
  | _ => 0

abbrev bufTy : (tb : Table) → Fin (tcTables nBuf tb) → BufTy
  | .hbm, ⟨0, _⟩ => ⟨S16x36480, .f32⟩
  | .hbm, ⟨1, _⟩ => ⟨S16x36480, .f32⟩
  | .hbm, ⟨2, _⟩ => ⟨S16x36480, .f32⟩
  | .hbm, ⟨3, _⟩ => ⟨S1x16x36480, .f32⟩
  | .hbm, ⟨4, _⟩ => ⟨S16x36480, .f32⟩
  | .hbm, ⟨5, _⟩ => ⟨S16x36480, .f32⟩
  | .hbm, ⟨6, _⟩ => ⟨S16x36480, .f32⟩
  | .hbm, ⟨7, _⟩ => ⟨S16x36480, .f32⟩
  | .local _ .vmem, ⟨0, _⟩ => ⟨S16x7296, .f32⟩
  | .local _ .vmem, ⟨1, _⟩ => ⟨S16x7296, .f32⟩
  | .local _ .vmem, ⟨2, _⟩ => ⟨S16x7296, .f32⟩
  | .local _ .vmem, ⟨3, _⟩ => ⟨S16x7296, .f32⟩
  | .local _ .vmem, ⟨4, _⟩ => ⟨S16x7296, .f32⟩
  | .local _ .vmem, ⟨5, _⟩ => ⟨S16x7296, .f32⟩
  | .local _ .vmem, ⟨6, _⟩ => ⟨S1x16x7296, .f32⟩
  | .local _ .vmem, ⟨7, _⟩ => ⟨S1x16x7296, .f32⟩
  | .local _ .vmem, ⟨8, _⟩ => ⟨S16x7296, .f32⟩
  | .local _ .vmem, ⟨9, _⟩ => ⟨S16x7296, .f32⟩
  | .local _ .vmem, ⟨10, _⟩ => ⟨S16x7296, .f32⟩
  | .local _ .vmem, ⟨11, _⟩ => ⟨S16x7296, .f32⟩
  | .local _ .vmem, ⟨12, _⟩ => ⟨S16x7296, .f32⟩
  | .local _ .vmem, ⟨13, _⟩ => ⟨S16x7296, .f32⟩
  | .local _ .vmem, ⟨14, _⟩ => ⟨S16x7296, .f32⟩
  | .local _ .vmem, ⟨15, _⟩ => ⟨S16x7296, .f32⟩
  | _, _ => ⟨S16x36480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x7296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x7296 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x7296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x7296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x7296 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x7296 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x7296 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x7296 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSmallRefIdeal.lean ====
abbrev S16x36480 : Shape := ⟨2, ![16, 36480]⟩
abbrev S1x16x36480 : Shape := ⟨3, ![1, 16, 36480]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x36480, .f32⟩
  | .hbm, ⟨1, _⟩ => ⟨S16x36480, .f32⟩
  | .hbm, ⟨2, _⟩ => ⟨S16x36480, .f32⟩
  | .hbm, ⟨3, _⟩ => ⟨S1x16x36480, .f32⟩
  | .hbm, ⟨4, _⟩ => ⟨S16x36480, .f32⟩
  | .hbm, ⟨5, _⟩ => ⟨S16x36480, .f32⟩
  | .hbm, ⟨6, _⟩ => ⟨S_, .f32⟩
  | .hbm, ⟨7, _⟩ => ⟨S16x36480, .f32⟩
  | .hbm, ⟨8, _⟩ => ⟨S16x36480, .f32⟩
  | .hbm, ⟨9, _⟩ => ⟨S_, .f32⟩
  | .hbm, ⟨10, _⟩ => ⟨S16x36480, .f32⟩
  | .hbm, ⟨11, _⟩ => ⟨S16x36480, .f32⟩
  | .hbm, ⟨12, _⟩ => ⟨S16x36480, .f32⟩
  | .hbm, ⟨13, _⟩ => ⟨S_, .f32⟩
  | .hbm, ⟨14, _⟩ => ⟨S16x36480, .f32⟩
  | .hbm, ⟨15, _⟩ => ⟨S16x36480, .f32⟩
  | .hbm, ⟨16, _⟩ => ⟨S16x36480, .f32⟩
  | .hbm, ⟨17, _⟩ => ⟨S_, .f32⟩
  | .hbm, ⟨18, _⟩ => ⟨S16x36480, .f32⟩
  | .hbm, ⟨19, _⟩ => ⟨S16x36480, .f32⟩
  | .hbm, ⟨20, _⟩ => ⟨S16x36480, .f32⟩
  | .hbm, ⟨21, _⟩ => ⟨S_, .f32⟩
  | .hbm, ⟨22, _⟩ => ⟨S16x36480, .f32⟩
  | .hbm, ⟨23, _⟩ => ⟨S16x36480, .f32⟩
  | .hbm, ⟨24, _⟩ => ⟨S_, .f32⟩
  | .hbm, ⟨25, _⟩ => ⟨S16x36480, .f32⟩
  | .hbm, ⟨26, _⟩ => ⟨S16x36480, .f32⟩
  | .hbm, ⟨27, _⟩ => ⟨S16x36480, .f32⟩
  | .hbm, ⟨28, _⟩ => ⟨S_, .f32⟩
  | .hbm, ⟨29, _⟩ => ⟨S16x36480, .f32⟩
  | .hbm, ⟨30, _⟩ => ⟨S16x36480, .f32⟩
  | .hbm, ⟨31, _⟩ => ⟨S16x36480, .f32⟩
  | .hbm, ⟨32, _⟩ => ⟨S_, .f32⟩
  | .hbm, ⟨33, _⟩ => ⟨S16x36480, .f32⟩
  | .hbm, ⟨34, _⟩ => ⟨S16x36480, .f32⟩
  | .hbm, ⟨35, _⟩ => ⟨S16x36480, .f32⟩
  | .hbm, ⟨36, _⟩ => ⟨S_, .f32⟩
  | .hbm, ⟨37, _⟩ => ⟨S16x36480, .f32⟩
  | .hbm, ⟨38, _⟩ => ⟨S16x36480, .f32⟩
  | _, _ => ⟨S16x36480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== SumParts.lean ====
abbrev S8x16x5120 : Shape := ⟨3, ![8, 16, 5120]⟩
abbrev S16x5120 : Shape := ⟨2, ![16, 5120]⟩
abbrev S1x16x5120 : Shape := ⟨3, ![1, 16, 5120]⟩

abbrev nBuf : Space → Nat
  | .hbm => 2
  | .vmem => 2
  | .smem => 0
  | _ => 0

abbrev bufTy : (tb : Table) → Fin (tcTables nBuf tb) → BufTy
  | .hbm, ⟨0, _⟩ => ⟨S8x16x5120, .f32⟩
  | .hbm, ⟨1, _⟩ => ⟨S16x5120, .f32⟩
  | .local _ .vmem, ⟨0, _⟩ => ⟨S8x16x5120, .f32⟩
  | .local _ .vmem, ⟨1, _⟩ => ⟨S16x5120, .f32⟩
  | _, _ => ⟨S8x16x5120, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumPartsRefIdeal.lean ====
abbrev S8x16x5120 : Shape := ⟨3, ![8, 16, 5120]⟩
abbrev S_ : Shape := ⟨0, ![]⟩
abbrev S16x5120 : Shape := ⟨2, ![16, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8x16x5120, .f32⟩
  | .hbm, ⟨1, _⟩ => ⟨S_, .f32⟩
  | .hbm, ⟨2, _⟩ => ⟨S16x5120, .f32⟩
  | _, _ => ⟨S8x16x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shift.lean ====
module
public import Idealize.ShloMosaic.Lib.Pipeline.ValueKit
@[expose] public section
/-! Rows moved down or up by one or two places inside a block of 4096 rows, zeros coming in at the open end,
    as the kernels spell it: a rotation whose eight rows at the open end are masked. -/
set_option maxRecDepth 200000
noncomputable section
open Idealize.ShloMosaic Idealize.ShloMosaic.TcCoe Idealize.SL.Sem
namespace Cert.Shift

abbrev SB : Shape := ⟨2, ![4096, 128]⟩
abbrev SI : Shape := ⟨2, ![4088, 128]⟩
abbrev SE : Shape := ⟨2, ![8, 128]⟩

/-- A column of `R` entries read at any place, zero past its end. -/
def ext {R : ℕ} (f : Fin R → EReal) (i : ℕ) : EReal := if h : i < R then f ⟨i, h⟩ else 0

/-- A column moved down by `k` places, zeros coming in at the top. -/
def dn {R : ℕ} (f : Fin R → EReal) (k i : ℕ) : EReal := if k ≤ i then ext f (i - k) else 0

/-- One column of a matrix. -/
def col {R C : ℕ} (x : FVec Ideal ⟨2, ![R, C]⟩ .f32) (j : Fin C) : Fin R → EReal := fun i => x (ix2 i j)

theorem sel_lt (n : ℕ) (hn : n = 6 ∨ n = 7) (k : ℕ) (hk : k < 8) (a b : EReal) :
    Scalar.select (IntOp.cmpi .slt (BitVec.ofNat 32 k) (BitVec.ofNat 32 n)) a b = if k < n then a else b := by
  have : IntOp.cmpi .slt (BitVec.ofNat 32 k) (BitVec.ofNat 32 n) = if k < n then 1#1 else 0#1 := by
    rcases hn with rfl | rfl <;> interval_cases k <;> rfl
  rw [this]; split <;> rfl

theorem sel_ge (n : ℕ) (hn : n = 1 ∨ n = 2) (k : ℕ) (hk : k < 8) (a b : EReal) :
    Scalar.select (IntOp.cmpi .sge (BitVec.ofNat 32 k) (BitVec.ofNat 32 n)) a b = if n ≤ k then a else b := by
  have : IntOp.cmpi .sge (BitVec.ofNat 32 k) (BitVec.ofNat 32 n) = if n ≤ k then 1#1 else 0#1 := by
    rcases hn with rfl | rfl <;> interval_cases k <;> rfl
  rw [this]; split <;> rfl

theorem ext_of {R C : ℕ} (x : FVec Ideal ⟨2, ![R, C]⟩ .f32) (n : ℕ) (h : n < R) (j : Fin C) (i : ℕ) (e : n = i) :
    x (ix2 ⟨n, h⟩ j) = ext (col x j) i := by
  subst e; unfold ext; rw [dif_pos h]; rfl

theorem ext_zero {R : ℕ} (f : Fin R → EReal) (i : ℕ) (hi : ¬ i < R) : 0 = ext f i := by
  unfold ext; rw [dif_neg hi]

theorem ext_val {R : ℕ} (f : Fin R → EReal) (i : Fin R) : ext f i.val = f i := by
  unfold ext; rw [dif_pos i.isLt]

theorem dn_of {R C : ℕ} (x : FVec Ideal ⟨2, ![R, C]⟩ .f32) (n : ℕ) (h : n < R) (j : Fin C) (k i : ℕ) (hk : k ≤ i)
    (e : n = i - k) : x (ix2 ⟨n, h⟩ j) = dn (col x j) k i := by
  unfold dn; rw [if_pos hk]; exact ext_of x n h j _ e

theorem dn_zero {R : ℕ} (f : Fin R → EReal) (k i : ℕ) (hk : ¬ k ≤ i) : 0 = dn f k i := by
  unfold dn; rw [if_neg hk]

/-- Summed against another column, moving the one up is moving the other down. -/
theorem sum_shift {R : ℕ} (a b : Fin R → EReal) (k : ℕ) (hk : k ≤ R) :
    ∑ i : Fin R, ext a (i.val + k) * b i = ∑ i : Fin R, dn b k i.val * a i := by
  have e1 : ∀ i : Fin R, ext a (i.val + k) * b i = (fun n => ext a (n + k) * ext b n) i.val := fun i => by
    show _ = _ * ext b i.val; rw [ext_val]
  have e2 : ∀ i : Fin R, dn b k i.val * a i = (fun n => dn b k n * ext a n) i.val := fun i => by
    show _ = _ * ext a i.val; rw [ext_val]
  rw [Finset.sum_congr rfl fun i _ => e1 i, Finset.sum_congr rfl fun i _ => e2 i,
    Fin.sum_univ_eq_sum_range (fun n => ext a (n + k) * ext b n), Fin.sum_univ_eq_sum_range (fun n => dn b k n * ext a n)]
  obtain ⟨q, hq⟩ := Nat.exists_eq_add_of_le hk
  have h1 (F : ℕ → EReal) : ∑ n ∈ Finset.range R, F n = ∑ n ∈ Finset.range k, F n + ∑ n ∈ Finset.range q, F (k + n) := by
    rw [hq, Finset.sum_range_add F k q]
  have h2 (F : ℕ → EReal) : ∑ n ∈ Finset.range R, F n = ∑ n ∈ Finset.range q, F n + ∑ n ∈ Finset.range k, F (q + n) := by
    rw [hq, Nat.add_comm k q, Finset.sum_range_add F q k]
  rw [h1 (fun n => dn b k n * ext a n), h2 (fun n => ext a (n + k) * ext b n),
    Finset.sum_eq_zero (s := Finset.range k) (f := fun n => ext a (q + n + k) * ext b (q + n)) (fun n _ => by
      rw [← ext_zero a (q + n + k) (by omega), zero_mul]),
    Finset.sum_eq_zero (s := Finset.range k) (f := fun n => dn b k n * ext a n) (fun n hn => by
      rw [← dn_zero b k n (by have := Finset.mem_range.1 hn; omega), zero_mul]), add_zero, zero_add]
  refine Finset.sum_congr rfl fun n _ => ?_
  unfold dn
  rw [if_pos (by omega), Nat.add_sub_cancel_left, Nat.add_comm k n, mul_comm]

theorem up1 (x : FVec Ideal SB .f32) (h1 h2 h3 h4) (h5 : Shape.Concatenates [SI, SE] SB 0) (i : Fin 4096) (j : Fin 128) :
    concatenate SB 0 [⟨SI, extractStridedSlice SI ![0, 0] (dynamicRotate 0 4095#32 none x h1) h2⟩,
      ⟨SE, select (cmpi .slt (iota .tc SE 32 [0] h3) (broadcast SE 7#32))
        (extractStridedSlice SE ![4088, 0] (dynamicRotate 0 4095#32 none x h1) h4)
        (broadcast SE (Scalar.ofBits (F := Ideal) .f32 0x00000000#32))⟩] h5 (ix2 i j) = ext (col x j) (i.val + 1) := by
  pointwise
  by_cases h : (i : ℕ) < 4088
  · exact (dif_pos h).trans (ext_of x _ _ j _ (by omega))
  · refine (dif_neg h).trans ((sel_lt 7 (by decide) _ (by omega) _ _).trans ?_)
    by_cases h' : (i : ℕ) - 4088 < 7
    · exact (if_pos h').trans (ext_of x _ _ j _ (by omega))
    · exact (if_neg h').trans (ext_zero (col x j) _ (by omega))

theorem up2 (x : FVec Ideal SB .f32) (h1 h2 h3 h4) (h5 : Shape.Concatenates [SI, SE] SB 0) (i : Fin 4096) (j : Fin 128) :
    concatenate SB 0 [⟨SI, extractStridedSlice SI ![0, 0] (dynamicRotate 0 4094#32 none x h1) h2⟩,
      ⟨SE, select (cmpi .slt (iota .tc SE 32 [0] h3) (broadcast SE 6#32))
        (extractStridedSlice SE ![4088, 0] (dynamicRotate 0 4094#32 none x h1) h4)
        (broadcast SE (Scalar.ofBits (F := Ideal) .f32 0x00000000#32))⟩] h5 (ix2 i j) = ext (col x j) (i.val + 2) := by
  pointwise
  by_cases h : (i : ℕ) < 4088
  · exact (dif_pos h).trans (ext_of x _ _ j _ (by omega))
  · refine (dif_neg h).trans ((sel_lt 6 (by decide) _ (by omega) _ _).trans ?_)
    by_cases h' : (i : ℕ) - 4088 < 6
    · exact (if_pos h').trans (ext_of x _ _ j _ (by omega))
    · exact (if_neg h').trans (ext_zero (col x j) _ (by omega))

theorem dn1 (x : FVec Ideal SB .f32) (h1 h2 h3 h4) (h5 : Shape.Concatenates [SE, SI] SB 0) (i : Fin 4096) (j : Fin 128) :
    concatenate SB 0 [⟨SE, select (cmpi .sge (iota .tc SE 32 [0] h3) (broadcast SE 1#32))
        (extractStridedSlice SE ![0, 0] (dynamicRotate 0 1#32 none x h1) h4)
        (broadcast SE (Scalar.ofBits (F := Ideal) .f32 0x00000000#32))⟩,
      ⟨SI, extractStridedSlice SI ![8, 0] (dynamicRotate 0 1#32 none x h1) h2⟩] h5 (ix2 i j) = dn (col x j) 1 i.val := by
  pointwise
  by_cases h : (i : ℕ) < 8
  · refine (dif_pos h).trans ((sel_ge 1 (by decide) _ h _ _).trans ?_)
    by_cases h' : 1 ≤ (i : ℕ)
    · exact (if_pos h').trans (dn_of x _ _ j _ _ h' (by omega))
    · exact (if_neg h').trans (dn_zero (col x j) _ _ h')
  · exact (dif_neg h).trans (dn_of x _ _ j _ _ (by omega) (by omega))

theorem dn2 (x : FVec Ideal SB .f32) (h1 h2 h3 h4) (h5 : Shape.Concatenates [SE, SI] SB 0) (i : Fin 4096) (j : Fin 128) :
    concatenate SB 0 [⟨SE, select (cmpi .sge (iota .tc SE 32 [0] h3) (broadcast SE 2#32))
        (extractStridedSlice SE ![0, 0] (dynamicRotate 0 2#32 none x h1) h4)
        (broadcast SE (Scalar.ofBits (F := Ideal) .f32 0x00000000#32))⟩,
      ⟨SI, extractStridedSlice SI ![8, 0] (dynamicRotate 0 2#32 none x h1) h2⟩] h5 (ix2 i j) = dn (col x j) 2 i.val := by
  pointwise
  by_cases h : (i : ℕ) < 8
  · refine (dif_pos h).trans ((sel_ge 2 (by decide) _ h _ _).trans ?_)
    by_cases h' : 2 ≤ (i : ℕ)
    · exact (if_pos h').trans (dn_of x _ _ j _ _ h' (by omega))
    · exact (if_neg h').trans (dn_zero (col x j) _ _ h')
  · exact (dif_neg h).trans (dn_of x _ _ j _ _ (by omega) (by omega))

/-- A column convolved with three taps, the last on the row itself. -/
def conv (w0 w1 w2 : EReal) (p : Fin 4096 → EReal) (i : Fin 4096) : EReal :=
  w0 * dn p 2 i.val + w1 * dn p 1 i.val + w2 * p i

/-- The transpose of `conv`. -/
def convT (w0 w1 w2 : EReal) (d : Fin 4096 → EReal) (i : Fin 4096) : EReal :=
  w2 * d i + w1 * ext d (i.val + 1) + w0 * ext d (i.val + 2)

/-- The gradient of tap `k`. -/
def dtap (d p : Fin 4096 → EReal) (k : Fin 3) : EReal := ∑ i : Fin 4096, ext d (i.val + (2 - k.val)) * p i

end Cert.Shift
-- ==== Proof.SconvKernel.lean ====
module
public import proofs.«01_k».proof.Proof.Gen.SconvIdeal.Value
public import proofs.«01_k».proof.Proof.Shift
@[expose] public section
/-! What the backward call of the short convolution stores, block by block. -/
set_option maxRecDepth 200000
noncomputable section
open Idealize.ShloMosaic Idealize.ShloMosaic.TcCoe Idealize.SL.Sem
namespace Cert.SconvIdeal.Value2
open Cert.SconvIdeal Cert.SconvIdeal.Gen Cert.Shift

theorem up1_dc (v1 v3 : FVec Ideal S4096x128 .f32) (i : Fin 4096) (j : Fin 128) :
    k0_pay6 (F := Ideal) v1 v3 (ix2 i j) = ext (fun r => col v3 j r * col v1 j r) (i.val + 1) :=
  up1 (k0_pay5 (F := Ideal) v1 v3) _ _ _ _ concatenates_S4088x128_S8x128_S4096x128_d0 i j

theorem up2_dc (v1 v3 : FVec Ideal S4096x128 .f32) (i : Fin 4096) (j : Fin 128) :
    k0_pay7 (F := Ideal) v1 v3 (ix2 i j) = ext (fun r => col v3 j r * col v1 j r) (i.val + 2) :=
  up2 (k0_pay5 (F := Ideal) v1 v3) _ _ _ _ concatenates_S4088x128_S8x128_S4096x128_d0 i j

theorem pay9_apply (v1 v3 : FVec Ideal S4096x128 .f32) (a b c : FVec Ideal S1x128 .f32) (i : Fin 4096) (j : Fin 128) :
    k0_pay9 (F := Ideal) v1 v3 a b c (ix2 i j)
      = convT (c (ix2 0 j)) (b (ix2 0 j)) (a (ix2 0 j)) (fun r => col v3 j r * col v1 j r) i := by
  pointwise [k0_pay9, up1_dc, up2_dc, k0_pay5]
  rfl

theorem pay4_apply (v0 v2 v3 : FVec Ideal S4096x128 .f32) (a b c : FVec Ideal S1x128 .f32) (i : Fin 4096) (j : Fin 128) :
    k0_pay4 (F := Ideal) v0 v2 v3 a b c (ix2 i j)
      = col v3 j i * conv (a (ix2 0 j)) (b (ix2 0 j)) (c (ix2 0 j)) (fun r => col v2 j r * col v0 j r) i := by
  have e1 := dn1 (k0_pay3 (F := Ideal) v0 v2) rotates_S4096x128_d0 slices_S4096x128_o8_0_S4088x128 iota_S8x128_d0_w32
    slices_S4096x128_o0_0_S8x128 concatenates_S8x128_S4088x128_S4096x128_d0 i j
  have e2 := dn2 (k0_pay3 (F := Ideal) v0 v2) rotates_S4096x128_d0 slices_S4096x128_o8_0_S4088x128 iota_S8x128_d0_w32
    slices_S4096x128_o0_0_S8x128 concatenates_S8x128_S4088x128_S4096x128_d0 i j
  pointwise [k0_pay4]
  pointwise at e1 e2
  exact Ideal.mul_congr rfl (Ideal.add_congr (Ideal.add_congr (Ideal.mul_congr rfl e2) (Ideal.mul_congr rfl e1)) rfl)

theorem pay8_apply (v1 v3 : FVec Ideal S4096x128 .f32) (p : FVec Ideal S4096x128 .f32) (j : Fin 128) (k : Fin 3) :
    k0_pay8 (F := Ideal) v1 v3 p (ix2 k j)
      = dtap (fun r => col v3 j r * col v1 j r) (col p j) k := by
  unfold dtap
  pointwise [k0_pay8, up1_dc, up2_dc, k0_pay5]
  fin_vals k with hk <;> simp only [hk, Nat.reduceSub, Nat.reduceLT, ↓reduceDIte]
  · rfl
  · rfl
  · refine Finset.sum_congr rfl fun i _ => ?_
    exact Ideal.mul_congr (ext_val (fun r => col v3 j r * col v1 j r) i).symm rfl

end Cert.SconvIdeal.Value2
-- ==== Proof.SconvRefVal.lean ====
module
public import proofs.«01_k».proof.Proof.Gen.SconvRefIdeal.Read
public import proofs.«01_k».proof.Proof.Shift
@[expose] public section
/-! What the reference's gradients of the short convolution are, entry by entry. -/
set_option maxRecDepth 200000
noncomputable section
open Idealize.ShloMosaic Idealize.ShloMosaic.TcCoe Idealize.SL.Sem
namespace Cert.SconvRefIdeal.Value2
open Cert.SconvRefIdeal Cert.SconvRefIdeal.Gen Cert.SconvRefIdeal.Read Cert.Shift
variable (x0 : FVec Ideal S4096x2048 .f32) (x1 : FVec Ideal S4096x1024 .f32) (x2 : FVec Ideal S3x512 .f32)

/-- The product the convolution reads, down column `j`. -/
def P (j : Fin 512) (r : Fin 4096) : EReal := val_main_v3 (F := Ideal) x0 (ix2 r j)
/-- The gradient of the convolution's result, down column `j`. -/
def D (j : Fin 512) (r : Fin 4096) : EReal := val_main_v29 (F := Ideal) x0 x1 (ix2 r j)

theorem v7 (i : Fin 4096) (j : Fin 512) : val_main_v7 (F := Ideal) x0 (ix2 i j) = dn (P x0 j) 2 i.val := by
  pointwise [val_main_v7, val_main_v5, val_main_v4, val_main_cst]
  by_cases h : (i : ℕ) < 2
  · exact (dif_pos h).trans (dn_zero _ _ _ (by omega))
  · exact (dif_neg h).trans (dn_of (val_main_v3 (F := Ideal) x0) _ _ j _ _ (by omega) rfl)

theorem v13 (i : Fin 4096) (j : Fin 512) : val_main_v13 (F := Ideal) x0 (ix2 i j) = dn (P x0 j) 1 i.val := by
  pointwise [val_main_v13, val_main_v5, val_main_v4, val_main_cst]
  by_cases h : 1 + (i : ℕ) < 2
  · exact (dif_pos h).trans (dn_zero _ _ _ (by omega))
  · exact (dif_neg h).trans (dn_of (val_main_v3 (F := Ideal) x0) _ _ j _ _ (by omega) (by omega))

theorem v20 (i : Fin 4096) (j : Fin 512) : val_main_v20 (F := Ideal) x0 (ix2 i j) = P x0 j i := by
  pointwise [val_main_v20, val_main_v5, val_main_v4, val_main_cst]
  rfl

theorem v26 (i : Fin 4096) (j : Fin 512) :
    val_main_v26 (F := Ideal) x0 x2 (ix2 i j) = conv (x2 (ix2 0 j)) (x2 (ix2 1 j)) (x2 (ix2 2 j)) (P x0 j) i := by
  unfold conv
  pointwise [val_main_v26, val_main_v19, val_main_v12, val_main_v18, val_main_v25, val_main_v11, val_main_v17, val_main_v24, val_main_v10, val_main_v16, val_main_v23, val_main_v9, val_main_v15, val_main_v22, val_main_v8, val_main_v14, val_main_v21, v7, v13, v20]
  exact Ideal.add_congr (Ideal.add_congr (mul_comm _ _) (mul_comm _ _)) (mul_comm _ _)

theorem v63 (i : Fin 4096) (j : Fin 512) :
    val_main_v63 (F := Ideal) x0 x1 x2 (ix2 i j) = convT (x2 (ix2 0 j)) (x2 (ix2 1 j)) (x2 (ix2 2 j)) (D x0 x1 j) i := by
  have e1 : ∀ k : ℕ, (if h : k < 4096 then val_main_v29 (F := Ideal) x0 x1 (ix2 ⟨k, h⟩ j) * x2 (ix2 1 j) else 0)
      = x2 (ix2 1 j) * ext (D x0 x1 j) k := fun k => by
    unfold ext; split
    · exact mul_comm _ _
    · exact (mul_zero _).symm
  have e0 : ∀ k : ℕ, (if h : k < 4096 then val_main_v29 (F := Ideal) x0 x1 (ix2 ⟨k, h⟩ j) * x2 (ix2 0 j) else 0)
      = x2 (ix2 0 j) * ext (D x0 x1 j) k := fun k => by
    unfold ext; split
    · exact mul_comm _ _
    · exact (mul_zero _).symm
  pointwise [val_main_v63, val_main_v61, val_main_v50, val_main_v60, val_main_v39, val_main_v49, val_main_v35, val_main_v44, val_main_v55, val_main_v54, val_main_v43, val_main_v34, val_main_v10, val_main_v16, val_main_v23, val_main_v9, val_main_v15, val_main_v22, val_main_v8, val_main_v14, val_main_v21, val_main_cst_4, val_main_cst_8, val_main_cst_12]
  refine Ideal.add_congr (Ideal.add_congr (mul_comm _ _) (Eq.trans ?_ (e1 (i.val + 1)))) (Eq.trans ?_ (e0 (i.val + 2)))
  · by_cases h : (i : ℕ) + 1 < 4096
    · refine (dif_pos (by omega)).trans (Eq.trans ?_ (dif_pos h).symm)
      refine Ideal.mul_congr (congrArg _ ((ix2_inj ..).2 ⟨Fin.ext ?_, rfl⟩)) rfl
      show 2 + (i : ℕ) - 1 = i + 1; omega
    · exact (dif_neg (by omega)).trans (by rw [dif_neg h])
  · by_cases h : (i : ℕ) + 2 < 4096
    · refine (dif_pos (by omega)).trans (Eq.trans ?_ (dif_pos h).symm)
      refine Ideal.mul_congr (congrArg _ ((ix2_inj ..).2 ⟨Fin.ext ?_, rfl⟩)) rfl
      show 2 + (i : ℕ) = i + 2; omega
    · exact (dif_neg (by omega)).trans (by rw [dif_neg h])

theorem v59 (k : Fin 3) (j : Fin 512) :
    val_main_v59 (F := Ideal) x0 x1 (ix2 k j) = dtap (D x0 x1 j) (P x0 j) k := by
  unfold dtap
  pointwise [val_main_v59, val_main_v58, val_main_v57, val_main_v56, val_main_v53, val_main_v52, val_main_v51, val_main_v48, val_main_v47, val_main_v46, val_main_v45, val_main_v42, val_main_v41, val_main_v40, val_main_v38, val_main_v37, val_main_v36, val_main_v33, val_main_v32, val_main_v31, val_main_cst_1, val_main_cst_2, val_main_cst_3, val_main_cst_5, val_main_cst_6, val_main_cst_7, val_main_cst_9, val_main_cst_10, val_main_cst_11, v7, v13, v20]
  fin_vals k with hk <;> simp [hk]
  · exact (sum_shift (D x0 x1 j) (P x0 j) 2 (by decide)).symm
  · exact (sum_shift (D x0 x1 j) (P x0 j) 1 (by decide)).symm
  · refine Finset.sum_congr rfl fun i _ => ?_
    rw [mul_comm, ext_val]; rfl

theorem v66 (i : Fin 4096) (j : Fin 512) : val_main_v66 (F := Ideal) x0 x1 x2 (ix2 i j)
    = x0 (ix2 i ⟨1024 + j.val, by omega⟩) * val_main_v63 (F := Ideal) x0 x1 x2 (ix2 i j) := by
  pointwise [val_main_v66, val_main_v64, val_main_v2]

theorem v67 (i : Fin 4096) (j : Fin 512) : val_main_v67 (F := Ideal) x0 x1 x2 (ix2 i j)
    = x1 (ix2 i ⟨j.val, by omega⟩) * val_main_v26 (F := Ideal) x0 x2 (ix2 i j) := by
  pointwise [val_main_v67, val_main_v30, val_main_v28]

theorem v68 (i : Fin 4096) (j : Fin 512) : val_main_v68 (F := Ideal) x0 x1 x2 (ix2 i j)
    = val_main_v63 (F := Ideal) x0 x1 x2 (ix2 i j) * x0 (ix2 i ⟨j.val, by omega⟩) := by
  pointwise [val_main_v68, val_main_v65, val_main_v0]

theorem P_eq (i : Fin 4096) (j : Fin 512) : P x0 j i = x0 (ix2 i ⟨1024 + j.val, by omega⟩) * x0 (ix2 i ⟨j.val, by omega⟩) := by
  unfold P
  pointwise [val_main_v3, val_main_v2, val_main_v0]

theorem D_eq (i : Fin 4096) (j : Fin 512) : D x0 x1 j i = x0 (ix2 i ⟨512 + j.val, by omega⟩) * x1 (ix2 i ⟨j.val, by omega⟩) := by
  unfold D
  pointwise [val_main_v29, val_main_v1, val_main_v28]

end Cert.SconvRefIdeal.Value2
-- ==== Proof.SconvVal.lean ====
module
public import proofs.«01_k».proof.Proof.SconvKernel
public import proofs.«01_k».proof.Proof.SconvRefVal
@[expose] public section
/-! The arrays the backward call of the short convolution leaves are the reference's gradients. -/
set_option maxRecDepth 200000
noncomputable section
open Idealize.ShloMosaic Idealize.ShloMosaic.TcCoe Idealize.SL.Sem
namespace Cert.SconvIdeal.Value2
open Cert.SconvIdeal Cert.SconvIdeal.Gen Cert.Shift
open Cert.SconvRefIdeal.Read
open Cert.SconvRefIdeal.Value2 (P D)
variable (m : (ℓ : Loc nD τ sig) → Buf (Elt Ideal) ℓ) (c : Dev nD)

theorem idx : ∀ t : Fin cfg0.N, win0_0.index t = ![0, t.val] ∧ win0_1.index t = ![0, 4 + t.val] ∧ win0_2.index t = ![0, 8 + t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

abbrev a0 : FVec Ideal S4096x2048 .f32 := m ((c : Thread nD τ).loc main_arg0)
abbrev a1 : FVec Ideal S4096x1024 .f32 := m ((c : Thread nD τ).loc main_arg1)
abbrev a2 : FVec Ideal S3x512 .f32 := m ((c : Thread nD τ).loc main_arg2)

/-- Column `j` of block `t` is column `128 t + j`. -/
def cc (t : Fin cfg0.N) (j : Fin 128) : Fin 512 := ⟨128 * t.val + j.val, by have := t.isLt; have : cfg0.N = 4 := rfl; omega⟩

theorem blk0 (t : Fin cfg0.N) (i : Fin 4096) (j : Fin 128) :
    (iblk m c 0 t (ix2 i j) : EReal) = a0 m c (ix2 i ⟨(cc t j).val, by omega⟩) := by
  blk_point [iblk, V, idx t, cc]

theorem blk1 (t : Fin cfg0.N) (i : Fin 4096) (j : Fin 128) :
    (iblk m c 1 t (ix2 i j) : EReal) = a0 m c (ix2 i ⟨512 + (cc t j).val, by omega⟩) := by
  blk_point [iblk, V, idx t, cc]

theorem blk2 (t : Fin cfg0.N) (i : Fin 4096) (j : Fin 128) :
    (iblk m c 2 t (ix2 i j) : EReal) = a0 m c (ix2 i ⟨1024 + (cc t j).val, by omega⟩) := by
  blk_point [iblk, V, idx t, cc]

theorem blk3 (t : Fin cfg0.N) (i : Fin 4096) (j : Fin 128) :
    (iblk m c 3 t (ix2 i j) : EReal) = a1 m c (ix2 i ⟨(cc t j).val, by omega⟩) := by
  blk_point [iblk, V, idx t, cc]

theorem blk4 (t : Fin cfg0.N) (k : Fin 3) (j : Fin 128) :
    (iblk m c 4 t (ix2 k j) : EReal) = a2 m c (ix2 k (cc t j)) := by
  blk_point [iblk, V, idx t, cc]

theorem tap0 (t : Fin cfg0.N) (j : Fin 128) : (View.ld (iblk m c 4 t) r0_1 (ix2 0 j) : EReal) = a2 m c (ix2 0 (cc t j)) := by
  blk_point [iblk, V, idx t, cc, r0_1]

theorem tap1 (t : Fin cfg0.N) (j : Fin 128) : (View.ld (iblk m c 4 t) r0_2 (ix2 0 j) : EReal) = a2 m c (ix2 1 (cc t j)) := by
  blk_point [iblk, V, idx t, cc, r0_2]

theorem tap2 (t : Fin cfg0.N) (j : Fin 128) : (View.ld (iblk m c 4 t) r0_3 (ix2 0 j) : EReal) = a2 m c (ix2 2 (cc t j)) := by
  blk_point [iblk, V, idx t, cc, r0_3]

/-- The product's column in block `t`. -/
theorem colP (t : Fin cfg0.N) (j : Fin 128) :
    (fun r => col (iblk m c 2 t) j r * col (iblk m c 0 t) j r) = P (a0 m c) (cc t j) := by
  funext r
  rw [SconvRefIdeal.Value2.P_eq]
  exact Ideal.mul_congr (blk2 m c t r j) (blk0 m c t r j)

/-- The cotangent's column in block `t`. -/
theorem colD (t : Fin cfg0.N) (j : Fin 128) :
    (fun r => col (iblk m c 3 t) j r * col (iblk m c 1 t) j r) = D (a0 m c) (a1 m c) (cc t j) := by
  funext r
  rw [SconvRefIdeal.Value2.D_eq]
  exact (Ideal.mul_congr (blk3 m c t r j) (blk1 m c t r j)).trans (mul_comm _ _)

theorem pay10 (t : Fin cfg0.N) (i : Fin 4096) (j : Fin 128) :
    k0_pay10 (F := Ideal) (iblk m c 0 t) (iblk m c 1 t) (iblk m c 2 t) (iblk m c 3 t) (iblk m c 4 t) (ix2 i j)
      = val_main_v63 (F := Ideal) (a0 m c) (a1 m c) (a2 m c) (ix2 i (cc t j)) := by
  rw [SconvRefIdeal.Value2.v63, ← colD]
  unfold k0_pay10
  frame_out
  rw [pay9_apply, ← tap0, ← tap1, ← tap2]

theorem final5 : (dats m 0 c).arrAt 5 cfg0.N = val_main_v66 (F := Ideal) (a0 m c) (a1 m c) (a2 m c) := by
  refine (dats m 0 c).arrAt_eq_of_covers 5 _ (by decide +kernel) fun t _ y => ?_
  blk_simp; rw [after0_5]; frame_out
  idx_vars y
  have e : ((View.whole main_v0_0).slice (win0_5.rect t)).emb (ix2 y0 y1) = ix2 y0 (cc t y1) := by
    blk_ext [idx t, cc]
  rw [e, SconvRefIdeal.Value2.v66, ← pay10]
  exact (mul_comm _ _).trans (Ideal.mul_congr (blk2 m c t y0 y1) rfl)

theorem final7 : (dats m 0 c).arrAt 7 cfg0.N = val_main_v68 (F := Ideal) (a0 m c) (a1 m c) (a2 m c) := by
  refine (dats m 0 c).arrAt_eq_of_covers 7 _ (by decide +kernel) fun t _ y => ?_
  blk_simp; rw [after0_7]; frame_out
  idx_vars y
  have e : ((View.whole main_v0_2).slice (win0_7.rect t)).emb (ix2 y0 y1) = ix2 y0 (cc t y1) := by
    blk_ext [idx t, cc]
  rw [e, SconvRefIdeal.Value2.v68, ← pay10]
  exact Ideal.mul_congr rfl (blk0 m c t y0 y1)

theorem final8 : (dats m 0 c).arrAt 8 cfg0.N = val_main_v59 (F := Ideal) (a0 m c) (a1 m c) := by
  refine (dats m 0 c).arrAt_eq_of_covers 8 _ (by decide +kernel) fun t _ y => ?_
  blk_simp; rw [after0_8]; frame_out
  idx_vars y
  have e : ((View.whole main_v0_3).slice (win0_8.rect t)).emb (ix2 y0 y1) = ix2 y0 (cc t y1) := by
    blk_ext [idx t, cc]
  rw [e, SconvRefIdeal.Value2.v59, ← colD, ← colP]
  exact pay8_apply _ _ _ y1 y0

theorem final6 : (dats m 0 c).arrAt 6 cfg0.N = val_main_v67 (F := Ideal) (a0 m c) (a1 m c) (a2 m c) := by
  refine (dats m 0 c).arrAt_eq_of_covers 6 _ (by decide +kernel) fun t _ y => ?_
  blk_simp; rw [after0_6]; frame_out
  idx_vars y
  have e : ((View.whole main_v0_1).slice (win0_6.rect t)).emb (ix2 y0 y1) = ix2 y0 (cc t y1) := by
    blk_ext [idx t, cc]
  rw [e, SconvRefIdeal.Value2.v67, SconvRefIdeal.Value2.v26, ← colP, ← tap0, ← tap1, ← tap2]
  exact (pay4_apply _ _ _ _ _ _ y0 y1).trans (Ideal.mul_congr (blk3 m c t y0 y1) rfl)

end Cert.SconvIdeal.Value2
-- ==== Proof.SconvClaim.lean ====
module
public import proofs.«01_k».proof.Defs
public import proofs.«01_k».proof.Proof.Gen.Sconv.Frame
public import proofs.«01_k».proof.Proof.Gen.SconvRefIdeal.Run
public import proofs.«01_k».proof.Proof.SconvVal
@[expose] public section
/-! The claims about the backward call of the short convolution. -/
set_option maxRecDepth 65536
noncomputable section
open Idealize.ShloMosaic Idealize.SL.Sem
namespace Cert.Proof.Sconv

theorem frame : Cert.quiescent_Sconv := fun m ρ _ => Cert.Sconv.Gen.frame m ρ

theorem frameIdeal : Cert.quiescent_SconvIdeal := fun m ρ _ => Cert.SconvIdeal.Gen.frame m ρ

theorem frameRef : Cert.quiescent_SconvRefIdeal := fun m g _ =>
  (θ_run _ _ _).mono (fun r h => ⟨fun c => (h c).2.2.2.2, sem_eq_zero_of_no_sems rfl r.2⟩)
    (Cert.SconvRefIdeal.Value.run m g)

theorem preserves : Cert.preserves_Sconv_SconvIdeal := trivial

theorem algebraic : Cert.algebraic_SconvIdeal_SconvRefIdeal := by
  pair_intro
  · run_from Cert.SconvIdeal.Value.run_blocks m g
  · run_from Cert.SconvRefIdeal.Value.run m' g'
    · exact (Cert.SconvIdeal.Value2.final5 m c).symm
    · exact (Cert.SconvIdeal.Value2.final6 m c).symm
    · exact (Cert.SconvIdeal.Value2.final7 m c).symm
    · exact (Cert.SconvIdeal.Value2.final8 m c).symm

end Cert.Proof.Sconv
-- ==== Proof.Norm.lean ====
module
public import Idealize.ShloMosaic.Lib.Pipeline.ValueKit
@[expose] public section
/-! The gradient of a root-mean-square norm, row by row, in the two forms the programs write it, and the extended
    reals their constants denote. Nothing here asks that an entry be finite. -/
noncomputable section
open Idealize.ShloMosaic
namespace Cert.Norm

theorem lit_1024 : Ideal.ofBits .f32 0x44800000#32 = ((1024 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = (0 : EReal) := by
  simp [Ideal.ofBits, Ideal.ieee, -EReal.coe_mul]
/-- `2⁻¹⁰`. -/
theorem lit_inv_1024 : Ideal.ofBits .f32 0x3A800000#32 = ((1 / 1024 : ℝ) : EReal) := by
  simp [Ideal.ofBits, Ideal.ieee, -EReal.coe_mul]; norm_num
/-- `2⁻¹¹`. -/
theorem lit_inv_2048 : Ideal.ofBits .f32 0x3A000000#32 = ((1 / 2048 : ℝ) : EReal) := by
  simp [Ideal.ofBits, Ideal.ieee, -EReal.coe_mul]; norm_num
/-- The norm's `ε`, the 32-bit number nearest to `10⁻⁶`. -/
def eps : ℝ := 8796093 * (2 : ℝ) ^ (-43 : ℤ)
theorem eps_pos : 0 < eps := by unfold eps; positivity
theorem lit_eps : Ideal.ofBits .f32 0x358637BD#32 = ((eps : ℝ) : EReal) := by
  simp [Ideal.ofBits, Ideal.ieee, eps, -EReal.coe_mul]

variable {n : ℕ}

/-- The mean square of a row of `c` entries, plus `e`. -/
def meanSq (c e : ℝ) (x : Fin n → EReal) : EReal := Ideal.div (∑ i, x i * x i) (c : EReal) + (e : EReal)

/-- The reciprocal root-mean-square. -/
def rms (c e : ℝ) (x : Fin n → EReal) : EReal := Ideal.rsqrt (meanSq c e x)

theorem sq_nonneg (x : EReal) : 0 ≤ x * x := by
  induction x with
  | bot => simp [EReal.bot_mul_bot]
  | top => simp [EReal.top_mul_top]
  | coe r => exact_mod_cast mul_self_nonneg r

theorem mul_add_self (y : EReal) (k : ℝ) : y * ((k : ℝ) : EReal) + y * (k : EReal) = y * ((2 * k : ℝ) : EReal) := by
  rcases lt_trichotomy k 0 with h | h | h
  · have h2 : 2 * k < 0 := by linarith
    induction y with
    | bot => rw [EReal.bot_mul_coe_of_neg h, EReal.bot_mul_coe_of_neg h2]; rfl
    | top => rw [EReal.top_mul_coe_of_neg h, EReal.top_mul_coe_of_neg h2]; rfl
    | coe r => norm_cast; ring
  · subst h; simp
  · have h2 : 0 < 2 * k := by linarith
    induction y with
    | bot => rw [EReal.bot_mul_coe_of_pos h, EReal.bot_mul_coe_of_pos h2]; rfl
    | top => rw [EReal.top_mul_coe_of_pos h, EReal.top_mul_coe_of_pos h2]; rfl
    | coe r => norm_cast; ring

theorem mul_sum_coe {ι : Type} (s : Finset ι) (k : ℝ) (hk : 0 ≤ k) (f : ι → EReal) :
    ∑ i ∈ s, f i * ((k : ℝ) : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (by exact_mod_cast hk) (EReal.coe_ne_top k)]

/-- Either some entry is infinite and the reciprocal root is zero, or it and the mean square are positive reals. -/
theorem rms_cases {c e : ℝ} (hc : 0 < c) (he : 0 < e) (x : Fin n → EReal) :
    (meanSq c e x = ⊤ ∧ rms c e x = 0) ∨ ∃ z ρ : ℝ, 0 < z ∧ 0 < ρ ∧ ρ * ρ * z = 1 ∧ meanSq c e x = (z : EReal) ∧ rms c e x = (ρ : EReal) := by
  have h0 : 0 ≤ ∑ i, x i * x i := Finset.sum_nonneg fun i _ => sq_nonneg _
  unfold rms
  generalize hs : (∑ i, x i * x i) = s at h0
  have hz : meanSq c e x = s * ((1 / c : ℝ) : EReal) + (e : EReal) := by
    unfold meanSq; rw [hs, Ideal.div_coe hc.ne']
  have hc' : 0 < 1 / c := by positivity
  induction s with
  | bot => exact absurd h0 (by simp)
  | top =>
    left
    have : meanSq c e x = ⊤ := by rw [hz, EReal.top_mul_coe_of_pos hc']; rfl
    exact ⟨this, by rw [this]; rfl⟩
  | coe s =>
    right
    have hs0 : 0 ≤ s := by exact_mod_cast h0
    have hz' : meanSq c e x = ((s * (1 / c) + e : ℝ) : EReal) := by rw [hz]; norm_cast
    have hp : 0 < s * (1 / c) + e := by positivity
    refine ⟨_, (Real.sqrt (s * (1 / c) + e))⁻¹, hp, by positivity, ?_, hz', ?_⟩
    · rw [← mul_inv, Real.mul_self_sqrt hp.le]
      exact inv_mul_cancel₀ hp.ne'
    · rw [hz', Ideal.rsqrt_coe, if_neg hp.not_gt, if_neg hp.ne']

/-- The gradient as it is written by hand: `r a − x r³ mean(a x)`. -/
def dxHand (c e : ℝ) (x a : Fin n → EReal) (j : Fin n) : EReal :=
  rms c e x * a j - (x j * (rms c e x * rms c e x * rms c e x)) * Ideal.div (∑ i, a i * x i) (c : EReal)

/-- What the derivative of the mean square contributes to each entry. -/
def pull (c e : ℝ) (x a : Fin n → EReal) : EReal :=
  Ideal.div ((∑ i, x i * a i) * (((-(1 / 2) : ℝ) : EReal) * Ideal.div (rms c e x) (meanSq c e x))) (c : EReal)

/-- The gradient as differentiation gives it. -/
def dxPull (c e : ℝ) (x a : Fin n → EReal) (j : Fin n) : EReal :=
  a j * rms c e x + x j * pull c e x a + pull c e x a * x j

theorem dx_eq {c e : ℝ} (hc : 0 < c) (he : 0 < e) (x a : Fin n → EReal) (j : Fin n) :
    dxHand c e x a j = dxPull c e x a j := by
  unfold dxHand dxPull pull
  have hcomm : ∑ i, x i * a i = ∑ i, a i * x i := Finset.sum_congr rfl fun i _ => mul_comm _ _
  rw [hcomm, Ideal.div_coe hc.ne', Ideal.div_coe hc.ne']
  generalize (∑ i, a i * x i) = S
  rcases rms_cases hc he x with ⟨hz, hr⟩ | ⟨z, ρ, hz0, hρ, hzρ, hz, hr⟩
  · rw [hz, hr]
    have : Ideal.div 0 ⊤ = 0 := by simp [Ideal.div]
    rw [this]; simp
  · rw [hz, hr, Ideal.div_coe hz0.ne']
    have hk : ((ρ * ρ * ρ * (1 / c) : ℝ)) = -(2 * (-(1 / 2) * (ρ * (1 / z)) * (1 / c))) := by
      have : 1 / z = ρ * ρ := by field_simp; linarith
      rw [this]; ring
    have e1 : x j * ((ρ : EReal) * ρ * ρ) * (S * ((1 / c : ℝ) : EReal))
        = (x j * S) * ((ρ * ρ * ρ * (1 / c) : ℝ) : EReal) := by
      push_cast; ac_rfl
    have e2 : x j * (S * (((-(1 / 2) : ℝ) : EReal) * ((ρ : EReal) * ((1 / z : ℝ) : EReal))) * ((1 / c : ℝ) : EReal))
        = (x j * S) * ((-(1 / 2) * (ρ * (1 / z)) * (1 / c) : ℝ) : EReal) := by
      rw [EReal.coe_mul, EReal.coe_mul, EReal.coe_mul]; ac_rfl
    rw [e1, mul_comm (S * _ * _) (x j), e2, add_assoc, mul_add_self, hk, EReal.coe_neg, mul_neg, sub_eq_add_neg, neg_neg,
      mul_comm (a j)]

end Cert.Norm
-- ==== Proof.LossVal.lean ====
module
public import proofs.«01_k».proof.Proof.Gen.LossIdeal.Value
public import proofs.«01_k».proof.Proof.Gen.LossRefIdeal.Read
public import proofs.«01_k».proof.Proof.Norm
@[expose] public section
/-! The arrays the loss and its gradient's call leaves are the reference's. -/
set_option maxRecDepth 200000
noncomputable section
open Idealize.ShloMosaic Idealize.ShloMosaic.TcCoe Idealize.SL.Sem
namespace Cert.LossIdeal.Value2
open Cert.LossIdeal Cert.LossIdeal.Gen Cert.Norm
open Cert.LossRefIdeal.Read

/-- Row `i` of the error: the normed row times the gain, less the target. -/
def err (x g t : Fin 1024 → EReal) (j : Fin 1024) : EReal := x j * rms 1024 eps x * g j - t j

theorem pay8_apply (x : FVec Ideal S512x1024 .f32) (g : FVec Ideal S1x1024 .f32) (t : FVec Ideal S512x1024 .f32) (i : Fin 512) (j : Fin 1024) :
    k0_pay8 (F := Ideal) x g t (ix2 i j) = err (fun k => x (ix2 i k)) (fun k => g (ix2 0 k)) (fun k => t (ix2 i k)) j := by
  unfold err rms meanSq
  rw [← lit_1024, ← lit_eps]
  pointwise [k0_pay8, k0_pay7]

theorem pay2_apply (x : FVec Ideal S512x1024 .f32) (g : FVec Ideal S1x1024 .f32) (d : FVec Ideal S512x1024 .f32) (i : Fin 512) (j : Fin 1024) :
    k0_pay2 (F := Ideal) x g d (k0_pay11 (F := Ideal) x) (Scalar.ofBits .f32 0x44800000#32) (ix2 i j)
      = dxHand 1024 eps (fun k => x (ix2 i k)) (fun k => d (ix2 i k) * g (ix2 0 k)) j := by
  unfold dxHand rms meanSq
  rw [← lit_1024, ← lit_eps]
  pointwise [k0_pay2, k0_pay1, k0_pay11]

theorem pay4_apply (x : FVec Ideal S512x1024 .f32) (d : FVec Ideal S512x1024 .f32) (acc : FVec Ideal S1x1024 .f32) (j : Fin 1024) :
    k0_pay4 (F := Ideal) x d (k0_pay11 (F := Ideal) x) (Scalar.ofBits .f32 0x44800000#32) acc (ix2 0 j)
      = acc (ix2 0 j) + ∑ i : Fin 512, d (ix2 i j) * (x (ix2 i j) * rms 1024 eps (fun k => x (ix2 i k))) := by
  unfold rms meanSq
  rw [← lit_1024, ← lit_eps]
  pointwise [k0_pay4, k0_pay1, k0_pay11]

theorem pay9_apply (x : FVec Ideal S512x1024 .f32) (g : FVec Ideal S1x1024 .f32) (t : FVec Ideal S512x1024 .f32) (acc : FVec Ideal S1x1 .f32) :
    k0_pay9 (F := Ideal) x g t acc (ix2 0 0)
      = acc (ix2 0 0) + ∑ i : Fin 512, (∑ j : Fin 1024, k0_pay8 (F := Ideal) x g t (ix2 i j) * k0_pay8 (F := Ideal) x g t (ix2 i j)) * ((1 / 2048 : ℝ) : EReal) := by
  rw [← lit_inv_2048]
  pointwise [k0_pay9]

section
variable (x : FVec Ideal S4096x1024 .f32) (g : FVec Ideal S1024 .f32) (t : FVec Ideal S4096x1024 .f32)

abbrev row (x : FVec Ideal S4096x1024 .f32) (i : Fin 4096) : Fin 1024 → EReal := fun k => x (ix2 i k)
abbrev gain (g : FVec Ideal S1024 .f32) : Fin 1024 → EReal := fun k => g (ix1 k)

theorem v6 (i : Fin 4096) : val_main_v6 (F := Ideal) x (ix2 i 0) = meanSq 1024 eps (row x i) := by
  unfold meanSq
  rw [← lit_1024, ← lit_eps]
  pointwise [val_main_v6, val_main_v4, val_main_v3, val_main_v2, val_main_v1, val_main_v0, val_main_v5, val_main_cst, val_main_cst_0, val_main_cst_1]

theorem v7 (i : Fin 4096) : val_main_v7 (F := Ideal) x (ix2 i 0) = rms 1024 eps (row x i) := by
  unfold rms
  pointwise [val_main_v7, v6]

theorem v16 (i : Fin 4096) (j : Fin 1024) : val_main_v16 (F := Ideal) x g t (ix2 i j) = err (row x i) (gain g) (row t i) j := by
  unfold err
  pointwise [val_main_v16, val_main_v15, val_main_v14, val_main_v13, val_main_v12, val_main_v11, v7]

theorem v30 (i : Fin 4096) (j : Fin 1024) :
    val_main_v30 (F := Ideal) x g t (ix2 i j) = err (row x i) (gain g) (row t i) j * ((1 / 1024 : ℝ) : EReal) := by
  have e : Ideal.div (((1 / 2 : ℝ) : EReal) * ((1 : ℝ) : EReal)) ((1024 : ℝ) : EReal) = ((1 / 2048 : ℝ) : EReal) := by
    rw [Ideal.div_coe (by norm_num)]; norm_cast; norm_num
  rw [show (1 / 1024 : ℝ) = 2 * (1 / 2048) by norm_num, ← mul_add_self, ← e, ← lit_half, ← lit_1024, ← lit_one]
  pointwise [val_main_v30, val_main_v29, val_main_v28, v16, val_main_v27, val_main_v26, val_main_v25, val_main_v24, val_main_v23, val_main_cst_7, val_main_cst_8, val_main_cst_9]
  exact Ideal.add_congr rfl (mul_comm _ _)

theorem v35 (i : Fin 4096) (j : Fin 1024) :
    val_main_v35 (F := Ideal) x g t (ix2 i j) = err (row x i) (gain g) (row t i) j * ((1 / 1024 : ℝ) : EReal) * g (ix1 j) := by
  rw [← v30]
  pointwise [val_main_v35, val_main_v34, val_main_v13]

theorem v45 (i : Fin 4096) :
    val_main_v45 (F := Ideal) x g t (ix1 i) = pull 1024 eps (row x i) (fun j => val_main_v35 (F := Ideal) x g t (ix2 i j)) := by
  unfold pull
  rw [← lit_1024, ← lit_neg_half, ← v7, ← v6]
  pointwise [val_main_v45, val_main_v44, val_main_v43, val_main_v42, val_main_v39, val_main_v38, val_main_v37, val_main_v10, val_main_v9, val_main_v8,
    val_main_cst_2, val_main_cst_12, val_main_cst_13, val_main_cst_14]
  rw [Fin.sum_univ_one]

theorem v50 (i : Fin 4096) (j : Fin 1024) :
    val_main_v50 (F := Ideal) x g t (ix2 i j) = dxPull 1024 eps (row x i) (fun j => val_main_v35 (F := Ideal) x g t (ix2 i j)) j := by
  unfold dxPull
  rw [← v45, ← v7]
  pointwise [val_main_v50, val_main_v49, val_main_v48, val_main_v47, val_main_v46, val_main_v41, val_main_v40]

theorem v53 (j : Fin 1024) :
    val_main_v53 (F := Ideal) x g t (ix2 0 j) = ∑ i : Fin 4096, row x i j * rms 1024 eps (row x i) * val_main_v30 (F := Ideal) x g t (ix2 i j) := by
  pointwise [val_main_v53, val_main_v36, val_main_v33, val_main_v32, val_main_v31, val_main_v12, val_main_v11, v7, val_main_cst_10, val_main_cst_11]
  rw [Fin.sum_univ_one]

theorem v51 :
    val_main_v51 (F := Ideal) x g t (ix2 0 0) = ((1 / 2 : ℝ) : EReal) * ∑ i : Fin 4096, (∑ j : Fin 1024, val_main_v16 (F := Ideal) x g t (ix2 i j) * val_main_v16 (F := Ideal) x g t (ix2 i j)) * ((1 / 1024 : ℝ) : EReal) := by
  rw [← lit_half]
  pointwise [val_main_v51, val_main_v22, val_main_v21, val_main_v20, val_main_v19, val_main_v18, val_main_v17, val_main_cst_3, val_main_cst_4, val_main_cst_5, val_main_cst_6]
  refine Ideal.mul_congr rfl (Finset.sum_congr rfl fun i _ => ?_)
  rw [lit_1024, Ideal.div_coe (by norm_num)]
end

variable (m : (ℓ : Loc nD τ sig) → Buf (Elt Ideal) ℓ) (c : Dev nD)

abbrev a0 : FVec Ideal S4096x1024 .f32 := m ((c : Thread nD τ).loc main_arg0)
abbrev a1 : FVec Ideal S1024 .f32 := m ((c : Thread nD τ).loc main_arg1)
abbrev a2 : FVec Ideal S4096x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 1024) : (iblk m c 0 t (ix2 i j) : EReal) = a0 m c (ix2 (rr t i) j) := by
  blk_point [iblk, V, idx t, rr]

theorem blk1 (t : Fin cfg0.N) (j : Fin 1024) : (iblk m c 1 t (ix2 0 j) : EReal) = a1 m c (ix1 j) := by
  blk_point [iblk, V, idx t, rr]

theorem blk2 (t : Fin cfg0.N) (i : Fin 512) (j : Fin 1024) : (iblk m c 2 t (ix2 i j) : EReal) = a2 m c (ix2 (rr t i) j) := by
  blk_point [iblk, V, idx t, rr]

/-- The error's row in block `t`. -/
theorem errB (t : Fin cfg0.N) (i : Fin 512) (j : Fin 1024) :
    k0_pay8 (F := Ideal) (iblk m c 0 t) (iblk m c 1 t) (iblk m c 2 t) (ix2 i j)
      = val_main_v16 (F := Ideal) (a0 m c) (a1 m c) (a2 m c) (ix2 (rr t i) j) := by
  rw [v16]
  refine (pay8_apply _ _ _ i j).trans ?_
  congr 1 <;> funext k
  · exact blk0 m c t i k
  · exact blk1 m c t k
  · exact blk2 m c t i k

/-- The cotangent of the normed row in block `t`. -/
theorem dyB (t : Fin cfg0.N) (i : Fin 512) (j : Fin 1024) :
    k0_pay10 (F := Ideal) (iblk m c 0 t) (iblk m c 1 t) (iblk m c 2 t) (ix2 i j)
      = val_main_v30 (F := Ideal) (a0 m c) (a1 m c) (a2 m c) (ix2 (rr t i) j) := by
  rw [v30, ← v16, ← errB, ← lit_inv_1024]
  pointwise [k0_pay10]

theorem dxB (t : Fin cfg0.N) (i : Fin 512) (j : Fin 1024) :
    k0_pay2 (F := Ideal) (iblk m c 0 t) (k0_pay7 (F := Ideal) (iblk m c 1 t)) (k0_pay10 (F := Ideal) (iblk m c 0 t) (iblk m c 1 t) (iblk m c 2 t))
        (k0_pay11 (F := Ideal) (iblk m c 0 t)) (Scalar.ofBits .f32 0x44800000#32) (ix2 i j)
      = val_main_v50 (F := Ideal) (a0 m c) (a1 m c) (a2 m c) (ix2 (rr t i) j) := by
  rw [v50, ← dx_eq (by norm_num) eps_pos]
  refine (pay2_apply _ _ _ i j).trans ?_
  congr 1 <;> funext k
  · exact blk0 m c t i k
  · rw [v35, ← v30, ← dyB]
    have e7 : k0_pay7 (F := Ideal) (iblk m c 1 t) (ix2 0 k) = a1 m c (ix1 k) := by
      refine Eq.trans ?_ (blk1 m c t k)
      pointwise [k0_pay7]
    exact Ideal.mul_congr rfl e7

theorem final4 : (dats m 0 c).arrAt 4 cfg0.N = val_main_v50 (F := Ideal) (a0 m c) (a1 m c) (a2 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e, ← dxB, after0_4]
  by_cases h : t.val % 8 = 0
  · rw [outsAt0_A m c t h]; frame_out
  · rw [outsAt0_B m c t h]; frame_out

theorem final5 : (dats m 0 c).arrAt 5 cfg0.N = val_main_v52 (F := Ideal) (a0 m c) (a1 m c) (a2 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (dxB m c t y0 y1)
  rw [after0_5]
  by_cases h : t.val % 8 = 0
  · rw [outsAt0_A m c t h]; frame_out; rfl
  · rw [outsAt0_B m c t h]; frame_out; rfl

theorem zero5 (j) : k0_pay5 (F := Ideal) j = 0 := by pointwise [k0_pay5]
theorem zero6 (j) : k0_pay6 (F := Ideal) j = 0 := by pointwise [k0_pay6]

theorem pay4_any (x : FVec Ideal S512x1024 .f32) (d : FVec Ideal S512x1024 .f32) (acc : FVec Ideal S1x1024 .f32) (y) :
    k0_pay4 (F := Ideal) x d (k0_pay11 (F := Ideal) x) (Scalar.ofBits .f32 0x44800000#32) acc y
      = acc y + ∑ i : Fin 512, d (ix2 i (y 1)) * (x (ix2 i (y 1)) * rms 1024 eps (fun k => x (ix2 i k))) := by
  idx_vars y
  have : y0 = 0 := by ext; omega
  subst this
  exact pay4_apply x d acc y1

theorem pay9_any (x : FVec Ideal S512x1024 .f32) (g : FVec Ideal S1x1024 .f32) (t : FVec Ideal S512x1024 .f32) (acc : FVec Ideal S1x1 .f32) (y) :
    k0_pay9 (F := Ideal) x g t acc y
      = acc y + ∑ i : Fin 512, (∑ j : Fin 1024, k0_pay8 (F := Ideal) x g t (ix2 i j) * k0_pay8 (F := Ideal) x g t (ix2 i j)) * ((1 / 2048 : ℝ) : EReal) := by
  idx_vars y
  have h0 : y0 = 0 := by ext; omega
  have h1 : y1 = 0 := by ext; omega
  subst h0 h1
  exact pay9_apply x g t acc

theorem final6 : (dats m 0 c).arrAt 6 cfg0.N = val_main_v53 (F := Ideal) (a0 m c) (a1 m c) (a2 m c) := by
  refine (dats m 0 c).arrAt_eq_of_after_last 6 t0_7 (by decide +kernel) _ fun y => ?_
  blk_simp
  rw [after0_6, Pipeline.eq_sum_fin_of_reset_step_apply_last (fun n h => (outsAt0 m c n h).2.2.2) 8 (fun _ => 0) _
    (fun t h j => by rw [outsAt0_A m c t h]; frame_out; rw [pay4_any, zero5])
    (fun t h j => by rw [outsAt0_B m c t h]; frame_out; rw [pay4_any])
    (le_of_eq N_0) t0_7 rfl y, zero_add]
  idx_vars y
  have h0 : y0 = 0 := by ext; omega
  subst h0
  rw [v53]
  refine Fin.sum_mul_add_congr fun t k hk => ?_
  have e := dyB m c t k y1
  have ex : (fun j => (iblk m c 0 t (ix2 k j) : EReal)) = row (a0 m c) (rr t k) := funext fun j => blk0 m c t k j
  refine (Ideal.mul_congr e (Ideal.mul_congr (blk0 m c t k y1) (congrArg (rms 1024 eps) ex))).trans (mul_comm _ _)

theorem final3 : (dats m 0 c).arrAt 3 cfg0.N = val_main_v51 (F := Ideal) (a0 m c) (a1 m c) (a2 m c) := by
  refine (dats m 0 c).arrAt_eq_of_after_last 3 t0_7 (by decide +kernel) _ fun y => ?_
  blk_simp
  rw [after0_3, Pipeline.eq_sum_fin_of_reset_step_apply_last (fun n h => (outsAt0 m c n h).1) 8 (fun _ => 0) _
    (fun t h j => by rw [outsAt0_A m c t h]; frame_out; rw [pay9_any, zero6])
    (fun t h j => by rw [outsAt0_B m c t h]; frame_out; rw [pay9_any])
    (le_of_eq N_0) t0_7 rfl y, zero_add]
  idx_vars y
  have h0 : y0 = 0 := by ext; omega
  have h1 : y1 = 0 := by ext; omega
  subst h0 h1
  rw [v51, mul_comm, mul_sum_coe _ _ (by norm_num), mul_assoc, ← EReal.coe_mul, ← mul_sum_coe _ _ (by norm_num)]
  refine Fin.sum_mul_add_congr fun t k hk => ?_
  have e : ((1 / 1024 * (1 / 2) : ℝ)) = 1 / 2048 := by norm_num
  rw [e]
  refine Ideal.mul_congr (Finset.sum_congr rfl fun j _ => ?_) rfl
  exact Ideal.mul_congr (errB m c t k j) (errB m c t k j)

end Cert.LossIdeal.Value2
-- ==== Proof.LossClaim.lean ====
module
public import proofs.«01_k».proof.Defs
public import proofs.«01_k».proof.Proof.Gen.Loss.Frame
public import proofs.«01_k».proof.Proof.Gen.LossRefIdeal.Run
public import proofs.«01_k».proof.Proof.LossVal
@[expose] public section
/-! The claims about the call of the loss and its gradient. -/
set_option maxRecDepth 65536
noncomputable section
open Idealize.ShloMosaic Idealize.SL.Sem
namespace Cert.Proof.Loss

theorem frame : Cert.quiescent_Loss := fun m ρ _ => Cert.Loss.Gen.frame m ρ

theorem frameIdeal : Cert.quiescent_LossIdeal := fun m ρ _ => Cert.LossIdeal.Gen.frame m ρ

theorem frameRef : Cert.quiescent_LossRefIdeal := fun m g _ =>
  (θ_run _ _ _).mono (fun r h => ⟨fun c => (h c).2.2.2.2, sem_eq_zero_of_no_sems rfl r.2⟩)
    (Cert.LossRefIdeal.Value.run m g)

theorem preserves : Cert.preserves_Loss_LossIdeal := trivial

theorem algebraic : Cert.algebraic_LossIdeal_LossRefIdeal := by
  pair_intro
  · run_from Cert.LossIdeal.Value.run_blocks m g
  · run_from Cert.LossRefIdeal.Value.run m' g'
    · exact (Cert.LossIdeal.Value2.final3 m c).symm
    · rw [Cert.LossRefIdeal.Read.val_main_v50_eq, (hagree c).1, (hagree c).2.1, (hagree c).2.2]
      exact (Cert.LossIdeal.Value2.final4 m c).symm
    · rw [Cert.LossRefIdeal.Read.val_main_v52_eq, (hagree c).1, (hagree c).2.1, (hagree c).2.2]
      exact (Cert.LossIdeal.Value2.final5 m c).symm
    · exact (Cert.LossRefIdeal.Read.val_main_v53_eq _ _ _).trans (Cert.LossIdeal.Value2.final6 m c).symm

end Cert.Proof.Loss
-- ==== Proof.UpDxVal.lean ====
module
public import proofs.«01_k».proof.Proof.Gen.UpDxIdeal.Value
public import proofs.«01_k».proof.Proof.Gen.UpDxRefIdeal.Read
public import proofs.«01_k».proof.Proof.Norm
@[expose] public section
/-! The arrays the up projection's gradient, fused with its norm's, leaves are the reference's. -/
set_option maxRecDepth 200000
noncomputable section
open Idealize.ShloMosaic Idealize.ShloMosaic.TcCoe Idealize.SL.Sem
namespace Cert.UpDxIdeal.Value2
open Cert.UpDxIdeal Cert.UpDxIdeal.Gen Cert.Norm
open Cert.UpDxRefIdeal.Read

theorem pay4_apply (d0 d1 : FVec Ideal S1x512x2816 .bf16) (w0 w1 : FVec Ideal S1024x2816 .bf16) (i : Fin 512) (j : Fin 1024) :
    k0_pay4 (F := Ideal) d0 w0 d1 w1 (ix2 i j) = (∑ k : Fin 2816, d0 (ix3 0 i k) * w0 (ix2 j k)) + ∑ k : Fin 2816, d1 (ix3 0 i k) * w1 (ix2 j k) := by
  pointwise [k0_pay4]

theorem pay1_apply (d0 d1 : FVec Ideal S1x512x2816 .bf16) (w0 w1 : FVec Ideal S1024x2816 .bf16) (x : FVec Ideal S512x1024 .f32) (g : FVec Ideal S1x1x1024 .f32)
    (r : FVec Ideal S512x1024 .f32) (i : Fin 512) (j : Fin 1024) :
    k0_pay1 (F := Ideal) x (k0_pay6 (F := Ideal) x) (k0_pay7 (F := Ideal) d0 w0 d1 w1 g) (k0_pay8 (F := Ideal) d0 w0 d1 w1 x g) (k0_pay9 (F := Ideal) x) r (ix2 i j)
      = dxHand 1024 eps (fun k => x (ix2 i k)) (fun k => k0_pay4 (F := Ideal) d0 w0 d1 w1 (ix2 i k) * g (ix3 0 0 k)) j + r (ix2 i j) := by
  unfold dxHand rms meanSq
  rw [← lit_1024, ← lit_eps]
  pointwise [k0_pay1, k0_pay6, k0_pay7, k0_pay8, k0_pay9]

theorem pay3_any (p x : FVec Ideal S512x1024 .f32) (acc : FVec Ideal S1x1024 .f32) (y) :
    k0_pay3 (F := Ideal) p x (k0_pay6 (F := Ideal) x) acc y
      = acc y + ∑ i : Fin 512, p (ix2 i (y 1)) * (x (ix2 i (y 1)) * rms 1024 eps (fun k => x (ix2 i k))) := by
  idx_vars y
  have : y0 = 0 := by ext; omega
  subst this
  unfold rms meanSq
  rw [← lit_1024, ← lit_eps]
  pointwise [k0_pay3, k0_pay6]

theorem zero (j) : k0_pay5 (F := Ideal) j = 0 := by pointwise [k0_pay5]

section
variable (d : FVec Ideal S2x4096x2816 .bf16) (w : FVec Ideal S1024x5632 .f32) (x : FVec Ideal S4096x1024 .f32) (g : FVec Ideal S4x1024 .f32) (r : FVec Ideal S4096x1024 .f32)

abbrev row (x : FVec Ideal S4096x1024 .f32) (i : Fin 4096) : Fin 1024 → EReal := fun k => x (ix2 i k)

theorem v8 (i : Fin 4096) : val_main_v8 (F := Ideal) x (ix2 i 0) = meanSq 1024 eps (row x i) := by
  unfold meanSq
  rw [← lit_1024, ← lit_eps]
  pointwise [val_main_v8, val_main_v6, val_main_v4, val_main_v3, val_main_v2, val_main_v5, val_main_v7, val_main_cst, val_main_cst_0, val_main_cst_1]

theorem v9 (i : Fin 4096) : val_main_v9 (F := Ideal) x (ix2 i 0) = rms 1024 eps (row x i) := by
  unfold rms
  pointwise [val_main_v9, v8]

/-- The cotangent's two halves side by side. -/
theorem v23 (i : Fin 4096) (k : Fin 2816) : val_main_v23 (F := Ideal) d (ix2 i ⟨k.val, by omega⟩) = d (ix3 0 i k)
    ∧ val_main_v23 (F := Ideal) d (ix2 i ⟨k.val + 2816, by omega⟩) = d (ix3 1 i k) := by
  constructor
  · pointwise [val_main_v23, val_main_v20, val_main_v19]
  · pointwise [val_main_v23, val_main_v22, val_main_v21]
    refine (dif_neg (by omega)).trans (congrArg _ ((ix3_inj ..).2 ⟨rfl, rfl, Fin.ext ?_⟩))
    exact Nat.add_sub_cancel _ _

theorem v25 (i : Fin 4096) (j : Fin 1024) : val_main_v25 (F := Ideal) d w (ix2 i j)
    = (∑ k : Fin 2816, d (ix3 0 i k) * w (ix2 j ⟨k.val, by omega⟩)) + ∑ k : Fin 2816, d (ix3 1 i k) * w (ix2 j ⟨k.val + 2816, by omega⟩) := by
  have h : val_main_v25 (F := Ideal) d w (ix2 i j) = ∑ k : Fin (2816 + 2816), val_main_v23 (F := Ideal) d (ix2 i k) * w (ix2 j k) := by
    pointwise [val_main_v25, val_main_v24]
  rw [h, Fin.sum_univ_add]
  refine Ideal.add_congr (Finset.sum_congr rfl fun k _ => Ideal.mul_congr ?_ rfl) (Finset.sum_congr rfl fun k _ => Ideal.mul_congr ?_ ?_)
  · exact (v23 d i k).1
  · refine Eq.trans ?_ (v23 d i k).2
    exact congrArg _ ((ix2_inj ..).2 ⟨rfl, Fin.ext (Nat.add_comm _ _)⟩)
  · exact congrArg _ ((ix2_inj ..).2 ⟨rfl, Fin.ext (Nat.add_comm _ _)⟩)

theorem v30 (i : Fin 4096) (j : Fin 1024) : val_main_v30 (F := Ideal) d w g (ix2 i j) = val_main_v25 (F := Ideal) d w (ix2 i j) * g (ix2 3 j) := by
  pointwise [val_main_v30, val_main_v29, val_main_v15, val_main_v1, val_main_v0]

theorem v41 (i : Fin 4096) :
    val_main_v41 (F := Ideal) d w x g (ix1 i) = pull 1024 eps (row x i) (fun j => val_main_v30 (F := Ideal) d w g (ix2 i j)) := by
  unfold pull
  rw [← lit_1024, ← lit_neg_half, ← v9, ← v8]
  pointwise [val_main_v41, val_main_v40, val_main_v39, val_main_v38, val_main_v34, val_main_v33, val_main_v32, val_main_v12, val_main_v11, val_main_v10,
    val_main_cst_2, val_main_cst_5, val_main_cst_6, val_main_cst_7]
  rw [Fin.sum_univ_one]

theorem v46 (i : Fin 4096) (j : Fin 1024) :
    val_main_v46 (F := Ideal) d w x g r (ix2 i j)
      = r (ix2 i j) + dxPull 1024 eps (row x i) (fun j => val_main_v25 (F := Ideal) d w (ix2 i j) * g (ix2 3 j)) j := by
  unfold dxPull
  have e : (fun j => val_main_v25 (F := Ideal) d w (ix2 i j) * g (ix2 3 j)) = fun j => val_main_v30 (F := Ideal) d w g (ix2 i j) :=
    funext fun j => (v30 d w g i j).symm
  rw [e, ← v41, ← v9, ← add_assoc, ← add_assoc]
  pointwise [val_main_v46, val_main_v45, val_main_v44, val_main_v43, val_main_v42, val_main_v37, val_main_v36, val_main_v35]

theorem v48 (j : Fin 1024) :
    val_main_v48 (F := Ideal) d w x (ix2 0 j) = ∑ i : Fin 4096, row x i j * rms 1024 eps (row x i) * val_main_v25 (F := Ideal) d w (ix2 i j) := by
  pointwise [val_main_v48, val_main_v31, val_main_v28, val_main_v27, val_main_v26, val_main_v14, val_main_v13, v9, val_main_cst_3, val_main_cst_4]
  rw [Fin.sum_univ_one]

end

variable (m : (ℓ : Loc nD τ sig) → Buf (Elt Ideal) ℓ) (c : Dev nD)

abbrev a0 : FVec Ideal S2x4096x2816 .bf16 := m ((c : Thread nD τ).loc main_arg0)
abbrev a1 : FVec Ideal S1024x5632 .f32 := m ((c : Thread nD τ).loc main_arg1)
abbrev a2 : FVec Ideal S4096x1024 .f32 := m ((c : Thread nD τ).loc main_arg2)
abbrev a3 : FVec Ideal S4x1024 .f32 := m ((c : Thread nD τ).loc main_arg3)
abbrev a4 : FVec Ideal S4096x1024 .f32 := m ((c : Thread nD τ).loc main_arg4)

theorem idx : ∀ t : Fin cfg0.N, win0_0.index t = ![0, t.val, 0] ∧ win0_1.index t = ![0, 0] ∧ win0_2.index t = ![t.val, 0]
    ∧ win0_3.index t = ![3, 0, 0] ∧ win0_4.index t = ![t.val, 0] ∧ win0_5.index t = ![t.val, 0] ∧ win0_6.index t = ![t.val, 0] ∧ win0_7.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (h : Fin 2) (i : Fin 512) (j : Fin 2816) : (iblk m c 0 t (ix3 h i j) : EReal) = a0 m c (ix3 h (rr t i) j) := by
  blk_point [iblk, V, idx t, rr]

theorem blk1 (t : Fin cfg0.N) (i : Fin 1024) (j : Fin 5632) : (iblk m c 1 t (ix2 i j) : EReal) = a1 m c (ix2 i j) := by
  blk_point [iblk, V, idx t, rr]

theorem blk2 (t : Fin cfg0.N) (i : Fin 512) (j : Fin 1024) : (iblk m c 2 t (ix2 i j) : EReal) = a2 m c (ix2 (rr t i) j) := by
  blk_point [iblk, V, idx t, rr]

theorem blk3 (t : Fin cfg0.N) (j : Fin 1024) : (iblk m c 3 t (ix3 0 0 j) : EReal) = a3 m c (ix2 3 j) := by
  blk_point [iblk, V, idx t, rr]

theorem blk4 (t : Fin cfg0.N) (i : Fin 512) (j : Fin 1024) : (iblk m c 4 t (ix2 i j) : EReal) = a4 m c (ix2 (rr t i) j) := by
  blk_point [iblk, V, idx t, rr]

/-- The halves of the cotangent's block and of the weights. -/
abbrev d0 (t : Fin cfg0.N) : FVec Ideal S1x512x2816 .bf16 :=
  View.ld (iblk m c 0 t) (Rect.unit ![0, 0, 0] ![1, 512, 2816] inb_S2x512x2816_S1x512x2816_0_0_0)
abbrev d1 (t : Fin cfg0.N) : FVec Ideal S1x512x2816 .bf16 :=
  View.ld (iblk m c 0 t) (Rect.unit ![1, 0, 0] ![1, 512, 2816] inb_S2x512x2816_S1x512x2816_1_0_0)
abbrev w0 (t : Fin cfg0.N) : FVec Ideal S1024x2816 .bf16 :=
  View.ld (iblk m c 1 t) (Rect.unit ![0, 0] ![1024, 2816] inb_S1024x5632_S1024x2816_0_0)
abbrev w1 (t : Fin cfg0.N) : FVec Ideal S1024x2816 .bf16 :=
  View.ld (iblk m c 1 t) (Rect.unit ![0, 2816] ![1024, 2816] inb_S1024x5632_S1024x2816_0_2816)

theorem d0_apply (t : Fin cfg0.N) (i : Fin 512) (k : Fin 2816) : d0 m c t (ix3 0 i k) = a0 m c (ix3 0 (rr t i) k) := by
  refine Eq.trans ?_ (blk0 m c t 0 i k)
  unfold d0; pointwise
theorem d1_apply (t : Fin cfg0.N) (i : Fin 512) (k : Fin 2816) : d1 m c t (ix3 0 i k) = a0 m c (ix3 1 (rr t i) k) := by
  refine Eq.trans ?_ (blk0 m c t 1 i k)
  unfold d1; pointwise
theorem w0_apply (t : Fin cfg0.N) (j : Fin 1024) (k : Fin 2816) : w0 m c t (ix2 j k) = a1 m c (ix2 j ⟨k.val, by omega⟩) := by
  refine Eq.trans ?_ (blk1 m c t j ⟨k.val, by omega⟩)
  unfold w0; pointwise
theorem w1_apply (t : Fin cfg0.N) (j : Fin 1024) (k : Fin 2816) : w1 m c t (ix2 j k) = a1 m c (ix2 j ⟨k.val + 2816, by omega⟩) := by
  refine Eq.trans ?_ (blk1 m c t j ⟨k.val + 2816, by omega⟩)
  unfold w1; pointwise
  exact congrArg _ ((ix2_inj ..).2 ⟨rfl, Fin.ext (Nat.add_comm _ _)⟩)

/-- The product's rows in block `t`. -/
theorem prodB (t : Fin cfg0.N) (i : Fin 512) (j : Fin 1024) :
    k0_pay4 (F := Ideal) (d0 m c t) (w0 m c t) (d1 m c t) (w1 m c t) (ix2 i j) = val_main_v25 (F := Ideal) (a0 m c) (a1 m c) (ix2 (rr t i) j) := by
  rw [v25]
  refine (pay4_apply _ _ _ _ i j).trans (Ideal.add_congr (Finset.sum_congr rfl fun k _ => ?_) (Finset.sum_congr rfl fun k _ => ?_))
  · exact Ideal.mul_congr (d0_apply m c t i k) (w0_apply m c t j k)
  · exact Ideal.mul_congr (d1_apply m c t i k) (w1_apply m c t j k)

theorem dxB (t : Fin cfg0.N) (i : Fin 512) (j : Fin 1024) :
    k0_pay1 (F := Ideal) (iblk m c 2 t) (k0_pay6 (F := Ideal) (iblk m c 2 t)) (k0_pay7 (F := Ideal) (d0 m c t) (w0 m c t) (d1 m c t) (w1 m c t) (iblk m c 3 t))
        (k0_pay8 (F := Ideal) (d0 m c t) (w0 m c t) (d1 m c t) (w1 m c t) (iblk m c 2 t) (iblk m c 3 t)) (k0_pay9 (F := Ideal) (iblk m c 2 t)) (iblk m c 4 t) (ix2 i j)
      = val_main_v46 (F := Ideal) (a0 m c) (a1 m c) (a2 m c) (a3 m c) (a4 m c) (ix2 (rr t i) j) := by
  rw [v46, ← dx_eq (by norm_num) eps_pos]
  refine (pay1_apply _ _ _ _ _ _ _ i j).trans ?_
  refine (add_comm _ _).trans (Ideal.add_congr (blk4 m c t i j) ?_)
  congr 1 <;> funext k
  · exact blk2 m c t i k
  · exact Ideal.mul_congr (prodB m c t i k) (blk3 m c t k)

theorem final5 : (dats m 0 c).arrAt 5 cfg0.N = val_main_v46 (F := Ideal) (a0 m c) (a1 m c) (a2 m c) (a3 m c) (a4 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (dxB m c t y0 y1)
  rw [after0_5]
  by_cases h : t.val % 8 = 0
  · rw [outsAt0_A m c t h]; frame_out; rfl
  · rw [outsAt0_B m c t h]; frame_out; rfl

theorem final6 : (dats m 0 c).arrAt 6 cfg0.N = val_main_v47 (F := Ideal) (a0 m c) (a1 m c) (a2 m c) (a3 m c) (a4 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (dxB m c t y0 y1)
  rw [after0_6]
  by_cases h : t.val % 8 = 0
  · rw [outsAt0_A m c t h]; frame_out; rfl
  · rw [outsAt0_B m c t h]; frame_out; rfl

theorem final7 : (dats m 0 c).arrAt 7 cfg0.N = val_main_v48 (F := Ideal) (a0 m c) (a1 m c) (a2 m c) := by
  refine (dats m 0 c).arrAt_eq_of_after_last 7 t0_7 (by decide +kernel) _ fun y => ?_
  blk_simp
  rw [after0_7, Pipeline.eq_sum_fin_of_reset_step_apply_last (fun n h => (outsAt0 m c n h).2.2) 8 (fun _ => 0) _
    (fun t h j => by rw [outsAt0_A m c t h]; frame_out; rw [pay3_any, zero])
    (fun t h j => by rw [outsAt0_B m c t h]; frame_out; rw [pay3_any])
    (le_of_eq N_0) t0_7 rfl y, zero_add]
  idx_vars y
  have h0 : y0 = 0 := by ext; omega
  subst h0
  rw [v48]
  refine Fin.sum_mul_add_congr fun t k hk => ?_
  have ex : (fun j => (iblk m c 2 t (ix2 k j) : EReal)) = row (a2 m c) (rr t k) := funext fun j => blk2 m c t k j
  exact (Ideal.mul_congr (prodB m c t k y1) (Ideal.mul_congr (blk2 m c t k y1) (congrArg (rms 1024 eps) ex))).trans (mul_comm _ _)

end Cert.UpDxIdeal.Value2
-- ==== Proof.UpDxClaim.lean ====
module
public import proofs.«01_k».proof.Defs
public import proofs.«01_k».proof.Proof.Gen.UpDx.Frame
public import proofs.«01_k».proof.Proof.Gen.UpDxRefIdeal.Run
public import proofs.«01_k».proof.Proof.UpDxVal
@[expose] public section
/-! The claims about the up projection's gradient. -/
set_option maxRecDepth 65536
noncomputable section
open Idealize.ShloMosaic Idealize.SL.Sem
namespace Cert.Proof.UpDx

theorem frame : Cert.quiescent_UpDx := fun m ρ _ => Cert.UpDx.Gen.frame m ρ

theorem frameIdeal : Cert.quiescent_UpDxIdeal := fun m ρ _ => Cert.UpDxIdeal.Gen.frame m ρ

theorem frameRef : Cert.quiescent_UpDxRefIdeal := fun m g _ =>
  (θ_run _ _ _).mono (fun r h => ⟨fun c => (h c).2.2.2, sem_eq_zero_of_no_sems rfl r.2⟩)
    (Cert.UpDxRefIdeal.Value.run m g)

theorem preserves : Cert.preserves_UpDx_UpDxIdeal := trivial

theorem algebraic : Cert.algebraic_UpDxIdeal_UpDxRefIdeal := by
  pair_intro
  · run_from Cert.UpDxIdeal.Value.run_blocks m g
  · run_from Cert.UpDxRefIdeal.Value.run m' g'
    · rw [Cert.UpDxRefIdeal.Read.val_main_v46_eq]
      simp only [hagree c]
      exact (Cert.UpDxIdeal.Value2.final5 m c).symm
    · rw [Cert.UpDxRefIdeal.Read.val_main_v47_eq]
      simp only [hagree c]
      exact (Cert.UpDxIdeal.Value2.final6 m c).symm
    · exact (Cert.UpDxRefIdeal.Read.val_main_v48_eq _ _ _).trans (Cert.UpDxIdeal.Value2.final7 m c).symm

end Cert.Proof.UpDx
-- ==== Proof.InDxVal.lean ====
module
public import proofs.«01_k».proof.Proof.Gen.InDxIdeal.Value
public import proofs.«01_k».proof.Proof.Gen.InDxRefIdeal.Read
public import proofs.«01_k».proof.Proof.Norm
@[expose] public section
/-! The arrays the input projection's gradient, fused with its norm's, leaves are the reference's. -/
set_option maxRecDepth 200000
noncomputable section
open Idealize.ShloMosaic Idealize.ShloMosaic.TcCoe Idealize.SL.Sem
namespace Cert.InDxIdeal.Value2
open Cert.InDxIdeal Cert.InDxIdeal.Gen Cert.Norm
open Cert.InDxRefIdeal.Read

theorem pay3_apply (d : FVec Ideal S512x2048 .bf16) (w : FVec Ideal S1024x2048 .bf16) (i : Fin 512) (j : Fin 1024) :
    k0_pay3 (F := Ideal) d w (ix2 i j) = ∑ k : Fin 2048, d (ix2 i k) * w (ix2 j k) := by
  pointwise [k0_pay3]

theorem pay7_apply (d : FVec Ideal S512x2048 .bf16) (w : FVec Ideal S1024x2048 .bf16) (x : FVec Ideal S512x1024 .f32) (g : FVec Ideal S1x1x1024 .f32)
    (r : FVec Ideal S512x1024 .f32) (i : Fin 512) (j : Fin 1024) :
    k0_pay7 (F := Ideal) d w x g r (ix2 i j)
      = dxHand 1024 eps (fun k => x (ix2 i k)) (fun k => k0_pay3 (F := Ideal) d w (ix2 i k) * g (ix3 0 0 k)) j + r (ix2 i j) := by
  unfold dxHand rms meanSq
  rw [← lit_1024, ← lit_eps]
  pointwise [k0_pay7, k0_pay5]

theorem pay2_any (p x : FVec Ideal S512x1024 .f32) (acc : FVec Ideal S1x1024 .f32) (y) :
    k0_pay2 (F := Ideal) p (k0_pay6 (F := Ideal) x) acc y
      = acc y + ∑ i : Fin 512, p (ix2 i (y 1)) * (x (ix2 i (y 1)) * rms 1024 eps (fun k => x (ix2 i k))) := by
  idx_vars y
  have : y0 = 0 := by ext; omega
  subst this
  unfold rms meanSq
  rw [← lit_1024, ← lit_eps]
  pointwise [k0_pay2, k0_pay6, k0_pay5]

theorem zero (j) : k0_pay4 (F := Ideal) j = 0 := by pointwise [k0_pay4]

section
variable (d : FVec Ideal S4096x2048 .bf16) (w : FVec Ideal S1024x2048 .f32) (x : FVec Ideal S4096x1024 .f32) (g : FVec Ideal S4x1024 .f32) (r : FVec Ideal S4096x1024 .f32)

abbrev row (x : FVec Ideal S4096x1024 .f32) (i : Fin 4096) : Fin 1024 → EReal := fun k => x (ix2 i k)

theorem v8 (i : Fin 4096) : val_main_v8 (F := Ideal) x (ix2 i 0) = meanSq 1024 eps (row x i) := by
  unfold meanSq
  rw [← lit_1024, ← lit_eps]
  pointwise [val_main_v8, val_main_v6, val_main_v4, val_main_v3, val_main_v2, val_main_v5, val_main_v7, val_main_cst, val_main_cst_0, val_main_cst_1]

theorem v9 (i : Fin 4096) : val_main_v9 (F := Ideal) x (ix2 i 0) = rms 1024 eps (row x i) := by
  unfold rms
  pointwise [val_main_v9, v8]

theorem v20 (i : Fin 4096) (j : Fin 1024) : val_main_v20 (F := Ideal) d w (ix2 i j) = ∑ k : Fin 2048, d (ix2 i k) * w (ix2 j k) := by
  pointwise [val_main_v20, val_main_v19]

theorem v25 (i : Fin 4096) (j : Fin 1024) : val_main_v25 (F := Ideal) d w g (ix2 i j) = val_main_v20 (F := Ideal) d w (ix2 i j) * g (ix2 2 j) := by
  pointwise [val_main_v25, val_main_v24, val_main_v15, val_main_v1, val_main_v0]

theorem v36 (i : Fin 4096) :
    val_main_v36 (F := Ideal) d w x g (ix1 i) = pull 1024 eps (row x i) (fun j => val_main_v25 (F := Ideal) d w g (ix2 i j)) := by
  unfold pull
  rw [← lit_1024, ← lit_neg_half, ← v9, ← v8]
  pointwise [val_main_v36, val_main_v35, val_main_v34, val_main_v33, val_main_v29, val_main_v28, val_main_v27, val_main_v12, val_main_v11, val_main_v10,
    val_main_cst_2, val_main_cst_5, val_main_cst_6, val_main_cst_7]
  rw [Fin.sum_univ_one]

theorem v41 (i : Fin 4096) (j : Fin 1024) :
    val_main_v41 (F := Ideal) d w x g r (ix2 i j)
      = r (ix2 i j) + dxPull 1024 eps (row x i) (fun j => val_main_v20 (F := Ideal) d w (ix2 i j) * g (ix2 2 j)) j := by
  unfold dxPull
  have e : (fun j => val_main_v20 (F := Ideal) d w (ix2 i j) * g (ix2 2 j)) = fun j => val_main_v25 (F := Ideal) d w g (ix2 i j) :=
    funext fun j => (v25 d w g i j).symm
  rw [e, ← v36, ← v9, ← add_assoc, ← add_assoc]
  pointwise [val_main_v41, val_main_v40, val_main_v39, val_main_v38, val_main_v37, val_main_v32, val_main_v31, val_main_v30]

theorem v43 (j : Fin 1024) :
    val_main_v43 (F := Ideal) d w x (ix2 0 j) = ∑ i : Fin 4096, row x i j * rms 1024 eps (row x i) * val_main_v20 (F := Ideal) d w (ix2 i j) := by
  pointwise [val_main_v43, val_main_v26, val_main_v23, val_main_v22, val_main_v21, val_main_v14, val_main_v13, v9, val_main_cst_3, val_main_cst_4]
  rw [Fin.sum_univ_one]

end

variable (m : (ℓ : Loc nD τ sig) → Buf (Elt Ideal) ℓ) (c : Dev nD)

abbrev a0 : FVec Ideal S4096x2048 .bf16 := m ((c : Thread nD τ).loc main_arg0)
abbrev a1 : FVec Ideal S1024x2048 .f32 := m ((c : Thread nD τ).loc main_arg1)
abbrev a2 : FVec Ideal S4096x1024 .f32 := m ((c : Thread nD τ).loc main_arg2)
abbrev a3 : FVec Ideal S4x1024 .f32 := m ((c : Thread nD τ).loc main_arg3)
abbrev a4 : FVec Ideal S4096x1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![2, 0, 0] ∧ win0_4.index t = ![t.val, 0] ∧ win0_5.index t = ![t.val, 0] ∧ win0_6.index t = ![t.val, 0] ∧ win0_7.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 2048) : (iblk m c 0 t (ix2 i j) : EReal) = a0 m c (ix2 (rr t i) j) := by
  blk_point [iblk, V, idx t, rr]

theorem blk1 (t : Fin cfg0.N) (i : Fin 1024) (j : Fin 2048) : (iblk m c 1 t (ix2 i j) : EReal) = a1 m c (ix2 i j) := by
  blk_point [iblk, V, idx t, rr]

theorem blk2 (t : Fin cfg0.N) (i : Fin 512) (j : Fin 1024) : (iblk m c 2 t (ix2 i j) : EReal) = a2 m c (ix2 (rr t i) j) := by
  blk_point [iblk, V, idx t, rr]

theorem blk3 (t : Fin cfg0.N) (j : Fin 1024) : (iblk m c 3 t (ix3 0 0 j) : EReal) = a3 m c (ix2 2 j) := by
  blk_point [iblk, V, idx t, rr]

theorem blk4 (t : Fin cfg0.N) (i : Fin 512) (j : Fin 1024) : (iblk m c 4 t (ix2 i j) : EReal) = a4 m c (ix2 (rr t i) j) := by
  blk_point [iblk, V, idx t, rr]

/-- The product's rows in block `t`. -/
theorem prodB (t : Fin cfg0.N) (i : Fin 512) (j : Fin 1024) :
    k0_pay3 (F := Ideal) (iblk m c 0 t) (iblk m c 1 t) (ix2 i j) = val_main_v20 (F := Ideal) (a0 m c) (a1 m c) (ix2 (rr t i) j) := by
  rw [v20]
  refine (pay3_apply _ _ i j).trans (Finset.sum_congr rfl fun k _ => ?_)
  exact Ideal.mul_congr (blk0 m c t i k) (blk1 m c t j k)

theorem dxB (t : Fin cfg0.N) (i : Fin 512) (j : Fin 1024) :
    k0_pay7 (F := Ideal) (iblk m c 0 t) (iblk m c 1 t) (iblk m c 2 t) (iblk m c 3 t) (iblk m c 4 t) (ix2 i j)
      = val_main_v41 (F := Ideal) (a0 m c) (a1 m c) (a2 m c) (a3 m c) (a4 m c) (ix2 (rr t i) j) := by
  rw [v41, ← dx_eq (by norm_num) eps_pos]
  refine (pay7_apply _ _ _ _ _ i j).trans ?_
  refine (add_comm _ _).trans (Ideal.add_congr (blk4 m c t i j) ?_)
  congr 1 <;> funext k
  · exact blk2 m c t i k
  · exact Ideal.mul_congr (prodB m c t i k) (blk3 m c t k)

theorem final5 : (dats m 0 c).arrAt 5 cfg0.N = val_main_v41 (F := Ideal) (a0 m c) (a1 m c) (a2 m c) (a3 m c) (a4 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (dxB m c t y0 y1)
  rw [after0_5]
  by_cases h : t.val % 8 = 0
  · rw [outsAt0_A m c t h]; frame_out
  · rw [outsAt0_B m c t h]; frame_out

theorem final6 : (dats m 0 c).arrAt 6 cfg0.N = val_main_v42 (F := Ideal) (a0 m c) (a1 m c) (a2 m c) (a3 m c) (a4 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (dxB m c t y0 y1)
  rw [after0_6]
  by_cases h : t.val % 8 = 0
  · rw [outsAt0_A m c t h]; frame_out; rfl
  · rw [outsAt0_B m c t h]; frame_out; rfl

theorem final7 : (dats m 0 c).arrAt 7 cfg0.N = val_main_v43 (F := Ideal) (a0 m c) (a1 m c) (a2 m c) := by
  refine (dats m 0 c).arrAt_eq_of_after_last 7 t0_7 (by decide +kernel) _ fun y => ?_
  blk_simp
  rw [after0_7, Pipeline.eq_sum_fin_of_reset_step_apply_last (fun n h => (outsAt0 m c n h).2.2) 8 (fun _ => 0) _
    (fun t h j => by rw [outsAt0_A m c t h]; frame_out; rw [pay2_any, zero])
    (fun t h j => by rw [outsAt0_B m c t h]; frame_out; rw [pay2_any])
    (le_of_eq N_0) t0_7 rfl y, zero_add]
  idx_vars y
  have h0 : y0 = 0 := by ext; omega
  subst h0
  rw [v43]
  refine Fin.sum_mul_add_congr fun t k hk => ?_
  have ex : (fun j => (iblk m c 2 t (ix2 k j) : EReal)) = row (a2 m c) (rr t k) := funext fun j => blk2 m c t k j
  exact (Ideal.mul_congr (prodB m c t k y1) (Ideal.mul_congr (blk2 m c t k y1) (congrArg (rms 1024 eps) ex))).trans (mul_comm _ _)

end Cert.InDxIdeal.Value2
-- ==== Proof.InDxClaim.lean ====
module
public import proofs.«01_k».proof.Defs
public import proofs.«01_k».proof.Proof.Gen.InDx.Frame
public import proofs.«01_k».proof.Proof.Gen.InDxRefIdeal.Run
public import proofs.«01_k».proof.Proof.InDxVal
@[expose] public section
/-! The claims about the input projection's gradient. -/
set_option maxRecDepth 65536
noncomputable section
open Idealize.ShloMosaic Idealize.SL.Sem
namespace Cert.Proof.InDx

theorem frame : Cert.quiescent_InDx := fun m ρ _ => Cert.InDx.Gen.frame m ρ

theorem frameIdeal : Cert.quiescent_InDxIdeal := fun m ρ _ => Cert.InDxIdeal.Gen.frame m ρ

theorem frameRef : Cert.quiescent_InDxRefIdeal := fun m g _ =>
  (θ_run _ _ _).mono (fun r h => ⟨fun c => (h c).2.2.2, sem_eq_zero_of_no_sems rfl r.2⟩)
    (Cert.InDxRefIdeal.Value.run m g)

theorem preserves : Cert.preserves_InDx_InDxIdeal := trivial

theorem algebraic : Cert.algebraic_InDxIdeal_InDxRefIdeal := by
  pair_intro
  · run_from Cert.InDxIdeal.Value.run_blocks m g
  · run_from Cert.InDxRefIdeal.Value.run m' g'
    · rw [Cert.InDxRefIdeal.Read.val_main_v41_eq]
      simp only [hagree c]
      exact (Cert.InDxIdeal.Value2.final5 m c).symm
    · rw [Cert.InDxRefIdeal.Read.val_main_v42_eq]
      simp only [hagree c]
      exact (Cert.InDxIdeal.Value2.final6 m c).symm
    · exact (Cert.InDxRefIdeal.Read.val_main_v43_eq _ _ _).trans (Cert.InDxIdeal.Value2.final7 m c).symm

end Cert.Proof.InDx
-- ==== Proof.OddInDxVal.lean ====
module
public import proofs.«01_k».proof.Proof.Gen.OddInDxIdeal.Value
public import proofs.«01_k».proof.Proof.Gen.OddInDxRefIdeal.Read
public import proofs.«01_k».proof.Proof.Norm
@[expose] public section
/-! The arrays an odd layer's input projection's gradient, fused with its norm's, leaves are the reference's. -/
set_option maxRecDepth 200000
noncomputable section
open Idealize.ShloMosaic Idealize.ShloMosaic.TcCoe Idealize.SL.Sem
namespace Cert.OddInDxIdeal.Value2
open Cert.OddInDxIdeal Cert.OddInDxIdeal.Gen Cert.Norm
open Cert.OddInDxRefIdeal.Read

theorem pay3_apply (d : FVec Ideal S512x1536 .bf16) (w : FVec Ideal S1024x1536 .bf16) (i : Fin 512) (j : Fin 1024) :
    k0_pay3 (F := Ideal) d w (ix2 i j) = ∑ k : Fin 1536, d (ix2 i k) * w (ix2 j k) := by
  pointwise [k0_pay3]

theorem pay7_apply (d : FVec Ideal S512x1536 .bf16) (w : FVec Ideal S1024x1536 .bf16) (x : FVec Ideal S512x1024 .f32) (g : FVec Ideal S1x1x1024 .f32)
    (r : FVec Ideal S512x1024 .f32) (i : Fin 512) (j : Fin 1024) :
    k0_pay7 (F := Ideal) d w x g r (ix2 i j)
      = dxHand 1024 eps (fun k => x (ix2 i k)) (fun k => k0_pay3 (F := Ideal) d w (ix2 i k) * g (ix3 0 0 k)) j + r (ix2 i j) := by
  unfold dxHand rms meanSq
  rw [← lit_1024, ← lit_eps]
  pointwise [k0_pay7, k0_pay5]

theorem pay2_any (p x : FVec Ideal S512x1024 .f32) (acc : FVec Ideal S1x1024 .f32) (y) :
    k0_pay2 (F := Ideal) p (k0_pay6 (F := Ideal) x) acc y
      = acc y + ∑ i : Fin 512, p (ix2 i (y 1)) * (x (ix2 i (y 1)) * rms 1024 eps (fun k => x (ix2 i k))) := by
  idx_vars y
  have : y0 = 0 := by ext; omega
  subst this
  unfold rms meanSq
  rw [← lit_1024, ← lit_eps]
  pointwise [k0_pay2, k0_pay6, k0_pay5]

theorem zero (j) : k0_pay4 (F := Ideal) j = 0 := by pointwise [k0_pay4]

section
variable (d : FVec Ideal S4096x1536 .bf16) (w : FVec Ideal S1024x1536 .f32) (x : FVec Ideal S4096x1024 .f32) (g : FVec Ideal S4x1024 .f32) (r : FVec Ideal S4096x1024 .f32)

abbrev row (x : FVec Ideal S4096x1024 .f32) (i : Fin 4096) : Fin 1024 → EReal := fun k => x (ix2 i k)

theorem v8 (i : Fin 4096) : val_main_v8 (F := Ideal) x (ix2 i 0) = meanSq 1024 eps (row x i) := by
  unfold meanSq
  rw [← lit_1024, ← lit_eps]
  pointwise [val_main_v8, val_main_v6, val_main_v4, val_main_v3, val_main_v2, val_main_v5, val_main_v7, val_main_cst, val_main_cst_0, val_main_cst_1]

theorem v9 (i : Fin 4096) : val_main_v9 (F := Ideal) x (ix2 i 0) = rms 1024 eps (row x i) := by
  unfold rms
  pointwise [val_main_v9, v8]

theorem v20 (i : Fin 4096) (j : Fin 1024) : val_main_v20 (F := Ideal) d w (ix2 i j) = ∑ k : Fin 1536, d (ix2 i k) * w (ix2 j k) := by
  pointwise [val_main_v20, val_main_v19]

theorem v25 (i : Fin 4096) (j : Fin 1024) : val_main_v25 (F := Ideal) d w g (ix2 i j) = val_main_v20 (F := Ideal) d w (ix2 i j) * g (ix2 1 j) := by
  pointwise [val_main_v25, val_main_v24, val_main_v15, val_main_v1, val_main_v0]

theorem v36 (i : Fin 4096) :
    val_main_v36 (F := Ideal) d w x g (ix1 i) = pull 1024 eps (row x i) (fun j => val_main_v25 (F := Ideal) d w g (ix2 i j)) := by
  unfold pull
  rw [← lit_1024, ← lit_neg_half, ← v9, ← v8]
  pointwise [val_main_v36, val_main_v35, val_main_v34, val_main_v33, val_main_v29, val_main_v28, val_main_v27, val_main_v12, val_main_v11, val_main_v10,
    val_main_cst_2, val_main_cst_5, val_main_cst_6, val_main_cst_7]
  rw [Fin.sum_univ_one]

theorem v41 (i : Fin 4096) (j : Fin 1024) :
    val_main_v41 (F := Ideal) d w x g r (ix2 i j)
      = r (ix2 i j) + dxPull 1024 eps (row x i) (fun j => val_main_v20 (F := Ideal) d w (ix2 i j) * g (ix2 1 j)) j := by
  unfold dxPull
  have e : (fun j => val_main_v20 (F := Ideal) d w (ix2 i j) * g (ix2 1 j)) = fun j => val_main_v25 (F := Ideal) d w g (ix2 i j) :=
    funext fun j => (v25 d w g i j).symm
  rw [e, ← v36, ← v9, ← add_assoc, ← add_assoc]
  pointwise [val_main_v41, val_main_v40, val_main_v39, val_main_v38, val_main_v37, val_main_v32, val_main_v31, val_main_v30]

theorem v43 (j : Fin 1024) :
    val_main_v43 (F := Ideal) d w x (ix2 0 j) = ∑ i : Fin 4096, row x i j * rms 1024 eps (row x i) * val_main_v20 (F := Ideal) d w (ix2 i j) := by
  pointwise [val_main_v43, val_main_v26, val_main_v23, val_main_v22, val_main_v21, val_main_v14, val_main_v13, v9, val_main_cst_3, val_main_cst_4]
  rw [Fin.sum_univ_one]

end

variable (m : (ℓ : Loc nD τ sig) → Buf (Elt Ideal) ℓ) (c : Dev nD)

abbrev a0 : FVec Ideal S4096x1536 .bf16 := m ((c : Thread nD τ).loc main_arg0)
abbrev a1 : FVec Ideal S1024x1536 .f32 := m ((c : Thread nD τ).loc main_arg1)
abbrev a2 : FVec Ideal S4096x1024 .f32 := m ((c : Thread nD τ).loc main_arg2)
abbrev a3 : FVec Ideal S4x1024 .f32 := m ((c : Thread nD τ).loc main_arg3)
abbrev a4 : FVec Ideal S4096x1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![1, 0, 0] ∧ win0_4.index t = ![t.val, 0] ∧ win0_5.index t = ![t.val, 0] ∧ win0_6.index t = ![t.val, 0] ∧ win0_7.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 1536) : (iblk m c 0 t (ix2 i j) : EReal) = a0 m c (ix2 (rr t i) j) := by
  blk_point [iblk, V, idx t, rr]

theorem blk1 (t : Fin cfg0.N) (i : Fin 1024) (j : Fin 1536) : (iblk m c 1 t (ix2 i j) : EReal) = a1 m c (ix2 i j) := by
  blk_point [iblk, V, idx t, rr]

theorem blk2 (t : Fin cfg0.N) (i : Fin 512) (j : Fin 1024) : (iblk m c 2 t (ix2 i j) : EReal) = a2 m c (ix2 (rr t i) j) := by
  blk_point [iblk, V, idx t, rr]

theorem blk3 (t : Fin cfg0.N) (j : Fin 1024) : (iblk m c 3 t (ix3 0 0 j) : EReal) = a3 m c (ix2 1 j) := by
  blk_point [iblk, V, idx t, rr]

theorem blk4 (t : Fin cfg0.N) (i : Fin 512) (j : Fin 1024) : (iblk m c 4 t (ix2 i j) : EReal) = a4 m c (ix2 (rr t i) j) := by
  blk_point [iblk, V, idx t, rr]

/-- The product's rows in block `t`. -/
theorem prodB (t : Fin cfg0.N) (i : Fin 512) (j : Fin 1024) :
    k0_pay3 (F := Ideal) (iblk m c 0 t) (iblk m c 1 t) (ix2 i j) = val_main_v20 (F := Ideal) (a0 m c) (a1 m c) (ix2 (rr t i) j) := by
  rw [v20]
  refine (pay3_apply _ _ i j).trans (Finset.sum_congr rfl fun k _ => ?_)
  exact Ideal.mul_congr (blk0 m c t i k) (blk1 m c t j k)

theorem dxB (t : Fin cfg0.N) (i : Fin 512) (j : Fin 1024) :
    k0_pay7 (F := Ideal) (iblk m c 0 t) (iblk m c 1 t) (iblk m c 2 t) (iblk m c 3 t) (iblk m c 4 t) (ix2 i j)
      = val_main_v41 (F := Ideal) (a0 m c) (a1 m c) (a2 m c) (a3 m c) (a4 m c) (ix2 (rr t i) j) := by
  rw [v41, ← dx_eq (by norm_num) eps_pos]
  refine (pay7_apply _ _ _ _ _ i j).trans ?_
  refine (add_comm _ _).trans (Ideal.add_congr (blk4 m c t i j) ?_)
  congr 1 <;> funext k
  · exact blk2 m c t i k
  · exact Ideal.mul_congr (prodB m c t i k) (blk3 m c t k)

theorem final5 : (dats m 0 c).arrAt 5 cfg0.N = val_main_v41 (F := Ideal) (a0 m c) (a1 m c) (a2 m c) (a3 m c) (a4 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (dxB m c t y0 y1)
  rw [after0_5]
  by_cases h : t.val % 8 = 0
  · rw [outsAt0_A m c t h]; frame_out
  · rw [outsAt0_B m c t h]; frame_out

theorem final6 : (dats m 0 c).arrAt 6 cfg0.N = val_main_v42 (F := Ideal) (a0 m c) (a1 m c) (a2 m c) (a3 m c) (a4 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (dxB m c t y0 y1)
  rw [after0_6]
  by_cases h : t.val % 8 = 0
  · rw [outsAt0_A m c t h]; frame_out; rfl
  · rw [outsAt0_B m c t h]; frame_out; rfl

theorem final7 : (dats m 0 c).arrAt 7 cfg0.N = val_main_v43 (F := Ideal) (a0 m c) (a1 m c) (a2 m c) := by
  refine (dats m 0 c).arrAt_eq_of_after_last 7 t0_7 (by decide +kernel) _ fun y => ?_
  blk_simp
  rw [after0_7, Pipeline.eq_sum_fin_of_reset_step_apply_last (fun n h => (outsAt0 m c n h).2.2) 8 (fun _ => 0) _
    (fun t h j => by rw [outsAt0_A m c t h]; frame_out; rw [pay2_any, zero])
    (fun t h j => by rw [outsAt0_B m c t h]; frame_out; rw [pay2_any])
    (le_of_eq N_0) t0_7 rfl y, zero_add]
  idx_vars y
  have h0 : y0 = 0 := by ext; omega
  subst h0
  rw [v43]
  refine Fin.sum_mul_add_congr fun t k hk => ?_
  have ex : (fun j => (iblk m c 2 t (ix2 k j) : EReal)) = row (a2 m c) (rr t k) := funext fun j => blk2 m c t k j
  exact (Ideal.mul_congr (prodB m c t k y1) (Ideal.mul_congr (blk2 m c t k y1) (congrArg (rms 1024 eps) ex))).trans (mul_comm _ _)

end Cert.OddInDxIdeal.Value2
-- ==== Proof.OddInDxClaim.lean ====
module
public import proofs.«01_k».proof.Defs
public import proofs.«01_k».proof.Proof.Gen.OddInDx.Frame
public import proofs.«01_k».proof.Proof.Gen.OddInDxRefIdeal.Run
public import proofs.«01_k».proof.Proof.OddInDxVal
@[expose] public section
/-! The claims about the gradient of an odd layer's input projection. -/
set_option maxRecDepth 65536
noncomputable section
open Idealize.ShloMosaic Idealize.SL.Sem
namespace Cert.Proof.OddInDx

theorem frame : Cert.quiescent_OddInDx := fun m ρ _ => Cert.OddInDx.Gen.frame m ρ

theorem frameIdeal : Cert.quiescent_OddInDxIdeal := fun m ρ _ => Cert.OddInDxIdeal.Gen.frame m ρ

theorem frameRef : Cert.quiescent_OddInDxRefIdeal := fun m g _ =>
  (θ_run _ _ _).mono (fun r h => ⟨fun c => (h c).2.2.2, sem_eq_zero_of_no_sems rfl r.2⟩)
    (Cert.OddInDxRefIdeal.Value.run m g)

theorem preserves : Cert.preserves_OddInDx_OddInDxIdeal := trivial

theorem algebraic : Cert.algebraic_OddInDxIdeal_OddInDxRefIdeal := by
  pair_intro
  · run_from Cert.OddInDxIdeal.Value.run_blocks m g
  · run_from Cert.OddInDxRefIdeal.Value.run m' g'
    · rw [Cert.OddInDxRefIdeal.Read.val_main_v41_eq]
      simp only [hagree c]
      exact (Cert.OddInDxIdeal.Value2.final5 m c).symm
    · rw [Cert.OddInDxRefIdeal.Read.val_main_v42_eq]
      simp only [hagree c]
      exact (Cert.OddInDxIdeal.Value2.final6 m c).symm
    · exact (Cert.OddInDxRefIdeal.Read.val_main_v43_eq _ _ _).trans (Cert.OddInDxIdeal.Value2.final7 m c).symm

end Cert.Proof.OddInDx
-- ==== Proof.Real.lean ====
module
public import proofs.«01_k».proof.Proof.Norm
@[expose] public section
/-! Extended reals that are real numbers, and the pointwise functions the gates are made of: the tanh form of GELU
    with its derivative, and the sigmoid, each in the forms the programs write them. -/
noncomputable section
open Idealize.ShloMosaic
namespace Cert.Norm

/-- The value is a real number. -/
def IsReal (e : EReal) : Prop := ∃ r : ℝ, e = (r : EReal)

theorem IsReal.coe (r : ℝ) : IsReal (r : EReal) := ⟨r, rfl⟩
theorem IsReal.zero : IsReal 0 := ⟨0, rfl⟩
theorem IsReal.add {a b : EReal} : IsReal a → IsReal b → IsReal (a + b) := by
  rintro ⟨r, rfl⟩ ⟨s, rfl⟩; exact ⟨r + s, (EReal.coe_add r s).symm⟩
theorem IsReal.sub {a b : EReal} : IsReal a → IsReal b → IsReal (a - b) := by
  rintro ⟨r, rfl⟩ ⟨s, rfl⟩; exact ⟨r - s, (EReal.coe_sub r s).symm⟩
theorem IsReal.mul {a b : EReal} : IsReal a → IsReal b → IsReal (a * b) := by
  rintro ⟨r, rfl⟩ ⟨s, rfl⟩; exact ⟨r * s, (EReal.coe_mul r s).symm⟩
theorem IsReal.sum {ι : Type} (s : Finset ι) {f : ι → EReal} (h : ∀ i ∈ s, IsReal (f i)) : IsReal (∑ i ∈ s, f i) :=
  Finset.sum_induction f IsReal (fun _ _ => IsReal.add) IsReal.zero h
theorem IsReal.sum' {ι : Type} [Fintype ι] {f : ι → EReal} (h : ∀ i, IsReal (f i)) : IsReal (∑ i, f i) :=
  IsReal.sum _ fun i _ => h i

/-- A value whose absolute value is below `∞` is a real number. -/
theorem IsReal.of_abs_lt {x : EReal} (h : max x (-x) < ⊤) : IsReal x := by
  induction x with
  | bot => simp at h
  | top => simp at h
  | coe r => exact ⟨r, rfl⟩

/-- The sum of real numbers, inside the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_real {ι : Type} [Fintype ι] {a : EReal} (ha : IsReal a) {f : ι → EReal} (h : ∀ i, IsReal (f i)) :
    a * ∑ i, f i = ∑ i, a * f i := by
  obtain ⟨r, rfl⟩ := ha
  choose g hg using h
  simp only [hg, ← EReal.coe_mul, ← coe_sum]
  rw [Finset.mul_sum]

theorem tanh_real (x : EReal) : IsReal (Ideal.tanh x) := by
  induction x with
  | bot => exact ⟨-1, by simp⟩
  | top => exact ⟨1, by simp⟩
  | coe r => exact ⟨Real.tanh r, rfl⟩

/-- The sigmoid, of any extended real a real number. -/
def sgm (z : EReal) : ℝ := 1 / 2 + 1 / 2 * (Ideal.tanh (((1 / 2 : ℝ) : EReal) * z)).toReal

/-- The sigmoid as the tanh form writes it. -/
theorem sgm_tanh (z : EReal) :
    ((1 / 2 : ℝ) : EReal) + ((1 / 2 : ℝ) : EReal) * Ideal.tanh (((1 / 2 : ℝ) : EReal) * z) = (sgm z : EReal) := by
  unfold sgm
  obtain ⟨r, hr⟩ := tanh_real (((1 / 2 : ℝ) : EReal) * z)
  rw [hr, EReal.toReal_coe, ← EReal.coe_mul, ← EReal.coe_add]

theorem tanh_half (x : ℝ) : 1 / 2 + 1 / 2 * Real.tanh (1 / 2 * x) = 1 / (1 + Real.exp (-x)) := by
  have hx : Real.exp (1 / 2 * x) * Real.exp (1 / 2 * x) = Real.exp x := by rw [← Real.exp_add]; congr 1; ring
  have h2 : Real.exp (-(1 / 2 * x)) * Real.exp (-(1 / 2 * x)) = Real.exp (-x) := by rw [← Real.exp_add]; congr 1; ring
  have h3 : Real.exp (1 / 2 * x) * Real.exp (-(1 / 2 * x)) = 1 := by rw [← Real.exp_add]; simp
  rw [Real.tanh_eq_sinh_div_cosh, Real.sinh_eq, Real.cosh_eq, ← h2]
  have p1 := Real.exp_pos (1 / 2 * x)
  have p2 := Real.exp_pos (-(1 / 2 * x))
  generalize Real.exp (1 / 2 * x) = a at *
  generalize Real.exp (-(1 / 2 * x)) = b at *
  have : (a + b) ≠ 0 := by positivity
  have : (1 + b * b) ≠ 0 := by positivity
  field_simp
  linear_combination (2 * b) * h3

/-- The sigmoid as `1 / (1 + e^{-z})` writes it. -/
theorem sgm_div (z : EReal) : Ideal.div ((1 : ℝ) : EReal) (((1 : ℝ) : EReal) + Ideal.exp (-z)) = (sgm z : EReal) := by
  rw [← sgm_tanh]
  induction z with
  | bot =>
    rw [EReal.coe_mul_bot_of_pos (by norm_num), EReal.neg_bot, Ideal.exp_top, Ideal.tanh_bot, EReal.add_top_of_ne_bot (EReal.coe_ne_bot 1)]
    have : Ideal.div ((1 : ℝ) : EReal) ⊤ = 0 := by simp [Ideal.div]
    rw [this, show (-1 : EReal) = ((-1 : ℝ) : EReal) from rfl, ← EReal.coe_mul, ← EReal.coe_add]
    norm_num
  | top =>
    rw [EReal.coe_mul_top_of_pos (by norm_num), EReal.neg_top, Ideal.exp_bot, Ideal.tanh_top, add_zero, Ideal.div_coe one_ne_zero]
    norm_cast
    norm_num
  | coe r =>
    have h : 1 + Real.exp (-r) ≠ 0 := by positivity
    rw [← EReal.coe_neg, Ideal.exp_coe, ← EReal.coe_add, Ideal.div_coe h, ← EReal.coe_mul, ← EReal.coe_mul, Ideal.tanh_coe,
      ← EReal.coe_mul, ← EReal.coe_add, tanh_half, one_mul]

/-- The number `√(2/π)` as a 32-bit number. -/
def kGelu : ℝ := 13386282 * (2 : ℝ) ^ (-24 : ℤ)
theorem lit_kGelu : Ideal.ofBits .f32 0x3F4C422A#32 = ((kGelu : ℝ) : EReal) := by
  simp [Ideal.ofBits, Ideal.ieee, kGelu, -EReal.coe_mul]
theorem lit_three : Ideal.ofBits .f32 0x40400000#32 = ((3 : ℝ) : EReal) := by
  simp [Ideal.ofBits, Ideal.ieee, -EReal.coe_mul]; norm_num

theorem lit_8943 : Ideal.ofBits .f32 0x460BBC00#32 = ((8943 : ℝ) : EReal) := by
  simp [Ideal.ofBits, Ideal.ieee, -EReal.coe_mul]; norm_num
theorem lit_200000 : Ideal.ofBits .f32 0x48435000#32 = ((200000 : ℝ) : EReal) := by
  simp [Ideal.ofBits, Ideal.ieee, -EReal.coe_mul]; norm_num

/-- The tanh inside GELU. -/
def geluT (x : EReal) : EReal := Ideal.tanh ((kGelu : EReal) * (x + ((8943 / 200000 : ℝ) : EReal) * x * x * x))
/-- The tanh form of GELU. -/
def gelu (x : EReal) : EReal := ((1 / 2 : ℝ) : EReal) * x * (((1 : ℝ) : EReal) + geluT x)
/-- Its derivative. -/
def dgelu (x : EReal) : EReal :=
  ((1 / 2 : ℝ) : EReal) * (((1 : ℝ) : EReal) + geluT x)
    + ((1 / 2 : ℝ) : EReal) * x * (((1 : ℝ) : EReal) - geluT x * geluT x) * ((kGelu : EReal) * (((1 : ℝ) : EReal) + ((26829 / 200000 : ℝ) : EReal) * x * x))

theorem geluT_real (x : EReal) : IsReal (geluT x) := tanh_real _
theorem gelu_real {x : EReal} (h : IsReal x) : IsReal (gelu x) :=
  ((IsReal.coe _).mul h).mul ((IsReal.coe _).add (geluT_real x))
theorem dgelu_real {x : EReal} (h : IsReal x) : IsReal (dgelu x) :=
  ((IsReal.coe _).mul ((IsReal.coe _).add (geluT_real x))).add
    ((((IsReal.coe _).mul h).mul ((IsReal.coe _).sub ((geluT_real x).mul (geluT_real x)))).mul
      ((IsReal.coe _).mul ((IsReal.coe _).add (((IsReal.coe _).mul h).mul h))))

/-- The tanh's argument with its constant written as a fraction. -/
theorem geluT_div (x : EReal) :
    geluT x = Ideal.tanh ((kGelu : EReal) * (x + Ideal.div (((8943 : ℝ) : EReal) * (x * x * x)) ((200000 : ℝ) : EReal))) := by
  have e : ((8943 / 200000 : ℝ) : EReal) = ((8943 : ℝ) : EReal) * ((1 / 200000 : ℝ) : EReal) := by norm_cast; norm_num
  unfold geluT
  rw [Ideal.div_coe (by norm_num), e]
  congr 3
  ac_rfl

/-- The derivative as differentiation gives it, applied to a cotangent `g`. -/
theorem dgelu_eq {g x : EReal} (hg : IsReal g) (hx : IsReal x) :
    g * (((1 / 2 : ℝ) : EReal) * (((1 : ℝ) : EReal) + geluT x))
      + (kGelu : EReal) * (((1 / 2 : ℝ) : EReal) * (x * g) * ((((1 : ℝ) : EReal) + geluT x) * (((1 : ℝ) : EReal) - geluT x)))
      + ((8943 : ℝ) : EReal) * Ideal.div ((kGelu : EReal) * (((1 / 2 : ℝ) : EReal) * (x * g) * ((((1 : ℝ) : EReal) + geluT x) * (((1 : ℝ) : EReal) - geluT x)))) ((200000 : ℝ) : EReal)
        * (((3 : ℝ) : EReal) * (x * x)) = g * dgelu x := by
  unfold dgelu
  obtain ⟨t, ht⟩ := geluT_real x
  obtain ⟨g, rfl⟩ := hg
  obtain ⟨x, rfl⟩ := hx
  rw [ht, Ideal.div_coe (by norm_num)]
  simp only [← EReal.coe_mul, ← EReal.coe_add, ← EReal.coe_sub]
  congr 1
  ring

/-- What a finiteness precondition says of one argument: an entry whose absolute value is below `+∞` is a real. -/
theorem IsReal.of_finite {s : Shape} {x b : FVec Ideal s .f32} (hb : ∀ i, b i = Ideal.ofBits .f32 0x7F800000#32)
    (h : cmpf .olt (Host.absf x) b = fun _ => 1#1) (i : s.Idx) : IsReal (x i) := by
  have e : BitVec.ofBool (decide ((max (x i) (-x i) : EReal) < b i)) = 1#1 := congrFun h i
  have t : (b i : EReal) = ⊤ := (hb i).trans (by simp [Ideal.ofBits, Ideal.ieee])
  rw [t] at e
  refine IsReal.of_abs_lt (lt_top_iff_ne_top.2 fun hh => ?_)
  rw [hh] at e
  exact absurd e (by simp)

end Cert.Norm
-- ==== Proof.GluVal.lean ====
module
public import proofs.«01_k».proof.Proof.Gen.GluIdeal.Value
public import proofs.«01_k».proof.Proof.Gen.GluRefIdeal.Read
public import proofs.«01_k».proof.Proof.Real
@[expose] public section
/-! The arrays the gated linear unit's gradient leaves are the reference's. -/
set_option maxRecDepth 200000
noncomputable section
open Idealize.ShloMosaic Idealize.ShloMosaic.TcCoe Idealize.SL.Sem
namespace Cert.GluIdeal.Value2
open Cert.GluIdeal Cert.GluIdeal.Gen Cert.Norm
open Cert.GluRefIdeal.Read

theorem name_c : Named.named (F := Ideal) (φ := .f32) κ "gelu_c" 0x3D372713#32 = ((8943 / 200000 : ℝ) : EReal) :=
  IdealRules.named_const.ideal_named_scalar _ _ _ _ rfl
theorem name_3c : Named.named (F := Ideal) (φ := .f32) κ "gelu_3c" 0x3E095D4F#32 = ((26829 / 200000 : ℝ) : EReal) :=
  IdealRules.named_const.ideal_named_scalar _ _ _ _ rfl

/-- The gate's argument for a row `y`, a column `w` of the weights and a bias `b`. -/
def gate (y w : Fin 512 → EReal) (b : EReal) : EReal := (∑ k, gelu (y k) * w k) + b

/-- The gradient of the gate's argument. -/
def dgate (d y z : EReal) : EReal := d * gelu y * (sgm z : EReal) * (((1 : ℝ) : EReal) - (sgm z : EReal))

theorem pay4_apply (y : FVec Ideal S512x512 .f32) (i j : Fin 512) : k0_pay4 (F := Ideal) y (ix2 i j) = gelu (y (ix2 i j)) := by
  unfold gelu geluT
  rw [← lit_half, ← lit_one, ← lit_kGelu, ← name_c]
  pointwise [k0_pay4]

theorem pay5_apply (y : FVec Ideal S512x512 .f32) (w : FVec Ideal S512x512 .bf16) (b : FVec Ideal S1x512 .f32) (i j : Fin 512) :
    k0_pay5 (F := Ideal) y w b (ix2 i j) = (sgm (gate (fun k => y (ix2 i k)) (fun k => w (ix2 k j)) (b (ix2 0 j))) : EReal) := by
  rw [← sgm_tanh]
  unfold gate
  rw [← lit_half]
  pointwise [k0_pay5, pay4_apply]

theorem pay6_apply (y d : FVec Ideal S512x512 .f32) (w : FVec Ideal S512x512 .bf16) (b : FVec Ideal S1x512 .f32) (i j : Fin 512) :
    k0_pay6 (F := Ideal) y d w b (ix2 i j)
      = dgate (d (ix2 i j)) (y (ix2 i j)) (gate (fun k => y (ix2 i k)) (fun k => w (ix2 k j)) (b (ix2 0 j))) := by
  unfold dgate
  rw [← lit_one]
  pointwise [k0_pay6, pay4_apply, pay5_apply]

theorem pay8_apply (y d : FVec Ideal S512x512 .f32) (w : FVec Ideal S512x512 .bf16) (b : FVec Ideal S1x512 .f32) (i j : Fin 512) :
    k0_pay8 (F := Ideal) y (k0_pay6 (F := Ideal) y d w b) (k0_pay7 (F := Ideal) y d w b) w (ix2 i j)
      = (d (ix2 i j) * (sgm (gate (fun k => y (ix2 i k)) (fun k => w (ix2 k j)) (b (ix2 0 j))) : EReal)
          + ∑ k : Fin 512, k0_pay6 (F := Ideal) y d w b (ix2 i k) * w (ix2 j k)) * dgelu (y (ix2 i j)) := by
  unfold dgelu geluT
  rw [← lit_half, ← lit_one, ← lit_kGelu, ← name_c, ← name_3c]
  pointwise [k0_pay8, k0_pay7, pay5_apply]

theorem pay9_any (y p : FVec Ideal S512x512 .f32) (acc : FVec Ideal S512x512 .f32) (x) :
    k0_pay9 (F := Ideal) (k0_pay4 (F := Ideal) y) p acc x = acc x + ∑ i : Fin 512, gelu (y (ix2 i (x 0))) * p (ix2 i (x 1)) := by
  idx_vars x
  pointwise [k0_pay9, pay4_apply]

theorem pay1_any (p : FVec Ideal S512x512 .f32) (acc : FVec Ideal S1x512 .f32) (x) :
    k0_pay1 (F := Ideal) p acc x = acc x + ∑ i : Fin 512, p (ix2 i (x 1)) := by
  idx_vars x
  have : x0 = 0 := by ext; omega
  subst this
  pointwise [k0_pay1]

theorem zero2 (j) : k0_pay2 (F := Ideal) j = 0 := by pointwise [k0_pay2]
theorem zero3 (j) : k0_pay3 (F := Ideal) j = 0 := by pointwise [k0_pay3]

section
variable (d : FVec Ideal S4096x1024 .f32) (y : FVec Ideal S4096x512 .f32) (w : FVec Ideal S512x512 .f32) (b : FVec Ideal S512 .f32)

abbrev zed (i : Fin 4096) (j : Fin 512) : EReal := gate (fun k => y (ix2 i k)) (fun k => w (ix2 k j)) (b (ix1 j))

theorem v12 (i : Fin 4096) (j : Fin 512) : val_main_v12 (F := Ideal) y (ix2 i j) = geluT (y (ix2 i j)) := by
  rw [geluT_div, ← lit_kGelu, ← lit_8943, ← lit_200000]
  pointwise [val_main_v12, val_main_v11, val_main_v10, val_main_v9, val_main_v8, val_main_v7, val_main_v6, val_main_v5, val_main_v1, val_main_v0, val_main_cst_0, val_main_cst_1, val_main_cst_2]

theorem v21 (i : Fin 4096) (j : Fin 512) :
    val_main_v21 (F := Ideal) y (ix2 i j) = ((1 / 2 : ℝ) : EReal) * (((1 : ℝ) : EReal) + geluT (y (ix2 i j))) := by
  rw [← lit_half, ← lit_one]
  pointwise [val_main_v21, val_main_v20, val_main_v19, val_main_v18, v12, val_main_cst_5, val_main_cst_6]

theorem v22 (i : Fin 4096) (j : Fin 512) : val_main_v22 (F := Ideal) y (ix2 i j) = gelu (y (ix2 i j)) := by
  unfold gelu
  rw [mul_assoc, mul_left_comm]
  pointwise [val_main_v22, v21]

theorem v32 (i : Fin 4096) (j : Fin 512) : val_main_v32 (F := Ideal) y w b (ix2 i j) = (sgm (zed y w b i j) : EReal) := by
  rw [← sgm_div]
  unfold zed gate
  rw [← lit_one]
  pointwise [val_main_v32, val_main_v31, val_main_v30, val_main_v29, val_main_v28, val_main_v27, val_main_v26, val_main_v25, val_main_v24, val_main_v23,
    v22, val_main_cst_7, val_main_cst_8]

theorem v40 (i : Fin 4096) (j : Fin 512) :
    val_main_v40 (F := Ideal) d y w b (ix2 i j) = dgate (d (ix2 i ⟨j.val + 512, by omega⟩)) (y (ix2 i j)) (zed y w b i j) := by
  unfold dgate
  rw [mul_assoc, mul_comm (d _) (gelu _), ← lit_one]
  pointwise [val_main_v40, val_main_v38, val_main_v37, val_main_v35, val_main_v34, val_main_v33, v32, v22, val_main_cst_9]
  exact Ideal.mul_congr (Ideal.mul_congr rfl (congrArg d ((ix2_inj ..).2 ⟨rfl, Fin.ext (Nat.add_comm _ _)⟩))) rfl

theorem v47 (i : Fin 4096) (j : Fin 512) :
    val_main_v47 (F := Ideal) d y w b (ix2 i j) = d (ix2 i ⟨j.val + 512, by omega⟩) * (sgm (zed y w b i j) : EReal)
      + ∑ k : Fin 512, val_main_v40 (F := Ideal) d y w b (ix2 i k) * w (ix2 j k) := by
  pointwise [val_main_v47, val_main_v46, val_main_v39, val_main_v37, v32]
  exact Ideal.add_congr (Ideal.mul_congr (congrArg d ((ix2_inj ..).2 ⟨rfl, Fin.ext (Nat.add_comm _ _)⟩)) rfl) rfl

theorem v61 (hd : ∀ i, IsReal (d i)) (hy : ∀ i, IsReal (y i)) (hw : ∀ i, IsReal (w i)) (i : Fin 4096) (j : Fin 512) :
    val_main_v61 (F := Ideal) d y w b (ix2 i j) = val_main_v47 (F := Ideal) d y w b (ix2 i j) * dgelu (y (ix2 i j)) := by
  have hg : IsReal (val_main_v47 (F := Ideal) d y w b (ix2 i j)) := by
    rw [v47]
    refine ((hd _).mul (IsReal.coe _)).add (IsReal.sum' (fun k : Fin 512 => ?_))
    rw [v40]
    exact ((((hd _).mul (gelu_real (hy _))).mul (IsReal.coe _)).mul ((IsReal.coe _).sub (IsReal.coe _))).mul (hw _)
  rw [← dgelu_eq hg (hy _), ← v12, ← lit_half, ← lit_one, ← lit_kGelu, ← lit_8943, ← lit_200000, ← lit_three]
  pointwise [val_main_v61, val_main_v60, val_main_v59, val_main_v58, val_main_v57, val_main_v56, val_main_v55, val_main_v54, val_main_v53, val_main_v52, val_main_v51, val_main_v50,
    val_main_v49, val_main_v48, val_main_v21, val_main_v20, val_main_v19, val_main_v18, val_main_v17, val_main_v16, val_main_v15, val_main_v14, val_main_v13,
    val_main_v4, val_main_v3, val_main_v2, val_main_cst, val_main_cst_3, val_main_cst_4, val_main_cst_5, val_main_cst_6, val_main_cst_12, val_main_cst_13, val_main_cst_14, val_main_cst_15]

theorem v45 (i j : Fin 512) :
    val_main_v45 (F := Ideal) d y w b (ix2 i j) = ∑ k : Fin 4096, val_main_v40 (F := Ideal) d y w b (ix2 k j) * gelu (y (ix2 k i)) := by
  pointwise [val_main_v45, val_main_v44, v22]

theorem v62 (j : Fin 512) :
    val_main_v62 (F := Ideal) d y w b (ix2 0 j) = ∑ k : Fin 4096, val_main_v40 (F := Ideal) d y w b (ix2 k j) := by
  pointwise [val_main_v62, val_main_v43, val_main_v42, val_main_v41, val_main_cst_10, val_main_cst_11]
  rw [Fin.sum_univ_one]
end

variable (m : (ℓ : Loc nD τ sig) → Buf (Elt Ideal) ℓ) (c : Dev nD)

abbrev a0 : FVec Ideal S4096x1024 .f32 := m ((c : Thread nD τ).loc main_arg0)
abbrev a1 : FVec Ideal S4096x512 .f32 := m ((c : Thread nD τ).loc main_arg1)
abbrev a2 : FVec Ideal S512x512 .f32 := m ((c : Thread nD τ).loc main_arg2)
abbrev a3 : FVec Ideal S512 .f32 := m ((c : Thread nD τ).loc main_arg3)

theorem idx : ∀ t : Fin cfg0.N, win0_0.index t = ![t.val, 1] ∧ win0_1.index t = ![t.val, 0] ∧ win0_2.index t = ![0, 0] ∧ win0_3.index t = ![0, 0]
    ∧ win0_4.index t = ![t.val, 0] ∧ win0_5.index t = ![0, 0] ∧ win0_6.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 512) : (iblk m c 0 t (ix2 i j) : EReal) = a0 m c (ix2 (rr t i) ⟨j.val + 512, by omega⟩) := by
  blk_point [iblk, V, idx t, rr]
theorem blk1 (t : Fin cfg0.N) (i : Fin 512) (j : Fin 512) : (iblk m c 1 t (ix2 i j) : EReal) = a1 m c (ix2 (rr t i) j) := by
  blk_point [iblk, V, idx t, rr]
theorem blk2 (t : Fin cfg0.N) (i : Fin 512) (j : Fin 512) : (iblk m c 2 t (ix2 i j) : EReal) = a2 m c (ix2 i j) := by
  blk_point [iblk, V, idx t, rr]
theorem blk3 (t : Fin cfg0.N) (j : Fin 512) : (iblk m c 3 t (ix2 0 j) : EReal) = a3 m c (ix1 j) := by
  blk_point [iblk, V, idx t, rr]

/-- The gate's argument in block `t`. -/
theorem gateB (t : Fin cfg0.N) (i j : Fin 512) :
    gate (fun k => (iblk m c 1 t (ix2 i k) : EReal)) (fun k => (iblk m c 2 t (ix2 k j) : EReal)) (iblk m c 3 t (ix2 0 j))
      = zed (a1 m c) (a2 m c) (a3 m c) (rr t i) j := by
  unfold zed
  congr 1
  · funext k; exact blk1 m c t i k
  · funext k; exact blk2 m c t k j
  · exact blk3 m c t j

/-- The gradient of the gate's argument in block `t`. -/
theorem dgateB (t : Fin cfg0.N) (i j : Fin 512) :
    k0_pay6 (F := Ideal) (iblk m c 1 t) (iblk m c 0 t) (iblk m c 2 t) (iblk m c 3 t) (ix2 i j)
      = val_main_v40 (F := Ideal) (a0 m c) (a1 m c) (a2 m c) (a3 m c) (ix2 (rr t i) j) := by
  rw [v40, ← gateB, ← blk0, ← blk1]
  exact pay6_apply (iblk m c 1 t) (iblk m c 0 t) (iblk m c 2 t) (iblk m c 3 t) i j

theorem dyB (hd : ∀ i, IsReal (a0 m c i)) (hy : ∀ i, IsReal (a1 m c i)) (hw : ∀ i, IsReal (a2 m c i)) (t : Fin cfg0.N) (i j : Fin 512) :
    k0_pay8 (F := Ideal) (iblk m c 1 t) (k0_pay6 (F := Ideal) (iblk m c 1 t) (iblk m c 0 t) (iblk m c 2 t) (iblk m c 3 t))
        (k0_pay7 (F := Ideal) (iblk m c 1 t) (iblk m c 0 t) (iblk m c 2 t) (iblk m c 3 t)) (iblk m c 2 t) (ix2 i j)
      = val_main_v61 (F := Ideal) (a0 m c) (a1 m c) (a2 m c) (a3 m c) (ix2 (rr t i) j) := by
  rw [v61 _ _ _ _ hd hy hw, v47, ← gateB, ← blk0]
  have e := pay8_apply (iblk m c 1 t) (iblk m c 0 t) (iblk m c 2 t) (iblk m c 3 t) i j
  refine e.trans (Ideal.mul_congr (Ideal.add_congr (Eq.refl _) ?_) (congrArg dgelu (blk1 m c t i j)))
  exact Finset.sum_congr rfl fun k _ => Ideal.mul_congr (dgateB m c t i k) (blk2 m c t j k)

theorem final4 (hd : ∀ i, IsReal (a0 m c i)) (hy : ∀ i, IsReal (a1 m c i)) (hw : ∀ i, IsReal (a2 m c i)) :
    (dats m 0 c).arrAt 4 cfg0.N = val_main_v61 (F := Ideal) (a0 m c) (a1 m c) (a2 m c) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (dyB m c hd hy hw t y0 y1)
  rw [after0_4]
  by_cases h : t.val % 8 = 0
  · rw [outsAt0_A m c t h]; frame_out
  · rw [outsAt0_B m c t h]; frame_out

theorem final5 : (dats m 0 c).arrAt 5 cfg0.N = val_main_v45 (F := Ideal) (a0 m c) (a1 m c) (a2 m c) (a3 m c) := by
  refine (dats m 0 c).arrAt_eq_of_after_last 5 t0_7 (by decide +kernel) _ fun y => ?_
  blk_simp
  rw [after0_5, Pipeline.eq_sum_fin_of_reset_step_apply_last (fun n h => (outsAt0 m c n h).2.1) 8 (fun _ => 0) _
    (fun t h j => by rw [outsAt0_A m c t h]; frame_out; rw [pay9_any, zero2])
    (fun t h j => by rw [outsAt0_B m c t h]; frame_out; rw [pay9_any])
    (le_of_eq N_0) t0_7 rfl y, zero_add]
  idx_vars y
  rw [v45]
  refine Fin.sum_mul_add_congr fun t k hk => ?_
  exact (Ideal.mul_congr (congrArg gelu (blk1 m c t k y0)) (dgateB m c t k y1)).trans (mul_comm _ _)

theorem final6 : (dats m 0 c).arrAt 6 cfg0.N = val_main_v62 (F := Ideal) (a0 m c) (a1 m c) (a2 m c) (a3 m c) := by
  refine (dats m 0 c).arrAt_eq_of_after_last 6 t0_7 (by decide +kernel) _ fun y => ?_
  blk_simp
  rw [after0_6, Pipeline.eq_sum_fin_of_reset_step_apply_last (fun n h => (outsAt0 m c n h).2.2) 8 (fun _ => 0) _
    (fun t h j => by rw [outsAt0_A m c t h]; frame_out; rw [pay1_any, zero3])
    (fun t h j => by rw [outsAt0_B m c t h]; frame_out; rw [pay1_any])
    (le_of_eq N_0) t0_7 rfl y, zero_add]
  idx_vars y
  have h0 : y0 = 0 := by ext; omega
  subst h0
  rw [v62]
  exact Fin.sum_mul_add_congr fun t k hk => dgateB m c t k y1

end Cert.GluIdeal.Value2
-- ==== Proof.GluClaim.lean ====
module
public import proofs.«01_k».proof.Defs
public import proofs.«01_k».proof.Proof.Gen.Glu.Frame
public import proofs.«01_k».proof.Proof.Gen.GluRefIdeal.Run
public import proofs.«01_k».proof.Proof.GluVal
@[expose] public section
/-! The claims about the gated linear unit's gradient. -/
set_option maxRecDepth 65536
noncomputable section
open Idealize.ShloMosaic Idealize.SL.Sem
namespace Cert.Proof.Glu

instance preFacts : Cert.Pre_glu_finite.Facts := ⟨by decide, by decide, by decide⟩

theorem frame : Cert.quiescent_Glu := fun m ρ _ => Cert.Glu.Gen.frame m ρ

theorem frameIdeal : Cert.quiescent_GluIdeal := fun m ρ _ => Cert.GluIdeal.Gen.frame m ρ

theorem frameRef : Cert.quiescent_GluRefIdeal := fun m g _ =>
  (θ_run _ _ _).mono (fun r h => ⟨fun c => (h c).2.2.2, sem_eq_zero_of_no_sems rfl r.2⟩)
    (Cert.GluRefIdeal.Value.run m g)

theorem framePre : Cert.quiescent_GluIdeal_pre_glu_finite := fun m ρ _ => Cert.GluIdeal.Gen.frame m ρ

theorem frameRefPre : Cert.quiescent_GluRefIdeal_pre_glu_finite := fun m g _ => frameRef m g trivial

theorem preserves : Cert.preserves_Glu_GluIdeal :=
  ⟨IdealRules.named_const.statement Cert.GluIdeal.κ "gelu_c" .f32 0x3D372713#32 _ rfl,
    IdealRules.named_const.statement Cert.GluIdeal.κ "gelu_3c" .f32 0x3E095D4F#32 _ rfl⟩

theorem algebraic : Cert.algebraic_GluIdeal_GluRefIdeal_pre_glu_finite := by
  pair_intro
  · run_from Cert.GluIdeal.Value.run_blocks m g
  · run_from Cert.GluRefIdeal.Value.run m' g'
    · rw [Cert.GluRefIdeal.Read.val_main_v61_eq]
      simp only [hagree c]
      exact (Cert.GluIdeal.Value2.final4 m c (Cert.Norm.IsReal.of_finite (fun _ => rfl) (hpre c).1)
        (Cert.Norm.IsReal.of_finite (fun _ => rfl) (hpre c).2.1) (Cert.Norm.IsReal.of_finite (fun _ => rfl) (hpre c).2.2)).symm
    · rw [Cert.GluRefIdeal.Read.val_main_v45_eq]
      simp only [hagree c]
      exact (Cert.GluIdeal.Value2.final5 m c).symm
    · exact (Cert.GluRefIdeal.Read.val_main_v62_eq _ _ _ _).trans (Cert.GluIdeal.Value2.final6 m c).symm

end Cert.Proof.Glu
-- ==== Proof.Window.lean ====
module
public import proofs.«01_k».proof.Proof.Shift
public import proofs.«01_k».proof.Proof.Real
@[expose] public section
/-! Sums over a trailing or a leading window of a column, as the kernel doubles them and as differences of a
    running sum. -/
set_option maxRecDepth 200000
noncomputable section
open Idealize.ShloMosaic Idealize.ShloMosaic.TcCoe Idealize.SL.Sem
namespace Cert.Window
open Cert.Shift Cert.Norm

/-- The `w` entries ending at `i`, summed. -/
def trail (w : ℕ) (f : Fin 4096 → EReal) (i : ℕ) : EReal := ∑ d ∈ Finset.range w, dn f d i
/-- The `w` entries starting at `i`, summed. -/
def lead (w : ℕ) (f : Fin 4096 → EReal) (i : ℕ) : EReal := ∑ d ∈ Finset.range w, ext f (i + d)

theorem dn_dn (f : Fin 4096 → EReal) (d k i : ℕ) (h : k ≤ i) : dn f d (i - k) = dn f (d + k) i := by
  unfold dn
  by_cases e : d ≤ i - k
  · rw [if_pos e, if_pos (by omega)]; congr 1; omega
  · rw [if_neg e, if_neg (by omega)]

theorem dn_trail (w : ℕ) (f : Fin 4096 → EReal) (k : ℕ) (i : Fin 4096) :
    dn (fun r : Fin 4096 => trail w f r.val) k i.val = ∑ d ∈ Finset.range w, dn f (d + k) i.val := by
  by_cases e : k ≤ i.val
  · refine (if_pos e).trans ((ext_val (fun r : Fin 4096 => trail w f r.val) ⟨i.val - k, by omega⟩).trans ?_)
    exact Finset.sum_congr rfl fun d _ => dn_dn f d k i.val e
  · refine (if_neg e).trans (Finset.sum_eq_zero fun d _ => ?_).symm
    exact if_neg (by omega)

theorem ext_lead (w : ℕ) (f : Fin 4096 → EReal) (k : ℕ) (i : Fin 4096) :
    ext (fun r : Fin 4096 => lead w f r.val) (i.val + k) = ∑ d ∈ Finset.range w, ext f (i.val + (d + k)) := by
  by_cases e : i.val + k < 4096
  · refine (dif_pos e).trans (Finset.sum_congr rfl fun d _ => ?_)
    show ext f (i.val + k + d) = _
    congr 1; omega
  · refine (dif_neg e).trans (Finset.sum_eq_zero fun d _ => ?_).symm
    exact dif_neg (by omega)

/-- A sum of twice as many entries from two half as long. -/
theorem trail_double (w : ℕ) (f : Fin 4096 → EReal) (i : Fin 4096) :
    trail w f i.val + dn (fun r : Fin 4096 => trail w f r.val) w i.val = trail (w + w) f i.val := by
  rw [dn_trail]; unfold trail
  rw [Finset.sum_range_add]
  exact congrArg _ (Finset.sum_congr rfl fun d _ => by rw [Nat.add_comm])
theorem lead_double (w : ℕ) (f : Fin 4096 → EReal) (i : Fin 4096) :
    lead w f i.val + ext (fun r : Fin 4096 => lead w f r.val) (i.val + w) = lead (w + w) f i.val := by
  rw [ext_lead]; unfold lead
  rw [Finset.sum_range_add]
  exact congrArg _ (Finset.sum_congr rfl fun d _ => by rw [Nat.add_comm d])

theorem ext_real {f : Fin 4096 → EReal} (h : ∀ i, IsReal (f i)) (n : ℕ) : IsReal (ext f n) := by
  unfold ext; split
  · exact h _
  · exact IsReal.zero
theorem dn_real {f : Fin 4096 → EReal} (h : ∀ i, IsReal (f i)) (k n : ℕ) : IsReal (dn f k n) := by
  unfold dn; split
  · exact ext_real h _
  · exact IsReal.zero

/-- Real entries that vanish from `N` on: what is left of their sum when the same entries from `w` on are taken off. -/
theorem sum_sub_shift (F : ℕ → EReal) (hF : ∀ n, IsReal (F n)) (N w : ℕ) (hN : ∀ n, N ≤ n → F n = 0) (hw : w ≤ N) :
    ∑ n ∈ Finset.range N, F n - ∑ n ∈ Finset.range N, F (n + w) = ∑ n ∈ Finset.range w, F n := by
  choose r hr using hF
  have z : ∀ n, N ≤ n → r n = 0 := fun n h => by
    have := (hr n).symm.trans (hN n h); exact_mod_cast this
  obtain ⟨q, rfl⟩ := Nat.exists_eq_add_of_le hw
  have e : ∑ n ∈ Finset.range (w + q), r (n + w) = ∑ n ∈ Finset.range q, r (w + n) := by
    rw [Nat.add_comm w q, Finset.sum_range_add, Finset.sum_eq_zero (s := Finset.range w) (fun n _ => z _ (by omega)), add_zero]
    exact Finset.sum_congr rfl fun n _ => by rw [Nat.add_comm]
  simp only [hr, ← coe_sum, ← EReal.coe_sub]
  rw [e, Finset.sum_range_add, add_sub_cancel_right]

/-- A trailing window is a difference of two running sums. -/
theorem trail_sub {f : Fin 4096 → EReal} (h : ∀ i, IsReal (f i)) (w : ℕ) (hw : w ≤ 4096) (i : Fin 4096) :
    trail 4096 f i.val - dn (fun r : Fin 4096 => trail 4096 f r.val) w i.val = trail w f i.val := by
  rw [dn_trail]
  exact sum_sub_shift (fun d => dn f d i.val) (fun n => dn_real h n _) 4096 w (fun n hn => if_neg (by omega)) hw

/-- A leading window is a running sum, from the end, of the differences of entries `w` apart. -/
theorem lead_sub {f : Fin 4096 → EReal} (h : ∀ i, IsReal (f i)) (w : ℕ) (hw : w ≤ 4096) (i : Fin 4096) :
    lead 4096 (fun r : Fin 4096 => f r + ext (fun r => -f r) (r.val + w)) i.val = lead w f i.val := by
  have e : ∀ n, ext (fun r : Fin 4096 => f r + ext (fun r => -f r) (r.val + w)) (i.val + n)
      = ext f (i.val + n) + -ext f (i.val + (n + w)) := fun n => by
    by_cases c : i.val + n < 4096
    · refine (dif_pos c).trans ?_
      rw [show ext f (i.val + n) = f ⟨i.val + n, c⟩ from dif_pos c]
      refine congrArg (f _ + ·) ?_
      show ext (fun r => -f r) (i.val + n + w) = _
      rw [Nat.add_assoc]
      by_cases c' : i.val + (n + w) < 4096
      · exact (dif_pos c').trans (congrArg (fun x : EReal => -x) (show f ⟨i.val + (n + w), c'⟩ = ext f (i.val + (n + w)) by unfold ext; rw [dif_pos c']))
      · exact (dif_neg c').trans (by rw [show ext f (i.val + (n + w)) = 0 from dif_neg c', neg_zero])
    · rw [show ext f (i.val + n) = 0 from dif_neg c, show ext f (i.val + (n + w)) = 0 from dif_neg (by omega)]
      exact (dif_neg c).trans (by simp)
  unfold lead
  rw [Finset.sum_congr rfl fun n _ => e n, Finset.sum_add_distrib]
  refine Eq.trans ?_ (sum_sub_shift (fun d => ext f (i.val + d)) (fun n => ext_real h _) 4096 w (fun n hn => dif_neg (by omega)) hw)
  rw [sub_eq_add_neg]
  refine congrArg _ ?_
  choose r hr using fun n => ext_real h (f := f) n
  simp only [hr, ← coe_sum, ← EReal.coe_neg, Finset.sum_neg_distrib]

/-- The number of entries a window of `w` has at row `i`. -/
def cnt (w : ℕ) (i : ℕ) : EReal := (((min (i + 1) w : ℕ) : ℝ) : EReal)

theorem toInt_word {n : ℕ} (h : n < 2 ^ 31) : (BitVec.ofNat 32 n).toInt = n := by
  rw [BitVec.toInt_eq_toNat_of_lt] <;> rw [BitVec.toNat_ofNat, Nat.mod_eq_of_lt (by omega)]
  omega

theorem toInt_min (a b : BitVec 32) : (IntOp.minsi a b).toInt = min a.toInt b.toInt := by
  unfold IntOp.minsi
  by_cases h : a.slt b
  · rw [if_pos h, min_eq_left (BitVec.slt_iff_toInt_lt.1 h).le]
  · rw [if_neg h, min_eq_right (not_lt.1 fun e => h (BitVec.slt_iff_toInt_lt.2 e))]

theorem cnt_word (w : ℕ) (hw : w < 2 ^ 31) (i : ℕ) (hi : i < 4096) :
    (((IntOp.minsi (IntOp.addi (BitVec.ofNat 32 i) 1#32) (BitVec.ofNat 32 w)).toInt : ℝ) : EReal) = cnt w i := by
  have e : IntOp.addi (BitVec.ofNat 32 i) 1#32 = BitVec.ofNat 32 (i + 1) := (BitVec.ofNat_add i 1).symm
  rw [e, toInt_min, toInt_word (by omega), toInt_word hw]
  unfold cnt
  norm_cast

theorem cnt_min (w : ℕ) (i : ℕ) (hi : i < 4096) :
    min (((IntOp.addi 1#32 (BitVec.ofNat 32 i)).toInt : ℝ) : EReal) ((w : ℝ) : EReal) = cnt w i := by
  have e : IntOp.addi 1#32 (BitVec.ofNat 32 i) = BitVec.ofNat 32 (i + 1) := (BitVec.ofNat_add 1 i).symm.trans (by rw [Nat.add_comm])
  rw [e, toInt_word (by omega)]
  unfold cnt
  push_cast
  rcases le_total ((i : ℝ) + 1) w with h | h
  · rw [min_eq_left h]; exact min_eq_left (EReal.coe_le_coe_iff.2 h)
  · rw [min_eq_right h]; exact min_eq_right (EReal.coe_le_coe_iff.2 h)

theorem div_real {x : EReal} (h : IsReal x) (w i : ℕ) (hw : 0 < w) : IsReal (Ideal.div x (cnt w i)) := by
  unfold cnt
  rw [Ideal.div_coe (by have : 0 < min (i + 1) w := by omega
                        exact_mod_cast this.ne')]
  exact h.mul (.coe _)

end Cert.Window
-- ==== Proof.WindowRows.lean ====
module
public import proofs.«01_k».proof.Proof.Window
@[expose] public section
/-! The kernel's doubling of a windowed sum over the rows of a block, as values. -/
set_option maxRecDepth 200000
noncomputable section
open Idealize.ShloMosaic Idealize.ShloMosaic.TcCoe Idealize.SL.Sem
namespace Cert.Window
open Cert.Shift Cert.Norm

theorem cat_dn : Shape.Concatenates [SE, SI] SB 0 := by decide +kernel
theorem cat_up : Shape.Concatenates [SI, SE] SB 0 := by decide +kernel

/-- Rows moved down by `k < 8`. -/
def dnV (k : BitVec 32) (x : FVec Ideal SB .f32) : FVec Ideal SB .f32 :=
  concatenate SB 0 [⟨SE, select (cmpi .sge (iota .tc SE 32 [0] (by decide)) (broadcast SE k))
      (extractStridedSlice SE ![0, 0] (dynamicRotate 0 k none x (by decide)) (by decide))
      (broadcast SE (Scalar.ofBits (F := Ideal) .f32 0x00000000#32))⟩,
    ⟨SI, extractStridedSlice SI ![8, 0] (dynamicRotate 0 k none x (by decide)) (by decide)⟩] cat_dn

/-- Rows moved up by `8 - m = 4096 - r` places. -/
def upV (r m : BitVec 32) (x : FVec Ideal SB .f32) : FVec Ideal SB .f32 :=
  concatenate SB 0 [⟨SI, extractStridedSlice SI ![0, 0] (dynamicRotate 0 r none x (by decide)) (by decide)⟩,
    ⟨SE, select (cmpi .slt (iota .tc SE 32 [0] (by decide)) (broadcast SE m))
      (extractStridedSlice SE ![4088, 0] (dynamicRotate 0 r none x (by decide)) (by decide))
      (broadcast SE (Scalar.ofBits (F := Ideal) .f32 0x00000000#32))⟩] cat_up

/-- Rows moved down by 8. -/
def dn8V (x : FVec Ideal SB .f32) : FVec Ideal SB .f32 :=
  select (cmpi .sge (iota .tc SB 32 [0] (by decide)) (broadcast SB 8#32)) (dynamicRotate 0 8#32 none x (by decide))
    (broadcast SB (Scalar.ofBits (F := Ideal) .f32 0x00000000#32))

/-- Rows moved up by 8. -/
def up8V (x : FVec Ideal SB .f32) : FVec Ideal SB .f32 :=
  select (cmpi .slt (iota .tc SB 32 [0] (by decide)) (broadcast SB 4088#32)) (dynamicRotate 0 4088#32 none x (by decide))
    (broadcast SB (Scalar.ofBits (F := Ideal) .f32 0x00000000#32))

theorem sel_sge (n k : ℕ) (hn : n < 2 ^ 31) (hk : k < 2 ^ 31) (a b : EReal) :
    Scalar.select (IntOp.cmpi .sge (BitVec.ofNat 32 k) (BitVec.ofNat 32 n)) a b = if n ≤ k then a else b := by
  have : IntOp.cmpi .sge (BitVec.ofNat 32 k) (BitVec.ofNat 32 n) = BitVec.ofBool (decide (n ≤ k)) := by
    show BitVec.ofBool (BitVec.sle _ _) = _
    congr 1
    rw [BitVec.sle_eq_decide, toInt_word hn, toInt_word hk]; simp
  rw [this]; by_cases h : n ≤ k <;> simp [h, Scalar.select]

theorem sel_slt (n k : ℕ) (hn : n < 2 ^ 31) (hk : k < 2 ^ 31) (a b : EReal) :
    Scalar.select (IntOp.cmpi .slt (BitVec.ofNat 32 k) (BitVec.ofNat 32 n)) a b = if k < n then a else b := by
  have : IntOp.cmpi .slt (BitVec.ofNat 32 k) (BitVec.ofNat 32 n) = BitVec.ofBool (decide (k < n)) := by
    show BitVec.ofBool (BitVec.slt _ _) = _
    congr 1
    rw [BitVec.slt_eq_decide, toInt_word hn, toInt_word hk]; simp
  rw [this]; by_cases h : k < n <;> simp [h, Scalar.select]

theorem dn4V_apply (x : FVec Ideal SB .f32) (i : Fin 4096) (j : Fin 128) : dnV 4#32 x (ix2 i j) = dn (col x j) 4 i.val := by
  unfold dnV
  pointwise
  by_cases h : (i : ℕ) < 8
  · refine (dif_pos h).trans ((sel_sge 4 _ (by decide) (by omega) _ _).trans ?_)
    by_cases h' : 4 ≤ (i : ℕ)
    · exact (if_pos h').trans (dn_of x _ _ j _ _ h' (by omega))
    · exact (if_neg h').trans (dn_zero (col x j) _ _ h')
  · exact (dif_neg h).trans (dn_of x _ _ j _ _ (by omega) (by omega))

theorem up4V_apply (x : FVec Ideal SB .f32) (i : Fin 4096) (j : Fin 128) : upV 4092#32 4#32 x (ix2 i j) = ext (col x j) (i.val + 4) := by
  unfold upV
  pointwise
  by_cases h : (i : ℕ) < 4088
  · exact (dif_pos h).trans (ext_of x _ _ j _ (by omega))
  · refine (dif_neg h).trans ((sel_slt 4 _ (by decide) (by omega) _ _).trans ?_)
    by_cases h' : (i : ℕ) - 4088 < 4
    · exact (if_pos h').trans (ext_of x _ _ j _ (by omega))
    · exact (if_neg h').trans (ext_zero (col x j) _ (by omega))

theorem dn8V_apply (x : FVec Ideal SB .f32) (i : Fin 4096) (j : Fin 128) : dn8V x (ix2 i j) = dn (col x j) 8 i.val := by
  unfold dn8V
  pointwise
  refine (sel_sge 8 _ (by decide) (by omega) _ _).trans ?_
  by_cases h' : 8 ≤ (i : ℕ)
  · exact (if_pos h').trans (dn_of x _ _ j _ _ h' (by omega))
  · exact (if_neg h').trans (dn_zero (col x j) _ _ h')

theorem up8V_apply (x : FVec Ideal SB .f32) (i : Fin 4096) (j : Fin 128) : up8V x (ix2 i j) = ext (col x j) (i.val + 8) := by
  unfold up8V
  pointwise
  refine (sel_slt 4088 _ (by decide) (by omega) _ _).trans ?_
  by_cases h' : (i : ℕ) < 4088
  · exact (if_pos h').trans (ext_of x _ _ j _ (by omega))
  · exact (if_neg h').trans (ext_zero (col x j) _ (by omega))

/-- The trailing windows of 2, 4, 8 and 16 rows. -/
def tr2 (x : FVec Ideal SB .f32) : FVec Ideal SB .f32 := addf x (dnV 1#32 x)
def tr4 (x : FVec Ideal SB .f32) : FVec Ideal SB .f32 := addf (tr2 x) (dnV 2#32 (tr2 x))
def tr8 (x : FVec Ideal SB .f32) : FVec Ideal SB .f32 := addf (tr4 x) (dnV 4#32 (tr4 x))
def tr16 (x : FVec Ideal SB .f32) : FVec Ideal SB .f32 := addf (tr8 x) (dn8V (tr8 x))
/-- The leading windows. -/
def le2 (x : FVec Ideal SB .f32) : FVec Ideal SB .f32 := addf x (upV 4095#32 7#32 x)
def le4 (x : FVec Ideal SB .f32) : FVec Ideal SB .f32 := addf (le2 x) (upV 4094#32 6#32 (le2 x))
def le8 (x : FVec Ideal SB .f32) : FVec Ideal SB .f32 := addf (le4 x) (upV 4092#32 4#32 (le4 x))
def le16 (x : FVec Ideal SB .f32) : FVec Ideal SB .f32 := addf (le8 x) (up8V (le8 x))

theorem trail_one (f : Fin 4096 → EReal) (i : Fin 4096) : f i = trail 1 f i.val := by
  unfold trail; rw [Finset.sum_range_one]; exact (ext_val f i).symm
theorem lead_one (f : Fin 4096 → EReal) (i : Fin 4096) : f i = lead 1 f i.val := by
  unfold lead; rw [Finset.sum_range_one]; exact (ext_val f i).symm

theorem col_one_trail (x : FVec Ideal SB .f32) (j : Fin 128) : col x j = fun r : Fin 4096 => trail 1 (col x j) r.val :=
  funext fun r => trail_one (col x j) r
theorem col_one_lead (x : FVec Ideal SB .f32) (j : Fin 128) : col x j = fun r : Fin 4096 => lead 1 (col x j) r.val :=
  funext fun r => lead_one (col x j) r

theorem tr2_apply (x : FVec Ideal SB .f32) (i : Fin 4096) (j : Fin 128) : tr2 x (ix2 i j) = trail 2 (col x j) i.val := by
  refine (congrArg₂ (fun a b : EReal => a + b) (trail_one (col x j) i)
    ((dn1 x _ _ _ _ cat_dn i j).trans (congrArg (fun f => dn f 1 i.val) (col_one_trail x j)))).trans (trail_double 1 (col x j) i)
theorem tr4_apply (x : FVec Ideal SB .f32) (i : Fin 4096) (j : Fin 128) : tr4 x (ix2 i j) = trail 4 (col x j) i.val := by
  refine (congrArg₂ (fun a b : EReal => a + b) (tr2_apply x i j)
    ((dn2 (tr2 x) _ _ _ _ cat_dn i j).trans (congrArg (fun f => dn f 2 i.val) (funext fun r => tr2_apply x r j)))).trans (trail_double 2 (col x j) i)
theorem tr8_apply (x : FVec Ideal SB .f32) (i : Fin 4096) (j : Fin 128) : tr8 x (ix2 i j) = trail 8 (col x j) i.val := by
  refine (congrArg₂ (fun a b : EReal => a + b) (tr4_apply x i j)
    ((dn4V_apply (tr4 x) i j).trans (congrArg (fun f => dn f 4 i.val) (funext fun r => tr4_apply x r j)))).trans (trail_double 4 (col x j) i)
theorem tr16_apply (x : FVec Ideal SB .f32) (i : Fin 4096) (j : Fin 128) : tr16 x (ix2 i j) = trail 16 (col x j) i.val := by
  refine (congrArg₂ (fun a b : EReal => a + b) (tr8_apply x i j)
    ((dn8V_apply (tr8 x) i j).trans (congrArg (fun f => dn f 8 i.val) (funext fun r => tr8_apply x r j)))).trans (trail_double 8 (col x j) i)

theorem le2_apply (x : FVec Ideal SB .f32) (i : Fin 4096) (j : Fin 128) : le2 x (ix2 i j) = lead 2 (col x j) i.val := by
  refine (congrArg₂ (fun a b : EReal => a + b) (lead_one (col x j) i)
    ((up1 x _ _ _ _ cat_up i j).trans (congrArg (fun f => ext f (i.val + 1)) (col_one_lead x j)))).trans (lead_double 1 (col x j) i)
theorem le4_apply (x : FVec Ideal SB .f32) (i : Fin 4096) (j : Fin 128) : le4 x (ix2 i j) = lead 4 (col x j) i.val := by
  refine (congrArg₂ (fun a b : EReal => a + b) (le2_apply x i j)
    ((up2 (le2 x) _ _ _ _ cat_up i j).trans (congrArg (fun f => ext f (i.val + 2)) (funext fun r => le2_apply x r j)))).trans (lead_double 2 (col x j) i)
theorem le8_apply (x : FVec Ideal SB .f32) (i : Fin 4096) (j : Fin 128) : le8 x (ix2 i j) = lead 8 (col x j) i.val := by
  refine (congrArg₂ (fun a b : EReal => a + b) (le4_apply x i j)
    ((up4V_apply (le4 x) i j).trans (congrArg (fun f => ext f (i.val + 4)) (funext fun r => le4_apply x r j)))).trans (lead_double 4 (col x j) i)
theorem le16_apply (x : FVec Ideal SB .f32) (i : Fin 4096) (j : Fin 128) : le16 x (ix2 i j) = lead 16 (col x j) i.val := by
  refine (congrArg₂ (fun a b : EReal => a + b) (le8_apply x i j)
    ((up8V_apply (le8 x) i j).trans (congrArg (fun f => ext f (i.val + 8)) (funext fun r => le8_apply x r j)))).trans (lead_double 8 (col x j) i)

end Cert.Window
-- ==== Proof.PoolKernel.lean ====
module
public import proofs.«01_k».proof.Proof.Gen.PoolIdeal.Value
public import proofs.«01_k».proof.Proof.WindowRows
@[expose] public section
/-! What one grid point of the pool's gradient leaves, by the width of its window. -/
set_option maxRecDepth 200000
noncomputable section
open Idealize.ShloMosaic Idealize.ShloMosaic.TcCoe Idealize.SL.Sem
namespace Cert.PoolIdeal.Value2
open Cert.PoolIdeal Cert.PoolIdeal.Gen Cert.Shift Cert.Norm Cert.Window

/-- The windowed mean less the entry itself. -/
def pooled (w : ℕ) (f : Fin 4096 → EReal) (i : Fin 4096) : EReal := Ideal.div (trail w f i.val) (cnt w i.val) - f i
/-- Its transpose. -/
def spread (w : ℕ) (d : Fin 4096 → EReal) (i : Fin 4096) : EReal := lead w (fun r => Ideal.div (d r) (cnt w r.val)) i.val - d i

theorem pay6_apply (i : Fin 4096) (j : Fin 128) : k0_pay6 (F := Ideal) (ix2 i j) = cnt 2 i.val := by
  refine Eq.trans ?_ (cnt_word 2 (by decide) i.val i.isLt)
  pointwise [k0_pay6]; rfl
theorem pay11_apply (i : Fin 4096) (j : Fin 128) : k0_pay11 (F := Ideal) (ix2 i j) = cnt 4 i.val := by
  refine Eq.trans ?_ (cnt_word 4 (by decide) i.val i.isLt)
  pointwise [k0_pay11]; rfl
theorem pay16_apply (i : Fin 4096) (j : Fin 128) : k0_pay16 (F := Ideal) (ix2 i j) = cnt 8 i.val := by
  refine Eq.trans ?_ (cnt_word 8 (by decide) i.val i.isLt)
  pointwise [k0_pay16]; rfl
theorem pay24_apply (i : Fin 4096) (j : Fin 128) : k0_pay24 (F := Ideal) (ix2 i j) = cnt 16 i.val := by
  refine Eq.trans ?_ (cnt_word 16 (by decide) i.val i.isLt)
  pointwise [k0_pay24]; rfl

section
variable (z dy : FVec Ideal S4096x128 .f32) (sc : FVec Ideal S1x128 .f32) (wt : FVec Ideal S1x128x128 .f32)

theorem pay7_apply (i : Fin 4096) (j : Fin 128) : k0_pay7 (F := Ideal) z (ix2 i j) = pooled 2 (col z j) i :=
  congrArg₂ (fun a b : EReal => Ideal.div a b - z (ix2 i j)) (tr2_apply z i j) (pay6_apply i j)
theorem pay12_apply (i : Fin 4096) (j : Fin 128) : k0_pay12 (F := Ideal) z (ix2 i j) = pooled 4 (col z j) i :=
  congrArg₂ (fun a b : EReal => Ideal.div a b - z (ix2 i j)) (tr4_apply z i j) (pay11_apply i j)
theorem pay17_apply (i : Fin 4096) (j : Fin 128) : k0_pay17 (F := Ideal) z (ix2 i j) = pooled 8 (col z j) i :=
  congrArg₂ (fun a b : EReal => Ideal.div a b - z (ix2 i j)) (tr8_apply z i j) (pay16_apply i j)
theorem pay25_apply (i : Fin 4096) (j : Fin 128) : k0_pay25 (F := Ideal) z (ix2 i j) = pooled 16 (col z j) i :=
  congrArg₂ (fun a b : EReal => Ideal.div a b - z (ix2 i j)) (tr16_apply z i j) (pay24_apply i j)

theorem pay26_apply (p : FVec Ideal S4096x128 .f32) (j : Fin 128) :
    k0_pay26 (F := Ideal) dy p wt (ix2 0 j) = ∑ i : Fin 4096, dy (ix2 i j) * ∑ k : Fin 128, p (ix2 i k) * wt (ix3 0 k j) := by
  pointwise [k0_pay26]
theorem pay28_apply (p : FVec Ideal S4096x128 .f32) (a b : Fin 128) :
    k0_pay28 (F := Ideal) dy p sc (ix3 0 a b) = ∑ i : Fin 4096, p (ix2 i a) * (dy (ix2 i b) * sc (ix2 0 b)) := by
  pointwise [k0_pay28, k0_pay27]
theorem pay29_apply (i : Fin 4096) (j : Fin 128) :
    k0_pay29 (F := Ideal) dy sc wt (ix2 i j) = ∑ k : Fin 128, dy (ix2 i k) * sc (ix2 0 k) * wt (ix3 0 j k) := by
  pointwise [k0_pay29, k0_pay27]

theorem dsc2 : k0_pay8 (F := Ideal) z dy wt = k0_pay26 dy (k0_pay7 z) wt := rfl
theorem dsc4 : k0_pay13 (F := Ideal) z dy wt = k0_pay26 dy (k0_pay12 z) wt := rfl
theorem dsc8 : k0_pay19 (F := Ideal) (k0_pay18 z dy wt) = k0_pay26 dy (k0_pay17 z) wt := rfl
theorem dw2 : k0_pay10 (F := Ideal) z dy sc = k0_pay28 dy (k0_pay7 z) sc := rfl
theorem dw4 : k0_pay2 (F := Ideal) (k0_pay14 dy sc) (k0_pay15 z) = k0_pay28 dy (k0_pay12 z) sc := rfl
theorem dw8 : k0_pay21 (F := Ideal) dy (k0_pay17 z) sc = k0_pay28 dy (k0_pay17 z) sc := rfl

/-- The window of a quotient by a count, less the entry. -/
theorem spread_of (w : ℕ) (d q : FVec Ideal S4096x128 .f32) (n : FVec Ideal S4096x128 .f32) (hn : ∀ i j, n (ix2 i j) = cnt w i.val)
    (i : Fin 4096) (j : Fin 128) (hq : q (ix2 i j) = lead w (col (divf d n) j) i.val) :
    (q (ix2 i j) - d (ix2 i j) : EReal) = spread w (fun r => d (ix2 r j)) i := by
  unfold spread
  rw [hq]
  congr 2
  funext r
  show Ideal.div (d (ix2 r j)) (n (ix2 r j)) = _
  rw [hn]

theorem dz2 (i : Fin 4096) (j : Fin 128) :
    k0_pay1 (F := Ideal) (k0_pay6 (F := Ideal)) (k0_pay9 dy sc) wt (ix2 i j) = spread 2 (fun r => k0_pay29 (F := Ideal) dy sc wt (ix2 r j)) i :=
  spread_of 2 (k0_pay29 dy sc wt) (le2 (divf (k0_pay29 dy sc wt) (k0_pay6 (F := Ideal)))) _ pay6_apply i j (le2_apply _ i j)
theorem dz4 (i : Fin 4096) (j : Fin 128) :
    k0_pay3 (F := Ideal) (k0_pay11 (F := Ideal)) (k0_pay14 dy sc) wt (ix2 i j) = spread 4 (fun r => k0_pay29 (F := Ideal) dy sc wt (ix2 r j)) i :=
  spread_of 4 (k0_pay29 dy sc wt) (le4 (divf (k0_pay29 dy sc wt) (k0_pay11 (F := Ideal)))) _ pay11_apply i j (le4_apply _ i j)
theorem dz8 (i : Fin 4096) (j : Fin 128) :
    k0_pay4 (F := Ideal) (k0_pay22 dy sc wt) (k0_pay23 dy (k0_pay16 (F := Ideal)) sc wt) 4092#32 (ix2 i j)
      = spread 8 (fun r => k0_pay29 (F := Ideal) dy sc wt (ix2 r j)) i :=
  spread_of 8 (k0_pay29 dy sc wt) (le8 (divf (k0_pay29 dy sc wt) (k0_pay16 (F := Ideal)))) _ pay16_apply i j (le8_apply _ i j)
theorem dz16 (i : Fin 4096) (j : Fin 128) (v : IVec S8x128 32) (hv : v = iota .tc S8x128 32 [0] iota_S8x128_d0_w32) :
    k0_pay5 (F := Ideal) (k0_pay29 dy sc wt) (k0_pay30 dy (k0_pay24 (F := Ideal)) sc wt) (k0_pay31 dy (k0_pay24 (F := Ideal)) sc wt) v
        (k0_pay32 dy (k0_pay24 (F := Ideal)) sc wt) (ix2 i j)
      = spread 16 (fun r => k0_pay29 (F := Ideal) dy sc wt (ix2 r j)) i := by
  subst hv
  exact spread_of 16 (k0_pay29 dy sc wt) (le16 (divf (k0_pay29 dy sc wt) (k0_pay24 (F := Ideal)))) _ pay24_apply i j (le16_apply _ i j)
end

variable (m : (ℓ : Loc nD τ sig) → Buf (Elt Ideal) ℓ) (c : Dev nD)

abbrev a0 : FVec Ideal S4096x1536 .f32 := m ((c : Thread nD τ).loc main_arg0)
abbrev a1 : FVec Ideal S4096x1024 .f32 := m ((c : Thread nD τ).loc main_arg1)
abbrev a2 : FVec Ideal S4x128x128 .f32 := m ((c : Thread nD τ).loc main_arg2)
abbrev a3 : FVec Ideal S512 .f32 := m ((c : Thread nD τ).loc main_arg3)

theorem idx : ∀ t : Fin cfg0.N, win0_0.index t = ![0, t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val] :=
  (by decide +kernel : ∀ t : Fin grid0.N, _)

/-- Column `j` of group `t`, in an array of `n` columns. -/
def cc (n : ℕ) (hn : 512 ≤ n) (t : Fin 4) (j : Fin 128) : Fin n := ⟨t.val * 128 + j.val, by omega⟩

theorem blk0 (t : Fin cfg0.N) (i : Fin 4096) (j : Fin 128) : (iblk m c 0 t (ix2 i j) : EReal) = a0 m c (ix2 i (cc 1536 (by decide) t j)) := by
  blk_point [iblk, V, idx t, cc]
theorem blk1 (t : Fin cfg0.N) (i : Fin 4096) (j : Fin 128) : (iblk m c 1 t (ix2 i j) : EReal) = a1 m c (ix2 i (cc 1024 (by decide) t j)) := by
  blk_point [iblk, V, idx t, cc]
theorem blk2 (t : Fin cfg0.N) (a b : Fin 128) : (iblk m c 2 t (ix3 0 a b) : EReal) = a2 m c (ix3 t a b) := by
  blk_point [iblk, V, idx t]
theorem blk3 (t : Fin cfg0.N) (j : Fin 128) : (iblk m c 3 t (ix2 0 j) : EReal) = a3 m c (ix1 (cc 512 (by decide) t j)) := by
  blk_point [iblk, V, idx t, cc]

/-- The width of group `t`'s window. -/
def width (t : Fin 4) : ℕ := ![2, 4, 8, 16] t

end Cert.PoolIdeal.Value2
-- ==== Proof.RunSum.lean ====
module
public import proofs.«01_k».proof.Proof.Window
@[expose] public section
/-! A running sum over the rows of an array, from the top and from the bottom, as windowed sums. -/
set_option maxRecDepth 200000
noncomputable section
open Idealize.ShloMosaic Idealize.ShloMosaic.TcCoe Idealize.SL.Sem
namespace Cert.Window
open Cert.Shift Cert.Norm

abbrev SG : Shape := ⟨3, ![4096, 4, 128]⟩
abbrev SW : Shape := ⟨3, ![4096, 1, 1]⟩
abbrev S0 : Shape := ⟨0, ![]⟩

theorem foldl_add {α : Type} (l : List α) (F : α → EReal) (a : EReal) : l.foldl (fun r n => r + F n) a = a + (l.map F).sum := by
  induction l generalizing a with
  | nil => simp
  | cons x l ih => rw [List.foldl_cons, ih, List.map_cons, List.sum_cons, add_assoc]

/-- The positions of a window of 4096 rows. -/
def rows : Fin 4096 ≃ SW.Idx where
  toFun n := ix3 n 0 0
  invFun q := q 0
  left_inv _ := rfl
  right_inv q := by
    idx_vars q
    have h1 : q1 = 0 := by ext; omega
    have h2 : q2 = 0 := by ext; omega
    subst h1 h2; rfl

theorem sum_rows (F : SW.Idx → EReal) : ∑ q, F q = ∑ n : Fin 4096, F (ix3 n 0 0) := (Equiv.sum_comp rows F).symm

/-- A window's sum as a sum over its positions. -/
theorem window_sum {s t u : Shape} (window strides lo hi : Fin s.rank → ℕ) (x : FVec Ideal s .f32) (z : FVec Ideal u .f32)
    (h : s.ReduceWindows window strides lo hi t) (hu : 0 < u.numel) (hz : ∀ i, z i = (0 : EReal)) (j : t.Idx) :
    Host.reduceWindowAdd window strides lo hi x z h hu j
      = ∑ q : (⟨s.rank, window⟩ : Shape).Idx,
          (if hin : ∀ a, lo a ≤ (j (a.cast h.1.symm)).val * strides a + (q a).val
              ∧ (j (a.cast h.1.symm)).val * strides a + (q a).val - lo a < s.size a
            then (x (fun a => ⟨(j (a.cast h.1.symm)).val * strides a + (q a).val - lo a, (hin a).2⟩) : EReal) else 0) := by
  let F : (⟨s.rank, window⟩ : Shape).Idx → EReal := fun q =>
    if hin : ∀ a, lo a ≤ (j (a.cast h.1.symm)).val * strides a + (q a).val
        ∧ (j (a.cast h.1.symm)).val * strides a + (q a).val - lo a < s.size a
      then (x (fun a => ⟨(j (a.cast h.1.symm)).val * strides a + (q a).val - lo a, (hin a).2⟩) : EReal) else z (Shape.Idx.first hu)
  have e : Host.reduceWindowAdd window strides lo hi x z h hu j
      = (List.finRange (⟨s.rank, window⟩ : Shape).numel).foldl (fun r n => r + F ((⟨s.rank, window⟩ : Shape).rowMajor.symm n)) (z (Shape.Idx.first hu)) := by
    show Ideal.hostReduceWindowAdd window strides lo hi h x (z (Shape.Idx.first hu)) j = _
    unfold Ideal.hostReduceWindowAdd Host.reduceWindow
    dsimp only
    congr 1
    funext r n
    refine congrArg (fun v => r + v) ?_
    show _ = dite _ _ _
    split <;> rfl
  rw [e, foldl_add (List.finRange (⟨s.rank, window⟩ : Shape).numel) (fun n => F ((⟨s.rank, window⟩ : Shape).rowMajor.symm n)), hz, zero_add,
    ← List.ofFn_eq_map, List.sum_ofFn, Equiv.sum_comp (⟨s.rank, window⟩ : Shape).rowMajor.symm F]
  refine Finset.sum_congr rfl fun q _ => ?_
  show (if hin : _ then _ else z (Shape.Idx.first hu)) = _
  rw [hz]

/-- Column `(g, j)` of a grouped array. -/
def gcol (x : FVec Ideal SG .f32) (g : Fin 4) (j : Fin 128) : Fin 4096 → EReal := fun r => x (ix3 r g j)

theorem cumsum_apply (x : FVec Ideal SG .f32) (z : FVec Ideal S0 .f32) (hz : ∀ i, z i = (0 : EReal)) (h : SG.ReduceWindows ![4096, 1, 1] ![1, 1, 1] ![4095, 0, 0] ![0, 0, 0] SG)
    (hu : 0 < S0.numel) (i : Fin 4096) (g : Fin 4) (j : Fin 128) :
    Host.reduceWindowAdd ![4096, 1, 1] ![1, 1, 1] ![4095, 0, 0] ![0, 0, 0] x z h hu (ix3 i g j) = trail 4096 (gcol x g j) i.val := by
  refine (window_sum _ _ _ _ x z h hu hz (ix3 i g j)).trans ((sum_rows _).trans ?_)
  unfold trail
  rw [Finset.sum_range, ← Equiv.sum_comp Fin.revPerm]
  refine Finset.sum_congr rfl fun n _ => ?_
  have hn : (Fin.revPerm n).val = 4095 - n.val := by rw [Fin.revPerm_apply, Fin.val_rev]; omega
  by_cases e : n.val ≤ i.val
  · rw [dif_pos (by
      intro a
      match a with
      | ⟨0, _⟩ => exact ⟨show 4095 ≤ i.val * 1 + (Fin.revPerm n).val by omega, show i.val * 1 + (Fin.revPerm n).val - 4095 < 4096 by omega⟩
      | ⟨1, _⟩ => exact ⟨Nat.zero_le _, show g.val * 1 + 0 - 0 < 4 by omega⟩
      | ⟨2, _⟩ => exact ⟨Nat.zero_le _, show j.val * 1 + 0 - 0 < 128 by omega⟩)]
    unfold dn ext
    rw [if_pos e, dif_pos (show i.val - n.val < 4096 by omega)]
    refine congrArg x (funext fun a => Fin.ext ?_)
    match a with
    | ⟨0, _⟩ => show i.val * 1 + (Fin.revPerm n).val - 4095 = i.val - n.val; omega
    | ⟨1, _⟩ => show g.val * 1 + 0 - 0 = g.val; omega
    | ⟨2, _⟩ => show j.val * 1 + 0 - 0 = j.val; omega
  · rw [dif_neg (fun h => by
      have : 4095 ≤ i.val * 1 + (Fin.revPerm n).val := (h 0).1
      omega)]
    exact dn_zero _ _ _ e

theorem rev_cumsum_apply (x : FVec Ideal SG .f32) (z : FVec Ideal S0 .f32) (hz : ∀ i, z i = (0 : EReal)) (h : SG.ReduceWindows ![4096, 1, 1] ![1, 1, 1] ![0, 0, 0] ![4095, 0, 0] SG)
    (hu : 0 < S0.numel) (i : Fin 4096) (g : Fin 4) (j : Fin 128) :
    Host.reduceWindowAdd ![4096, 1, 1] ![1, 1, 1] ![0, 0, 0] ![4095, 0, 0] x z h hu (ix3 i g j) = lead 4096 (gcol x g j) i.val := by
  refine (window_sum _ _ _ _ x z h hu hz (ix3 i g j)).trans ((sum_rows _).trans ?_)
  unfold lead
  rw [Finset.sum_range]
  refine Finset.sum_congr rfl fun n _ => ?_
  by_cases e : i.val + n.val < 4096
  · rw [dif_pos (by
      intro a
      match a with
      | ⟨0, _⟩ => exact ⟨Nat.zero_le _, show i.val * 1 + n.val - 0 < 4096 by omega⟩
      | ⟨1, _⟩ => exact ⟨Nat.zero_le _, show g.val * 1 + 0 - 0 < 4 by omega⟩
      | ⟨2, _⟩ => exact ⟨Nat.zero_le _, show j.val * 1 + 0 - 0 < 128 by omega⟩)]
    unfold ext
    rw [dif_pos e]
    refine congrArg x (funext fun a => Fin.ext ?_)
    match a with
    | ⟨0, _⟩ => show i.val * 1 + n.val - 0 = i.val + n.val; omega
    | ⟨1, _⟩ => show g.val * 1 + 0 - 0 = g.val; omega
    | ⟨2, _⟩ => show j.val * 1 + 0 - 0 = j.val; omega
  · rw [dif_neg (fun h => by
      have : i.val * 1 + n.val - 0 < 4096 := (h 0).2
      omega)]
    exact ext_zero _ _ e

end Cert.Window
-- ==== Proof.PoolRefVal.lean ====
module
public import proofs.«01_k».proof.Proof.Gen.PoolRefIdeal.Read
public import proofs.«01_k».proof.Proof.PoolKernel
public import proofs.«01_k».proof.Proof.RunSum
@[expose] public section
/-! The reference's gradient of the pool, read at one entry. -/
set_option maxRecDepth 200000
noncomputable section
open Idealize.ShloMosaic Idealize.ShloMosaic.TcCoe Idealize.SL.Sem
namespace Cert.PoolIdeal.Value2
open Cert.PoolIdeal Cert.Shift Cert.Norm Cert.Window
open Cert.PoolRefIdeal.Read

section
variable (x0 : FVec Ideal S4096x1536 .f32) (x1 : FVec Ideal S4096x1024 .f32) (x2 : FVec Ideal S4x128x128 .f32) (x3 : FVec Ideal S512 .f32)

/-- Column `c` of group `g` of the pooled half. -/
abbrev zc (g : Fin 4) (c : Fin 128) : Fin 4096 → EReal := fun r => x0 (ix2 r (cc 1536 (by decide) g c))

theorem v1 (i : Fin 4096) (g : Fin 4) (c : Fin 128) : val_main_v1 (F := Ideal) x0 (ix3 i g c) = zc x0 g c i := by
  pointwise [val_main_v1, val_main_v0]
  rfl

theorem v2 (i : Fin 4096) (g : Fin 4) (c : Fin 128) : val_main_v2 (F := Ideal) x0 (ix3 i g c) = trail 4096 (zc x0 g c) i.val := by
  unfold val_main_v2
  have z : ∀ i, val_main_call0_v0 (F := Ideal) i = (0 : EReal) := fun i => by pointwise [val_main_call0_v0, val_main_call0_cst]
  have e := cumsum_apply (val_main_v1 (F := Ideal) x0) (val_main_call0_v0 (F := Ideal)) z
    Cert.PoolRefIdeal.Gen.reduceWindows_S4096x4x128_S4096x4x128_w4096s1p4095_0_w1s1p0_0_w1s1p0_0 Cert.PoolRefIdeal.Gen.h_S_ i g c
  rw [e]
  exact congrArg (fun f => trail 4096 f i.val) (funext fun r => v1 x0 r g c)

theorem dn_split (x : FVec Ideal SB .f32) (w : ℕ) (i : Fin 4096) (c : Fin 128) (p : ¬ i.val < w → i.val - w < 4096) :
    (if h : i.val < w then (0 : EReal) else x (ix2 ⟨i.val - w, p h⟩ c)) = dn (col x c) w i.val := by
  by_cases h : i.val < w
  · rw [dif_pos h]; exact dn_zero _ _ _ (by omega)
  · rw [dif_neg h]; exact dn_of x _ _ c w _ (by omega) rfl

/-- A column less itself `w` rows above, over the rows' counts, less the entries. -/
theorem pooled_of (h0 : ∀ i, IsReal (x0 i)) (g : Fin 4) (c : Fin 128) (w : ℕ) (hw : w ≤ 4096) (i : Fin 4096) (s : FVec Ideal SB .f32)
    (hs : ∀ r, s (ix2 r c) = trail 4096 (zc x0 g c) r.val) :
    (Ideal.div (s (ix2 i c) - dn (col s c) w i.val) (cnt w i.val) - zc x0 g c i : EReal) = pooled w (zc x0 g c) i := by
  have e : col s c = fun r : Fin 4096 => trail 4096 (zc x0 g c) r.val := funext hs
  rw [hs, e, trail_sub (fun r => h0 _) w hw]; rfl

theorem lit_2 : Ideal.ofBits .f32 0x40000000#32 = ((2 : ℕ) : ℝ) := by
  simp [Ideal.ofBits, Ideal.ieee, -EReal.coe_mul]; norm_num
theorem v9 (i : Fin 4096) (c : Fin 128) : val_main_v9 (F := Ideal) x0 (ix2 i c) = trail 4096 (zc x0 0 c) i.val := by
  pointwise [val_main_v9, val_main_v8, v2]
theorem v13 (i : Fin 4096) (c : Fin 128) : val_main_v13 (F := Ideal) x0 (ix2 i c) = dn (col (val_main_v9 (F := Ideal) x0) c) 2 i.val := by
  pointwise [val_main_v13, val_main_v11, val_main_v10, val_main_cst]
  exact dn_split _ 2 i c _
theorem v16 (i : Fin 4096) : val_main_v16 (F := Ideal) (ix2 i 0) = cnt 2 i.val := by
  refine Eq.trans ?_ (cnt_min 2 i.val i.isLt)
  rw [← lit_2]
  pointwise [val_main_v16, val_main_v15, val_main_cst_1, val_main_v7, val_main_v6, val_main_v5, val_main_v4, val_main_v3, val_main_c]
  rfl
theorem v21 (h0 : ∀ i, IsReal (x0 i)) (i : Fin 4096) (c : Fin 128) : val_main_v21 (F := Ideal) x0 (ix2 i c) = pooled 2 (zc x0 0 c) i := by
  refine Eq.trans ?_ (pooled_of x0 h0 0 c 2 (by decide) i (val_main_v9 (F := Ideal) x0) (fun r => v9 x0 r c))
  pointwise [val_main_v21, val_main_v18, val_main_v14, v13, val_main_v17, v16, val_main_v20, val_main_v19, v1]
theorem lit_4 : Ideal.ofBits .f32 0x40800000#32 = ((4 : ℕ) : ℝ) := by
  simp [Ideal.ofBits, Ideal.ieee, -EReal.coe_mul]; norm_num
theorem v23 (i : Fin 4096) (c : Fin 128) : val_main_v23 (F := Ideal) x0 (ix2 i c) = trail 4096 (zc x0 1 c) i.val := by
  pointwise [val_main_v23, val_main_v22, v2]
theorem v27 (i : Fin 4096) (c : Fin 128) : val_main_v27 (F := Ideal) x0 (ix2 i c) = dn (col (val_main_v23 (F := Ideal) x0) c) 4 i.val := by
  pointwise [val_main_v27, val_main_v25, val_main_v24, val_main_cst_2]
  exact dn_split _ 4 i c _
theorem v30 (i : Fin 4096) : val_main_v30 (F := Ideal) (ix2 i 0) = cnt 4 i.val := by
  refine Eq.trans ?_ (cnt_min 4 i.val i.isLt)
  rw [← lit_4]
  pointwise [val_main_v30, val_main_v29, val_main_cst_4, val_main_v7, val_main_v6, val_main_v5, val_main_v4, val_main_v3, val_main_c]
  rfl
theorem v35 (h0 : ∀ i, IsReal (x0 i)) (i : Fin 4096) (c : Fin 128) : val_main_v35 (F := Ideal) x0 (ix2 i c) = pooled 4 (zc x0 1 c) i := by
  refine Eq.trans ?_ (pooled_of x0 h0 1 c 4 (by decide) i (val_main_v23 (F := Ideal) x0) (fun r => v23 x0 r c))
  pointwise [val_main_v35, val_main_v32, val_main_v28, v27, val_main_v31, v30, val_main_v34, val_main_v33, v1]
theorem lit_8 : Ideal.ofBits .f32 0x41000000#32 = ((8 : ℕ) : ℝ) := by
  simp [Ideal.ofBits, Ideal.ieee, -EReal.coe_mul]; norm_num
theorem v37 (i : Fin 4096) (c : Fin 128) : val_main_v37 (F := Ideal) x0 (ix2 i c) = trail 4096 (zc x0 2 c) i.val := by
  pointwise [val_main_v37, val_main_v36, v2]
theorem v41 (i : Fin 4096) (c : Fin 128) : val_main_v41 (F := Ideal) x0 (ix2 i c) = dn (col (val_main_v37 (F := Ideal) x0) c) 8 i.val := by
  pointwise [val_main_v41, val_main_v39, val_main_v38, val_main_cst_5]
  exact dn_split _ 8 i c _
theorem v44 (i : Fin 4096) : val_main_v44 (F := Ideal) (ix2 i 0) = cnt 8 i.val := by
  refine Eq.trans ?_ (cnt_min 8 i.val i.isLt)
  rw [← lit_8]
  pointwise [val_main_v44, val_main_v43, val_main_cst_7, val_main_v7, val_main_v6, val_main_v5, val_main_v4, val_main_v3, val_main_c]
  rfl
theorem v49 (h0 : ∀ i, IsReal (x0 i)) (i : Fin 4096) (c : Fin 128) : val_main_v49 (F := Ideal) x0 (ix2 i c) = pooled 8 (zc x0 2 c) i := by
  refine Eq.trans ?_ (pooled_of x0 h0 2 c 8 (by decide) i (val_main_v37 (F := Ideal) x0) (fun r => v37 x0 r c))
  pointwise [val_main_v49, val_main_v46, val_main_v42, v41, val_main_v45, v44, val_main_v48, val_main_v47, v1]
theorem lit_16 : Ideal.ofBits .f32 0x41800000#32 = ((16 : ℕ) : ℝ) := by
  simp [Ideal.ofBits, Ideal.ieee, -EReal.coe_mul]; norm_num
theorem v51 (i : Fin 4096) (c : Fin 128) : val_main_v51 (F := Ideal) x0 (ix2 i c) = trail 4096 (zc x0 3 c) i.val := by
  pointwise [val_main_v51, val_main_v50, v2]
theorem v55 (i : Fin 4096) (c : Fin 128) : val_main_v55 (F := Ideal) x0 (ix2 i c) = dn (col (val_main_v51 (F := Ideal) x0) c) 16 i.val := by
  pointwise [val_main_v55, val_main_v53, val_main_v52, val_main_cst_8]
  exact dn_split _ 16 i c _
theorem v58 (i : Fin 4096) : val_main_v58 (F := Ideal) (ix2 i 0) = cnt 16 i.val := by
  refine Eq.trans ?_ (cnt_min 16 i.val i.isLt)
  rw [← lit_16]
  pointwise [val_main_v58, val_main_v57, val_main_cst_10, val_main_v7, val_main_v6, val_main_v5, val_main_v4, val_main_v3, val_main_c]
  rfl
theorem v63 (h0 : ∀ i, IsReal (x0 i)) (i : Fin 4096) (c : Fin 128) : val_main_v63 (F := Ideal) x0 (ix2 i c) = pooled 16 (zc x0 3 c) i := by
  refine Eq.trans ?_ (pooled_of x0 h0 3 c 16 (by decide) i (val_main_v51 (F := Ideal) x0) (fun r => v51 x0 r c))
  pointwise [val_main_v63, val_main_v60, val_main_v56, v55, val_main_v59, v58, val_main_v62, val_main_v61, v1]
theorem v68 (h0 : ∀ i, IsReal (x0 i)) (i : Fin 4096) (g : Fin 4) (c : Fin 128) :
    val_main_v68 (F := Ideal) x0 (ix3 i g c) = pooled (width g) (zc x0 g c) i := by
  fin_vals g with hg <;> pointwise [val_main_v68, val_main_v67, val_main_v66, val_main_v65, val_main_v64, v21 x0 h0, v35 x0 h0, v49 x0 h0, v63 x0 h0]
  · obtain rfl : g = 0 := Fin.ext hg
    rfl
  · obtain rfl : g = 1 := Fin.ext hg
    rfl
  · obtain rfl : g = 2 := Fin.ext hg
    rfl
  · obtain rfl : g = 3 := Fin.ext hg
    rfl

/-- The cotangent of group `g` before the scale. -/
abbrev dyp (g : Fin 4) (c : Fin 128) (i : Fin 4096) : EReal := x1 (ix2 i (cc 1024 (by decide) g c)) * x3 (ix1 (cc 512 (by decide) g c))

theorem v83 (i : Fin 4096) (g : Fin 4) (c : Fin 128) : val_main_v83 (F := Ideal) x1 x3 (ix3 g c i) = dyp x1 x3 g c i := by
  pointwise [val_main_v83, val_main_v82, val_main_v80, val_main_v79, val_main_v75, val_main_v72]
  rfl

theorem v87 (h0 : ∀ i, IsReal (x0 i)) (g : Fin 4) (a b : Fin 128) :
    val_main_v87 (F := Ideal) x0 x1 x3 (ix3 g a b) = ∑ i : Fin 4096, pooled (width g) (zc x0 g a) i * dyp x1 x3 g b i := by
  pointwise [val_main_v87, val_main_v86, v83, v68 x0 h0]
  exact Finset.sum_congr rfl fun i _ => mul_comm _ _

/-- The cotangent of the pooled entry. -/
def dpool (g : Fin 4) (c : Fin 128) (i : Fin 4096) : EReal := ∑ k : Fin 128, dyp x1 x3 g k i * x2 (ix3 g c k)

theorem v85 (i : Fin 4096) (g : Fin 4) (c : Fin 128) : val_main_v85 (F := Ideal) x1 x2 x3 (ix3 i g c) = dpool x1 x2 x3 g c i := by
  unfold dpool
  pointwise [val_main_v85, val_main_v84, v83]

theorem v154 (h0 : ∀ i, IsReal (x0 i)) (g : Fin 4) (c : Fin 128) :
    val_main_v154 (F := Ideal) x0 x1 x2 (ix2 0 (cc 512 (by decide) g c))
      = ∑ i : Fin 4096, x1 (ix2 i (cc 1024 (by decide) g c)) * ∑ k : Fin 128, pooled (width g) (zc x0 g k) i * x2 (ix3 g k c) := by
  pointwise [val_main_v154, val_main_v81, val_main_v78, val_main_v77, val_main_v76, val_main_v75, val_main_v71, val_main_v70, val_main_v69, v68 x0 h0, cc, val_main_cst_11, val_main_cst_12]
  refine (Fin.sum_univ_one _).trans (Finset.sum_congr rfl fun i _ => (mul_comm _ _).trans (congrArg _ ?_))
  exact Finset.sum_congr rfl fun k _ => mul_comm _ _

theorem pad_up (x : FVec Ideal SB .f32) (w : ℕ) (i : Fin 4096) (c : Fin 128) (p : w + i.val < 4096 → w + i.val < 4096) :
    (if h : w + i.val < 4096 then x (ix2 ⟨w + i.val, p h⟩ c) else (0 : EReal)) = ext (fun r => x (ix2 r c)) (i.val + w) := by
  unfold ext
  rw [Nat.add_comm i.val w]

/-- The cotangent of the windowed sum. -/
def quot (g : Fin 4) (c : Fin 128) (r : Fin 4096) : EReal := Ideal.div (dpool x1 x2 x3 g c r) (cnt (width g) r.val)

theorem v95 (i : Fin 4096) (c : Fin 128) : val_main_v95 (F := Ideal) x1 x2 x3 (ix2 i c) = dpool x1 x2 x3 3 c i := by
  pointwise [val_main_v95, val_main_v94, v85]
theorem v100 (i : Fin 4096) (c : Fin 128) : val_main_v100 (F := Ideal) x1 x2 x3 (ix2 i c) = quot x1 x2 x3 3 c i := by
  pointwise [val_main_v100, v95, val_main_v99, v58]
  rfl
theorem v105 (i : Fin 4096) (c : Fin 128) :
    val_main_v105 (F := Ideal) x1 x2 x3 (ix2 i c) = quot x1 x2 x3 3 c i + ext (fun r => -quot x1 x2 x3 3 c r) (i.val + 16) := by
  have e : ∀ r : Fin 4096, val_main_v101 (F := Ideal) x1 x2 x3 (ix2 r c) = -quot x1 x2 x3 3 c r := fun r => by
    pointwise [val_main_v101, v100]
  rw [← funext e, ← pad_up (val_main_v101 (F := Ideal) x1 x2 x3) 16 i c id]
  pointwise [val_main_v105, v100, val_main_v104, val_main_v102, val_main_cst_14]
theorem v93 (i : Fin 4096) (c : Fin 128) : val_main_v93 (F := Ideal) x1 x2 x3 (ix2 i c) = dpool x1 x2 x3 2 c i := by
  pointwise [val_main_v93, val_main_v92, v85]
theorem v113 (i : Fin 4096) (c : Fin 128) : val_main_v113 (F := Ideal) x1 x2 x3 (ix2 i c) = quot x1 x2 x3 2 c i := by
  pointwise [val_main_v113, v93, val_main_v112, v44]
  rfl
theorem v118 (i : Fin 4096) (c : Fin 128) :
    val_main_v118 (F := Ideal) x1 x2 x3 (ix2 i c) = quot x1 x2 x3 2 c i + ext (fun r => -quot x1 x2 x3 2 c r) (i.val + 8) := by
  have e : ∀ r : Fin 4096, val_main_v114 (F := Ideal) x1 x2 x3 (ix2 r c) = -quot x1 x2 x3 2 c r := fun r => by
    pointwise [val_main_v114, v113]
  rw [← funext e, ← pad_up (val_main_v114 (F := Ideal) x1 x2 x3) 8 i c id]
  pointwise [val_main_v118, v113, val_main_v117, val_main_v115, val_main_cst_17]
theorem v91 (i : Fin 4096) (c : Fin 128) : val_main_v91 (F := Ideal) x1 x2 x3 (ix2 i c) = dpool x1 x2 x3 1 c i := by
  pointwise [val_main_v91, val_main_v90, v85]
theorem v127 (i : Fin 4096) (c : Fin 128) : val_main_v127 (F := Ideal) x1 x2 x3 (ix2 i c) = quot x1 x2 x3 1 c i := by
  pointwise [val_main_v127, v91, val_main_v126, v30]
  rfl
theorem v132 (i : Fin 4096) (c : Fin 128) :
    val_main_v132 (F := Ideal) x1 x2 x3 (ix2 i c) = quot x1 x2 x3 1 c i + ext (fun r => -quot x1 x2 x3 1 c r) (i.val + 4) := by
  have e : ∀ r : Fin 4096, val_main_v128 (F := Ideal) x1 x2 x3 (ix2 r c) = -quot x1 x2 x3 1 c r := fun r => by
    pointwise [val_main_v128, v127]
  rw [← funext e, ← pad_up (val_main_v128 (F := Ideal) x1 x2 x3) 4 i c id]
  pointwise [val_main_v132, v127, val_main_v131, val_main_v129, val_main_cst_20]
theorem v89 (i : Fin 4096) (c : Fin 128) : val_main_v89 (F := Ideal) x1 x2 x3 (ix2 i c) = dpool x1 x2 x3 0 c i := by
  pointwise [val_main_v89, val_main_v88, v85]
theorem v141 (i : Fin 4096) (c : Fin 128) : val_main_v141 (F := Ideal) x1 x2 x3 (ix2 i c) = quot x1 x2 x3 0 c i := by
  pointwise [val_main_v141, v89, val_main_v140, v16]
  rfl
theorem v146 (i : Fin 4096) (c : Fin 128) :
    val_main_v146 (F := Ideal) x1 x2 x3 (ix2 i c) = quot x1 x2 x3 0 c i + ext (fun r => -quot x1 x2 x3 0 c r) (i.val + 2) := by
  have e : ∀ r : Fin 4096, val_main_v142 (F := Ideal) x1 x2 x3 (ix2 r c) = -quot x1 x2 x3 0 c r := fun r => by
    pointwise [val_main_v142, v141]
  rw [← funext e, ← pad_up (val_main_v142 (F := Ideal) x1 x2 x3) 2 i c id]
  pointwise [val_main_v146, v141, val_main_v145, val_main_v143, val_main_cst_23]
/-- The sum of four padded groups is the group asked for. -/
theorem pick (g : Fin 4) (a : Fin 4 → EReal) :
    ((((if h : 3 ≤ g.val ∧ g.val - 3 < 1 then a 3 else 0) + if h : 2 ≤ g.val ∧ g.val - 2 < 1 then a 2 else 0)
      + if h : 1 ≤ g.val ∧ g.val - 1 < 1 then a 1 else 0) + if h : g.val < 1 then a 0 else 0) = a g := by
  fin_cases g <;> simp

theorem v149 (i : Fin 4096) (g : Fin 4) (c : Fin 128) :
    val_main_v149 (F := Ideal) x1 x2 x3 (ix3 i g c) = quot x1 x2 x3 g c i + ext (fun r => -quot x1 x2 x3 g c r) (i.val + width g) := by
  fin_vals g with hg <;> pointwise [val_main_v149, val_main_v148, val_main_v147, v146, val_main_v135, val_main_v134, val_main_v133, v132, val_main_v121, val_main_v120, val_main_v119, v118, val_main_v107, val_main_v106, v105, val_main_cst_24, val_main_cst_21, val_main_cst_18, val_main_cst_15]
  all_goals exact pick g (fun g => quot x1 x2 x3 g c i + ext (fun r => -quot x1 x2 x3 g c r) (i.val + width g))
theorem v139 (i : Fin 4096) (g : Fin 4) (c : Fin 128) : val_main_v139 (F := Ideal) x1 x2 x3 (ix3 i g c) = - dpool x1 x2 x3 g c i := by
  fin_vals g with hg <;> pointwise [val_main_v139, val_main_v138, val_main_v137, val_main_v136, v89, val_main_v125, val_main_v124, val_main_v123, val_main_v122, v91, val_main_v111, val_main_v110, val_main_v109, val_main_v108, v93, val_main_v98, val_main_v97, val_main_v96, v95, val_main_cst_13, val_main_cst_16, val_main_cst_19, val_main_cst_22]
  all_goals exact pick g (fun g => -dpool x1 x2 x3 g c i)

theorem v150 (i : Fin 4096) (g : Fin 4) (c : Fin 128) : val_main_v150 (F := Ideal) x1 x2 x3 (ix3 i g c)
    = lead 4096 (fun r : Fin 4096 => quot x1 x2 x3 g c r + ext (fun r => -quot x1 x2 x3 g c r) (r.val + width g)) i.val := by
  unfold val_main_v150
  have z : ∀ i, val_main_call1_v0 (F := Ideal) i = (0 : EReal) := fun i => by pointwise [val_main_call1_v0, val_main_call1_cst]
  have e := rev_cumsum_apply (val_main_v149 (F := Ideal) x1 x2 x3) (val_main_call1_v0 (F := Ideal)) z
    Cert.PoolRefIdeal.Gen.reduceWindows_S4096x4x128_S4096x4x128_w4096s1p0_4095_w1s1p0_0_w1s1p0_0 Cert.PoolRefIdeal.Gen.h_S_ i g c
  rw [e]
  exact congrArg (fun f => lead 4096 f i.val) (funext fun r => v149 x1 x2 x3 r g c)

theorem width_pos (g : Fin 4) : 0 < width g := by fin_cases g <;> decide
theorem width_le (g : Fin 4) : width g ≤ 4096 := by fin_cases g <;> decide

theorem v153 (h1 : ∀ i, IsReal (x1 i)) (h2 : ∀ i, IsReal (x2 i)) (h3 : ∀ i, IsReal (x3 i)) (i : Fin 4096) (g : Fin 4) (c : Fin 128) :
    val_main_v153 (F := Ideal) x1 x2 x3 (ix2 i (cc 512 (by decide) g c)) = spread (width g) (dpool x1 x2 x3 g c) i := by
  have q : ∀ r, IsReal (quot x1 x2 x3 g c r) := fun r =>
    div_real (IsReal.sum' (fun k => ((h1 _).mul (h3 _)).mul (h2 _))) _ _ (width_pos g)
  have e : val_main_v153 (F := Ideal) x1 x2 x3 (ix2 i (cc 512 (by decide) g c))
      = (val_main_v139 (F := Ideal) x1 x2 x3 (ix3 i g c) + val_main_v150 (F := Ideal) x1 x2 x3 (ix3 i g c) : EReal) := by
    pointwise [val_main_v153, val_main_v152, val_main_v151, cc]
  rw [e, v139, v150, lead_sub q (width g) (width_le g) i, add_comm, ← sub_eq_add_neg]
  rfl
end
end Cert.PoolIdeal.Value2
-- ==== Proof.PoolVal.lean ====
module
public import proofs.«01_k».proof.Proof.PoolKernel
public import proofs.«01_k».proof.Proof.PoolRefVal
@[expose] public section
/-! The pool's gradient leaves what the reference computes. -/
set_option maxRecDepth 200000
noncomputable section
open Idealize.ShloMosaic Idealize.ShloMosaic.TcCoe Idealize.SL.Sem
namespace Cert.PoolIdeal.Value2
open Cert.PoolIdeal Cert.PoolIdeal.Gen Cert.Shift Cert.Norm Cert.Window
open Cert.PoolRefIdeal.Read

variable (m : (ℓ : Loc nD τ sig) → Buf (Elt Ideal) ℓ) (c : Dev nD)

theorem colB (t : Fin cfg0.N) (j : Fin 128) : col (iblk m c 0 t) j = zc (a0 m c) t j := funext fun i => blk0 m c t i j

theorem dypB (t : Fin cfg0.N) (i : Fin 4096) (j : Fin 128) :
    HMul.hMul (α := EReal) (β := EReal) (γ := EReal) (iblk m c 1 t (ix2 i j)) (iblk m c 3 t (ix2 0 j)) = dyp (a1 m c) (a3 m c) t j i :=
  Ideal.mul_congr (blk1 m c t i j) (blk3 m c t j)

theorem dpoolB (t : Fin cfg0.N) (i : Fin 4096) (j : Fin 128) :
    k0_pay29 (F := Ideal) (iblk m c 1 t) (iblk m c 3 t) (iblk m c 2 t) (ix2 i j) = dpool (a1 m c) (a2 m c) (a3 m c) t j i :=
  (pay29_apply (iblk m c 1 t) (iblk m c 3 t) (iblk m c 2 t) i j).trans
    (Finset.sum_congr rfl fun k _ => Ideal.mul_congr (dypB m c t i k) (blk2 m c t j k))

theorem dzB (t : Fin cfg0.N) (w : ℕ) (hw : width t = w) (h1 : ∀ i, IsReal (a1 m c i)) (h2 : ∀ i, IsReal (a2 m c i)) (h3 : ∀ i, IsReal (a3 m c i))
    (i : Fin 4096) (j : Fin 128) :
    spread w (fun r => k0_pay29 (F := Ideal) (iblk m c 1 t) (iblk m c 3 t) (iblk m c 2 t) (ix2 r j)) i
      = val_main_v153 (F := Ideal) (a1 m c) (a2 m c) (a3 m c) (ix2 i (cc 512 (by decide) t j)) := by
  subst hw
  refine Eq.trans ?_ (v153 (a1 m c) (a2 m c) (a3 m c) h1 h2 h3 i t j).symm
  exact congrArg (fun f => spread (width t) f i) (funext fun r => dpoolB m c t r j)

theorem dwB (t : Fin cfg0.N) (w : ℕ) (hw : width t = w) (h0 : ∀ i, IsReal (a0 m c i)) (p : FVec Ideal S4096x128 .f32)
    (hp : ∀ i j, p (ix2 i j) = pooled w (col (iblk m c 0 t) j) i) (a b : Fin 128) :
    k0_pay28 (F := Ideal) (iblk m c 1 t) p (iblk m c 3 t) (ix3 0 a b) = val_main_v87 (F := Ideal) (a0 m c) (a1 m c) (a3 m c) (ix3 t a b) := by
  subst hw
  refine Eq.trans ?_ (v87 (a0 m c) (a1 m c) (a3 m c) h0 t a b).symm
  refine (pay28_apply (iblk m c 1 t) (iblk m c 3 t) p a b).trans (Finset.sum_congr rfl fun i _ => Ideal.mul_congr ?_ (dypB m c t i b))
  exact (hp i a).trans (congrArg (fun f => pooled (width t) f i) (colB m c t a))

theorem dscB (t : Fin cfg0.N) (w : ℕ) (hw : width t = w) (h0 : ∀ i, IsReal (a0 m c i)) (p : FVec Ideal S4096x128 .f32)
    (hp : ∀ i j, p (ix2 i j) = pooled w (col (iblk m c 0 t) j) i) (j : Fin 128) :
    k0_pay26 (F := Ideal) (iblk m c 1 t) p (iblk m c 2 t) (ix2 0 j)
      = val_main_v154 (F := Ideal) (a0 m c) (a1 m c) (a2 m c) (ix2 0 (cc 512 (by decide) t j)) := by
  subst hw
  refine Eq.trans ?_ (v154 (a0 m c) (a1 m c) (a2 m c) h0 t j).symm
  refine (pay26_apply (iblk m c 1 t) (iblk m c 2 t) p j).trans (Finset.sum_congr rfl fun i _ => Ideal.mul_congr (blk1 m c t i j) ?_)
  refine Finset.sum_congr rfl fun k _ => Ideal.mul_congr ?_ (blk2 m c t k j)
  exact (hp i k).trans (congrArg (fun f => pooled (width t) f i) (colB m c t k))

theorem final4 (h1 : ∀ i, IsReal (a1 m c i)) (h2 : ∀ i, IsReal (a2 m c i)) (h3 : ∀ i, IsReal (a3 m c i)) :
    (dats m 0 c).arrAt 4 cfg0.N = val_main_v153 (F := Ideal) (a1 m c) (a2 m c) (a3 m c) := by
  refine (dats m 0 c).arrAt_eq_of_covers 4 _ (by decide +kernel) fun t _ y => ?_
  blk_simp
  idx_vars y
  have e : ((win0_4.blk t).view).emb (ix2 y0 y1) = ix2 y0 (cc 512 (by decide) t y1) := by blk_ext [idx t, cc]
  rw [e, after0_4]
  have hm := t.isLt
  have hd : t.val = 0 ∨ t.val = 1 ∨ t.val = 2 ∨ t.val = 3 := by have : t.val < 4 := hm; omega
  rcases hd with h | h | h | h
  · refine Eq.trans ?_ (dzB m c t 2 (congrArg width (Fin.ext h : t = (0 : Fin 4))) h1 h2 h3 y0 y1)
    rw [outsAt0_A m c t (by omega) (by omega) (by omega) (by omega)]; frame_out
    exact dz2 _ _ _ y0 y1
  · refine Eq.trans ?_ (dzB m c t 4 (congrArg width (Fin.ext h : t = (1 : Fin 4))) h1 h2 h3 y0 y1)
    rw [outsAt0_B m c t (by omega) (by omega) (by omega) (by omega)]; frame_out
    exact dz4 _ _ _ y0 y1
  · refine Eq.trans ?_ (dzB m c t 8 (congrArg width (Fin.ext h : t = (2 : Fin 4))) h1 h2 h3 y0 y1)
    rw [outsAt0_C m c t (by omega) (by omega) (by omega) (by omega)]; frame_out
    exact dz8 _ _ _ y0 y1
  · refine Eq.trans ?_ (dzB m c t 16 (congrArg width (Fin.ext h : t = (3 : Fin 4))) h1 h2 h3 y0 y1)
    rw [outsAt0_D m c t (by omega) (by omega) (by omega) (by omega)]; frame_out
    exact dz16 _ _ _ y0 y1 _ rfl

theorem final5 (h0 : ∀ i, IsReal (a0 m c i)) :
    (dats m 0 c).arrAt 5 cfg0.N = val_main_v87 (F := Ideal) (a0 m c) (a1 m c) (a3 m c) := by
  refine (dats m 0 c).arrAt_eq_of_covers 5 _ (by decide +kernel) fun t _ y => ?_
  blk_simp
  idx_vars y
  have hz : y0 = 0 := by ext; omega
  subst hz
  have e : ((win0_5.blk t).view).emb (ix3 0 y1 y2) = ix3 t y1 y2 := by blk_ext [idx t]
  rw [e, after0_5]
  have hm := t.isLt
  have hd : t.val = 0 ∨ t.val = 1 ∨ t.val = 2 ∨ t.val = 3 := by have : t.val < 4 := hm; omega
  rcases hd with h | h | h | h
  · refine Eq.trans ?_ (dwB m c t 2 (congrArg width (Fin.ext h : t = (0 : Fin 4))) h0 _ (pay7_apply _) y1 y2)
    rw [outsAt0_A m c t (by omega) (by omega) (by omega) (by omega)]; frame_out
    exact congrFun (dw2 _ _ _) _
  · refine Eq.trans ?_ (dwB m c t 4 (congrArg width (Fin.ext h : t = (1 : Fin 4))) h0 _ (pay12_apply _) y1 y2)
    rw [outsAt0_B m c t (by omega) (by omega) (by omega) (by omega)]; frame_out
    exact congrFun (dw4 _ _ _) _
  · refine Eq.trans ?_ (dwB m c t 8 (congrArg width (Fin.ext h : t = (2 : Fin 4))) h0 _ (pay17_apply _) y1 y2)
    rw [outsAt0_C m c t (by omega) (by omega) (by omega) (by omega)]; frame_out
    exact congrFun (dw8 _ _ _) _
  · refine Eq.trans ?_ (dwB m c t 16 (congrArg width (Fin.ext h : t = (3 : Fin 4))) h0 _ (pay25_apply _) y1 y2)
    rw [outsAt0_D m c t (by omega) (by omega) (by omega) (by omega)]; frame_out

theorem final6 (h0 : ∀ i, IsReal (a0 m c i)) :
    (dats m 0 c).arrAt 6 cfg0.N = val_main_v154 (F := Ideal) (a0 m c) (a1 m c) (a2 m c) := by
  refine (dats m 0 c).arrAt_eq_of_covers 6 _ (by decide +kernel) fun t _ y => ?_
  blk_simp
  idx_vars y
  have hz : y0 = 0 := by ext; omega
  subst hz
  have e : ((win0_6.blk t).view).emb (ix2 0 y1) = ix2 0 (cc 512 (by decide) t y1) := by blk_ext [idx t, cc]
  rw [e, after0_6]
  have hm := t.isLt
  have hd : t.val = 0 ∨ t.val = 1 ∨ t.val = 2 ∨ t.val = 3 := by have : t.val < 4 := hm; omega
  rcases hd with h | h | h | h
  · refine Eq.trans ?_ (dscB m c t 2 (congrArg width (Fin.ext h : t = (0 : Fin 4))) h0 _ (pay7_apply _) y1)
    rw [outsAt0_A m c t (by omega) (by omega) (by omega) (by omega)]; frame_out
    exact congrFun (dsc2 _ _ _) _
  · refine Eq.trans ?_ (dscB m c t 4 (congrArg width (Fin.ext h : t = (1 : Fin 4))) h0 _ (pay12_apply _) y1)
    rw [outsAt0_B m c t (by omega) (by omega) (by omega) (by omega)]; frame_out
    exact congrFun (dsc4 _ _ _) _
  · refine Eq.trans ?_ (dscB m c t 8 (congrArg width (Fin.ext h : t = (2 : Fin 4))) h0 _ (pay17_apply _) y1)
    rw [outsAt0_C m c t (by omega) (by omega) (by omega) (by omega)]; frame_out
    exact congrFun (dsc8 _ _ _) _
  · refine Eq.trans ?_ (dscB m c t 16 (congrArg width (Fin.ext h : t = (3 : Fin 4))) h0 _ (pay25_apply _) y1)
    rw [outsAt0_D m c t (by omega) (by omega) (by omega) (by omega)]; frame_out

end Cert.PoolIdeal.Value2
-- ==== Proof.PoolClaim.lean ====
module
public import proofs.«01_k».proof.Defs
public import proofs.«01_k».proof.Proof.Gen.Pool.Frame
public import proofs.«01_k».proof.Proof.Gen.PoolRefIdeal.Run
public import proofs.«01_k».proof.Proof.PoolVal
@[expose] public section
/-! The claims about the causal pool's gradient. -/
set_option maxRecDepth 65536
noncomputable section
open Idealize.ShloMosaic Idealize.SL.Sem
namespace Cert.Proof.Pool

instance preFacts : Cert.Pre_pool_finite.Facts := ⟨by decide, by decide, by decide, by decide⟩

theorem frame : Cert.quiescent_Pool := fun m ρ _ => Cert.Pool.Gen.frame m ρ

theorem frameIdeal : Cert.quiescent_PoolIdeal := fun m ρ _ => Cert.PoolIdeal.Gen.frame m ρ

theorem frameRef : Cert.quiescent_PoolRefIdeal := fun m g _ =>
  (θ_run _ _ _).mono (fun r h => ⟨fun c => (h c).2.2.2, sem_eq_zero_of_no_sems rfl r.2⟩)
    (Cert.PoolRefIdeal.Value.run m g)

theorem framePre : Cert.quiescent_PoolIdeal_pre_pool_finite := fun m ρ _ => Cert.PoolIdeal.Gen.frame m ρ

theorem frameRefPre : Cert.quiescent_PoolRefIdeal_pre_pool_finite := fun m g _ => frameRef m g trivial

theorem preserves : Cert.preserves_Pool_PoolIdeal := trivial

set_option maxHeartbeats 1000000 in
theorem algebraic : Cert.algebraic_PoolIdeal_PoolRefIdeal_pre_pool_finite := by
  pair_intro
  · run_from Cert.PoolIdeal.Value.run_blocks m g
  · have real0 : ∀ c i, Cert.Norm.IsReal (Cert.PoolIdeal.Value2.a0 m c i) := fun c => Cert.Norm.IsReal.of_finite (fun _ => rfl) (hpre c).1
    have real1 : ∀ c i, Cert.Norm.IsReal (Cert.PoolIdeal.Value2.a1 m c i) := fun c => Cert.Norm.IsReal.of_finite (fun _ => rfl) (hpre c).2.1
    have real2 : ∀ c i, Cert.Norm.IsReal (Cert.PoolIdeal.Value2.a2 m c i) := fun c => Cert.Norm.IsReal.of_finite (fun _ => rfl) (hpre c).2.2.1
    have real3 : ∀ c i, Cert.Norm.IsReal (Cert.PoolIdeal.Value2.a3 m c i) := fun c => Cert.Norm.IsReal.of_finite (fun _ => rfl) (hpre c).2.2.2
    run_from Cert.PoolRefIdeal.Value.run m' g'
    all_goals obtain ⟨e0, e1, e2, e3⟩ := hagree c
    · exact (Cert.PoolRefIdeal.Read.val_main_v153_eq (Idealize.ShloMosaic.StableHlo.launchContents m' c)).trans
        ((congr (congr (congrArg (Cert.PoolRefIdeal.Read.val_main_v153 (F := Ideal)) e1) e2) e3).trans (Cert.PoolIdeal.Value2.final4 m c (real1 c) (real2 c) (real3 c)).symm)
    · exact (Cert.PoolRefIdeal.Read.val_main_v87_eq (Idealize.ShloMosaic.StableHlo.launchContents m' c)).trans
        ((congr (congr (congrArg (Cert.PoolRefIdeal.Read.val_main_v87 (F := Ideal)) e0) e1) e3).trans (Cert.PoolIdeal.Value2.final5 m c (real0 c)).symm)
    · exact (Cert.PoolRefIdeal.Read.val_main_v154_eq (Idealize.ShloMosaic.StableHlo.launchContents m' c)).trans
        ((congr (congr (congrArg (Cert.PoolRefIdeal.Read.val_main_v154 (F := Ideal)) e0) e1) e2).trans (Cert.PoolIdeal.Value2.final6 m c (real0 c)).symm)

end Cert.Proof.Pool
-- ==== Proof.SguKernel.lean ====
module
public import proofs.«01_k».proof.Proof.Gen.SguIdeal.Value
public import proofs.«01_k».proof.Proof.WindowRows
@[expose] public section
/-! The entries one grid point of the spatial gate's gradient stores, by head and chunk. -/
set_option maxRecDepth 200000
noncomputable section
open Idealize.ShloMosaic Idealize.ShloMosaic.TcCoe Idealize.SL.Sem
namespace Cert.SguIdeal.Value2
open Cert.SguIdeal Cert.SguIdeal.Gen Cert.Norm

theorem name_c : Named.named (F := Ideal) (φ := .f32) κ "gelu_c" 0x3D372713#32 = ((8943 / 200000 : ℝ) : EReal) :=
  IdealRules.named_const.ideal_named_scalar _ _ _ _ rfl
theorem name_3c : Named.named (F := Ideal) (φ := .f32) κ "gelu_3c" 0x3E095D4F#32 = ((26829 / 200000 : ℝ) : EReal) :=
  IdealRules.named_const.ideal_named_scalar _ _ _ _ rfl

variable (xu xv dy : FVec Ideal S512x512 .f32) (g : FVec Ideal S1x512 .f32) (wt : Vec Ideal S4x128x128 .f32) (b : Vec Ideal S128x4 .f32)

theorem su_apply (i j : Fin 512) : k0_pay5 (F := Ideal) xu (ix2 i j) = gelu (xu (ix2 i j)) := by
  unfold gelu geluT
  rw [← lit_half, ← lit_one, ← lit_kGelu, ← name_c]
  pointwise [k0_pay5]
theorem sv_apply (i j : Fin 512) : k0_pay6 (F := Ideal) xv (ix2 i j) = gelu (xv (ix2 i j)) := by
  unfold gelu geluT
  rw [← lit_half, ← lit_one, ← lit_kGelu, ← name_c]
  pointwise [k0_pay6]
theorem gsu_apply (i j : Fin 512) :
    k0_pay9 (F := Ideal) xu (k0_pay7 (F := Ideal) xu) (k0_pay8 (F := Ideal) xu) (ix2 i j) = dgelu (xu (ix2 i j)) := by
  unfold dgelu geluT
  rw [← lit_half, ← lit_one, ← lit_kGelu, ← name_c, ← name_3c]
  pointwise [k0_pay9, k0_pay8, k0_pay7]

/-- The inverse root of the mean square of a row of GELUs. -/
abbrev rsq (x : Fin 512 → EReal) : EReal := rms 512 eps (fun k => gelu (x k))

theorem r_apply (i : Fin 512) : k0_pay11 (F := Ideal) (k0_pay6 (F := Ideal) xv) (ix2 i 0) = rsq (fun k => xv (ix2 i k)) := by
  unfold rsq rms meanSq
  rw [← lit_512, ← lit_eps]
  pointwise [k0_pay11, sv_apply]
theorem v_apply (i j : Fin 512) :
    k0_pay12 (F := Ideal) (k0_pay6 (F := Ideal) xv) g (ix2 i j) = gelu (xv (ix2 i j)) * rsq (fun k => xv (ix2 i k)) * g (ix2 0 j) := by
  pointwise [k0_pay12, k0_pay10, r_apply, sv_apply]

/-- The masked weight. -/
def low (w : Fin 128 → Fin 128 → EReal) (s k : Fin 128) : EReal := if k.val ≤ s.val then w s k else 0

theorem mask_apply (X Y : FVec Ideal S128x128 .f32) (s k : Fin 128) :
    select k0_pay13 X Y (ix2 s k) = if k.val ≤ s.val then X (ix2 s k) else Y (ix2 s k) := by
  refine Eq.trans ?_ (Cert.Window.sel_sge k.val s.val (by omega) (by omega) _ _)
  pointwise [k0_pay13]

/-- Row and column of a chunk's entry. -/
abbrev pos (o : ℕ) (h : o + 128 ≤ 512) (a : Fin 128) : Fin 512 := ⟨o + a.val, by omega⟩

theorem slice_apply (o0 o1 : ℕ) (h0 : o0 + 128 ≤ 512) (h1 : o1 + 128 ≤ 512) (X : FVec Ideal S512x512 .f32) (p) (a d : Fin 128) :
    extractStridedSlice S128x128 ![o0, o1] X p (ix2 a d) = X (ix2 (pos o0 h0 a) (pos o1 h1 d)) := by
  pointwise

section piece
variable (o0 o1 hd : ℕ) (h0 : o0 + 128 ≤ 512) (h1 : o1 + 128 ≤ 512) (hh : hd < 4)

theorem cast_apply (X : FVec Ideal S1x128x128 .f32) (q) (s k : Fin 128) : shapeCast S128x128 X q (ix2 s k) = X (ix3 0 s k) := by
  pointwise
theorem uncast_apply (X : FVec Ideal S128x128 .f32) (q) (s k : Fin 128) : shapeCast S1x128x128 X q (ix3 0 s k) = X (ix2 s k) := by
  pointwise
theorem ld_apply (p) (s k : Fin 128) :
    (View.ld wt (Rect.unit ![hd, 0, 0] ![1, 128, 128] p) : FVec Ideal S1x128x128 .f32) (ix3 0 s k) = wt (ix3 ⟨hd, hh⟩ s k) := by
  pointwise
theorem wt_apply (p q) (s k : Fin 128) :
    shapeCast S128x128 (View.ld wt (Rect.unit ![hd, 0, 0] ![1, 128, 128] p) : FVec Ideal S1x128x128 .f32) q (ix2 s k) = wt (ix3 ⟨hd, hh⟩ s k) :=
  (cast_apply _ q s k).trans (ld_apply wt hd hh p s k)
theorem b_apply (p q) (s : Fin 128) :
    shapeCast S128x1 (View.ld b (Rect.unit ![0, hd] ![128, 1] p) : FVec Ideal S128x1 .f32) q (ix2 s 0) = b (ix2 s ⟨hd, hh⟩) := by
  pointwise

/-- A head's masked weight. -/
abbrev wm (p : ∀ a : Fin 3, (![hd, 0, 0] : Fin 3 → ℕ) a + (![1, 128, 128] : Fin 3 → ℕ) a ≤ S4x128x128.size a)
    (q : S1x128x128.ShapeCasts S128x128) : FVec Ideal S128x128 .f32 :=
  select k0_pay13 (shapeCast S128x128 (View.ld wt (Rect.unit ![hd, 0, 0] ![1, 128, 128] p) : FVec Ideal S1x128x128 .f32) q)
    (broadcast S128x128 (Scalar.ofBits .f32 0x00000000#32))
theorem wm_apply (p q) (s k : Fin 128) : wm wt hd p q (ix2 s k) = low (fun s k => wt (ix3 ⟨hd, hh⟩ s k)) s k := by
  refine (mask_apply _ _ s k).trans ?_
  unfold low
  rw [wt_apply wt hd hh]
  refine congrArg (fun z : EReal => if k.val ≤ s.val then _ else z) ?_
  exact lit_zero

variable (V U G : FVec Ideal S512x512 .f32)
theorem dsu_piece (p q p1 p2 p3 p4 p5 e1 e2 e3 p6) (a d : Fin 128) :
    truncf .bf16 (mulf (mulf (extractStridedSlice S128x128 ![o0, o1] dy p1)
      (addf (matmul dot_S128x128_S128x128_S128x128_1_0_0_1_n_n none (truncf .bf16 (wm wt hd p q) e1)
          (truncf .bf16 (extractStridedSlice S128x128 ![o0, o1] V p2) e2) (constant S128x128 .f32 0x00000000#32))
        (broadcastTo S128x128 (shapeCast S128x1 (View.ld b (Rect.unit ![0, hd] ![128, 1] p3) : FVec Ideal S128x1 .f32) p4) p5)))
      (extractStridedSlice S128x128 ![o0, o1] G p6)) e3 (ix2 a d)
    = dy (ix2 (pos o0 h0 a) (pos o1 h1 d))
        * ((∑ k : Fin 128, low (fun s k => wt (ix3 ⟨hd, hh⟩ s k)) a k * V (ix2 (pos o0 h0 k) (pos o1 h1 d))) + b (ix2 a ⟨hd, hh⟩))
        * G (ix2 (pos o0 h0 a) (pos o1 h1 d)) := by
  pointwise [slice_apply o0 o1 h0 h1, wm_apply wt hd hh, b_apply b hd hh]

theorem dv_piece (p q p1 p2 p4 e1 e2) (a d : Fin 128) :
    shapeCast S128x128 (matmul dot_S128x128_S128x128_S128x128_0_0_1_1_n_n none (truncf .bf16 (wm wt hd p q) e1)
      (truncf .bf16 (mulf (extractStridedSlice S128x128 ![o0, o1] dy p1) (extractStridedSlice S128x128 ![o0, o1] U p2)) e2)
      (constant S128x128 .f32 0x00000000#32)) p4 (ix2 a d)
    = ∑ k : Fin 128, low (fun s k => wt (ix3 ⟨hd, hh⟩ s k)) k a * (dy (ix2 (pos o0 h0 k) (pos o1 h1 d)) * U (ix2 (pos o0 h0 k) (pos o1 h1 d))) := by
  pointwise [slice_apply o0 o1 h0 h1, wm_apply wt hd hh]

theorem dm_piece (p1 p2) (a d : Fin 128) :
    mulf (extractStridedSlice S128x128 ![o0, o1] dy p1) (extractStridedSlice S128x128 ![o0, o1] U p2) (ix2 a d)
      = dy (ix2 (pos o0 h0 a) (pos o1 h1 d)) * U (ix2 (pos o0 h0 a) (pos o1 h1 d)) := by
  pointwise [slice_apply o0 o1 h0 h1]

theorem dw_piece (p1 p2 p3 e1 e2) (a d : Fin 128) :
    matmul dot_S128x128_S128x128_S128x128_1_1_0_0_n_n none
      (truncf .bf16 (mulf (extractStridedSlice S128x128 ![o0, o1] dy p1) (extractStridedSlice S128x128 ![o0, o1] U p2)) e1)
      (truncf .bf16 (extractStridedSlice S128x128 ![o0, o1] V p3) e2) (constant S128x128 .f32 0x00000000#32) (ix2 a d)
    = ∑ k : Fin 128, dy (ix2 (pos o0 h0 a) (pos o1 h1 k)) * U (ix2 (pos o0 h0 a) (pos o1 h1 k)) * V (ix2 (pos o0 h0 d) (pos o1 h1 k)) := by
  pointwise [slice_apply o0 o1 h0 h1]
end piece
end Cert.SguIdeal.Value2
-- ==== Proof.SguRefVal.lean ====
module
public import proofs.«01_k».proof.Proof.Gen.SguRefIdeal.Read
public import proofs.«01_k».proof.Proof.SguKernel
@[expose] public section
/-! The reference's gradient of the spatial gate, read at one entry. -/
set_option maxRecDepth 200000
noncomputable section
open Idealize.ShloMosaic Idealize.ShloMosaic.TcCoe Idealize.SL.Sem
namespace Cert.SguIdeal.Value2
open Cert.SguIdeal Cert.Norm
open Cert.SguRefIdeal.Read

/-- Row `s` of chunk `n`, and column `d` of head `h`. -/
abbrev row (n : Fin 32) (s : Fin 128) : Fin 4096 := ⟨n.val * 128 + s.val, by omega⟩
abbrev col (h : Fin 4) (d : Fin 128) : Fin 512 := ⟨h.val * 128 + d.val, by omega⟩

theorem split_apply (X : FVec Ideal ⟨2, ![4096, 512]⟩ .f32) (p) (n : Fin 32) (s : Fin 128) (h : Fin 4) (d : Fin 128) :
    shapeCast ⟨4, ![32, 128, 4, 128]⟩ X p (ix4 n s h d) = X (ix2 (row n s) (col h d)) := by
  pointwise
theorem merge_apply (X : FVec Ideal ⟨4, ![32, 128, 4, 128]⟩ .f32) (p) (n : Fin 32) (s : Fin 128) (h : Fin 4) (d : Fin 128) :
    shapeCast ⟨2, ![4096, 512]⟩ X p (ix2 (row n s) (col h d)) = X (ix4 n s h d) := by
  pointwise
  exact congrArg X ((ix4_inj ..).2 ⟨Fin.ext (by simp; omega), Fin.ext (by simp), Fin.ext (by simp; omega), Fin.ext (by simp)⟩)

section
variable (x0 : FVec Ideal S4096x1536 .f32) (x1 : FVec Ideal S4096x1024 .f32) (x2 : FVec Ideal S512 .f32)
  (x3 : FVec Ideal S4x128x128 .f32) (x4 : FVec Ideal S4x128 .f32)

abbrev su (i : Fin 4096) (j : Fin 512) : EReal := x0 (ix2 i ⟨512 + j.val, by omega⟩)
abbrev sv (i : Fin 4096) (j : Fin 512) : EReal := x0 (ix2 i ⟨1024 + j.val, by omega⟩)
abbrev ct (i : Fin 4096) (j : Fin 512) : EReal := x1 (ix2 i ⟨512 + j.val, by omega⟩)

theorem v16 (i : Fin 4096) (j : Fin 512) : val_main_v16 (F := Ideal) x0 (ix2 i j) = geluT (su x0 i j) := by
  rw [geluT_div, ← lit_kGelu, ← lit_8943, ← lit_200000]
  pointwise [val_main_v16, val_main_v15, val_main_v14, val_main_v13, val_main_v12, val_main_v11, val_main_v10, val_main_v9, val_main_v5, val_main_v4, val_main_v0,
    val_main_cst_0, val_main_cst_1, val_main_cst_2]
theorem v39 (i : Fin 4096) (j : Fin 512) : val_main_v39 (F := Ideal) x0 (ix2 i j) = geluT (sv x0 i j) := by
  rw [geluT_div, ← lit_kGelu, ← lit_8943, ← lit_200000]
  pointwise [val_main_v39, val_main_v38, val_main_v37, val_main_v36, val_main_v35, val_main_v34, val_main_v33, val_main_v32, val_main_v28, val_main_v27, val_main_v1,
    val_main_cst_8, val_main_cst_9, val_main_cst_10]
theorem v25 (i : Fin 4096) (j : Fin 512) :
    val_main_v25 (F := Ideal) x0 (ix2 i j) = ((1 / 2 : ℝ) : EReal) * (((1 : ℝ) : EReal) + geluT (su x0 i j)) := by
  rw [← lit_half, ← lit_one]
  pointwise [val_main_v25, val_main_v24, val_main_v23, val_main_v22, v16, val_main_cst_5, val_main_cst_6]
theorem v48 (i : Fin 4096) (j : Fin 512) :
    val_main_v48 (F := Ideal) x0 (ix2 i j) = ((1 / 2 : ℝ) : EReal) * (((1 : ℝ) : EReal) + geluT (sv x0 i j)) := by
  rw [← lit_half, ← lit_one]
  pointwise [val_main_v48, val_main_v47, val_main_v46, val_main_v45, v39, val_main_cst_13, val_main_cst_14]
theorem v26 (i : Fin 4096) (j : Fin 512) : val_main_v26 (F := Ideal) x0 (ix2 i j) = gelu (su x0 i j) := by
  unfold gelu
  rw [mul_assoc, mul_left_comm]
  pointwise [val_main_v26, v25, val_main_v0]
theorem v49 (i : Fin 4096) (j : Fin 512) : val_main_v49 (F := Ideal) x0 (ix2 i j) = gelu (sv x0 i j) := by
  unfold gelu
  rw [mul_assoc, mul_left_comm]
  pointwise [val_main_v49, v48, val_main_v1]
theorem v56 (i : Fin 4096) : val_main_v56 (F := Ideal) x0 (ix2 i 0) = meanSq 512 eps (fun k => gelu (sv x0 i k)) := by
  unfold meanSq
  rw [← lit_512, ← lit_eps]
  pointwise [val_main_v56, val_main_v55, val_main_v54, val_main_v53, val_main_v52, val_main_v51, val_main_v50, v49, val_main_cst_15, val_main_cst_16, val_main_cst_17]
theorem v57 (i : Fin 4096) : val_main_v57 (F := Ideal) x0 (ix2 i 0) = rsq (sv x0 i) := by
  unfold rsq rms
  pointwise [val_main_v57, v56]
theorem v65 (i : Fin 4096) (j : Fin 512) :
    val_main_v65 (F := Ideal) x0 x2 (ix2 i j) = gelu (sv x0 i j) * rsq (sv x0 i) * x2 (ix1 j) := by
  pointwise [val_main_v65, val_main_v64, val_main_v63, val_main_v62, val_main_v61, v57, v49]
theorem v66 (n : Fin 32) (s : Fin 128) (h : Fin 4) (d : Fin 128) :
    val_main_v66 (F := Ideal) x0 x2 (ix4 n s h d) = val_main_v65 (F := Ideal) x0 x2 (ix2 (row n s) (col h d)) := split_apply _ _ n s h d
theorem v79 (i : Fin 4096) (j : Fin 512) : val_main_v79 (F := Ideal) x0 x1 (ix2 i j) = ct x1 i j * gelu (su x0 i j) := by
  rw [mul_comm]
  pointwise [val_main_v79, val_main_v78, v26]
theorem v81 (n : Fin 32) (s : Fin 128) (h : Fin 4) (d : Fin 128) :
    val_main_v81 (F := Ideal) x0 x1 (ix4 n s h d) = val_main_v79 (F := Ideal) x0 x1 (ix2 (row n s) (col h d)) := split_apply _ _ n s h d

theorem v69_1 (X Y : FVec Ideal S4x128x128 .f32) (h : Fin 4) (s k : Fin 128) :
    select (val_main_v69_1 (F := Ideal)) X Y (ix3 h s k) = if k.val ≤ s.val then X (ix3 h s k) else Y (ix3 h s k) := by
  refine Eq.trans ?_ (Cert.Window.sel_sge k.val s.val (by omega) (by omega) _ _)
  pointwise [val_main_v69_1, val_main_v68, val_main_v67, val_main_c, val_main_call0_v0, val_main_call0_v1, val_main_call0_v2, val_main_call0_v3, val_main_call0_v4, val_main_call0_v5, val_main_call0_c, val_main_call0_c_0]
  rw [show IntOp.addi (BitVec.ofNat 32 s.val) 0#32 = BitVec.ofNat 32 s.val from BitVec.add_zero _]
  generalize IntOp.cmpi .sge _ _ = z
  revert z
  generalize X (ix3 h s k) = a
  generalize Y (ix3 h s k) = b
  intro z
  have : z = 1#1 ∨ z = 0#1 := by revert z; decide
  rcases this with rfl | rfl <;> rfl
theorem v69 (h : Fin 4) (s k : Fin 128) : val_main_v69_0 (F := Ideal) x3 (ix3 h s k) = low (fun s k => x3 (ix3 h s k)) s k := by
  refine (v69_1 _ _ h s k).trans ?_
  unfold low
  refine congrArg (fun z : EReal => if k.val ≤ s.val then _ else z) ?_
  pointwise [val_main_call1_v2]
  rw [← lit_zero]; rfl
/-- A head's mixed entry. -/
def mix (n : Fin 32) (s : Fin 128) (h : Fin 4) (d : Fin 128) : EReal :=
  (∑ k : Fin 128, low (fun s k => x3 (ix3 h s k)) s k * val_main_v65 (F := Ideal) x0 x2 (ix2 (row n k) (col h d))) + x4 (ix2 h s)
theorem v70 (n : Fin 32) (s : Fin 128) (h : Fin 4) (d : Fin 128) : val_main_v70 (F := Ideal) x0 x2 x3 (ix4 h n d s)
    = ∑ k : Fin 128, low (fun s k => x3 (ix3 h s k)) s k * val_main_v65 (F := Ideal) x0 x2 (ix2 (row n k) (col h d)) := by
  pointwise [val_main_v70, v66, v69]
  exact Finset.sum_congr rfl fun k _ => mul_comm _ _
theorem v75 (n : Fin 32) (s : Fin 128) (h : Fin 4) (d : Fin 128) :
    val_main_v75 (F := Ideal) x0 x2 x3 x4 (ix4 n s h d) = mix x0 x2 x3 x4 n s h d := by
  unfold mix
  pointwise [val_main_v75, val_main_v71, v70, val_main_v74, val_main_v73, val_main_v72, val_main_v3, val_main_v2]
theorem v76 (n : Fin 32) (s : Fin 128) (h : Fin 4) (d : Fin 128) :
    val_main_v76 (F := Ideal) x0 x2 x3 x4 (ix2 (row n s) (col h d)) = mix x0 x2 x3 x4 n s h d :=
  (merge_apply _ _ n s h d).trans (v75 x0 x2 x3 x4 n s h d)
/-- The gradient of the normalised half. -/
def dv (n : Fin 32) (s : Fin 128) (h : Fin 4) (d : Fin 128) : EReal :=
  ∑ k : Fin 128, low (fun s k => x3 (ix3 h s k)) k s * val_main_v79 (F := Ideal) x0 x1 (ix2 (row n k) (col h d))
theorem v89 (n : Fin 32) (s : Fin 128) (h : Fin 4) (d : Fin 128) : val_main_v89 (F := Ideal) x0 x1 x3 (ix4 n s h d) = dv x0 x1 x3 n s h d := by
  unfold dv
  pointwise [val_main_v89, val_main_v88, val_main_v86, v81, v69]
  exact Finset.sum_congr rfl fun k _ => mul_comm _ _
theorem v91 (n : Fin 32) (s : Fin 128) (h : Fin 4) (d : Fin 128) :
    val_main_v91 (F := Ideal) x0 x1 x3 (ix2 (row n s) (col h d)) = dv x0 x1 x3 n s h d :=
  (merge_apply _ _ n s h d).trans (v89 x0 x1 x3 n s h d)
theorem v85 (h : Fin 4) (s d : Fin 128) : val_main_v85 (F := Ideal) x0 x1 (ix3 h s d)
    = ∑ n : Fin 32, val_main_v79 (F := Ideal) x0 x1 (ix2 (row n s) (col h d)) := by
  pointwise [val_main_v85, val_main_v84, val_main_v83, val_main_v82, v81, val_main_cst_20, val_main_cst_21]
  rw [Fin.sum_univ_one]
theorem v87 (h : Fin 4) (s k : Fin 128) : val_main_v87 (F := Ideal) x0 x1 x2 (ix3 h s k)
    = ∑ n : Fin 32, ∑ d : Fin 128, val_main_v79 (F := Ideal) x0 x1 (ix2 (row n s) (col h d)) * val_main_v65 (F := Ideal) x0 x2 (ix2 (row n k) (col h d)) := by
  pointwise [val_main_v87, val_main_v86, v81, v66]
theorem v90 (h : Fin 4) (s k : Fin 128) : val_main_v90 (F := Ideal) x0 x1 x2 (ix3 h s k)
    = low (fun s k => ∑ n : Fin 32, ∑ d : Fin 128, val_main_v79 (F := Ideal) x0 x1 (ix2 (row n s) (col h d)) * val_main_v65 (F := Ideal) x0 x2 (ix2 (row n k) (col h d))) s k := by
  refine (v69_1 _ _ h s k).trans ?_
  unfold low
  rw [v87]
  refine congrArg (fun z : EReal => if k.val ≤ s.val then _ else z) ?_
  rw [← lit_zero]
  pointwise [val_main_call2_v0, val_main_call2_cst]
theorem v142 (j : Fin 512) : val_main_v142 (F := Ideal) x0 x1 x3 (ix2 0 j)
    = ∑ i : Fin 4096, val_main_v91 (F := Ideal) x0 x1 x3 (ix2 i j) * gelu (sv x0 i j) * rsq (sv x0 i) := by
  pointwise [val_main_v142, val_main_v97, val_main_v94, val_main_v93, val_main_v92, val_main_v62, val_main_v61, v57, v49, val_main_cst_22, val_main_cst_23]
  rw [Fin.sum_univ_one]
  exact Finset.sum_congr rfl fun k _ => (mul_comm _ _).trans (mul_assoc _ _ _).symm
theorem v106 (i : Fin 4096) : val_main_v106 (F := Ideal) x0 x1 x2 x3 (ix1 i)
    = pull 512 eps (fun k => gelu (sv x0 i k)) (fun k => val_main_v91 (F := Ideal) x0 x1 x3 (ix2 i k) * x2 (ix1 k)) := by
  unfold pull
  rw [← v56]
  show _ = Ideal.div (_ * (_ * Ideal.div (rsq (sv x0 i)) _)) _
  rw [← v57, ← lit_512, ← lit_neg_half]
  pointwise [val_main_v106, val_main_v105, val_main_v104, val_main_v103,
    val_main_v100, val_main_v99, val_main_v98, val_main_v96, val_main_v95, val_main_v63, val_main_v60, val_main_v59, val_main_v58, v49, val_main_cst_18, val_main_cst_24, val_main_cst_25, val_main_cst_26]
  rw [Fin.sum_univ_one]
theorem v111 (i : Fin 4096) (j : Fin 512) : val_main_v111 (F := Ideal) x0 x1 x2 x3 (ix2 i j)
    = dxHand 512 eps (fun k => gelu (sv x0 i k)) (fun k => val_main_v91 (F := Ideal) x0 x1 x3 (ix2 i k) * x2 (ix1 k)) j := by
  rw [dx_eq (by norm_num) eps_pos]
  unfold dxPull
  pointwise [val_main_v111, val_main_v110, val_main_v109, val_main_v108, val_main_v107, v106, val_main_v102, val_main_v101,
    val_main_v96, val_main_v95, val_main_v63, v57, v49]
theorem v141 (h0 : ∀ i, IsReal (x0 i)) (i : Fin 4096) (j : Fin 512) (hr : IsReal (val_main_v111 (F := Ideal) x0 x1 x2 x3 (ix2 i j))) :
    val_main_v141 (F := Ideal) x0 x1 x2 x3 (ix2 i j) = val_main_v111 (F := Ideal) x0 x1 x2 x3 (ix2 i j) * dgelu (sv x0 i j) := by
  rw [← dgelu_eq hr (h0 _), ← v39, ← lit_half, ← lit_one, ← lit_kGelu, ← lit_8943, ← lit_200000, ← lit_three]
  pointwise [val_main_v141, val_main_v125, val_main_v124, val_main_v123, val_main_v122, val_main_v121, val_main_v120, val_main_v119, val_main_v118, val_main_v117, val_main_v116,
    val_main_v115, val_main_v114, val_main_v113, val_main_v112, val_main_v48, val_main_v47, val_main_v46, val_main_v45, val_main_v44, val_main_v43, val_main_v42, val_main_v41, val_main_v40,
    val_main_v31, val_main_v30, val_main_v29, val_main_v1, val_main_cst_7, val_main_cst_11, val_main_cst_12, val_main_cst_13, val_main_cst_14, val_main_cst_27, val_main_cst_28, val_main_cst_29, val_main_cst_30]
theorem v140 (h0 : ∀ i, IsReal (x0 i)) (i : Fin 4096) (j : Fin 512) (hr : IsReal (val_main_v80 (F := Ideal) x0 x1 x2 x3 x4 (ix2 i j))) :
    val_main_v140 (F := Ideal) x0 x1 x2 x3 x4 (ix2 i j) = val_main_v80 (F := Ideal) x0 x1 x2 x3 x4 (ix2 i j) * dgelu (su x0 i j) := by
  rw [← dgelu_eq hr (h0 _), ← v16, ← lit_half, ← lit_one, ← lit_kGelu, ← lit_8943, ← lit_200000, ← lit_three]
  pointwise [val_main_v140, val_main_v139, val_main_v138, val_main_v137, val_main_v136, val_main_v135, val_main_v134, val_main_v133, val_main_v132, val_main_v131, val_main_v130,
    val_main_v129, val_main_v128, val_main_v127, val_main_v126, val_main_v25, val_main_v24, val_main_v23, val_main_v22, val_main_v21, val_main_v20, val_main_v19, val_main_v18, val_main_v17,
    val_main_v8, val_main_v7, val_main_v6, val_main_v0, val_main_cst, val_main_cst_3, val_main_cst_4, val_main_cst_5, val_main_cst_6, val_main_cst_31, val_main_cst_32, val_main_cst_33, val_main_cst_34]
theorem v80 (n : Fin 32) (s : Fin 128) (h : Fin 4) (d : Fin 128) :
    val_main_v80 (F := Ideal) x0 x1 x2 x3 x4 (ix2 (row n s) (col h d)) = ct x1 (row n s) (col h d) * mix x0 x2 x3 x4 n s h d := by
  rw [← v76]
  pointwise [val_main_v80, val_main_v78]
end
end Cert.SguIdeal.Value2
-- ==== Proof.SguVal.lean ====
module
public import proofs.«01_k».proof.Proof.Gen.SguIdeal.Value
public import proofs.«01_k».proof.Proof.SguRefVal
@[expose] public section
/-! The arrays the spatial gate's gradient leaves are the reference's. -/
set_option maxRecDepth 200000
noncomputable section
open Idealize.ShloMosaic Idealize.ShloMosaic.TcCoe Idealize.SL.Sem
namespace Cert.SguIdeal.Value2
open Cert.SguIdeal Cert.SguIdeal.Gen Cert.Norm
open Cert.SguRefIdeal.Read

section tail
variable (xv D : FVec Ideal S512x512 .f32) (g : FVec Ideal S1x512 .f32)
/-- The gradient of the second half, from the gradient `D` of its normalised entries. -/
theorem dsv_apply (i j : Fin 512) :
    k0_pay1 (F := Ideal) (k0_pay141 (F := Ideal) (k0_pay139 (F := Ideal) (k0_pay10 (F := Ideal) g) (k0_pay11 (F := Ideal) (k0_pay6 (F := Ideal) xv)) D)
        (k0_pay140 (F := Ideal) (k0_pay6 (F := Ideal) xv) (k0_pay10 (F := Ideal) g) (k0_pay11 (F := Ideal) (k0_pay6 (F := Ideal) xv)) D))
      (k0_pay144 (F := Ideal) xv) (k0_pay145 (F := Ideal) xv) (k0_pay146 (F := Ideal) xv) (Scalar.ofBits .f32 0x3F800000#32) (ix2 i j)
    = dxHand 512 eps (fun k => gelu (xv (ix2 i k))) (fun k => D (ix2 i k) * g (ix2 0 k)) j * dgelu (xv (ix2 i j)) := by
  unfold dgelu geluT dxHand
  rw [← lit_half, ← lit_one, ← lit_kGelu, ← name_c, ← name_3c, ← lit_512]
  pointwise [k0_pay1, k0_pay141, k0_pay139, k0_pay140, k0_pay138, k0_pay10, k0_pay144, k0_pay145, k0_pay143, k0_pay146, sv_apply, r_apply]
theorem dg_apply (acc : FVec Ideal S1x512 .f32) (j : Fin 512) :
    k0_pay142 (F := Ideal) (k0_pay6 (F := Ideal) xv) (k0_pay11 (F := Ideal) (k0_pay6 (F := Ideal) xv)) D acc (ix2 0 j)
    = acc (ix2 0 j) + ∑ i : Fin 512, D (ix2 i j) * gelu (xv (ix2 i j)) * rsq (fun k => xv (ix2 i k)) := by
  pointwise [k0_pay142, sv_apply, r_apply]
end tail

variable (m : (ℓ : Loc nD τ sig) → Buf (Elt Ideal) ℓ) (c : Dev nD)

abbrev a0 : FVec Ideal S4096x1536 .f32 := m ((c : Thread nD τ).loc main_arg0)
abbrev a1 : FVec Ideal S4096x1024 .f32 := m ((c : Thread nD τ).loc main_arg1)
abbrev a2 : FVec Ideal S512 .f32 := m ((c : Thread nD τ).loc main_arg2)
abbrev a3 : FVec Ideal S4x128x128 .f32 := m ((c : Thread nD τ).loc main_arg3)
abbrev a4 : FVec Ideal S4x128 .f32 := m ((c : Thread nD τ).loc main_arg4)

theorem idx : ∀ t : Fin cfg0.N, win0_0.index t = ![t.val, 1] ∧ win0_1.index t = ![t.val, 2] ∧ win0_2.index t = ![t.val, 1] ∧ win0_3.index t = ![0, 0]
    ∧ win0_4.index t = ![0, 0, 0] ∧ win0_5.index t = ![0, 0] ∧ win0_6.index t = ![t.val, 0] ∧ win0_7.index t = ![t.val, 0]
    ∧ win0_8.index t = ![0, 0, 0] ∧ win0_9.index t = ![0, 0, 0] ∧ win0_10.index t = ![0, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i j : Fin 512) : (iblk m c 0 t (ix2 i j) : EReal) = su (a0 m c) (rr t i) j := by
  blk_point [iblk, V, idx t, rr]
theorem blk1 (t : Fin cfg0.N) (i j : Fin 512) : (iblk m c 1 t (ix2 i j) : EReal) = sv (a0 m c) (rr t i) j := by
  blk_point [iblk, V, idx t, rr]
theorem blk2 (t : Fin cfg0.N) (i j : Fin 512) : (iblk m c 2 t (ix2 i j) : EReal) = ct (a1 m c) (rr t i) j := by
  blk_point [iblk, V, idx t, rr]
theorem blk3 (t : Fin cfg0.N) (j : Fin 512) : (iblk m c 3 t (ix2 0 j) : EReal) = a2 m c (ix1 j) := by
  blk_point [iblk, V, idx t, rr]
theorem blk4 (t : Fin cfg0.N) (h : Fin 4) (s k : Fin 128) : (iblk m c 4 t (ix3 h s k) : EReal) = a3 m c (ix3 h s k) := by
  blk_point [iblk, V, idx t, rr]
theorem blk5 (t : Fin cfg0.N) (s : Fin 128) (h : Fin 4) : (iblk m c 5 t (ix2 s h) : EReal) = a4 m c (ix2 h s) := by
  blk_point [iblk, V, idx t, rr]

theorem UB (t : Fin cfg0.N) (i j : Fin 512) :
    HMul.hMul (α := EReal) (β := EReal) (γ := EReal) (iblk m c 2 t (ix2 i j)) (k0_pay5 (F := Ideal) (iblk m c 0 t) (ix2 i j))
      = val_main_v79 (F := Ideal) (a0 m c) (a1 m c) (ix2 (rr t i) j) := by
  rw [v79, ← blk0, ← blk2]
  exact Ideal.mul_congr rfl (su_apply (iblk m c 0 t) i j)
theorem VB (t : Fin cfg0.N) (i j : Fin 512) :
    k0_pay12 (F := Ideal) (k0_pay6 (F := Ideal) (iblk m c 1 t)) (iblk m c 3 t) (ix2 i j)
      = val_main_v65 (F := Ideal) (a0 m c) (a2 m c) (ix2 (rr t i) j) := by
  rw [v65, ← blk1, ← blk3]
  refine (v_apply (iblk m c 1 t) (iblk m c 3 t) i j).trans (Ideal.mul_congr (Ideal.mul_congr rfl (congrArg rsq (funext fun k => ?_))) rfl)
  exact blk1 m c t i k

/-- Chunk `q` of block `t`. -/
def ch (t : Fin cfg0.N) (q : ℕ) (hq : q < 4) : Fin 32 := ⟨t.val * 4 + q, by have := t.isLt; have : cfg0.N = 8 := rfl; omega⟩
theorem rr_row (t : Fin cfg0.N) (q : ℕ) (hq : q < 4) (o0 : ℕ) (h0 : o0 + 128 ≤ 512) (e0 : o0 = 128 * q) (k : Fin 128) :
    rr t (pos o0 h0 k) = row (ch t q hq) k := Fin.ext (by subst e0; show t.val * 512 + (128 * q + k.val) = (t.val * 4 + q) * 128 + k.val; omega)
theorem pos_col (hd : ℕ) (hh : hd < 4) (o1 : ℕ) (h1 : o1 + 128 ≤ 512) (e1 : o1 = 128 * hd) (d : Fin 128) :
    pos o1 h1 d = col ⟨hd, hh⟩ d := Fin.ext (by subst e1; show 128 * hd + d.val = hd * 128 + d.val; omega)

theorem rms_real (x : Fin 512 → EReal) : IsReal (rms 512 eps x) := by
  rcases rms_cases (c := 512) (by norm_num) eps_pos x with ⟨_, h⟩ | ⟨_, ρ, _, _, _, _, h⟩
  · rw [h]; exact IsReal.zero
  · rw [h]; exact IsReal.coe _

theorem low_real {w : Fin 128 → Fin 128 → EReal} (h : ∀ s k, IsReal (w s k)) (s k : Fin 128) : IsReal (low w s k) := by
  unfold low; split
  · exact h s k
  · exact IsReal.zero

/-- All the arguments are finite. -/
structure Fin5 : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

variable {m c} in
theorem mix_real (H : Fin5 m c) (n : Fin 32) (s : Fin 128) (h : Fin 4) (d : Fin 128) : IsReal (mix (a0 m c) (a2 m c) (a3 m c) (a4 m c) n s h d) := by
  refine (IsReal.sum' fun k => (low_real (fun s k => H.h3 _) s k).mul ?_).add (H.h4 _)
  rw [v65]; exact ((gelu_real (H.h0 _)).mul (rms_real _)).mul (H.h2 _)
variable {m c} in
theorem dv_real (H : Fin5 m c) (n : Fin 32) (s : Fin 128) (h : Fin 4) (d : Fin 128) : IsReal (dv (a0 m c) (a1 m c) (a3 m c) n s h d) := by
  refine IsReal.sum' fun k => (low_real (fun s k => H.h3 _) k s).mul ?_
  rw [v79]; exact (H.h1 _).mul (gelu_real (H.h0 _))

theorem at_row (i : Fin 4096) (j : Fin 512) : ∃ (n : Fin 32) (s : Fin 128) (h : Fin 4) (d : Fin 128), i = row n s ∧ j = col h d :=
  ⟨⟨i.val / 128, by omega⟩, ⟨i.val % 128, by omega⟩, ⟨j.val / 128, by omega⟩, ⟨j.val % 128, by omega⟩,
    Fin.ext (by show i.val = i.val / 128 * 128 + i.val % 128; omega), Fin.ext (by show j.val = j.val / 128 * 128 + j.val % 128; omega)⟩

variable {m c} in
theorem v111_real (H : Fin5 m c) (i : Fin 4096) (j : Fin 512) : IsReal (val_main_v111 (F := Ideal) (a0 m c) (a1 m c) (a2 m c) (a3 m c) (ix2 i j)) := by
  have e : ∀ k, IsReal (val_main_v91 (F := Ideal) (a0 m c) (a1 m c) (a3 m c) (ix2 i k)) := fun k => by
    obtain ⟨n, s, h, d, rfl, rfl⟩ := at_row i k
    rw [v91]; exact dv_real H n s h d
  rw [v111]
  unfold dxHand
  rw [Ideal.div_coe (by norm_num)]
  refine ((rms_real _).mul ((e _).mul (H.h2 _))).sub (((gelu_real (H.h0 _)).mul (((rms_real _).mul (rms_real _)).mul (rms_real _))).mul ((IsReal.sum' fun k => ?_).mul (IsReal.coe _)))
  exact ((e _).mul (H.h2 _)).mul (gelu_real (H.h0 _))

section pieces
variable (t : Fin cfg0.N) (o0 o1 hd q : ℕ) (h0 : o0 + 128 ≤ 512) (h1 : o1 + 128 ≤ 512) (hh : hd < 4) (hq : q < 4) (e0 : o0 = 128 * q) (e1 : o1 = 128 * hd)
variable {m c} in
include hh hq e0 e1 in
theorem dsuB (H : Fin5 m c) (p qq p1 p2 p3 p4 p5 f1 f2 f3 p6) (a d : Fin 128) :
    truncf .bf16 (mulf (mulf (extractStridedSlice S128x128 ![o0, o1] (iblk m c 2 t : FVec Ideal S512x512 .f32) p1)
      (addf (matmul dot_S128x128_S128x128_S128x128_1_0_0_1_n_n none (truncf .bf16 (wm (iblk m c 4 t) hd p qq) f1)
          (truncf .bf16 (extractStridedSlice S128x128 ![o0, o1] (k0_pay12 (F := Ideal) (k0_pay6 (F := Ideal) (iblk m c 1 t)) (iblk m c 3 t)) p2) f2) (constant S128x128 .f32 0x00000000#32))
        (broadcastTo S128x128 (shapeCast S128x1 (View.ld (iblk m c 5 t) (Rect.unit ![0, hd] ![128, 1] p3) : FVec Ideal S128x1 .f32) p4) p5)))
      (extractStridedSlice S128x128 ![o0, o1] (k0_pay9 (F := Ideal) (iblk m c 0 t) (k0_pay7 (F := Ideal) (iblk m c 0 t)) (k0_pay8 (F := Ideal) (iblk m c 0 t))) p6)) f3 (ix2 a d)
    = val_main_v140 (F := Ideal) (a0 m c) (a1 m c) (a2 m c) (a3 m c) (a4 m c) (ix2 (rr t (pos o0 h0 a)) (pos o1 h1 d)) := by
  have hr := rr_row t q hq o0 h0 e0
  have hc := pos_col hd hh o1 h1 e1 d
  refine (dsu_piece (iblk m c 2 t) (iblk m c 4 t) (iblk m c 5 t) o0 o1 hd h0 h1 hh _ _ p qq p1 p2 p3 p4 p5 f1 f2 f3 p6 a d).trans ?_
  have e80 := v80 (a0 m c) (a1 m c) (a2 m c) (a3 m c) (a4 m c) (ch t q hq) a ⟨hd, hh⟩ d
  rw [v140 _ _ _ _ _ H.h0]
  · rw [hr, hc, e80]
    refine Ideal.mul_congr (Ideal.mul_congr ?_ ?_) ?_
    · rw [← hr, ← hc]; exact blk2 m c t _ _
    · unfold mix
      refine Ideal.add_congr (Finset.sum_congr rfl fun k _ => Ideal.mul_congr ?_ ?_) (blk5 m c t a ⟨hd, hh⟩)
      · exact congrArg (fun w => low w a k) (funext fun s => funext fun k => blk4 m c t ⟨hd, hh⟩ s k)
      · rw [← hr, ← hc]; exact VB m c t _ _
    · rw [← hr, ← hc]
      exact (gsu_apply (iblk m c 0 t) _ _).trans (congrArg dgelu (blk0 m c t _ _))
  · rw [hr, hc, e80]; exact (H.h1 _).mul (mix_real H _ _ _ _)

include hh hq e0 e1 in
theorem dvB (p qq p1 p2 p4 f1 f2) (a d : Fin 128) :
    shapeCast S128x128 (matmul dot_S128x128_S128x128_S128x128_0_0_1_1_n_n none (truncf .bf16 (wm (iblk m c 4 t) hd p qq) f1)
      (truncf .bf16 (mulf (extractStridedSlice S128x128 ![o0, o1] (iblk m c 2 t : FVec Ideal S512x512 .f32) p1)
        (extractStridedSlice S128x128 ![o0, o1] (k0_pay5 (F := Ideal) (iblk m c 0 t)) p2)) f2)
      (constant S128x128 .f32 0x00000000#32)) p4 (ix2 a d)
    = val_main_v91 (F := Ideal) (a0 m c) (a1 m c) (a3 m c) (ix2 (rr t (pos o0 h0 a)) (pos o1 h1 d)) := by
  have hr := rr_row t q hq o0 h0 e0
  have hc := pos_col hd hh o1 h1 e1 d
  refine (dv_piece (iblk m c 2 t) (iblk m c 4 t) o0 o1 hd h0 h1 hh _ p qq p1 p2 p4 f1 f2 a d).trans ?_
  rw [hr, hc, v91]
  unfold dv
  refine Finset.sum_congr rfl fun k _ => Ideal.mul_congr ?_ ?_
  · exact congrArg (fun w => low w k a) (funext fun s => funext fun k => blk4 m c t ⟨hd, hh⟩ s k)
  · rw [← hr, ← hc]; exact UB m c t _ _

variable {m c} in
include h0 h1 hh e1 in
theorem dsu_at (e0 : o0 % 128 = 0) (H : Fin5 m c) (p qq p1 p2 p3 p4 p5 f1 f2 f3 p6) (x : S128x128.Idx) (y0 y1 : Fin 512) (hy0 : y0.val = o0 + (x 0).val) (hy1 : y1.val = o1 + (x 1).val) :
    truncf .bf16 (mulf (mulf (extractStridedSlice S128x128 ![o0, o1] (iblk m c 2 t : FVec Ideal S512x512 .f32) p1)
      (addf (matmul dot_S128x128_S128x128_S128x128_1_0_0_1_n_n none (truncf .bf16 (wm (iblk m c 4 t) hd p qq) f1)
          (truncf .bf16 (extractStridedSlice S128x128 ![o0, o1] (k0_pay12 (F := Ideal) (k0_pay6 (F := Ideal) (iblk m c 1 t)) (iblk m c 3 t)) p2) f2) (constant S128x128 .f32 0x00000000#32))
        (broadcastTo S128x128 (shapeCast S128x1 (View.ld (iblk m c 5 t) (Rect.unit ![0, hd] ![128, 1] p3) : FVec Ideal S128x1 .f32) p4) p5)))
      (extractStridedSlice S128x128 ![o0, o1] (k0_pay9 (F := Ideal) (iblk m c 0 t) (k0_pay7 (F := Ideal) (iblk m c 0 t)) (k0_pay8 (F := Ideal) (iblk m c 0 t))) p6)) f3 x
    = val_main_v140 (F := Ideal) (a0 m c) (a1 m c) (a2 m c) (a3 m c) (a4 m c) (ix2 (rr t y0) y1) := by
  idx_vars x
  obtain rfl : y0 = pos o0 h0 x0 := Fin.ext hy0
  obtain rfl : y1 = pos o1 h1 x1 := Fin.ext hy1
  exact dsuB t o0 o1 hd (o0 / 128) h0 h1 hh (by omega) (by omega) e1 H p qq p1 p2 p3 p4 p5 f1 f2 f3 p6 x0 x1
include h0 h1 hh e1 in
theorem dv_at (e0 : o0 % 128 = 0) (p qq p1 p2 p4 f1 f2) (x : S128x128.Idx) (y0 y1 : Fin 512) (hy0 : y0.val = o0 + (x 0).val) (hy1 : y1.val = o1 + (x 1).val) :
    shapeCast S128x128 (matmul dot_S128x128_S128x128_S128x128_0_0_1_1_n_n none (truncf .bf16 (wm (iblk m c 4 t) hd p qq) f1)
      (truncf .bf16 (mulf (extractStridedSlice S128x128 ![o0, o1] (iblk m c 2 t : FVec Ideal S512x512 .f32) p1)
        (extractStridedSlice S128x128 ![o0, o1] (k0_pay5 (F := Ideal) (iblk m c 0 t)) p2)) f2)
      (constant S128x128 .f32 0x00000000#32)) p4 x
    = val_main_v91 (F := Ideal) (a0 m c) (a1 m c) (a3 m c) (ix2 (rr t y0) y1) := by
  idx_vars x
  obtain rfl : y0 = pos o0 h0 x0 := Fin.ext hy0
  obtain rfl : y1 = pos o1 h1 x1 := Fin.ext hy1
  exact dvB m c t o0 o1 hd (o0 / 128) h0 h1 hh (by omega) (by omega) e1 p qq p1 p2 p4 f1 f2 x0 x1
end pieces

theorem final6 (H : Fin5 m c) : (dats m 0 c).arrAt 6 cfg0.N = val_main_v140 (F := Ideal) (a0 m c) (a1 m c) (a2 m c) (a3 m c) (a4 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e, after0_6]
  by_cases h : t.val % 8 = 0
  · rw [outsAt0_A m c t h]; frame_out
    clear h e
    canon_tiles x h
    all_goals
      refine dsu_at t _ _ _ ?_ ?_ ?_ ?_ ?_ H _ _ _ _ _ _ _ _ _ _ _ x y0 y1 ?_ ?_
      rotate_left 5
      · first | exact h0 | exact h0.trans (Nat.zero_add _).symm
      · first | exact h1 | exact h1.trans (Nat.zero_add _).symm
      all_goals decide
  · rw [outsAt0_B m c t h]; frame_out
    clear h e
    canon_tiles x h
    all_goals
      refine dsu_at t _ _ _ ?_ ?_ ?_ ?_ ?_ H _ _ _ _ _ _ _ _ _ _ _ x y0 y1 ?_ ?_
      rotate_left 5
      · first | exact h0 | exact h0.trans (Nat.zero_add _).symm
      · first | exact h1 | exact h1.trans (Nat.zero_add _).symm
      all_goals decide

/-- A read of the whole scratch. -/
theorem read_scratch {σ : RefSig} {k : Kind} {sp : Space} (v : View σ k sp S512x512 .f32) (L : List (View.Piece (Elt Ideal) S512x512 .f32)) (p) (y0 y1 : Fin 512) :
    (v.readCov L (Rect.unit (s := S512x512) (![0, 0] : Fin 2 → ℕ) (![512, 512] : Fin 2 → ℕ) p).toLoadRect : FVec Ideal S512x512 .f32) (ix2 y0 y1) = View.canon L (ix2 y0 y1) := by
  rw [View.readCov_eq_canon']
  refine congrArg (View.canon L) ?_
  funext a
  fin_cases a
  · exact Fin.ext (by show 0 + 1 * y0.val = y0.val; omega)
  · exact Fin.ext (by show 0 + 1 * y1.val = y1.val; omega)

variable {m c} in
theorem dsvB (H : Fin5 m c) (t : Fin cfg0.N) (D : FVec Ideal S512x512 .f32)
    (hD : ∀ y0 y1, D (ix2 y0 y1) = val_main_v91 (F := Ideal) (a0 m c) (a1 m c) (a3 m c) (ix2 (rr t y0) y1)) (i j : Fin 512) :
    k0_pay1 (F := Ideal) (k0_pay141 (F := Ideal) (k0_pay139 (F := Ideal) (k0_pay10 (F := Ideal) (iblk m c 3 t)) (k0_pay11 (F := Ideal) (k0_pay6 (F := Ideal) (iblk m c 1 t))) D)
        (k0_pay140 (F := Ideal) (k0_pay6 (F := Ideal) (iblk m c 1 t)) (k0_pay10 (F := Ideal) (iblk m c 3 t)) (k0_pay11 (F := Ideal) (k0_pay6 (F := Ideal) (iblk m c 1 t))) D))
      (k0_pay144 (F := Ideal) (iblk m c 1 t)) (k0_pay145 (F := Ideal) (iblk m c 1 t)) (k0_pay146 (F := Ideal) (iblk m c 1 t)) (Scalar.ofBits .f32 0x3F800000#32) (ix2 i j)
    = val_main_v141 (F := Ideal) (a0 m c) (a1 m c) (a2 m c) (a3 m c) (ix2 (rr t i) j) := by
  rw [v141 _ _ _ _ H.h0 _ _ (v111_real H _ _), v111]
  refine (dsv_apply (iblk m c 1 t) D (iblk m c 3 t) i j).trans (Ideal.mul_congr ?_ (congrArg dgelu (blk1 m c t i j)))
  have ea : (fun k : Fin 512 => gelu ((iblk m c 1 t : FVec Ideal S512x512 .f32) (ix2 i k))) = fun k => gelu (sv (a0 m c) (rr t i) k) :=
    funext fun k => congrArg gelu (blk1 m c t i k)
  have eb : (fun k : Fin 512 => D (ix2 i k) * (iblk m c 3 t : FVec Ideal S1x512 .f32) (ix2 0 k))
      = fun k => val_main_v91 (F := Ideal) (a0 m c) (a1 m c) (a3 m c) (ix2 (rr t i) k) * a2 m c (ix1 k) :=
    funext fun k => Ideal.mul_congr (hD i k) (blk3 m c t k)
  rw [ea, eb]

theorem dgB (t : Fin cfg0.N) (D : FVec Ideal S512x512 .f32)
    (hD : ∀ y0 y1, D (ix2 y0 y1) = val_main_v91 (F := Ideal) (a0 m c) (a1 m c) (a3 m c) (ix2 (rr t y0) y1)) (acc : FVec Ideal S1x512 .f32) (y) :
    k0_pay142 (F := Ideal) (k0_pay6 (F := Ideal) (iblk m c 1 t)) (k0_pay11 (F := Ideal) (k0_pay6 (F := Ideal) (iblk m c 1 t))) D acc y
    = acc y + ∑ i : Fin 512, val_main_v91 (F := Ideal) (a0 m c) (a1 m c) (a3 m c) (ix2 (rr t i) (y 1)) * gelu (sv (a0 m c) (rr t i) (y 1)) * rsq (sv (a0 m c) (rr t i)) := by
  idx_vars y
  have h0 : y0 = 0 := by ext; omega
  subst h0
  refine (dg_apply (iblk m c 1 t) D acc y1).trans (Ideal.add_congr rfl (Finset.sum_congr rfl fun k _ => ?_))
  refine Ideal.mul_congr (Ideal.mul_congr (hD k y1) (congrArg gelu (blk1 m c t k y1))) (congrArg rsq (funext fun j => ?_))
  exact blk1 m c t k j

theorem final7 (H : Fin5 m c) : (dats m 0 c).arrAt 7 cfg0.N = val_main_v141 (F := Ideal) (a0 m c) (a1 m c) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e, after0_7]
  by_cases h : t.val % 8 = 0
  · rw [outsAt0_A m c t h]; frame_out
    clear h e
    refine Eq.trans (dsvB H t _ ?_ y0 y1) rfl
    clear y0 y1
    intro y0 y1
    refine (read_scratch _ _ _ y0 y1).trans ?_
    canon_tiles x h
    all_goals
      refine dv_at m c t _ _ _ ?_ ?_ ?_ ?_ ?_ _ _ _ _ _ _ _ x y0 y1 ?_ ?_
      rotate_left 5
      · first | exact h0 | exact h0.trans (Nat.zero_add _).symm
      · first | exact h1 | exact h1.trans (Nat.zero_add _).symm
      all_goals decide
  · rw [outsAt0_B m c t h]; frame_out
    clear h e
    refine Eq.trans (dsvB H t _ ?_ y0 y1) rfl
    clear y0 y1
    intro y0 y1
    refine (read_scratch _ _ _ y0 y1).trans ?_
    canon_tiles x h
    all_goals
      refine dv_at m c t _ _ _ ?_ ?_ ?_ ?_ ?_ _ _ _ _ _ _ _ x y0 y1 ?_ ?_
      rotate_left 5
      · first | exact h0 | exact h0.trans (Nat.zero_add _).symm
      · first | exact h1 | exact h1.trans (Nat.zero_add _).symm
      all_goals decide

theorem zero4 (j) : k0_pay4 (F := Ideal) j = 0 := by pointwise [k0_pay4]
theorem final10 : (dats m 0 c).arrAt 10 cfg0.N = val_main_v142 (F := Ideal) (a0 m c) (a1 m c) (a3 m c) := by
  refine (dats m 0 c).arrAt_eq_of_after_last 10 t0_7 (by decide +kernel) _ fun y => ?_
  blk_simp
  rw [after0_10, Pipeline.eq_sum_fin_of_reset_step_apply_last (fun n h => (outsAt0 m c n h).2.2.2.2) 8 (fun _ => 0)
    (fun t y => ∑ i : Fin 512, val_main_v91 (F := Ideal) (a0 m c) (a1 m c) (a3 m c) (ix2 (rr t i) (y 1)) * gelu (sv (a0 m c) (rr t i) (y 1)) * rsq (sv (a0 m c) (rr t i)))
    (fun t h j => by
      rw [outsAt0_A m c t h]; frame_out
      refine (dgB m c t _ ?_ _ j).trans (Ideal.add_congr (zero4 j) rfl)
      clear h j
      intro y0 y1
      refine (read_scratch _ _ _ y0 y1).trans ?_
      canon_tiles x h
      all_goals
        refine dv_at m c t _ _ _ ?_ ?_ ?_ ?_ ?_ _ _ _ _ _ _ _ x y0 y1 ?_ ?_
        rotate_left 5
        · first | exact h0 | exact h0.trans (Nat.zero_add _).symm
        · first | exact h1 | exact h1.trans (Nat.zero_add _).symm
        all_goals decide)
    (fun t h j => by
      rw [outsAt0_B m c t h]; frame_out
      refine (dgB m c t _ ?_ _ j).trans rfl
      clear h j
      intro y0 y1
      refine (read_scratch _ _ _ y0 y1).trans ?_
      canon_tiles x h
      all_goals
        refine dv_at m c t _ _ _ ?_ ?_ ?_ ?_ ?_ _ _ _ _ _ _ _ x y0 y1 ?_ ?_
        rotate_left 5
        · first | exact h0 | exact h0.trans (Nat.zero_add _).symm
        · first | exact h1 | exact h1.trans (Nat.zero_add _).symm
        all_goals decide)
    (le_of_eq N_0) t0_7 rfl y, zero_add]
  idx_vars y
  have h0 : y0 = 0 := by ext; omega
  subst h0
  rw [v142]
  exact Fin.sum_mul_add_congr fun t k hk => rfl

section heads
variable (L : List (View.Piece (Elt Ideal) S4x128x128 .f32))
theorem canon_at (hd : ℕ) (hh : hd < 4) (p : ∀ a : Fin 3, (![hd, 0, 0] : Fin 3 → ℕ) a + (![1, 128, 128] : Fin 3 → ℕ) a ≤ S4x128x128.size a)
    (w : FVec Ideal S1x128x128 .f32) (s k : Fin 128) :
    View.canon (⟨Rect.unit (s := S4x128x128) (![hd, 0, 0] : Fin 3 → ℕ) (![1, 128, 128] : Fin 3 → ℕ) p, w⟩ :: L) (ix3 ⟨hd, hh⟩ s k) = w (ix3 0 s k) := by
  have e : (Rect.unit (s := S4x128x128) (![hd, 0, 0] : Fin 3 → ℕ) (![1, 128, 128] : Fin 3 → ℕ) p).emb (ix3 (0 : Fin 1) s k) = ix3 ⟨hd, hh⟩ s k := by
    funext a
    fin_cases a
    · exact Fin.ext (by show hd + 1 * 0 = hd; omega)
    · exact Fin.ext (by show 0 + 1 * s.val = s.val; omega)
    · exact Fin.ext (by show 0 + 1 * k.val = k.val; omega)
  rw [← e]
  exact View.canon_cons_emb (Rect.unit (s := S4x128x128) (![hd, 0, 0] : Fin 3 → ℕ) (![1, 128, 128] : Fin 3 → ℕ) p) w L _
theorem canon_skip (hd h : ℕ) (hh : h < 4) (hne : h < hd) (p : ∀ a : Fin 3, (![hd, 0, 0] : Fin 3 → ℕ) a + (![1, 128, 128] : Fin 3 → ℕ) a ≤ S4x128x128.size a)
    (w : FVec Ideal S1x128x128 .f32) (s k : Fin 128) :
    View.canon (⟨Rect.unit (s := S4x128x128) (![hd, 0, 0] : Fin 3 → ℕ) (![1, 128, 128] : Fin 3 → ℕ) p, w⟩ :: L) (ix3 ⟨h, hh⟩ s k) = View.canon L (ix3 ⟨h, hh⟩ s k) := by
  refine View.canon_cons_of_not_mem _ L fun hm => ?_
  obtain ⟨x, hx⟩ := LoadRect.exists_idx_of_mem _ hm
  have := congrArg (fun y : S4x128x128.Idx => (y 0).val) hx
  have h2 : hd + 1 * (x 0).val = h := this
  omega
theorem skip_up (hd h : ℕ) (hh : h < 4) (hne : hd < h) (p : ∀ a : Fin 3, (![hd, 0, 0] : Fin 3 → ℕ) a + (![1, 128, 128] : Fin 3 → ℕ) a ≤ S4x128x128.size a)
    (w : FVec Ideal S1x128x128 .f32) (s k : Fin 128) :
    View.canon (⟨Rect.unit (s := S4x128x128) (![hd, 0, 0] : Fin 3 → ℕ) (![1, 128, 128] : Fin 3 → ℕ) p, w⟩ :: L) (ix3 ⟨h, hh⟩ s k) = View.canon L (ix3 ⟨h, hh⟩ s k) := by
  refine View.canon_cons_of_not_mem _ L fun hm => ?_
  obtain ⟨x, hx⟩ := LoadRect.exists_idx_of_mem _ hm
  have := congrArg (fun y : S4x128x128.Idx => (y 0).val) hx
  have h2 : hd + 1 * (x 0).val = h := this
  have h3 : (x 0).val < 1 := (x 0).isLt
  omega
theorem read_head {σ : RefSig} {κ' : Kind} {sp : Space} (v : View σ κ' sp S4x128x128 .f32) (hd : ℕ) (hh : hd < 4)
    (p : ∀ a : Fin 3, (![hd, 0, 0] : Fin 3 → ℕ) a + (![1, 128, 128] : Fin 3 → ℕ) a ≤ S4x128x128.size a) (s k : Fin 128) :
    (v.readCov L (Rect.unit (s := S4x128x128) (![hd, 0, 0] : Fin 3 → ℕ) (![1, 128, 128] : Fin 3 → ℕ) p).toLoadRect : FVec Ideal S1x128x128 .f32) (ix3 0 s k)
      = View.canon L (ix3 ⟨hd, hh⟩ s k) := by
  rw [View.readCov_eq_canon']
  refine congrArg (View.canon L) ?_
  funext a
  fin_cases a
  · exact Fin.ext (by show hd + 1 * 0 = hd; omega)
  · exact Fin.ext (by show 0 + 1 * s.val = s.val; omega)
  · exact Fin.ext (by show 0 + 1 * k.val = k.val; omega)

/-- What block `t` adds to the bias's gradient. -/
def stepM (t : Fin cfg0.N) (h : Fin 4) (s d : Fin 128) : EReal :=
  ∑ n : Fin 4, val_main_v79 (F := Ideal) (a0 m c) (a1 m c) (ix2 (row (ch t n.val n.isLt) s) (col h d))
/-- What block `t` adds to the weight's gradient. -/
def stepW (t : Fin cfg0.N) (h : Fin 4) (s k : Fin 128) : EReal :=
  low (fun s k => ∑ n : Fin 4, ∑ d : Fin 128, val_main_v79 (F := Ideal) (a0 m c) (a1 m c) (ix2 (row (ch t n.val n.isLt) s) (col h d))
    * val_main_v65 (F := Ideal) (a0 m c) (a2 m c) (ix2 (row (ch t n.val n.isLt) k) (col h d))) s k

variable (t : Fin cfg0.N) (o1 hd : ℕ) (h1 : o1 + 128 ≤ 512) (hh : hd < 4) (e1 : o1 = 128 * hd)
abbrev dmv (o0 : ℕ) (p1 p2 : S512x512.Slices (![o0, o1] : Fin 2 → ℕ) S128x128) : FVec Ideal S128x128 .f32 :=
  mulf (extractStridedSlice S128x128 ![o0, o1] (iblk m c 2 t : FVec Ideal S512x512 .f32) p1) (extractStridedSlice S128x128 ![o0, o1] (k0_pay5 (F := Ideal) (iblk m c 0 t)) p2)
include h1 e1 in
theorem dmv_apply (q : ℕ) (hq : q < 4) (o0 : ℕ) (h0 : o0 + 128 ≤ 512) (e0 : o0 = 128 * q) (p1 p2) (a d : Fin 128) :
    dmv m c t o1 o0 p1 p2 (ix2 a d) = val_main_v79 (F := Ideal) (a0 m c) (a1 m c) (ix2 (row (ch t q hq) a) (col ⟨hd, hh⟩ d)) := by
  have hr := rr_row t q hq o0 h0 e0
  have hc := pos_col hd hh o1 h1 e1 d
  rw [← hr, ← hc]
  exact (dm_piece (iblk m c 2 t) o0 o1 h0 h1 _ p1 p2 a d).trans (UB m c t _ _)
abbrev dwv (o0 : ℕ) (p1 p2 p3 : S512x512.Slices (![o0, o1] : Fin 2 → ℕ) S128x128) (f1 f2 : FTy.bf16.bits < FTy.f32.bits) : FVec Ideal S128x128 .f32 :=
  matmul dot_S128x128_S128x128_S128x128_1_1_0_0_n_n none (truncf .bf16 (dmv m c t o1 o0 p1 p2) f1)
    (truncf .bf16 (extractStridedSlice S128x128 ![o0, o1] (k0_pay12 (F := Ideal) (k0_pay6 (F := Ideal) (iblk m c 1 t)) (iblk m c 3 t)) p3) f2) (constant S128x128 .f32 0x00000000#32)
include h1 e1 in
theorem dwv_apply (q : ℕ) (hq : q < 4) (o0 : ℕ) (h0 : o0 + 128 ≤ 512) (e0 : o0 = 128 * q) (p1 p2 p3 f1 f2) (a d : Fin 128) :
    dwv m c t o1 o0 p1 p2 p3 f1 f2 (ix2 a d) = ∑ k : Fin 128, val_main_v79 (F := Ideal) (a0 m c) (a1 m c) (ix2 (row (ch t q hq) a) (col ⟨hd, hh⟩ k))
      * val_main_v65 (F := Ideal) (a0 m c) (a2 m c) (ix2 (row (ch t q hq) d) (col ⟨hd, hh⟩ k)) := by
  refine (dw_piece (iblk m c 2 t) o0 o1 h0 h1 _ _ p1 p2 p3 f1 f2 a d).trans (Finset.sum_congr rfl fun k _ => ?_)
  have hr := rr_row t q hq o0 h0 e0
  have hc := pos_col hd hh o1 h1 e1 k
  rw [← hr, ← hr, ← hc]
  exact Ideal.mul_congr (UB m c t _ _) (VB m c t _ _)

theorem sum4 (Z w0 w1 w2 w3 : FVec Ideal S128x128 .f32) (hZ : ∀ x, Z x = 0) (x) (f : Fin 4 → EReal)
    (e0 : w0 x = f 0) (e1 : w1 x = f 1) (e2 : w2 x = f 2) (e3 : w3 x = f 3) :
    addf (addf (addf (addf Z w0) w1) w2) w3 x = ∑ n : Fin 4, f n := by
  show (((Z x + w0 x) + w1 x) + w2 x) + w3 x = _
  rw [hZ, e0, e1, e2, e3, zero_add, Fin.sum_univ_four]

theorem zeroB (x) : (broadcast S128x128 (Scalar.ofBits .f32 0x00000000#32) : FVec Ideal S128x128 .f32) x = 0 := lit_zero
include h1 e1 in
theorem stepM_apply (X : FVec Ideal S1x128x128 .f32) (q q' p1 p2 p3 p4 r1 r2 r3 r4) (s d : Fin 128) :
    shapeCast S1x128x128 (addf (shapeCast S128x128 X q) (addf (addf (addf (addf (broadcast S128x128 (Scalar.ofBits .f32 0x00000000#32))
      (dmv m c t o1 0 p1 r1)) (dmv m c t o1 128 p2 r2)) (dmv m c t o1 256 p3 r3)) (dmv m c t o1 384 p4 r4))) q' (ix3 0 s d)
    = X (ix3 0 s d) + stepM m c t ⟨hd, hh⟩ s d := by
  refine (uncast_apply _ q' s d).trans (Ideal.add_congr (cast_apply X q s d) ?_)
  exact sum4 _ _ _ _ _ zeroB _ (fun n => val_main_v79 (F := Ideal) (a0 m c) (a1 m c) (ix2 (row (ch t n.val n.isLt) s) (col ⟨hd, hh⟩ d)))
    (dmv_apply m c t o1 hd h1 hh e1 0 _ 0 (by decide) rfl _ _ s d) (dmv_apply m c t o1 hd h1 hh e1 1 _ 128 (by decide) rfl _ _ s d)
    (dmv_apply m c t o1 hd h1 hh e1 2 _ 256 (by decide) rfl _ _ s d) (dmv_apply m c t o1 hd h1 hh e1 3 _ 384 (by decide) rfl _ _ s d)
include h1 e1 in
theorem stepW_apply (X : FVec Ideal S1x128x128 .f32) (q q' p1 p2 p3 p4 r1 r2 r3 r4 s1 s2 s3 s4 f1 f2 f3 f4 g1 g2 g3 g4) (s d : Fin 128) :
    shapeCast S1x128x128 (addf (shapeCast S128x128 X q) (select k0_pay13 (addf (addf (addf (addf (broadcast S128x128 (Scalar.ofBits .f32 0x00000000#32))
      (dwv m c t o1 0 p1 r1 s1 f1 g1)) (dwv m c t o1 128 p2 r2 s2 f2 g2)) (dwv m c t o1 256 p3 r3 s3 f3 g3)) (dwv m c t o1 384 p4 r4 s4 f4 g4))
      (broadcast S128x128 (Scalar.ofBits .f32 0x00000000#32)))) q' (ix3 0 s d)
    = X (ix3 0 s d) + stepW m c t ⟨hd, hh⟩ s d := by
  refine (uncast_apply _ q' s d).trans (Ideal.add_congr (cast_apply X q s d) ?_)
  refine (mask_apply _ _ s d).trans ?_
  unfold stepW low
  have e := sum4 _ _ _ _ _ zeroB _ (fun n => ∑ k : Fin 128, val_main_v79 (F := Ideal) (a0 m c) (a1 m c) (ix2 (row (ch t n.val n.isLt) s) (col ⟨hd, hh⟩ k))
      * val_main_v65 (F := Ideal) (a0 m c) (a2 m c) (ix2 (row (ch t n.val n.isLt) d) (col ⟨hd, hh⟩ k)))
    (dwv_apply m c t o1 hd h1 hh e1 0 (by decide) 0 (by decide) rfl p1 r1 s1 f1 g1 s d) (dwv_apply m c t o1 hd h1 hh e1 1 (by decide) 128 (by decide) rfl p2 r2 s2 f2 g2 s d)
    (dwv_apply m c t o1 hd h1 hh e1 2 (by decide) 256 (by decide) rfl p3 r3 s3 f3 g3 s d) (dwv_apply m c t o1 hd h1 hh e1 3 (by decide) 384 (by decide) rfl p4 r4 s4 f4 g4 s d)
  rw [e, zeroB]
end heads

theorem zeroM (j) : k0_pay3 (F := Ideal) j = 0 := by pointwise [k0_pay3]
theorem zeroW (j) : k0_pay2 (F := Ideal) j = 0 := by pointwise [k0_pay2]

theorem stepM_A (t : Fin cfg0.N) (h : t.val % 8 = 0) (y0 : Fin 4) (s d : Fin 128) :
    (outsAt0 m c t.val t.isLt).2.2.2.1 (ix3 y0 s d) = 0 + stepM m c t y0 s d := by
  rw [outsAt0_A m c t h]; frame_out
  clear h
  match y0 with
  | ⟨3, hy⟩ =>
    refine (canon_at _ 3 hy _ _ s d).trans ((stepM_apply m c t 384 3 (by decide) hy rfl _ _ _ _ _ _ _ _ _ _ _ s d).trans (Ideal.add_congr ?_ rfl))
    refine (read_head _ _ 3 hy _ s d).trans ?_
    refine (skip_up _ 2 3 hy (by decide) _ _ s d).trans ?_
    refine (skip_up _ 1 3 hy (by decide) _ _ s d).trans ?_
    refine (skip_up _ 0 3 hy (by decide) _ _ s d).trans ?_
    exact (congrFun (View.canon_cons_unit_lit _ _ _ (by decide)) _).trans (zeroM _)
  | ⟨2, hy⟩ =>
    refine (canon_skip _ 3 2 hy (by decide) _ _ s d).trans ?_
    refine (canon_at _ 2 hy _ _ s d).trans ((stepM_apply m c t 256 2 (by decide) hy rfl _ _ _ _ _ _ _ _ _ _ _ s d).trans (Ideal.add_congr ?_ rfl))
    refine (read_head _ _ 2 hy _ s d).trans ?_
    refine (skip_up _ 1 2 hy (by decide) _ _ s d).trans ?_
    refine (skip_up _ 0 2 hy (by decide) _ _ s d).trans ?_
    exact (congrFun (View.canon_cons_unit_lit _ _ _ (by decide)) _).trans (zeroM _)
  | ⟨1, hy⟩ =>
    refine (canon_skip _ 3 1 hy (by decide) _ _ s d).trans ?_
    refine (canon_skip _ 2 1 hy (by decide) _ _ s d).trans ?_
    refine (canon_at _ 1 hy _ _ s d).trans ((stepM_apply m c t 128 1 (by decide) hy rfl _ _ _ _ _ _ _ _ _ _ _ s d).trans (Ideal.add_congr ?_ rfl))
    refine (read_head _ _ 1 hy _ s d).trans ?_
    refine (skip_up _ 0 1 hy (by decide) _ _ s d).trans ?_
    exact (congrFun (View.canon_cons_unit_lit _ _ _ (by decide)) _).trans (zeroM _)
  | ⟨0, hy⟩ =>
    refine (canon_skip _ 3 0 hy (by decide) _ _ s d).trans ?_
    refine (canon_skip _ 2 0 hy (by decide) _ _ s d).trans ?_
    refine (canon_skip _ 1 0 hy (by decide) _ _ s d).trans ?_
    refine (canon_at _ 0 hy _ _ s d).trans ((stepM_apply m c t 0 0 (by decide) hy rfl _ _ _ _ _ _ _ _ _ _ _ s d).trans (Ideal.add_congr ?_ rfl))
    refine (read_head _ _ 0 hy _ s d).trans ?_
    exact (congrFun (View.canon_cons_unit_lit _ _ _ (by decide)) _).trans (zeroM _)
theorem stepM_B (t : Fin cfg0.N) (h : ¬ t.val % 8 = 0) (y0 : Fin 4) (s d : Fin 128) :
    (outsAt0 m c t.val t.isLt).2.2.2.1 (ix3 y0 s d) = (outsAt0 m c (t.val - 1) (by omega)).2.2.2.1 (ix3 y0 s d) + stepM m c t y0 s d := by
  rw [outsAt0_B m c t h]; frame_out
  clear h
  generalize (outsAt0 m c (t.val - 1) _).2.2.2.1 = acc
  match y0 with
  | ⟨3, hy⟩ =>
    refine (canon_at _ 3 hy _ _ s d).trans ((stepM_apply m c t 384 3 (by decide) hy rfl _ _ _ _ _ _ _ _ _ _ _ s d).trans (Ideal.add_congr ?_ rfl))
    exact ld_apply acc 3 hy _ s d
  | ⟨2, hy⟩ =>
    refine (canon_skip _ 3 2 hy (by decide) _ _ s d).trans ?_
    refine (canon_at _ 2 hy _ _ s d).trans ((stepM_apply m c t 256 2 (by decide) hy rfl _ _ _ _ _ _ _ _ _ _ _ s d).trans (Ideal.add_congr ?_ rfl))
    exact ld_apply acc 2 hy _ s d
  | ⟨1, hy⟩ =>
    refine (canon_skip _ 3 1 hy (by decide) _ _ s d).trans ?_
    refine (canon_skip _ 2 1 hy (by decide) _ _ s d).trans ?_
    refine (canon_at _ 1 hy _ _ s d).trans ((stepM_apply m c t 128 1 (by decide) hy rfl _ _ _ _ _ _ _ _ _ _ _ s d).trans (Ideal.add_congr ?_ rfl))
    exact ld_apply acc 1 hy _ s d
  | ⟨0, hy⟩ =>
    refine (canon_skip _ 3 0 hy (by decide) _ _ s d).trans ?_
    refine (canon_skip _ 2 0 hy (by decide) _ _ s d).trans ?_
    refine (canon_skip _ 1 0 hy (by decide) _ _ s d).trans ?_
    refine (canon_at _ 0 hy _ _ s d).trans ((stepM_apply m c t 0 0 (by decide) hy rfl _ _ _ _ _ _ _ _ _ _ _ s d).trans (Ideal.add_congr ?_ rfl))
    exact ld_apply acc 0 hy _ s d
theorem stepW_A (t : Fin cfg0.N) (h : t.val % 8 = 0) (y0 : Fin 4) (s d : Fin 128) :
    (outsAt0 m c t.val t.isLt).2.2.1 (ix3 y0 s d) = 0 + stepW m c t y0 s d := by
  rw [outsAt0_A m c t h]; frame_out
  clear h
  match y0 with
  | ⟨3, hy⟩ =>
    refine (canon_at _ 3 hy _ _ s d).trans ((stepW_apply m c t 384 3 (by decide) hy rfl _ _ _ _ _ _ _ _ _ _ _ _ _ _ _ _ _ _ _ _ _ _ _ s d).trans (Ideal.add_congr ?_ rfl))
    refine (read_head _ _ 3 hy _ s d).trans ?_
    refine (skip_up _ 2 3 hy (by decide) _ _ s d).trans ?_
    refine (skip_up _ 1 3 hy (by decide) _ _ s d).trans ?_
    refine (skip_up _ 0 3 hy (by decide) _ _ s d).trans ?_
    exact (congrFun (View.canon_cons_unit_lit _ _ _ (by decide)) _).trans (zeroW _)
  | ⟨2, hy⟩ =>
    refine (canon_skip _ 3 2 hy (by decide) _ _ s d).trans ?_
    refine (canon_at _ 2 hy _ _ s d).trans ((stepW_apply m c t 256 2 (by decide) hy rfl _ _ _ _ _ _ _ _ _ _ _ _ _ _ _ _ _ _ _ _ _ _ _ s d).trans (Ideal.add_congr ?_ rfl))
    refine (read_head _ _ 2 hy _ s d).trans ?_
    refine (skip_up _ 1 2 hy (by decide) _ _ s d).trans ?_
    refine (skip_up _ 0 2 hy (by decide) _ _ s d).trans ?_
    exact (congrFun (View.canon_cons_unit_lit _ _ _ (by decide)) _).trans (zeroW _)
  | ⟨1, hy⟩ =>
    refine (canon_skip _ 3 1 hy (by decide) _ _ s d).trans ?_
    refine (canon_skip _ 2 1 hy (by decide) _ _ s d).trans ?_
    refine (canon_at _ 1 hy _ _ s d).trans ((stepW_apply m c t 128 1 (by decide) hy rfl _ _ _ _ _ _ _ _ _ _ _ _ _ _ _ _ _ _ _ _ _ _ _ s d).trans (Ideal.add_congr ?_ rfl))
    refine (read_head _ _ 1 hy _ s d).trans ?_
    refine (skip_up _ 0 1 hy (by decide) _ _ s d).trans ?_
    exact (congrFun (View.canon_cons_unit_lit _ _ _ (by decide)) _).trans (zeroW _)
  | ⟨0, hy⟩ =>
    refine (canon_skip _ 3 0 hy (by decide) _ _ s d).trans ?_
    refine (canon_skip _ 2 0 hy (by decide) _ _ s d).trans ?_
    refine (canon_skip _ 1 0 hy (by decide) _ _ s d).trans ?_
    refine (canon_at _ 0 hy _ _ s d).trans ((stepW_apply m c t 0 0 (by decide) hy rfl _ _ _ _ _ _ _ _ _ _ _ _ _ _ _ _ _ _ _ _ _ _ _ s d).trans (Ideal.add_congr ?_ rfl))
    refine (read_head _ _ 0 hy _ s d).trans ?_
    exact (congrFun (View.canon_cons_unit_lit _ _ _ (by decide)) _).trans (zeroW _)
theorem stepW_B (t : Fin cfg0.N) (h : ¬ t.val % 8 = 0) (y0 : Fin 4) (s d : Fin 128) :
    (outsAt0 m c t.val t.isLt).2.2.1 (ix3 y0 s d) = (outsAt0 m c (t.val - 1) (by omega)).2.2.1 (ix3 y0 s d) + stepW m c t y0 s d := by
  rw [outsAt0_B m c t h]; frame_out
  clear h
  generalize (outsAt0 m c (t.val - 1) _).2.2.1 = acc
  match y0 with
  | ⟨3, hy⟩ =>
    refine (canon_at _ 3 hy _ _ s d).trans ((stepW_apply m c t 384 3 (by decide) hy rfl _ _ _ _ _ _ _ _ _ _ _ _ _ _ _ _ _ _ _ _ _ _ _ s d).trans (Ideal.add_congr ?_ rfl))
    exact ld_apply acc 3 hy _ s d
  | ⟨2, hy⟩ =>
    refine (canon_skip _ 3 2 hy (by decide) _ _ s d).trans ?_
    refine (canon_at _ 2 hy _ _ s d).trans ((stepW_apply m c t 256 2 (by decide) hy rfl _ _ _ _ _ _ _ _ _ _ _ _ _ _ _ _ _ _ _ _ _ _ _ s d).trans (Ideal.add_congr ?_ rfl))
    exact ld_apply acc 2 hy _ s d
  | ⟨1, hy⟩ =>
    refine (canon_skip _ 3 1 hy (by decide) _ _ s d).trans ?_
    refine (canon_skip _ 2 1 hy (by decide) _ _ s d).trans ?_
    refine (canon_at _ 1 hy _ _ s d).trans ((stepW_apply m c t 128 1 (by decide) hy rfl _ _ _ _ _ _ _ _ _ _ _ _ _ _ _ _ _ _ _ _ _ _ _ s d).trans (Ideal.add_congr ?_ rfl))
    exact ld_apply acc 1 hy _ s d
  | ⟨0, hy⟩ =>
    refine (canon_skip _ 3 0 hy (by decide) _ _ s d).trans ?_
    refine (canon_skip _ 2 0 hy (by decide) _ _ s d).trans ?_
    refine (canon_skip _ 1 0 hy (by decide) _ _ s d).trans ?_
    refine (canon_at _ 0 hy _ _ s d).trans ((stepW_apply m c t 0 0 (by decide) hy rfl _ _ _ _ _ _ _ _ _ _ _ _ _ _ _ _ _ _ _ _ _ _ _ s d).trans (Ideal.add_congr ?_ rfl))
    exact ld_apply acc 0 hy _ s d

theorem sum_low {n : ℕ} (f : Fin n → Fin 128 → Fin 128 → EReal) (s k : Fin 128) : ∑ t, low (f t) s k = low (fun s k => ∑ t, f t s k) s k := by
  unfold low
  split
  · rfl
  · exact Finset.sum_const_zero

theorem final9 : (dats m 0 c).arrAt 9 cfg0.N = val_main_v85 (F := Ideal) (a0 m c) (a1 m c) := by
  refine (dats m 0 c).arrAt_eq_of_after_last 9 t0_7 (by decide +kernel) _ fun y => ?_
  blk_simp
  rw [after0_9, Pipeline.eq_sum_fin_of_reset_step_apply_last (fun n h => (outsAt0 m c n h).2.2.2.1) 8 (fun _ => 0)
    (fun t y => stepM m c t (y 0) (y 1) (y 2))
    (fun t h j => by idx_vars j; exact stepM_A m c t h j0 j1 j2)
    (fun t h j => by idx_vars j; exact stepM_B m c t h j0 j1 j2)
    (le_of_eq N_0) t0_7 rfl y, zero_add]
  idx_vars y
  rw [v85]
  exact Fin.sum_mul_add_congr fun t k hk => rfl

theorem final8 : (dats m 0 c).arrAt 8 cfg0.N = val_main_v90 (F := Ideal) (a0 m c) (a1 m c) (a2 m c) := by
  refine (dats m 0 c).arrAt_eq_of_after_last 8 t0_7 (by decide +kernel) _ fun y => ?_
  blk_simp
  rw [after0_8, Pipeline.eq_sum_fin_of_reset_step_apply_last (fun n h => (outsAt0 m c n h).2.2.1) 8 (fun _ => 0)
    (fun t y => stepW m c t (y 0) (y 1) (y 2))
    (fun t h j => by idx_vars j; exact stepW_A m c t h j0 j1 j2)
    (fun t h j => by idx_vars j; exact stepW_B m c t h j0 j1 j2)
    (le_of_eq N_0) t0_7 rfl y, zero_add]
  idx_vars y
  rw [v90]
  refine (sum_low (fun t s k => ∑ n : Fin 4, ∑ d : Fin 128, val_main_v79 (F := Ideal) (a0 m c) (a1 m c) (ix2 (row (ch t n.val n.isLt) s) (col y0 d))
    * val_main_v65 (F := Ideal) (a0 m c) (a2 m c) (ix2 (row (ch t n.val n.isLt) k) (col y0 d))) y1 y2).trans ?_
  refine congrArg (fun w => low w y1 y2) (funext fun s => funext fun k => ?_)
  exact Fin.sum_mul_add_congr fun t k hk => rfl

end Cert.SguIdeal.Value2
-- ==== Proof.SguClaim.lean ====
module
public import proofs.«01_k».proof.Defs
public import proofs.«01_k».proof.Proof.Gen.Sgu.Frame
public import proofs.«01_k».proof.Proof.Gen.SguRefIdeal.Run
public import proofs.«01_k».proof.Proof.SguVal
@[expose] public section
/-! The claims about the spatial gate's gradient. -/
set_option maxRecDepth 65536
noncomputable section
open Idealize.ShloMosaic Idealize.SL.Sem
namespace Cert.Proof.Sgu

instance preFacts : Cert.Pre_sgu_finite.Facts := ⟨by decide, by decide, by decide, by decide, by decide⟩

theorem frame : Cert.quiescent_Sgu := fun m ρ _ => Cert.Sgu.Gen.frame m ρ

theorem frameIdeal : Cert.quiescent_SguIdeal := fun m ρ _ => Cert.SguIdeal.Gen.frame m ρ

theorem frameRef : Cert.quiescent_SguRefIdeal := fun m g _ =>
  (θ_run _ _ _).mono (fun r h => ⟨fun c => (h c).2.2.2.2.2, sem_eq_zero_of_no_sems rfl r.2⟩)
    (Cert.SguRefIdeal.Value.run m g)

theorem framePre : Cert.quiescent_SguIdeal_pre_sgu_finite := fun m ρ _ => Cert.SguIdeal.Gen.frame m ρ

theorem frameRefPre : Cert.quiescent_SguRefIdeal_pre_sgu_finite := fun m g _ => frameRef m g trivial

theorem preserves : Cert.preserves_Sgu_SguIdeal := ⟨IdealRules.named_const.statement Cert.SguIdeal.κ "gelu_c" .f32 0x3D372713#32 _ rfl, IdealRules.named_const.statement Cert.SguIdeal.κ "gelu_3c" .f32 0x3E095D4F#32 _ rfl⟩

set_option maxHeartbeats 1000000 in
theorem algebraic : Cert.algebraic_SguIdeal_SguRefIdeal_pre_sgu_finite := by
  pair_intro
  · run_from Cert.SguIdeal.Value.run_blocks m g
  · have real : ∀ c, Cert.SguIdeal.Value2.Fin5 m c := fun c =>
      ⟨Cert.Norm.IsReal.of_finite (fun _ => rfl) (hpre c).1, Cert.Norm.IsReal.of_finite (fun _ => rfl) (hpre c).2.1,
        Cert.Norm.IsReal.of_finite (fun _ => rfl) (hpre c).2.2.1, Cert.Norm.IsReal.of_finite (fun _ => rfl) (hpre c).2.2.2.1,
        Cert.Norm.IsReal.of_finite (fun _ => rfl) (hpre c).2.2.2.2⟩
    run_from Cert.SguRefIdeal.Value.run m' g'
    all_goals obtain ⟨e0, e1, e2, e3, e4⟩ := hagree c
    · exact (Cert.SguRefIdeal.Read.val_main_v140_eq (Idealize.ShloMosaic.StableHlo.launchContents m' c)).trans
        ((congr (congr (congr (congr (congrArg (Cert.SguRefIdeal.Read.val_main_v140 (F := Ideal)) e0) e1) e2) e3) e4).trans (Cert.SguIdeal.Value2.final6 m c (real c)).symm)
    · exact (Cert.SguRefIdeal.Read.val_main_v141_eq (Idealize.ShloMosaic.StableHlo.launchContents m' c)).trans
        ((congr (congr (congr (congrArg (Cert.SguRefIdeal.Read.val_main_v141 (F := Ideal)) e0) e1) e2) e3).trans (Cert.SguIdeal.Value2.final7 m c (real c)).symm)
    · exact (Cert.SguRefIdeal.Read.val_main_v90_eq (Idealize.ShloMosaic.StableHlo.launchContents m' c)).trans
        ((congr (congr (congrArg (Cert.SguRefIdeal.Read.val_main_v90 (F := Ideal)) e0) e1) e2).trans (Cert.SguIdeal.Value2.final8 m c).symm)
    · exact (Cert.SguRefIdeal.Read.val_main_v85_eq (Idealize.ShloMosaic.StableHlo.launchContents m' c)).trans
        ((congr (congrArg (Cert.SguRefIdeal.Read.val_main_v85 (F := Ideal)) e0) e1).trans (Cert.SguIdeal.Value2.final9 m c).symm)
    · exact (Cert.SguRefIdeal.Read.val_main_v142_eq (Idealize.ShloMosaic.StableHlo.launchContents m' c)).trans
        ((congr (congr (congrArg (Cert.SguRefIdeal.Read.val_main_v142 (F := Ideal)) e0) e1) e3).trans (Cert.SguIdeal.Value2.final10 m c).symm)

end Cert.Proof.Sgu
-- ==== Proof.FfnRun.lean ====
module
public import proofs.«01_k».proof.Proof.Gen.FfnIdeal.Frame
public import Idealize.ShloMosaic.Lib.Pipeline.ValueKit
@[expose] public section
/-! The run of the feed-forward gate's two calls, every buffer named at its end: the forward call's arrays enter the
    backward call, whose halves are laid side by side afterwards. -/
set_option maxRecDepth 200000
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.FfnIdeal.Value2
open Cert.FfnIdeal Cert.FfnIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with the unscoped buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The activation is what the forward call's write-backs leave. -/
theorem end_act (c : Dev nD) : W4 m ρ c (Proc.devRef .tc main_v1_0) = (dat0 (V1 m ρ) c).arrAt 6 cfg0.N :=
  (W4_of m ρ c main_v1_0 (by decide)).trans ((W3_of_ne m ρ c main_v1_0 (by decide)).trans (W2_arr m ρ c 6))

/-- The gradient of the input is what the backward call's write-backs leave. -/
theorem end_dup (c : Dev nD) : W4 m ρ c (Proc.devRef .tc main_v2_0) = (dat1 (V2 m ρ) c).arrAt 6 cfg1.N :=
  (W4_of m ρ c main_v2_0 (by decide)).trans (W3_arr m ρ c 6)

/-- The two halves of the tap gradients, side by side. -/
theorem end_dw (c : Dev nD) : W4 m ρ c (Proc.devRef .tc main_v7)
    = concatenate S3x5632 1
        [⟨S3x2816, shapeCast S3x2816 (extractStridedSlice S1x3x2816 ![0, 0, 0] ((dat1 (V2 m ρ) c).arrAt 7 cfg1.N : FVec F S2x3x2816 .f32) slices_S2x3x2816_S1x3x2816_0_0_0) shapeCasts_S1x3x2816_S3x2816⟩,
         ⟨S3x2816, shapeCast S3x2816 (extractStridedSlice S1x3x2816 ![1, 0, 0] ((dat1 (V2 m ρ) c).arrAt 7 cfg1.N : FVec F S2x3x2816 .f32) slices_S2x3x2816_S1x3x2816_1_0_0) shapeCasts_S1x3x2816_S3x2816⟩]
        concatenates_S3x2816_S3x2816_S3x5632_d1 := by
  have e := W3_arr m ρ c 7
  change W3 m ρ c (Proc.devRef .tc main_v2_1) = _ at e
  rw [← e]
  show StableHlo.after hostOps2 (W3 m ρ c) (Proc.devRef .tc main_v7) = _
  after_results; try rfl

theorem end_db (c : Dev nD) : W4 m ρ c (Proc.devRef .tc main_v12)
    = concatenate S1x5632 1
        [⟨S1x2816, shapeCast S1x2816 (extractStridedSlice S1x1x2816 ![0, 0, 0] ((dat1 (V2 m ρ) c).arrAt 8 cfg1.N : FVec F S2x1x2816 .f32) slices_S2x1x2816_S1x1x2816_0_0_0) shapeCasts_S1x1x2816_S1x2816⟩,
         ⟨S1x2816, shapeCast S1x2816 (extractStridedSlice S1x1x2816 ![1, 0, 0] ((dat1 (V2 m ρ) c).arrAt 8 cfg1.N : FVec F S2x1x2816 .f32) slices_S2x1x2816_S1x1x2816_1_0_0) shapeCasts_S1x1x2816_S1x2816⟩]
        concatenates_S1x2816_S1x2816_S1x5632_d1 := by
  have e := W3_arr m ρ c 8
  change W3 m ρ c (Proc.devRef .tc main_v2_2) = _ at e
  rw [← e]
  show StableHlo.after hostOps2 (W3 m ρ c) (Proc.devRef .tc main_v12) = _
  after_results; try rfl

/-- What the forward call reads. -/
theorem in_arg (c : Dev nD) (a : Ref sig .tc) (ha : a ∈ argRefs) : V1 m ρ c a = m ((c : Thread nD τ).loc a) := W1_args m ρ c a ha

theorem in_bias (c : Dev nD) : V1 m ρ c main_v0
    = (broadcastInDim S1x5632 ![1] bcast_S5632_S1x5632_1 (m ((c : Thread nD τ).loc main_arg3) : FVec F S5632 .f32) : FVec F S1x5632 .f32) := by
  show StableHlo.after hostOps0 (W0 m ρ c) (Proc.devRef .tc main_v0) = _
  after_results; try rfl

/-- What the backward call reads. -/
theorem in_arg' (c : Dev nD) (a : Ref sig .tc) (ha : a ∈ argRefs) : V2 m ρ c a = m ((c : Thread nD τ).loc a) := W2_args m ρ c a ha

theorem in_saved (c : Dev nD) : V2 m ρ c main_v1_1 = (dat0 (V1 m ρ) c).arrAt 7 cfg0.N := W2_arr m ρ c 7

/-- The run with its results and arguments named. -/
theorem run_named : θ_run defs (onTc (τ := τ) (main (F := F))) ⟨m, fun _ => 0, ρ⟩ (fun r => ∀ c : Dev nD,
      r.2.mem ((c.tc : Thread nD τ).loc main_v1_0) = W4 m ρ c (Proc.devRef .tc main_v1_0)
      ∧ r.2.mem ((c.tc : Thread nD τ).loc main_v2_0) = W4 m ρ c (Proc.devRef .tc main_v2_0)
      ∧ r.2.mem ((c.tc : Thread nD τ).loc main_v7) = W4 m ρ c (Proc.devRef .tc main_v7)
      ∧ r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v1_0 (by decide)), h c _ (mem_uc main_v2_0 (by decide)), h c _ (mem_uc main_v7 (by decide)), h c _ (mem_uc main_v12 (by decide)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c)⟩)
    (run_all m ρ)

end Cert.FfnIdeal.Value2
-- ==== Proof.FfnKernel.lean ====
module
public import proofs.«01_k».proof.Proof.FfnRun
public import proofs.«01_k».proof.Proof.Shift
public import proofs.«01_k».proof.Proof.Real
public import proofs.«01_k».proof.Proof.Norm
@[expose] public section
/-! What the two calls of the feed-forward gate store, block by block. -/
set_option maxRecDepth 200000
noncomputable section
open Idealize.ShloMosaic Idealize.ShloMosaic.TcCoe Idealize.SL.Sem
namespace Cert.FfnIdeal.Value2
open Cert.FfnIdeal Cert.FfnIdeal.Gen Cert.Shift Cert.Norm

/-- A convolved block, its bias added. -/
theorem pay2_apply (x : FVec Ideal S4096x128 .f32) (a b c d : FVec Ideal S1x128 .f32) (i : Fin 4096) (j : Fin 128) :
    k0_pay2 (F := Ideal) x a b c d (ix2 i j) = conv (a (ix2 0 j)) (b (ix2 0 j)) (c (ix2 0 j)) (col x j) i + d (ix2 0 j) := by
  have e1 := dn1 x rotates_S4096x128_d0 slices_S4096x128_o8_0_S4088x128 iota_S8x128_d0_w32
    slices_S4096x128_o0_0_S8x128 concatenates_S8x128_S4088x128_S4096x128_d0 i j
  have e2 := dn2 x rotates_S4096x128_d0 slices_S4096x128_o8_0_S4088x128 iota_S8x128_d0_w32
    slices_S4096x128_o0_0_S8x128 concatenates_S8x128_S4088x128_S4096x128_d0 i j
  pointwise [k0_pay2]
  pointwise at e1 e2
  exact Ideal.add_congr (Ideal.add_congr (Ideal.add_congr (Ideal.mul_congr rfl e2) (Ideal.mul_congr rfl e1)) rfl) rfl

theorem pay4_eq (x : FVec Ideal S4096x128 .f32) (a b c d : FVec Ideal S1x128 .f32) :
    k0_pay4 (F := Ideal) x a (k0_pay3 x) (iota .tc S8x128 32 [0] iota_S8x128_d0_w32) b c d = k0_pay2 (F := Ideal) x a b c d := rfl

theorem act_apply (g v : FVec Ideal S4096x128 .f32) (i : Fin 4096) (j : Fin 128) :
    k0_pay1 (F := Ideal) g v (k0_pay7 (F := Ideal) g) (Scalar.ofBits .f32 0x3F000000#32) (ix2 i j)
      = g (ix2 i j) * (sgm (g (ix2 i j)) : EReal) * v (ix2 i j) := by
  rw [← sgm_tanh, ← lit_half]
  pointwise [k0_pay1, k0_pay7]

theorem keep5 (g : FVec Ideal S4096x128 .f32) (i : Fin 4096) (j : Fin 128) : k0_pay5 (F := Ideal) g (ix3 0 i j) = g (ix2 i j) := by
  pointwise [k0_pay5]

theorem keep6 (x : FVec Ideal S4096x128 .f32) (a b c d : FVec Ideal S1x128 .f32) (i : Fin 4096) (j : Fin 128) :
    k0_pay6 (F := Ideal) x a (k0_pay3 x) (iota .tc S8x128 32 [0] iota_S8x128_d0_w32) b c d (ix3 0 i j) = k0_pay2 (F := Ideal) x a b c d (ix2 i j) := by
  rw [← pay4_eq]
  pointwise [k0_pay6]

/-! ## Loads of one row or one half -/
theorem tap0 (X : Vec Ideal S3x128 .f32) (j : Fin 128) : (View.ld X r0_1 (ix2 0 j) : EReal) = X (ix2 0 j) :=
  (congrFun (View.ld_unit X ![0, 0] S1x128.size inb_S3x128_S1x128_0_0) (ix2 0 j)).trans (by pointwise)
theorem tap1 (X : Vec Ideal S3x128 .f32) (j : Fin 128) : (View.ld X r0_2 (ix2 0 j) : EReal) = X (ix2 1 j) :=
  (congrFun (View.ld_unit X ![1, 0] S1x128.size inb_S3x128_S1x128_1_0) (ix2 0 j)).trans (by pointwise)
theorem tap2 (X : Vec Ideal S3x128 .f32) (j : Fin 128) : (View.ld X r0_3 (ix2 0 j) : EReal) = X (ix2 2 j) :=
  (congrFun (View.ld_unit X ![2, 0] S1x128.size inb_S3x128_S1x128_2_0) (ix2 0 j)).trans (by pointwise)
theorem half0 (X : Vec Ideal S2x4096x128 .f32) (i : Fin 4096) (j : Fin 128) : (View.ld X r1_0 (ix3 0 i j) : EReal) = X (ix3 0 i j) :=
  (congrFun (View.ld_unit X ![0, 0, 0] S1x4096x128.size inb_S2x4096x128_S1x4096x128_0_0_0) (ix3 0 i j)).trans (by pointwise)
theorem half1 (X : Vec Ideal S2x4096x128 .f32) (i : Fin 4096) (j : Fin 128) : (View.ld X r1_1 (ix3 0 i j) : EReal) = X (ix3 1 i j) :=
  (congrFun (View.ld_unit X ![1, 0, 0] S1x4096x128.size inb_S2x4096x128_S1x4096x128_1_0_0) (ix3 0 i j)).trans (by pointwise)

/-! ## The backward call -/
variable (g v : FVec Ideal S1x4096x128 .f32) (da : FVec Ideal S4096x128 .bf16)

/-- The gradient the call forms at the gate's column. -/
theorem dlo_apply (i : Fin 4096) (j : Fin 128) :
    k1_pay4 (F := Ideal) g v da (ix2 i j)
      = da (ix2 i j) * v (ix3 0 i j) * ((sgm (g (ix3 0 i j)) : EReal)
        * (((1 : ℝ) : EReal) + g (ix3 0 i j) * (((1 : ℝ) : EReal) - (sgm (g (ix3 0 i j)) : EReal)))) := by
  rw [← sgm_tanh, ← lit_half, ← lit_one]
  pointwise [k1_pay4, k1_pay3, k1_pay2]

/-- The gradient the call forms at the value's column. -/
theorem dhi_apply (i : Fin 4096) (j : Fin 128) :
    k1_pay15 (F := Ideal) (k1_pay2 (F := Ideal) g) da (k1_pay3 (F := Ideal) g) (ix2 i j)
      = da (ix2 i j) * (g (ix3 0 i j) * (sgm (g (ix3 0 i j)) : EReal)) := by
  rw [← sgm_tanh, ← lit_half]
  pointwise [k1_pay15, k1_pay3, k1_pay2]

theorem up_lo1 (i : Fin 4096) (j : Fin 128) :
    k1_pay5 (F := Ideal) g v da (ix2 i j) = ext (col (k1_pay4 (F := Ideal) g v da) j) (i.val + 1) :=
  up1 (k1_pay4 (F := Ideal) g v da) _ _ _ _ concatenates_S4088x128_S8x128_S4096x128_d0 i j

theorem up_lo2 (i : Fin 4096) (j : Fin 128) :
    k1_pay11 (F := Ideal) (k1_pay7 (F := Ideal) g v da) k1_pay8 (k1_pay9 (F := Ideal) g v da) (k1_pay10 (F := Ideal)) (ix2 i j)
      = ext (col (k1_pay4 (F := Ideal) g v da) j) (i.val + 2) :=
  up2 (k1_pay4 (F := Ideal) g v da) rotates_S4096x128_d0 slices_S4096x128_o0_0_S4088x128 iota_S8x128_d0_w32 slices_S4096x128_o4088_0_S8x128 concatenates_S4088x128_S8x128_S4096x128_d0 i j

variable (d p : FVec Ideal S4096x128 .f32) (a b c : FVec Ideal S1x128 .f32)

theorem up_hi1 (i : Fin 4096) (j : Fin 128) : k1_pay16 (F := Ideal) d (ix2 i j) = ext (col d j) (i.val + 1) :=
  up1 d _ _ _ _ concatenates_S4088x128_S8x128_S4096x128_d0 i j

theorem up_hi2 (i : Fin 4096) (j : Fin 128) : k1_pay17 (F := Ideal) d (ix2 i j) = ext (col d j) (i.val + 2) :=
  up2 d _ _ _ _ concatenates_S4088x128_S8x128_S4096x128_d0 i j

theorem dup_lo (i : Fin 4096) (j : Fin 128) :
    k1_pay14 (F := Ideal) (k1_pay4 (F := Ideal) g v da) (k1_pay5 (F := Ideal) g v da) (k1_pay7 (F := Ideal) g v da) k1_pay8
        (k1_pay9 (F := Ideal) g v da) (k1_pay10 (F := Ideal)) c b a (ix3 0 i j)
      = convT (a (ix2 0 j)) (b (ix2 0 j)) (c (ix2 0 j)) (col (k1_pay4 (F := Ideal) g v da) j) i := by
  pointwise [k1_pay14, up_lo1, up_lo2]
  rfl

theorem dup_hi (i : Fin 4096) (j : Fin 128) :
    k1_pay1 (F := Ideal) d (k1_pay16 (F := Ideal) d) (k1_pay17 (F := Ideal) d) c b a (ix3 0 i j)
      = convT (a (ix2 0 j)) (b (ix2 0 j)) (c (ix2 0 j)) (col d j) i := by
  pointwise [k1_pay1, up_hi1, up_hi2]
  rfl

theorem db_lo (j : Fin 128) : k1_pay12 (F := Ideal) d (ix3 0 0 j) = ∑ i : Fin 4096, col d j i := by
  unfold col
  pointwise [k1_pay12]

theorem db_hi (j : Fin 128) : k1_pay18 (F := Ideal) d (ix3 0 0 j) = ∑ i : Fin 4096, col d j i := by
  unfold col
  pointwise [k1_pay18]

theorem dw_lo (j : Fin 128) (k : Fin 3) :
    k1_pay13 (F := Ideal) (k1_pay4 (F := Ideal) g v da) p (k1_pay5 (F := Ideal) g v da) (k1_pay7 (F := Ideal) g v da) k1_pay8
        (k1_pay9 (F := Ideal) g v da) (k1_pay10 (F := Ideal)) (ix3 0 k j)
      = dtap (col (k1_pay4 (F := Ideal) g v da) j) (col p j) k := by
  unfold dtap
  pointwise [k1_pay13, up_lo1, up_lo2]
  fin_vals k with hk <;> simp only [hk, Nat.reduceSub, Nat.reduceLT, ↓reduceDIte]
  · rfl
  · rfl
  · refine Finset.sum_congr rfl fun i _ => ?_
    exact Ideal.mul_congr (ext_val (col (k1_pay4 (F := Ideal) g v da) j) i).symm rfl

theorem dw_hi (j : Fin 128) (k : Fin 3) :
    k1_pay19 (F := Ideal) d p (ix3 0 k j) = dtap (col d j) (col p j) k := by
  unfold dtap
  pointwise [k1_pay19, up_hi1, up_hi2]
  fin_vals k with hk <;> simp only [hk, Nat.reduceSub, Nat.reduceLT, ↓reduceDIte]
  · rfl
  · rfl
  · refine Finset.sum_congr rfl fun i _ => ?_
    exact Ideal.mul_congr (ext_val (col d j) i).symm rfl

end Cert.FfnIdeal.Value2
-- ==== Proof.FfnRefVal.lean ====
module
public import proofs.«01_k».proof.Proof.Gen.FfnRefIdeal.Read
public import proofs.«01_k».proof.Proof.Shift
public import proofs.«01_k».proof.Proof.Real
public import proofs.«01_k».proof.Proof.Norm
@[expose] public section
/-! What the reference computes for the feed-forward gate and its gradients, entry by entry. -/
set_option maxRecDepth 200000
noncomputable section
open Idealize.ShloMosaic Idealize.ShloMosaic.TcCoe Idealize.SL.Sem
namespace Cert.FfnRefIdeal.Value2
open Cert.FfnRefIdeal Cert.FfnRefIdeal.Gen Cert.FfnRefIdeal.Read Cert.Shift Cert.Norm
variable (x0 : FVec Ideal S4096x5632 .f32) (x1 : FVec Ideal S4096x2816 .bf16) (x2 : FVec Ideal S3x5632 .f32) (x3 : FVec Ideal S5632 .f32)

/-- The convolved column `j`, its bias added. -/
def Gc (j : Fin 5632) (r : Fin 4096) : EReal :=
  conv (x2 (ix2 0 j)) (x2 (ix2 1 j)) (x2 (ix2 2 j)) (col x0 j) r + x3 (ix1 j)
/-- The gradient at the convolved column `j`. -/
def D (j : Fin 5632) (r : Fin 4096) : EReal := val_main_v34 (F := Ideal) x0 x1 x2 x3 (ix2 r j)

/-- A column of the left half. -/
def lo (j : Fin 2816) : Fin 5632 := ⟨j.val, by omega⟩
/-- The column of the right half beside it. -/
def hi (j : Fin 2816) : Fin 5632 := ⟨2816 + j.val, by omega⟩

theorem v3 (i : Fin 4096) (j : Fin 5632) : val_main_v3 (F := Ideal) x0 (ix2 i j) = dn (col x0 j) 2 i.val := by
  pointwise [val_main_v3, val_main_v1, val_main_v0, val_main_cst]
  by_cases h : (i : ℕ) < 2
  · exact (dif_pos h).trans (dn_zero _ _ _ (by omega))
  · exact (dif_neg h).trans (dn_of x0 _ _ j _ _ (by omega) rfl)

theorem v9 (i : Fin 4096) (j : Fin 5632) : val_main_v9 (F := Ideal) x0 (ix2 i j) = dn (col x0 j) 1 i.val := by
  pointwise [val_main_v9, val_main_v1, val_main_v0, val_main_cst]
  by_cases h : 1 + (i : ℕ) < 2
  · exact (dif_pos h).trans (dn_zero _ _ _ (by omega))
  · exact (dif_neg h).trans (dn_of x0 _ _ j _ _ (by omega) (by omega))

theorem v16 (i : Fin 4096) (j : Fin 5632) : val_main_v16 (F := Ideal) x0 (ix2 i j) = col x0 j i := by
  pointwise [val_main_v16, val_main_v1, val_main_v0, val_main_cst]
  rfl

theorem v25 (i : Fin 4096) (j : Fin 5632) : val_main_v25 (F := Ideal) x0 x2 x3 (ix2 i j) = Gc x0 x2 x3 j i := by
  unfold Gc conv
  pointwise [val_main_v25, val_main_v24, val_main_v23, val_main_v22, val_main_v15, val_main_v8, val_main_v14, val_main_v21, val_main_v7, val_main_v13, val_main_v20, val_main_v6, val_main_v12, val_main_v19, val_main_v5, val_main_v11, val_main_v18, val_main_v4, val_main_v10, val_main_v17, v3, v9, v16]
  exact Ideal.add_congr (Ideal.add_congr (Ideal.add_congr (mul_comm _ _) (mul_comm _ _)) (mul_comm _ _)) rfl

theorem v26 (i : Fin 4096) (j : Fin 2816) : val_main_v26 (F := Ideal) x0 x2 x3 (ix2 i j) = Gc x0 x2 x3 (lo j) i := by
  rw [← v25]; pointwise [val_main_v26]; rfl

theorem v27 (i : Fin 4096) (j : Fin 2816) : val_main_v27 (F := Ideal) x0 x2 x3 (ix2 i j) = Gc x0 x2 x3 (hi j) i := by
  rw [← v25]; pointwise [val_main_v27]; rfl

theorem sig (i : Fin 4096) (j : Fin 2816) :
    val_main_v28_2 (F := Ideal) x0 x2 x3 (ix2 i j) = (sgm (Gc x0 x2 x3 (lo j) i) : EReal) := by
  rw [← sgm_div, ← lit_one]
  pointwise [val_main_v28_2, val_main_call0_v4, val_main_call0_v3, val_main_call0_v2, val_main_call0_v1, val_main_call0_v0, val_main_call0_cst, val_main_call0_cst_0, v26]

/-- The gated activation. -/
theorem v71 (i : Fin 4096) (j : Fin 2816) : val_main_v71 (F := Ideal) x0 x2 x3 (ix2 i j)
    = Gc x0 x2 x3 (lo j) i * (sgm (Gc x0 x2 x3 (lo j) i) : EReal) * Gc x0 x2 x3 (hi j) i := by
  pointwise [val_main_v71, val_main_v29, val_main_v28_0, sig, v26, v27]

/-- The gradient at the left half. -/
theorem D_lo (i : Fin 4096) (j : Fin 2816) : D x0 x1 x2 x3 (lo j) i
    = x1 (ix2 i j) * Gc x0 x2 x3 (hi j) i * (sgm (Gc x0 x2 x3 (lo j) i) : EReal)
      + Gc x0 x2 x3 (lo j) i * (x1 (ix2 i j) * Gc x0 x2 x3 (hi j) i)
        * ((sgm (Gc x0 x2 x3 (lo j) i) : EReal) * (((1 : ℝ) : EReal) - (sgm (Gc x0 x2 x3 (lo j) i) : EReal))) := by
  unfold D
  rw [← lit_one]
  have h : (lo j).val < 2816 := j.isLt
  pointwise [val_main_v34]
  refine (dif_pos h).trans ?_
  change val_main_v33 (F := Ideal) x0 x1 x2 x3 (ix2 i j) = _
  pointwise [val_main_v33, val_main_call1_v2, val_main_call1_v1, val_main_call1_v0, val_main_v32, val_main_v30, val_main_v28_1, val_main_call0_v7, val_main_call0_v6, val_main_call0_cst_1, sig, v26, v27]

/-- The gradient at the right half. -/
theorem D_hi (i : Fin 4096) (j : Fin 2816) : D x0 x1 x2 x3 (hi j) i
    = Gc x0 x2 x3 (lo j) i * (sgm (Gc x0 x2 x3 (lo j) i) : EReal) * x1 (ix2 i j) := by
  unfold D
  have h : ¬ (hi j).val < 2816 := by show ¬ 2816 + j.val < 2816; omega
  pointwise [val_main_v34]
  refine (dif_neg h).trans ?_
  have e : (⟨(hi j).val - 2816, by show 2816 + j.val - 2816 < 2816; omega⟩ : Fin 2816) = j := Fin.ext (by show 2816 + j.val - 2816 = j.val; omega)
  refine (congrArg (fun k => val_main_v31 (F := Ideal) x0 x1 x2 x3 (ix2 i k)) e).trans ?_
  pointwise [val_main_v31, val_main_v28_0, val_main_v30, sig, v26]

/-- The bias gradient. -/
theorem v78 (j : Fin 5632) : val_main_v78 (F := Ideal) x0 x1 x2 x3 (ix2 0 j) = ∑ i : Fin 4096, D x0 x1 x2 x3 j i := by
  unfold D
  pointwise [val_main_v78, val_main_v37, val_main_v36, val_main_v35, val_main_cst_1, val_main_cst_2]
  rw [Fin.sum_univ_one]

theorem v70 (i : Fin 4096) (j : Fin 5632) :
    val_main_v70 (F := Ideal) x0 x1 x2 x3 (ix2 i j) = convT (x2 (ix2 0 j)) (x2 (ix2 1 j)) (x2 (ix2 2 j)) (D x0 x1 x2 x3 j) i := by
  have e1 : ∀ k : ℕ, (if h : k < 4096 then val_main_v34 (F := Ideal) x0 x1 x2 x3 (ix2 ⟨k, h⟩ j) * x2 (ix2 1 j) else 0)
      = x2 (ix2 1 j) * ext (D x0 x1 x2 x3 j) k := fun k => by
    unfold ext; split
    · exact mul_comm _ _
    · exact (mul_zero _).symm
  have e0 : ∀ k : ℕ, (if h : k < 4096 then val_main_v34 (F := Ideal) x0 x1 x2 x3 (ix2 ⟨k, h⟩ j) * x2 (ix2 0 j) else 0)
      = x2 (ix2 0 j) * ext (D x0 x1 x2 x3 j) k := fun k => by
    unfold ext; split
    · exact mul_comm _ _
    · exact (mul_zero _).symm
  pointwise [val_main_v70, val_main_v68, val_main_v67, val_main_v57, val_main_v56, val_main_v46, val_main_v62, val_main_v51, val_main_v42, val_main_v61, val_main_v50, val_main_v41, val_main_v6, val_main_v12, val_main_v19, val_main_v5, val_main_v11, val_main_v18, val_main_v4, val_main_v10, val_main_v17, val_main_cst_6, val_main_cst_10, val_main_cst_14]
  refine Ideal.add_congr (Ideal.add_congr (mul_comm _ _) (Eq.trans ?_ (e1 (i.val + 1)))) (Eq.trans ?_ (e0 (i.val + 2)))
  · by_cases h : (i : ℕ) + 1 < 4096
    · refine (dif_pos (by omega)).trans (Eq.trans ?_ (dif_pos h).symm)
      refine Ideal.mul_congr (congrArg _ ((ix2_inj ..).2 ⟨Fin.ext ?_, rfl⟩)) rfl
      show 2 + (i : ℕ) - 1 = i + 1; omega
    · exact (dif_neg (by omega)).trans (by rw [dif_neg h])
  · by_cases h : (i : ℕ) + 2 < 4096
    · refine (dif_pos (by omega)).trans (Eq.trans ?_ (dif_pos h).symm)
      refine Ideal.mul_congr (congrArg _ ((ix2_inj ..).2 ⟨Fin.ext ?_, rfl⟩)) rfl
      show 2 + (i : ℕ) = i + 2; omega
    · exact (dif_neg (by omega)).trans (by rw [dif_neg h])

/-- The tap gradients. -/
theorem v66 (k : Fin 3) (j : Fin 5632) :
    val_main_v66 (F := Ideal) x0 x1 x2 x3 (ix2 k j) = dtap (D x0 x1 x2 x3 j) (col x0 j) k := by
  unfold dtap
  pointwise [val_main_v66, val_main_v65, val_main_v64, val_main_v63, val_main_v60, val_main_v59, val_main_v58, val_main_v55, val_main_v54, val_main_v53, val_main_v52, val_main_v49, val_main_v48, val_main_v47, val_main_v45, val_main_v44, val_main_v43, val_main_v40, val_main_v39, val_main_v38, val_main_cst_3, val_main_cst_4, val_main_cst_5, val_main_cst_7, val_main_cst_8, val_main_cst_9, val_main_cst_11, val_main_cst_12, val_main_cst_13, v3, v9, v16]
  fin_vals k with hk <;> simp [hk]
  · exact (sum_shift (D x0 x1 x2 x3 j) (col x0 j) 2 (by decide)).symm
  · exact (sum_shift (D x0 x1 x2 x3 j) (col x0 j) 1 (by decide)).symm
  · refine Finset.sum_congr rfl fun i _ => ?_
    rw [mul_comm, ext_val]; rfl

/-- The two halves of the gradient, stacked. -/
theorem v77_lo (i : Fin 4096) (j : Fin 2816) :
    val_main_v77 (F := Ideal) x0 x1 x2 x3 (ix3 0 i j) = val_main_v70 (F := Ideal) x0 x1 x2 x3 (ix2 i (lo j)) := by
  pointwise [val_main_v77, val_main_v76, val_main_v74, val_main_v72]
  rfl

theorem v77_hi (i : Fin 4096) (j : Fin 2816) :
    val_main_v77 (F := Ideal) x0 x1 x2 x3 (ix3 1 i j) = val_main_v70 (F := Ideal) x0 x1 x2 x3 (ix2 i (hi j)) := by
  pointwise [val_main_v77, val_main_v76, val_main_v75, val_main_v73]
  rfl

end Cert.FfnRefIdeal.Value2
-- ==== Proof.FfnVal.lean ====
module
public import proofs.«01_k».proof.Proof.FfnKernel
public import proofs.«01_k».proof.Proof.FfnRefVal
@[expose] public section
/-! The arrays the two calls of the feed-forward gate leave are the reference's. -/
set_option maxRecDepth 200000
noncomputable section
open Idealize.ShloMosaic Idealize.ShloMosaic.TcCoe Idealize.SL.Sem
namespace Cert.FfnIdeal.Value2
open Cert.FfnIdeal Cert.FfnIdeal.Gen Cert.Shift Cert.Norm
open Cert.FfnRefIdeal.Read
open Cert.FfnRefIdeal.Value2 (Gc D lo hi)

/-- Column `j` of block `t` is column `128 t + j`. -/
def cc (t : ℕ) (ht : t < 22) (j : Fin 128) : Fin 2816 := ⟨128 * t + j.val, by omega⟩
theorem lt0 (t : Fin cfg0.N) : t.val < 22 := t.isLt
theorem lt1 (t : Fin cfg1.N) : t.val < 22 := t.isLt

theorem idx0 : ∀ t : Fin cfg0.N, win0_0.index t = ![0, t.val] ∧ win0_1.index t = ![0, 22 + t.val] ∧ win0_2.index t = ![0, t.val]
    ∧ win0_3.index t = ![0, 22 + t.val] ∧ win0_4.index t = ![0, t.val] ∧ win0_5.index t = ![0, 22 + t.val] ∧ win0_6.index t = ![0, t.val]
    ∧ win0_7.index t = ![0, 0, t.val] :=
  (by decide +kernel : ∀ t : Fin grid0.N, _)

theorem idx1 : ∀ t : Fin cfg1.N, win1_0.index t = ![0, t.val] ∧ win1_1.index t = ![0, 22 + t.val] ∧ win1_2.index t = ![0, 0, t.val]
    ∧ win1_3.index t = ![0, t.val] ∧ win1_4.index t = ![0, t.val] ∧ win1_5.index t = ![0, 22 + t.val] ∧ win1_6.index t = ![0, 0, t.val]
    ∧ win1_7.index t = ![0, 0, t.val] ∧ win1_8.index t = ![0, 0, t.val] :=
  (by decide +kernel : ∀ t : Fin grid1.N, _)

section Blocks
variable (V : (c : Dev nD) → (b : Ref sig .tc) → Buf (Elt Ideal) ((c : Thread nD τ).loc b)) (c : Dev nD)

theorem b0_0 (t : Fin cfg0.N) (i : Fin 4096) (j : Fin 128) :
    (iblk0 V c 0 t (ix2 i j) : EReal) = (V c main_arg0 : FVec Ideal S4096x5632 .f32) (ix2 i (lo (cc t.val (lt0 t) j))) := by
  blk_point [iblk0, idx0 t, cc, lo, hi]
theorem b0_1 (t : Fin cfg0.N) (i : Fin 4096) (j : Fin 128) :
    (iblk0 V c 1 t (ix2 i j) : EReal) = (V c main_arg0 : FVec Ideal S4096x5632 .f32) (ix2 i (hi (cc t.val (lt0 t) j))) := by
  blk_point [iblk0, idx0 t, cc, lo, hi]
theorem b0_2 (t : Fin cfg0.N) (k : Fin 3) (j : Fin 128) :
    (iblk0 V c 2 t (ix2 k j) : EReal) = (V c main_arg2 : FVec Ideal S3x5632 .f32) (ix2 k (lo (cc t.val (lt0 t) j))) := by
  blk_point [iblk0, idx0 t, cc, lo, hi]
theorem b0_3 (t : Fin cfg0.N) (k : Fin 3) (j : Fin 128) :
    (iblk0 V c 3 t (ix2 k j) : EReal) = (V c main_arg2 : FVec Ideal S3x5632 .f32) (ix2 k (hi (cc t.val (lt0 t) j))) := by
  blk_point [iblk0, idx0 t, cc, lo, hi]
theorem b0_4 (t : Fin cfg0.N) (j : Fin 128) :
    (iblk0 V c 4 t (ix2 0 j) : EReal) = (V c main_v0 : FVec Ideal S1x5632 .f32) (ix2 0 (lo (cc t.val (lt0 t) j))) := by
  blk_point [iblk0, idx0 t, cc, lo, hi]
theorem b0_5 (t : Fin cfg0.N) (j : Fin 128) :
    (iblk0 V c 5 t (ix2 0 j) : EReal) = (V c main_v0 : FVec Ideal S1x5632 .f32) (ix2 0 (hi (cc t.val (lt0 t) j))) := by
  blk_point [iblk0, idx0 t, cc, lo, hi]
theorem b1_0 (t : Fin cfg1.N) (i : Fin 4096) (j : Fin 128) :
    (iblk1 V c 0 t (ix2 i j) : EReal) = (V c main_arg0 : FVec Ideal S4096x5632 .f32) (ix2 i (lo (cc t.val (lt1 t) j))) := by
  blk_point [iblk1, idx1 t, cc, lo, hi]
theorem b1_1 (t : Fin cfg1.N) (i : Fin 4096) (j : Fin 128) :
    (iblk1 V c 1 t (ix2 i j) : EReal) = (V c main_arg0 : FVec Ideal S4096x5632 .f32) (ix2 i (hi (cc t.val (lt1 t) j))) := by
  blk_point [iblk1, idx1 t, cc, lo, hi]
theorem b1_2 (t : Fin cfg1.N) (k : Fin 2) (i : Fin 4096) (j : Fin 128) :
    (iblk1 V c 2 t (ix3 k i j) : EReal) = (V c main_v1_1 : FVec Ideal S2x4096x2816 .f32) (ix3 k i (cc t.val (lt1 t) j)) := by
  blk_point [iblk1, idx1 t, cc, lo, hi]
theorem b1_3 (t : Fin cfg1.N) (i : Fin 4096) (j : Fin 128) :
    (iblk1 V c 3 t (ix2 i j) : EReal) = (V c main_arg1 : FVec Ideal S4096x2816 .bf16) (ix2 i (cc t.val (lt1 t) j)) := by
  blk_point [iblk1, idx1 t, cc, lo, hi]
theorem b1_4 (t : Fin cfg1.N) (k : Fin 3) (j : Fin 128) :
    (iblk1 V c 4 t (ix2 k j) : EReal) = (V c main_arg2 : FVec Ideal S3x5632 .f32) (ix2 k (lo (cc t.val (lt1 t) j))) := by
  blk_point [iblk1, idx1 t, cc, lo, hi]
theorem b1_5 (t : Fin cfg1.N) (k : Fin 3) (j : Fin 128) :
    (iblk1 V c 5 t (ix2 k j) : EReal) = (V c main_arg2 : FVec Ideal S3x5632 .f32) (ix2 k (hi (cc t.val (lt1 t) j))) := by
  blk_point [iblk1, idx1 t, cc, lo, hi]
end Blocks

variable (m : (ℓ : Loc nD τ sig) → Buf (Elt Ideal) ℓ) (ρ : Dev nD → PrngReg) (c : Dev nD)
abbrev a0 : FVec Ideal S4096x5632 .f32 := m ((c : Thread nD τ).loc main_arg0)
abbrev a1 : FVec Ideal S4096x2816 .bf16 := m ((c : Thread nD τ).loc main_arg1)
abbrev a2 : FVec Ideal S3x5632 .f32 := m ((c : Thread nD τ).loc main_arg2)
abbrev a3 : FVec Ideal S5632 .f32 := m ((c : Thread nD τ).loc main_arg3)

theorem e0 : (V1 m ρ c main_arg0 : FVec Ideal S4096x5632 .f32) = a0 m c := in_arg m ρ c main_arg0 (by decide)
theorem e2 : (V1 m ρ c main_arg2 : FVec Ideal S3x5632 .f32) = a2 m c := in_arg m ρ c main_arg2 (by decide)
theorem f0 : (V2 m ρ c main_arg0 : FVec Ideal S4096x5632 .f32) = a0 m c := in_arg' m ρ c main_arg0 (by decide)
theorem f1 : (V2 m ρ c main_arg1 : FVec Ideal S4096x2816 .bf16) = a1 m c := in_arg' m ρ c main_arg1 (by decide)
theorem f2 : (V2 m ρ c main_arg2 : FVec Ideal S3x5632 .f32) = a2 m c := in_arg' m ρ c main_arg2 (by decide)
theorem e3 (j : Fin 5632) : (V1 m ρ c main_v0 : FVec Ideal S1x5632 .f32) (ix2 0 j) = a3 m c (ix1 j) :=
  (congrFun (in_bias m ρ c) (ix2 0 j)).trans (by pointwise)

/-- The convolved column the forward call forms on the left. -/
theorem gate0 (t : Fin cfg0.N) (i : Fin 4096) (j : Fin 128) :
    k0_pay2 (F := Ideal) (iblk0 (V1 m ρ) c 0 t) (View.ld (iblk0 (V1 m ρ) c 2 t) r0_1) (View.ld (iblk0 (V1 m ρ) c 2 t) r0_2)
      (View.ld (iblk0 (V1 m ρ) c 2 t) r0_3) (iblk0 (V1 m ρ) c 4 t) (ix2 i j)
      = Gc (a0 m c) (a2 m c) (a3 m c) (lo (cc t.val (lt0 t) j)) i := by
  have h : col (iblk0 (V1 m ρ) c 0 t) j = col (a0 m c) (lo (cc t.val (lt0 t) j)) := by
    funext r; exact (b0_0 (V1 m ρ) c t r j).trans (by rw [e0]; rfl)
  rw [pay2_apply, tap0, tap1, tap2, b0_2, b0_2, b0_2, b0_4, e2, e3]
  exact congrArg (fun f => conv _ _ _ f i + _) h

/-- The convolved column it forms on the right. -/
theorem value0 (t : Fin cfg0.N) (i : Fin 4096) (j : Fin 128) :
    k0_pay2 (F := Ideal) (iblk0 (V1 m ρ) c 1 t) (View.ld (iblk0 (V1 m ρ) c 3 t) r0_1) (View.ld (iblk0 (V1 m ρ) c 3 t) r0_2)
      (View.ld (iblk0 (V1 m ρ) c 3 t) r0_3) (iblk0 (V1 m ρ) c 5 t) (ix2 i j)
      = Gc (a0 m c) (a2 m c) (a3 m c) (hi (cc t.val (lt0 t) j)) i := by
  have h : col (iblk0 (V1 m ρ) c 1 t) j = col (a0 m c) (hi (cc t.val (lt0 t) j)) := by
    funext r; exact (b0_1 (V1 m ρ) c t r j).trans (by rw [e0]; rfl)
  rw [pay2_apply, tap0, tap1, tap2, b0_3, b0_3, b0_3, b0_5, e2, e3]
  exact congrArg (fun f => conv _ _ _ f i + _) h

theorem final_act : (dat0 (V1 m ρ) c).arrAt 6 cfg0.N = val_main_v71 (F := Ideal) (a0 m c) (a2 m c) (a3 m c) := by
  refine (dat0 (V1 m ρ) c).arrAt_eq_of_covers 6 _ (by decide +kernel) fun t _ y => ?_
  blk_simp; rw [after0_6]; unfold_out out0_6; frame_out
  idx_vars y
  have e : ((View.whole main_v1_0).slice (win0_6.rect t)).emb (ix2 y0 y1) = ix2 y0 (cc t.val (lt0 t) y1) := by
    blk_ext [idx0 t, cc]
  rw [e, FfnRefIdeal.Value2.v71, ← gate0, ← value0]
  exact act_apply _ _ y0 y1

/-- The two convolved columns the forward call saves. -/
def saved : FVec Ideal S2x4096x2816 .f32 := fun y =>
  if (y 0).val = 0 then Gc (a0 m c) (a2 m c) (a3 m c) (lo (y 2)) (y 1) else Gc (a0 m c) (a2 m c) (a3 m c) (hi (y 2)) (y 1)

theorem final_saved : (dat0 (V1 m ρ) c).arrAt 7 cfg0.N = saved m c := by
  refine (dat0 (V1 m ρ) c).arrAt_eq_of_covers 7 _ (by decide +kernel) fun t _ y => ?_
  blk_simp; rw [after0_7]; unfold_out out0_7; frame_out
  idx_vars y
  have e : ((View.whole main_v1_1).slice (win0_7.rect t)).emb (ix3 y0 y1 y2) = ix3 y0 y1 (cc t.val (lt0 t) y2) := by
    blk_ext [idx0 t, cc]
  rw [e]
  clear e
  canon_tiles z h
  · idx_vars z
    obtain rfl : y1 = z1 := Fin.ext h1
    obtain rfl : y2 = z2 := Fin.ext h2
    obtain rfl : z0 = 0 := Subsingleton.elim _ _
    have n0 : ¬ y0.val = 0 := by have : y0.val = 1 + 0 := h0; omega
    refine Eq.trans ?_ (if_neg n0).symm
    exact (keep6 _ _ _ _ _ y1 y2).trans (value0 m ρ c t y1 y2)
  · idx_vars z
    obtain rfl : y1 = z1 := Fin.ext h1
    obtain rfl : y2 = z2 := Fin.ext h2
    obtain rfl : z0 = 0 := Subsingleton.elim _ _
    have n0 : y0.val = 0 := by have : y0.val = 0 := h0; omega
    refine Eq.trans ?_ (if_pos n0).symm
    exact (keep5 _ y1 y2).trans (gate0 m ρ c t y1 y2)

/-- The left column the backward call reads back. -/
theorem gate1 (t : Fin cfg1.N) (i : Fin 4096) (j : Fin 128) :
    (View.ld (iblk1 (V2 m ρ) c 2 t) r1_0 (ix3 0 i j) : EReal) = Gc (a0 m c) (a2 m c) (a3 m c) (lo (cc t.val (lt1 t) j)) i := by
  rw [half0, b1_2, in_saved, final_saved]; rfl

theorem value1 (t : Fin cfg1.N) (i : Fin 4096) (j : Fin 128) :
    (View.ld (iblk1 (V2 m ρ) c 2 t) r1_1 (ix3 0 i j) : EReal) = Gc (a0 m c) (a2 m c) (a3 m c) (hi (cc t.val (lt1 t) j)) i := by
  rw [half1, b1_2, in_saved, final_saved]; rfl

/-- Every argument is a real number everywhere. -/
def Fin4 : Prop := (∀ i, IsReal (a0 m c i)) ∧ (∀ i, IsReal (a1 m c i)) ∧ (∀ i, IsReal (a2 m c i)) ∧ ∀ i, IsReal (a3 m c i)

theorem dn_real {f : Fin 4096 → EReal} (h : ∀ i, IsReal (f i)) (k i : ℕ) : IsReal (dn f k i) := by
  unfold dn ext
  split
  · split
    · exact h _
    · exact IsReal.zero
  · exact IsReal.zero

theorem Gc_real (h : Fin4 m c) (j : Fin 5632) (i : Fin 4096) : IsReal (Gc (a0 m c) (a2 m c) (a3 m c) j i) := by
  have hc : ∀ r, IsReal (col (a0 m c) j r) := fun r => h.1 _
  exact ((((h.2.2.1 _).mul (dn_real hc _ _)).add ((h.2.2.1 _).mul (dn_real hc _ _))).add ((h.2.2.1 _).mul (hc _))).add (h.2.2.2 _)

/-- The derivative of `g · sigmoid g`, taken apart as the pull-back takes it. -/
theorem silu_pull {x v g : EReal} (hx : IsReal x) (hv : IsReal v) (hg : IsReal g) (s : ℝ) :
    x * v * ((s : EReal) * (((1 : ℝ) : EReal) + g * (((1 : ℝ) : EReal) - (s : EReal))))
      = x * v * (s : EReal) + g * (x * v) * ((s : EReal) * (((1 : ℝ) : EReal) - (s : EReal))) := by
  obtain ⟨x, rfl⟩ := hx
  obtain ⟨v, rfl⟩ := hv
  obtain ⟨g, rfl⟩ := hg
  simp only [← EReal.coe_mul, ← EReal.coe_add, ← EReal.coe_sub]
  congr 1
  ring

/-- The gradient column the call forms on the left is the reference's. -/
theorem dlo (h : Fin4 m c) (t : Fin cfg1.N) (j : Fin 128) :
    col (k1_pay4 (F := Ideal) (View.ld (iblk1 (V2 m ρ) c 2 t) r1_0) (View.ld (iblk1 (V2 m ρ) c 2 t) r1_1) (iblk1 (V2 m ρ) c 3 t)) j
      = D (a0 m c) (a1 m c) (a2 m c) (a3 m c) (lo (cc t.val (lt1 t) j)) := by
  funext i
  rw [FfnRefIdeal.Value2.D_lo]
  refine (dlo_apply _ _ _ i j).trans ?_
  rw [gate1, value1, b1_3, f1]
  exact silu_pull (h.2.1 _) (Gc_real m c h _ _) (Gc_real m c h _ _) _

/-- The gradient column it forms on the right is the reference's. -/
theorem dhi (t : Fin cfg1.N) (j : Fin 128) :
    col (k1_pay15 (F := Ideal) (k1_pay2 (F := Ideal) (View.ld (iblk1 (V2 m ρ) c 2 t) r1_0)) (iblk1 (V2 m ρ) c 3 t)
        (k1_pay3 (F := Ideal) (View.ld (iblk1 (V2 m ρ) c 2 t) r1_0))) j
      = D (a0 m c) (a1 m c) (a2 m c) (a3 m c) (hi (cc t.val (lt1 t) j)) := by
  funext i
  rw [FfnRefIdeal.Value2.D_hi]
  refine (dhi_apply _ _ i j).trans ?_
  rw [gate1, b1_3, f1]
  exact mul_comm _ _

theorem xlo (t : Fin cfg1.N) (j : Fin 128) : col (iblk1 (V2 m ρ) c 0 t) j = col (a0 m c) (lo (cc t.val (lt1 t) j)) := by
  funext r; exact (b1_0 (V2 m ρ) c t r j).trans (by rw [f0]; rfl)
theorem xhi (t : Fin cfg1.N) (j : Fin 128) : col (iblk1 (V2 m ρ) c 1 t) j = col (a0 m c) (hi (cc t.val (lt1 t) j)) := by
  funext r; exact (b1_1 (V2 m ρ) c t r j).trans (by rw [f0]; rfl)

theorem final_dup (h4 : Fin4 m c) :
    (dat1 (V2 m ρ) c).arrAt 6 cfg1.N = val_main_v77 (F := Ideal) (a0 m c) (a1 m c) (a2 m c) (a3 m c) := by
  refine (dat1 (V2 m ρ) c).arrAt_eq_of_covers 6 _ (by decide +kernel) fun t _ y => ?_
  blk_simp; rw [after1_6]; unfold_out out1_6; frame_out
  idx_vars y
  have e : ((View.whole main_v2_0).slice (win1_6.rect t)).emb (ix3 y0 y1 y2) = ix3 y0 y1 (cc t.val (lt1 t) y2) := by
    blk_ext [idx1 t, cc]
  rw [e]
  clear e
  canon_tiles z h
  · idx_vars z
    obtain rfl : y1 = z1 := Fin.ext h1
    obtain rfl : y2 = z2 := Fin.ext h2
    obtain rfl : z0 = 0 := Subsingleton.elim _ _
    obtain rfl : y0 = 1 := Fin.ext (by have : y0.val = 1 + 0 := h0; show y0.val = 1; omega)
    refine (dup_hi _ _ _ _ y1 y2).trans ?_
    rw [tap0, tap1, tap2, b1_5, b1_5, b1_5, f2]
    refine (congrArg (fun f => convT (a2 m c (ix2 0 (hi (cc t.val (lt1 t) y2)))) (a2 m c (ix2 1 (hi (cc t.val (lt1 t) y2)))) (a2 m c (ix2 2 (hi (cc t.val (lt1 t) y2)))) f y1) (dhi m ρ c t y2)).trans ?_
    exact ((FfnRefIdeal.Value2.v77_hi _ _ _ _ _ _).trans (FfnRefIdeal.Value2.v70 _ _ _ _ _ _)).symm
  · idx_vars z
    obtain rfl : y1 = z1 := Fin.ext h1
    obtain rfl : y2 = z2 := Fin.ext h2
    obtain rfl : z0 = 0 := Subsingleton.elim _ _
    obtain rfl : y0 = 0 := Fin.ext (by have : y0.val = 0 := h0; show y0.val = 0; omega)
    refine (dup_lo _ _ _ _ _ _ y1 y2).trans ?_
    rw [tap0, tap1, tap2, b1_4, b1_4, b1_4, f2]
    refine (congrArg (fun f => convT (a2 m c (ix2 0 (lo (cc t.val (lt1 t) y2)))) (a2 m c (ix2 1 (lo (cc t.val (lt1 t) y2)))) (a2 m c (ix2 2 (lo (cc t.val (lt1 t) y2)))) f y1) (dlo m ρ c h4 t y2)).trans ?_
    exact ((FfnRefIdeal.Value2.v77_lo _ _ _ _ _ _).trans (FfnRefIdeal.Value2.v70 _ _ _ _ _ _)).symm

/-- The tap gradients, one half after the other. -/
def taps : FVec Ideal S2x3x2816 .f32 := fun y =>
  if (y 0).val = 0 then dtap (D (a0 m c) (a1 m c) (a2 m c) (a3 m c) (lo (y 2))) (col (a0 m c) (lo (y 2))) (y 1)
  else dtap (D (a0 m c) (a1 m c) (a2 m c) (a3 m c) (hi (y 2))) (col (a0 m c) (hi (y 2))) (y 1)

theorem final_taps (h4 : Fin4 m c) : (dat1 (V2 m ρ) c).arrAt 7 cfg1.N = taps m c := by
  refine (dat1 (V2 m ρ) c).arrAt_eq_of_covers 7 _ (by decide +kernel) fun t _ y => ?_
  blk_simp; rw [after1_7]; unfold_out out1_7; frame_out
  idx_vars y
  have e : ((View.whole main_v2_1).slice (win1_7.rect t)).emb (ix3 y0 y1 y2) = ix3 y0 y1 (cc t.val (lt1 t) y2) := by
    blk_ext [idx1 t, cc]
  rw [e]
  clear e
  canon_tiles z h
  · idx_vars z
    obtain rfl : y1 = z1 := Fin.ext h1
    obtain rfl : y2 = z2 := Fin.ext h2
    obtain rfl : z0 = 0 := Subsingleton.elim _ _
    have n0 : ¬ y0.val = 0 := by have : y0.val = 1 + 0 := h0; omega
    refine Eq.trans ?_ (if_neg n0).symm
    refine (dw_hi _ _ y2 y1).trans ?_
    exact congrArg₂ (fun a b => dtap a b y1) (dhi m ρ c t y2) (xhi m ρ c t y2)
  · idx_vars z
    obtain rfl : y1 = z1 := Fin.ext h1
    obtain rfl : y2 = z2 := Fin.ext h2
    obtain rfl : z0 = 0 := Subsingleton.elim _ _
    have n0 : y0.val = 0 := by have : y0.val = 0 := h0; omega
    refine Eq.trans ?_ (if_pos n0).symm
    refine (dw_lo _ _ _ _ y2 y1).trans ?_
    exact congrArg₂ (fun a b => dtap a b y1) (dlo m ρ c h4 t y2) (xlo m ρ c t y2)

/-- The bias gradients, one half after the other. -/
def bias : FVec Ideal S2x1x2816 .f32 := fun y =>
  if (y 0).val = 0 then ∑ i : Fin 4096, D (a0 m c) (a1 m c) (a2 m c) (a3 m c) (lo (y 2)) i
  else ∑ i : Fin 4096, D (a0 m c) (a1 m c) (a2 m c) (a3 m c) (hi (y 2)) i

theorem final_bias (h4 : Fin4 m c) : (dat1 (V2 m ρ) c).arrAt 8 cfg1.N = bias m c := by
  refine (dat1 (V2 m ρ) c).arrAt_eq_of_covers 8 _ (by decide +kernel) fun t _ y => ?_
  blk_simp; rw [after1_8]; unfold_out out1_8; frame_out
  idx_vars y
  have e : ((View.whole main_v2_2).slice (win1_8.rect t)).emb (ix3 y0 y1 y2) = ix3 y0 y1 (cc t.val (lt1 t) y2) := by
    blk_ext [idx1 t, cc]
  rw [e]
  clear e
  canon_tiles z h
  · idx_vars z
    obtain rfl : y2 = z2 := Fin.ext h2
    obtain rfl : z0 = 0 := Subsingleton.elim _ _
    obtain rfl : z1 = 0 := Subsingleton.elim _ _
    have n0 : ¬ y0.val = 0 := by have : y0.val = 1 + 0 := h0; omega
    refine Eq.trans ?_ (if_neg n0).symm
    refine (db_hi _ y2).trans ?_
    exact congrArg (fun f : Fin 4096 → EReal => ∑ i : Fin 4096, f i) (dhi m ρ c t y2)
  · idx_vars z
    obtain rfl : y2 = z2 := Fin.ext h2
    obtain rfl : z0 = 0 := Subsingleton.elim _ _
    obtain rfl : z1 = 0 := Subsingleton.elim _ _
    have n0 : y0.val = 0 := by have : y0.val = 0 := h0; omega
    refine Eq.trans ?_ (if_pos n0).symm
    refine (db_lo _ y2).trans ?_
    exact congrArg (fun f : Fin 4096 → EReal => ∑ i : Fin 4096, f i) (dlo m ρ c h4 t y2)

theorem result_dw (h4 : Fin4 m c) :
    W4 m ρ c (Proc.devRef .tc main_v7) = val_main_v66 (F := Ideal) (a0 m c) (a1 m c) (a2 m c) (a3 m c) := by
  refine (end_dw m ρ c).trans ?_
  rw [final_taps m ρ c h4]
  funext y
  idx_vars y
  rw [FfnRefIdeal.Value2.v66]
  pointwise
  by_cases h : (y1 : ℕ) < 2816
  · exact dif_pos h
  · refine (dif_neg h).trans ?_
    have e : hi ⟨y1.val - 2816, by omega⟩ = y1 := Fin.ext (by show 2816 + (y1.val - 2816) = y1.val; omega)
    exact congrArg (fun k => dtap (D (a0 m c) (a1 m c) (a2 m c) (a3 m c) k) (col (a0 m c) k) y0) e

theorem result_db (h4 : Fin4 m c) :
    W4 m ρ c (Proc.devRef .tc main_v12) = val_main_v78 (F := Ideal) (a0 m c) (a1 m c) (a2 m c) (a3 m c) := by
  refine (end_db m ρ c).trans ?_
  rw [final_bias m ρ c h4]
  funext y
  idx_vars y
  obtain rfl : y0 = 0 := Subsingleton.elim _ _
  rw [FfnRefIdeal.Value2.v78]
  pointwise
  by_cases h : (y1 : ℕ) < 2816
  · exact dif_pos h
  · refine (dif_neg h).trans ?_
    have e : hi ⟨y1.val - 2816, by omega⟩ = y1 := Fin.ext (by show 2816 + (y1.val - 2816) = y1.val; omega)
    exact congrArg (fun k => ∑ i : Fin 4096, D (a0 m c) (a1 m c) (a2 m c) (a3 m c) k i) e

end Cert.FfnIdeal.Value2
-- ==== Proof.FfnClaim.lean ====
module
public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.FfnVal
@[expose] public section
/-! The claims about the gate of the feed-forward part and its gradient. -/
set_option maxRecDepth 65536
noncomputable section
open Idealize.ShloMosaic Idealize.SL.Sem
namespace Cert.Proof.Ffn

instance preFacts : Cert.Pre_ffn_finite.Facts := ⟨by decide, by decide, by decide, by decide, by decide⟩

theorem frame : Cert.quiescent_Ffn := fun m ρ _ => Cert.Ffn.Gen.frame m ρ

theorem frameIdeal : Cert.quiescent_FfnIdeal := fun m ρ _ => Cert.FfnIdeal.Gen.frame m ρ

theorem frameRef : Cert.quiescent_FfnRefIdeal := fun m g _ =>
  (θ_run _ _ _).mono (fun r h => ⟨fun c => (h c).2.2.2.2, sem_eq_zero_of_no_sems rfl r.2⟩)
    (Cert.FfnRefIdeal.Value.run m g)

theorem framePre : Cert.quiescent_FfnIdeal_pre_ffn_finite := fun m ρ _ => Cert.FfnIdeal.Gen.frame m ρ

theorem frameRefPre : Cert.quiescent_FfnRefIdeal_pre_ffn_finite := fun m g _ => frameRef m g trivial

theorem preserves : Cert.preserves_Ffn_FfnIdeal := trivial

set_option maxHeartbeats 1000000 in
theorem algebraic : Cert.algebraic_FfnIdeal_FfnRefIdeal_pre_ffn_finite := by
  pair_intro
  · run_from Cert.FfnIdeal.Value2.run_named m g
  · have real : ∀ c, Cert.FfnIdeal.Value2.Fin4 m c := fun c =>
      ⟨Cert.Norm.IsReal.of_finite (fun _ => rfl) (hpre c).1, Cert.Norm.IsReal.of_finite (fun _ => rfl) (hpre c).2.1,
        Cert.Norm.IsReal.of_finite (fun _ => rfl) (hpre c).2.2.1, Cert.Norm.IsReal.of_finite (fun _ => rfl) (hpre c).2.2.2⟩
    run_from Cert.FfnRefIdeal.Value.run m' g'
    all_goals obtain ⟨e0, e1, e2, e3⟩ := hagree c
    · exact (Cert.FfnRefIdeal.Read.val_main_v71_eq (Idealize.ShloMosaic.StableHlo.launchContents m' c)).trans
        ((congr (congr (congrArg (Cert.FfnRefIdeal.Read.val_main_v71 (F := Ideal)) e0) e2) e3).trans
          ((Cert.FfnIdeal.Value2.end_act m g c).trans (Cert.FfnIdeal.Value2.final_act m g c)).symm)
    · exact (Cert.FfnRefIdeal.Read.val_main_v77_eq (Idealize.ShloMosaic.StableHlo.launchContents m' c)).trans
        ((congr (congr (congr (congrArg (Cert.FfnRefIdeal.Read.val_main_v77 (F := Ideal)) e0) e1) e2) e3).trans
          ((Cert.FfnIdeal.Value2.end_dup m g c).trans (Cert.FfnIdeal.Value2.final_dup m g c (real c))).symm)
    · exact (Cert.FfnRefIdeal.Read.val_main_v66_eq (Idealize.ShloMosaic.StableHlo.launchContents m' c)).trans
        ((congr (congr (congr (congrArg (Cert.FfnRefIdeal.Read.val_main_v66 (F := Ideal)) e0) e1) e2) e3).trans
          (Cert.FfnIdeal.Value2.result_dw m g c (real c)).symm)
    · exact (Cert.FfnRefIdeal.Read.val_main_v78_eq (Idealize.ShloMosaic.StableHlo.launchContents m' c)).trans
        ((congr (congr (congr (congrArg (Cert.FfnRefIdeal.Read.val_main_v78 (F := Ideal)) e0) e1) e2) e3).trans
          (Cert.FfnIdeal.Value2.result_db m g c (real c)).symm)

end Cert.Proof.Ffn
-- ==== Proof.GluFwdVal.lean ====
module
public import proofs.«01_k».proof.Proof.Gen.GluFwdIdeal.Value
public import proofs.«01_k».proof.Proof.Gen.GluFwdRefIdeal.Read
public import proofs.«01_k».proof.Proof.GluVal
@[expose] public section
/-! The array the gated linear unit leaves is the reference's: its right half the gated values, its left half as it was. -/
set_option maxRecDepth 200000
noncomputable section
open Idealize.ShloMosaic Idealize.ShloMosaic.TcCoe Idealize.SL.Sem
namespace Cert.GluFwdIdeal.Value2
open Cert.GluFwdIdeal Cert.GluFwdIdeal.Gen Cert.GluFwdIdeal.Value Cert.Norm
open Cert.GluFwdRefIdeal.Read
open Cert.GluIdeal.Value2 (gate)

theorem name_c : Named.named (F := Ideal) (φ := .f32) κ "gelu_c" 0x3D372713#32 = ((8943 / 200000 : ℝ) : EReal) :=
  IdealRules.named_const.ideal_named_scalar _ _ _ _ rfl

/-- A gated value: the activation of `y` times the gate at `z`. -/
def gated (y z : EReal) : EReal := gelu y * (sgm z : EReal)

theorem pay1_apply (y : FVec Ideal S512x512 .f32) (w : FVec Ideal S512x512 .bf16) (b : FVec Ideal S1x512 .f32) (i j : Fin 512) :
    k0_pay1 (F := Ideal) y w b (ix2 i j) = gated (y (ix2 i j)) (gate (fun k => y (ix2 i k)) (fun k => w (ix2 k j)) (b (ix2 0 j))) := by
  unfold gated
  rw [← sgm_tanh]
  unfold gate gelu geluT
  rw [← lit_half, ← lit_one, ← lit_kGelu, ← name_c]
  pointwise [k0_pay1]

section
variable (y : FVec Ideal S4096x512 .f32) (w : FVec Ideal S512x512 .f32) (b : FVec Ideal S512 .f32) (u : FVec Ideal S4096x1024 .bf16)

abbrev zed (i : Fin 4096) (j : Fin 512) : EReal := gate (fun k => y (ix2 i k)) (fun k => w (ix2 k j)) (b (ix1 j))

theorem v10 (i : Fin 4096) (j : Fin 512) : val_main_v10 (F := Ideal) y (ix2 i j) = geluT (y (ix2 i j)) := by
  rw [geluT_div, ← lit_kGelu, ← lit_8943, ← lit_200000]
  pointwise [val_main_v10, val_main_v9, val_main_v8, val_main_v7, val_main_v6, val_main_v5, val_main_v4, val_main_v3, val_main_v2, val_main_v1,
    val_main_cst, val_main_cst_0, val_main_cst_1]

theorem v15 (i : Fin 4096) (j : Fin 512) : val_main_v15 (F := Ideal) y (ix2 i j) = gelu (y (ix2 i j)) := by
  unfold gelu
  rw [mul_assoc, mul_left_comm, ← lit_half, ← lit_one]
  pointwise [val_main_v15, val_main_v14, val_main_v13, val_main_v12, val_main_v11, v10, val_main_cst_2, val_main_cst_3]

theorem v25 (i : Fin 4096) (j : Fin 512) : val_main_v25 (F := Ideal) y w b (ix2 i j) = (sgm (zed y w b i j) : EReal) := by
  rw [← sgm_div]
  unfold zed gate
  rw [← lit_one]
  pointwise [val_main_v25, val_main_v24, val_main_v23, val_main_v22, val_main_v21, val_main_v20, val_main_v19, val_main_v18, val_main_v17, val_main_v16,
    v15, val_main_cst_4, val_main_cst_5]

theorem v28_left (i : Fin 4096) (j : Fin 1024) (h : j.val < 512) : val_main_v28 (F := Ideal) y w b u (ix2 i j) = u (ix2 i j) := by
  pointwise [val_main_v28, val_main_v0]
  rw [dif_pos h]

theorem v28_right (i : Fin 4096) (j : Fin 512) :
    val_main_v28 (F := Ideal) y w b u (ix2 i ⟨j.val + 512, by omega⟩) = gated (y (ix2 i j)) (zed y w b i j) := by
  unfold gated
  pointwise [val_main_v28, val_main_v27, val_main_v26, v15, v25]
  rw [dif_neg (by omega)]
  simp only [Nat.add_sub_cancel]
end

variable (m : (ℓ : Loc nD τ sig) → Buf (Elt Ideal) ℓ) (c : Dev nD)

abbrev a0 : FVec Ideal S4096x512 .f32 := m ((c : Thread nD τ).loc main_arg0)
abbrev a1 : FVec Ideal S512x512 .f32 := m ((c : Thread nD τ).loc main_arg1)
abbrev a2 : FVec Ideal S512 .f32 := m ((c : Thread nD τ).loc main_arg2)
abbrev a3 : FVec Ideal S4096x1024 .bf16 := m ((c : Thread nD τ).loc main_arg3)

theorem idx : ∀ t : Fin cfg0.N, win0_0.index t = ![t.val, 0] ∧ win0_1.index t = ![0, 0] ∧ win0_2.index t = ![0, 0] ∧ win0_3.index t = ![t.val, 1] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 512) : (iblk m c 0 t (ix2 i j) : EReal) = a0 m c (ix2 (rr t i) j) := by
  blk_point [iblk, V, idx t, rr]
theorem blk1 (t : Fin cfg0.N) (i : Fin 512) (j : Fin 512) : (iblk m c 1 t (ix2 i j) : EReal) = a1 m c (ix2 i j) := by
  blk_point [iblk, V, idx t, rr]
theorem blk2 (t : Fin cfg0.N) (j : Fin 512) : (iblk m c 2 t (ix2 0 j) : EReal) = a2 m c (ix1 j) := by
  blk_point [iblk, V, idx t, rr]

/-- What point `t` leaves in its block. -/
theorem after_block (t : Fin cfg0.N) (i j : Fin 512) :
    (outsAt0 m c t (ix2 i j) : EReal) = val_main_v28 (F := Ideal) (a0 m c) (a1 m c) (a2 m c) (a3 m c) (ix2 (rr t i) ⟨j.val + 512, by omega⟩) := by
  rw [v28_right]
  have e : (outsAt0 m c t (ix2 i j) : EReal) = k0_pay1 (F := Ideal) (iblk m c 0 t) (iblk m c 1 t) (iblk m c 2 t) (ix2 i j) := by
    unfold outsAt0
    frame_out
  rw [e]
  refine (pay1_apply (iblk m c 0 t) (iblk m c 1 t) (iblk m c 2 t) i j).trans (congrArg₂ gated (blk0 m c t i j) ?_)
  unfold zed
  have e0 : (fun k => (iblk m c 0 t (ix2 i k) : EReal)) = fun k => a0 m c (ix2 (rr t i) k) := funext fun k => blk0 m c t i k
  have e1 : (fun k => (iblk m c 1 t (ix2 k j) : EReal)) = fun k => a1 m c (ix2 k j) := funext fun k => blk1 m c t k j
  exact congr (congrArg₂ gate e0 e1) (blk2 m c t j)

theorem final : (dats m 0 c).arrAt 3 cfg0.N = val_main_v28 (F := Ideal) (a0 m c) (a1 m c) (a2 m c) (a3 m c) := by
  funext y
  idx_vars y
  by_cases h : y1.val < 512
  · refine (entry3 m c _ fun t _ hm => ?_).trans ?_
    · mem_blk [idx t] at hm
      have h1 := hm.2.1
      change 512 ≤ y1.val at h1
      omega
    · rw [v28_left _ _ _ _ _ _ h]
      rfl
  · obtain ⟨t, ht⟩ : ∃ t : Fin cfg0.N, t.val = y0.val / 512 := ⟨⟨y0.val / 512, by have : cfg0.N = 8 := rfl; omega⟩, rfl⟩
    obtain ⟨z0, hz0⟩ : ∃ z : Fin 512, z.val = y0.val % 512 := ⟨⟨y0.val % 512, by omega⟩, rfl⟩
    obtain ⟨z1, hz1⟩ : ∃ z : Fin 512, z.val + 512 = y1.val := ⟨⟨y1.val - 512, by omega⟩, by simp only; omega⟩
    have e0 : ((win0_3.blk t).view).emb (ix2 z0 z1) = ix2 (rr t z0) ⟨z1.val + 512, by omega⟩ := by blk_ext [idx t, rr]
    have e1 : (ix2 y0 y1 : S4096x1024.Idx) = ix2 (rr t z0) ⟨z1.val + 512, by omega⟩ :=
      (ix2_inj ..).2 ⟨Fin.ext (by simp only [rr]; omega), Fin.ext hz1.symm⟩
    rw [e1]
    refine Eq.trans ?_ (after_block m c t z0 z1)
    rw [← e0]
    refine ((dats m 0 c).arrAt_emb_eq_flushed 3 disjoint3 t ((by decide +kernel : ∀ t : Fin grid0.N, win0_3.flush t = true) t) (ix2 z0 z1)).trans ?_
    blk_simp
    rw [after0_3]

end Cert.GluFwdIdeal.Value2
-- ==== Proof.GluFwdClaim.lean ====
module
public import proofs.«01_k».proof.Defs
public import proofs.«01_k».proof.Proof.Gen.GluFwd.Frame
public import proofs.«01_k».proof.Proof.Gen.GluFwdRefIdeal.Run
public import proofs.«01_k».proof.Proof.GluFwdVal
@[expose] public section
/-! The claims about the gated linear unit. -/
set_option maxRecDepth 65536
noncomputable section
open Idealize.ShloMosaic Idealize.SL.Sem
namespace Cert.Proof.GluFwd

theorem frame : Cert.quiescent_GluFwd := fun m ρ _ => Cert.GluFwd.Gen.frame m ρ

theorem frameIdeal : Cert.quiescent_GluFwdIdeal := fun m ρ _ => Cert.GluFwdIdeal.Gen.frame m ρ

theorem frameRef : Cert.quiescent_GluFwdRefIdeal := fun m g _ =>
  (θ_run _ _ _).mono (fun r h => ⟨fun c => (h c).2, sem_eq_zero_of_no_sems rfl r.2⟩)
    (Cert.GluFwdRefIdeal.Value.run m g)

theorem preserves : Cert.preserves_GluFwd_GluFwdIdeal :=
  IdealRules.named_const.statement Cert.GluFwdIdeal.κ "gelu_c" .f32 0x3D372713#32 _ rfl

theorem algebraic : Cert.algebraic_GluFwdIdeal_GluFwdRefIdeal := by
  pair_intro
  · run_from Cert.GluFwdIdeal.Value.run_blocks m g
  · run_from Cert.GluFwdRefIdeal.Value.run m' g'
    · obtain ⟨_, _, _, e3⟩ := hagree c
      exact (Cert.GluFwdRefIdeal.Read.val_main_v28_eq _ _ _ _).trans ((congrArg (Cert.GluFwdRefIdeal.Read.val_main_v28 (F := Ideal) _ _ _) e3).trans (Cert.GluFwdIdeal.Value2.final m c).symm)

end Cert.Proof.GluFwd
-- ==== Proof.RmsFwdVal.lean ====
module
public import proofs.«01_k».proof.Proof.Gen.RmsFwdIdeal.Value
public import proofs.«01_k».proof.Proof.Gen.RmsFwdRefIdeal.Read
public import proofs.«01_k».proof.Proof.Norm
@[expose] public section
/-! The array the norm's call leaves is the reference's. -/
set_option maxRecDepth 200000
noncomputable section
open Idealize.ShloMosaic Idealize.ShloMosaic.TcCoe Idealize.SL.Sem
namespace Cert.RmsFwdIdeal.Value2
open Cert.RmsFwdIdeal Cert.RmsFwdIdeal.Gen Cert.Norm
open Cert.RmsFwdRefIdeal.Read

theorem pay1_apply (x : FVec Ideal S512x1024 .f32) (g : FVec Ideal S1x1024 .f32) (i : Fin 512) (j : Fin 1024) :
    k0_pay1 (F := Ideal) x g (ix2 i j) = x (ix2 i j) * rms 1024 eps (fun k : Fin 1024 => x (ix2 i k)) * g (ix2 0 j) := by
  unfold rms meanSq
  rw [← lit_eps, ← lit_1024]
  pointwise [k0_pay1]

section
variable (x : FVec Ideal S4096x1024 .f32) (g : FVec Ideal S4x1024 .f32)

theorem v15 (i : Fin 4096) (j : Fin 1024) :
    val_main_v15 (F := Ideal) x g (ix2 i j) = x (ix2 i j) * rms 1024 eps (fun k : Fin 1024 => x (ix2 i k)) * g (ix2 0 j) := by
  unfold rms meanSq
  rw [← lit_eps, ← lit_1024]
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
end

variable (m : (ℓ : Loc nD τ sig) → Buf (Elt Ideal) ℓ) (c : Dev nD)

abbrev a0 : FVec Ideal S4096x1024 .f32 := m ((c : Thread nD τ).loc main_arg0)
abbrev a1 : FVec Ideal S4x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 1024) : (iblk m c 0 t (ix2 i j) : EReal) = a0 m c (ix2 (rr t i) j) := by
  blk_point [iblk, V, idx t, rr]
theorem blk1 (t : Fin cfg0.N) (j : Fin 1024) : (iblk m c 1 t (ix2 0 j) : EReal) = a1 m c (ix2 0 j) := by
  blk_point [iblk, V, idx t, rr]

theorem final : (dats m 0 c).arrAt 2 cfg0.N = val_main_v15 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (rr t y0) y1 := by blk_ext [idx t, rr]
  rw [e, v15]
  have e0 : (fun k => (iblk m c 0 t (ix2 y0 k) : EReal)) = fun k => a0 m c (ix2 (rr t y0) k) := funext fun k => blk0 m c t y0 k
  refine Eq.trans ?_ ((pay1_apply (iblk m c 0 t) (iblk m c 1 t) y0 y1).trans
    (Ideal.mul_congr (Ideal.mul_congr (blk0 m c t y0 y1) (congrArg (rms 1024 eps) e0)) (blk1 m c t y1)))
  rw [after0_2]
  frame_out

end Cert.RmsFwdIdeal.Value2
-- ==== Proof.RmsFwdClaim.lean ====
module
public import proofs.«01_k».proof.Defs
public import proofs.«01_k».proof.Proof.Gen.RmsFwd.Frame
public import proofs.«01_k».proof.Proof.Gen.RmsFwdRefIdeal.Run
public import proofs.«01_k».proof.Proof.RmsFwdVal
@[expose] public section
/-! The claims about the norm before the first projection. -/
set_option maxRecDepth 65536
noncomputable section
open Idealize.ShloMosaic Idealize.SL.Sem
namespace Cert.Proof.RmsFwd

theorem frame : Cert.quiescent_RmsFwd := fun m ρ _ => Cert.RmsFwd.Gen.frame m ρ

theorem frameIdeal : Cert.quiescent_RmsFwdIdeal := fun m ρ _ => Cert.RmsFwdIdeal.Gen.frame m ρ

theorem frameRef : Cert.quiescent_RmsFwdRefIdeal := fun m g _ =>
  (θ_run _ _ _).mono (fun r h => ⟨fun c => (h c).2, sem_eq_zero_of_no_sems rfl r.2⟩)
    (Cert.RmsFwdRefIdeal.Value.run m g)

theorem preserves : Cert.preserves_RmsFwd_RmsFwdIdeal := trivial

theorem algebraic : Cert.algebraic_RmsFwdIdeal_RmsFwdRefIdeal := by
  pair_intro
  · run_from Cert.RmsFwdIdeal.Value.run_blocks m g
  · run_from Cert.RmsFwdRefIdeal.Value.run m' g'
    · exact (Cert.RmsFwdRefIdeal.Read.val_main_v15_eq _ _).trans (Cert.RmsFwdIdeal.Value2.final m c).symm

end Cert.Proof.RmsFwd
-- ==== Proof.PoolFwdVal.lean ====
module
public import proofs.«01_k».proof.Proof.Gen.PoolFwdIdeal.Frame
public import proofs.«01_k».proof.Proof.Gen.PoolFwdRefIdeal.Read
public import proofs.«01_k».proof.Proof.PoolVal
@[expose] public section
/-! The array the pool leaves is the reference's. -/
set_option maxRecDepth 200000
noncomputable section
open Idealize.ShloMosaic Idealize.ShloMosaic.TcCoe Idealize.SL.Sem
namespace Cert.PoolFwdIdeal.Value2
open Cert.PoolFwdIdeal Cert.PoolFwdIdeal.Gen Cert.Shift Cert.Norm Cert.Window
open Cert.PoolFwdRefIdeal.Read
open Cert.PoolIdeal.Value2 (pooled width cc zc)

section
variable (z : FVec Ideal S4096x128 .f32) (wt : FVec Ideal S1x128x128 .f32) (sc : FVec Ideal S1x128 .f32)

/-- A column of the mixed group: the pooled entries `p` times the weights, scaled. -/
theorem pay4_apply (p : FVec Ideal S4096x128 .f32) (i : Fin 4096) (j : Fin 128) :
    k0_pay4 (F := Ideal) p wt sc (ix2 i j) = (∑ k : Fin 128, p (ix2 i k) * wt (ix3 0 k j)) * sc (ix2 0 j) := by
  pointwise [k0_pay4]

theorem out2 : k0_pay1 (F := Ideal) z wt sc = k0_pay4 (Cert.PoolIdeal.Gen.k0_pay7 z) wt sc := rfl
theorem out4 : k0_pay2 (F := Ideal) z wt sc = k0_pay4 (Cert.PoolIdeal.Gen.k0_pay12 z) wt sc := rfl
theorem out8 : k0_pay3 (F := Ideal) (k0_pay5 z wt) sc = k0_pay4 (Cert.PoolIdeal.Gen.k0_pay17 z) wt sc := rfl
theorem out16 : k0_pay4 (F := Ideal) (k0_pay6 z) wt sc = k0_pay4 (Cert.PoolIdeal.Gen.k0_pay25 z) wt sc := rfl
end

section
variable (x0 : FVec Ideal S4096x1536 .f32) (x1 : FVec Ideal S4x128x128 .f32) (x2 : FVec Ideal S512 .f32)

theorem v64 (h0 : ∀ i, IsReal (x0 i)) (i : Fin 4096) (g : Fin 4) (c : Fin 128) :
    val_main_v64 (F := Ideal) x0 (ix3 i g c) = pooled (width g) (zc x0 g c) i :=
  Cert.PoolIdeal.Value2.v68 x0 h0 i g c

theorem v71 (h0 : ∀ i, IsReal (x0 i)) (i : Fin 4096) (g : Fin 4) (c : Fin 128) :
    val_main_v71 (F := Ideal) x0 x1 x2 (ix2 i (cc 512 (by decide) g c))
      = (∑ k : Fin 128, pooled (width g) (zc x0 g k) i * x1 (ix3 g k c)) * x2 (ix1 (cc 512 (by decide) g c)) := by
  pointwise [val_main_v71, val_main_v70, val_main_v69, val_main_v68, val_main_v67, val_main_v66, val_main_v65, v64 x0 h0, cc]
  exact Ideal.mul_congr (Finset.sum_congr rfl fun k _ => mul_comm _ _) rfl
end

variable (m : (ℓ : Loc nD τ sig) → Buf (Elt Ideal) ℓ) (c : Dev nD)

abbrev a0 : FVec Ideal S4096x1536 .f32 := m ((c : Thread nD τ).loc main_arg0)
abbrev a1 : FVec Ideal S4x128x128 .f32 := m ((c : Thread nD τ).loc main_arg1)
abbrev a2 : FVec Ideal S512 .f32 := m ((c : Thread nD τ).loc main_arg2)

theorem idx : ∀ t : Fin cfg0.N, win0_0.index t = ![0, t.val] ∧ win0_1.index t = ![t.val, 0, 0] ∧ win0_2.index t = ![0, t.val] ∧ win0_3.index t = ![0, t.val] :=
  (by decide +kernel : ∀ t : Fin grid0.N, _)

theorem blk0 (t : Fin cfg0.N) (i : Fin 4096) (j : Fin 128) : (iblk m c 0 t (ix2 i j) : EReal) = a0 m c (ix2 i (cc 1536 (by decide) t j)) := by
  blk_point [iblk, V, idx t, cc]
theorem blk1 (t : Fin cfg0.N) (a b : Fin 128) : (iblk m c 1 t (ix3 0 a b) : EReal) = a1 m c (ix3 t a b) := by
  blk_point [iblk, V, idx t]
/-- The scale as the call reads it. -/
theorem in_scale : V m c main_v0 = (broadcastInDim S1x512 ![1] bcast_S512_S1x512_1 (a2 m c) : FVec Ideal S1x512 .f32) := by
  show StableHlo.after hostOps0 _ (Proc.devRef .tc main_v0) = _
  after_results; try rfl
theorem blk2 (t : Fin cfg0.N) (j : Fin 128) : (iblk m c 2 t (ix2 0 j) : EReal) = a2 m c (ix1 (cc 512 (by decide) t j)) := by
  show (V m c main_v0 (((win0_2.blk t).view).emb (ix2 0 j)) : EReal) = _
  rw [in_scale]
  have e : ((win0_2.blk t).view).emb (ix2 0 j) = ix2 0 (cc 512 (by decide) t j) := by blk_ext [idx t, cc]
  rw [e]
  pointwise

theorem outB (t : Fin cfg0.N) (w : ℕ) (hw : width t = w) (h0 : ∀ i, IsReal (a0 m c i)) (p : FVec Ideal S4096x128 .f32)
    (hp : ∀ i j, p (ix2 i j) = pooled w (col (iblk m c 0 t) j) i) (i : Fin 4096) (j : Fin 128) :
    k0_pay4 (F := Ideal) p (iblk m c 1 t) (iblk m c 2 t) (ix2 i j)
      = val_main_v71 (F := Ideal) (a0 m c) (a1 m c) (a2 m c) (ix2 i (cc 512 (by decide) t j)) := by
  subst hw
  refine Eq.trans ?_ (v71 (a0 m c) (a1 m c) (a2 m c) h0 i t j).symm
  refine (pay4_apply (iblk m c 1 t) (iblk m c 2 t) p i j).trans (Ideal.mul_congr (Finset.sum_congr rfl fun k _ => Ideal.mul_congr ?_ (blk1 m c t k j)) (blk2 m c t j))
  exact (hp i k).trans (congrArg (fun f => pooled (width t) f i) (funext fun i => blk0 m c t i k))

theorem after_block (h0 : ∀ i, IsReal (a0 m c i)) (t : Fin cfg0.N) (y0 : Fin 4096) (y1 : Fin 128) :
    (outsAt0 m c t.val t.isLt (ix2 y0 y1) : EReal) = val_main_v71 (F := Ideal) (a0 m c) (a1 m c) (a2 m c) (ix2 y0 (cc 512 (by decide) t y1)) := by
  have hm := t.isLt
  have hd : t.val = 0 ∨ t.val = 1 ∨ t.val = 2 ∨ t.val = 3 := by have : t.val < 4 := hm; omega
  rcases hd with h | h | h | h
  · refine Eq.trans ?_ (outB m c t 2 (congrArg width (Fin.ext h : t = (0 : Fin 4))) h0 _ (Cert.PoolIdeal.Value2.pay7_apply _) y0 y1)
    rw [outsAt0_A m c t (by omega) (by omega) (by omega) (by omega)]; frame_out
    exact congrFun (out2 _ _ _) _
  · refine Eq.trans ?_ (outB m c t 4 (congrArg width (Fin.ext h : t = (1 : Fin 4))) h0 _ (Cert.PoolIdeal.Value2.pay12_apply _) y0 y1)
    rw [outsAt0_B m c t (by omega) (by omega) (by omega) (by omega)]; frame_out
    exact congrFun (out4 _ _ _) _
  · refine Eq.trans ?_ (outB m c t 8 (congrArg width (Fin.ext h : t = (2 : Fin 4))) h0 _ (Cert.PoolIdeal.Value2.pay17_apply _) y0 y1)
    rw [outsAt0_C m c t (by omega) (by omega) (by omega) (by omega)]; frame_out
    exact congrFun (out8 _ _ _) _
  · refine Eq.trans ?_ (outB m c t 16 (congrArg width (Fin.ext h : t = (3 : Fin 4))) h0 _ (Cert.PoolIdeal.Value2.pay25_apply _) y0 y1)
    rw [outsAt0_D m c t (by omega) (by omega) (by omega) (by omega)]; frame_out
    exact congrFun (out16 _ _ _) _

theorem idx_inj : ∀ t t' : Fin cfg0.N, win0_3.index t = win0_3.index t' → t = t' :=
  (by decide +kernel : ∀ t t' : Fin grid0.N, win0_3.index t = win0_3.index t' → t = t')

theorem left_half (h0 : ∀ i, IsReal (a0 m c i)) (i : Fin 4096) (j : Fin 512) :
    ((dats m 0 c).arrAt 3 cfg0.N (ix2 i ⟨j.val, by omega⟩) : EReal) = val_main_v71 (F := Ideal) (a0 m c) (a1 m c) (a2 m c) (ix2 i j) := by
  obtain ⟨t, ht⟩ : ∃ t : Fin cfg0.N, t.val = j.val / 128 := ⟨⟨j.val / 128, by have : cfg0.N = 4 := rfl; omega⟩, rfl⟩
  obtain ⟨z, hz⟩ : ∃ z : Fin 128, z.val = j.val % 128 := ⟨⟨j.val % 128, by omega⟩, rfl⟩
  have e0 : ((win0_3.blk t).view).emb (ix2 i z) = ix2 i ⟨j.val, by omega⟩ := by blk_ext [idx t]
  have e1 : j = cc 512 (by decide) t z := Fin.ext (by simp only [cc]; omega)
  refine Eq.trans ?_ ((after_block m c h0 t i z).trans (by rw [← e1]))
  rw [← e0]
  refine ((dats m 0 c).arrAt_emb_eq_flushed 3 (fun t t' _ _ hne => (cfg0.win 3).disjoint_blk fun h => hne (idx_inj t t' h)) t
    ((by decide +kernel : ∀ t : Fin grid0.N, win0_3.flush t = true) t) (ix2 i z)).trans ?_
  blk_simp
  rw [after0_3]

theorem final (h0 : ∀ i, IsReal (a0 m c i)) :
    (extractStridedSlice S4096x512 ![0, 0] ((dats m 0 c).arrAt 3 cfg0.N) slices_S4096x1024_S4096x512_0_0 : FVec Ideal S4096x512 .bf16)
      = val_main_v71 (F := Ideal) (a0 m c) (a1 m c) (a2 m c) := by
  funext y
  idx_vars y
  refine Eq.trans ?_ (left_half m c h0 y0 y1)
  pointwise

/-- The run with the sliced array named. -/
theorem run_blocks (ρ : Dev nD → PrngReg) : θ_run defs (onTc (τ := τ) (main (F := Ideal))) ⟨m, fun _ => 0, ρ⟩ fun r => ∀ c : Dev nD,
      r.2.mem ((c : Thread nD τ).loc main_v2) = extractStridedSlice S4096x512 ![0, 0] ((dats m 0 c).arrAt 3 cfg0.N) slices_S4096x1024_S4096x512_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  refine ((h.1 c).2 main_v2 (Pipeline.mem_restRefs_of main_v2 (by decide) (by decide))).trans ?_
  unfold Pipeline.afterTail₀
  have e := Pipeline.withArrays_arr spec0 winFacts0.arr_inj c (V0 m c) (fun w => (dats m 0 c).arrAt w cfg0.N) 3
  refine Eq.trans ?_ (congrArg (fun x => extractStridedSlice S4096x512 ![0, 0] x slices_S4096x1024_S4096x512_0_0) e)
  show StableHlo.after hostOps1 (Pipeline.withArrays spec0 c (V0 m c) (fun w => (dats m 0 c).arrAt w cfg0.N)) (Proc.devRef .tc main_v2) = _
  after_results; try rfl

end Cert.PoolFwdIdeal.Value2
-- ==== Proof.PoolFwdClaim.lean ====
module
public import proofs.«01_k».proof.Defs
public import proofs.«01_k».proof.Proof.Gen.PoolFwd.Frame
public import proofs.«01_k».proof.Proof.Gen.PoolFwdRefIdeal.Run
public import proofs.«01_k».proof.Proof.PoolFwdVal
@[expose] public section
/-! The claims about the causal pool. -/
set_option maxRecDepth 65536
noncomputable section
open Idealize.ShloMosaic Idealize.SL.Sem
namespace Cert.Proof.PoolFwd

instance preFacts : Cert.Pre_poolf_finite.Facts := ⟨by decide⟩

theorem frame : Cert.quiescent_PoolFwd := fun m ρ _ => Cert.PoolFwd.Gen.frame m ρ

theorem frameIdeal : Cert.quiescent_PoolFwdIdeal := fun m ρ _ => Cert.PoolFwdIdeal.Gen.frame m ρ

theorem frameRef : Cert.quiescent_PoolFwdRefIdeal := fun m g _ =>
  (θ_run _ _ _).mono (fun r h => ⟨fun c => (h c).2, sem_eq_zero_of_no_sems rfl r.2⟩)
    (Cert.PoolFwdRefIdeal.Value.run m g)

theorem framePre : Cert.quiescent_PoolFwdIdeal_pre_poolf_finite := fun m ρ _ => Cert.PoolFwdIdeal.Gen.frame m ρ

theorem frameRefPre : Cert.quiescent_PoolFwdRefIdeal_pre_poolf_finite := fun m g _ => frameRef m g trivial

theorem preserves : Cert.preserves_PoolFwd_PoolFwdIdeal := trivial

theorem algebraic : Cert.algebraic_PoolFwdIdeal_PoolFwdRefIdeal_pre_poolf_finite := by
  pair_intro
  · run_from Cert.PoolFwdIdeal.Value2.run_blocks m g
  · have real0 : ∀ c i, Cert.Norm.IsReal (Cert.PoolFwdIdeal.Value2.a0 m c i) := fun c => Cert.Norm.IsReal.of_finite (fun _ => rfl) (hpre c)
    run_from Cert.PoolFwdRefIdeal.Value.run m' g'
    · obtain ⟨e0, e1, e2⟩ := hagree c
      exact (Cert.PoolFwdRefIdeal.Read.val_main_v71_eq m' c).trans
        ((congr (congr (congrArg (Cert.PoolFwdRefIdeal.Read.val_main_v71 (F := Ideal)) e0) e1) e2).trans (Cert.PoolFwdIdeal.Value2.final m c (real0 c)).symm)

end Cert.Proof.PoolFwd
-- ==== Proof.SguFwdVal.lean ====
module
public import proofs.«01_k».proof.Proof.Gen.SguFwdIdeal.Value
public import proofs.«01_k».proof.Proof.Gen.SguFwdRefIdeal.Read
public import proofs.«01_k».proof.Proof.SguRefVal
@[expose] public section
/-! The array the spatial gate leaves is the reference's. -/
set_option maxRecDepth 200000
noncomputable section
open Idealize.ShloMosaic Idealize.ShloMosaic.TcCoe Idealize.SL.Sem
namespace Cert.SguFwdIdeal.Value2
open Cert.SguFwdIdeal Cert.SguFwdIdeal.Gen Cert.Norm Cert.SguFwdIdeal.Value
open Cert.SguFwdRefIdeal.Read
open Cert.SguIdeal.Value2 (low pos slice_apply wm wm_apply b_apply rsq row col su sv mix)

theorem name_c : Named.named (F := Ideal) (φ := .f32) κ "gelu_c" 0x3D372713#32 = ((8943 / 200000 : ℝ) : EReal) :=
  IdealRules.named_const.ideal_named_scalar _ _ _ _ rfl

section kernel
variable (xu xv : FVec Ideal S512x512 .f32) (g : FVec Ideal S1x512 .f32)

theorem su_apply (i j : Fin 512) : k0_pay3 (F := Ideal) xu (ix2 i j) = gelu (xu (ix2 i j)) := by
  unfold gelu geluT
  rw [← lit_half, ← lit_one, ← lit_kGelu, ← name_c]
  pointwise [k0_pay3]
theorem v_apply (i j : Fin 512) :
    k0_pay4 (F := Ideal) xv g (ix2 i j) = gelu (xv (ix2 i j)) * rsq (fun k => xv (ix2 i k)) * g (ix2 0 j) := by
  unfold rsq rms meanSq gelu geluT
  rw [← lit_512, ← lit_eps, ← lit_half, ← lit_one, ← lit_kGelu, ← name_c]
  pointwise [k0_pay4]

variable (wt : Vec Ideal S4x128x128 .f32) (b : Vec Ideal S128x4 .f32) (o0 o1 hd : ℕ) (h0 : o0 + 128 ≤ 512) (h1 : o1 + 128 ≤ 512) (hh : hd < 4)
variable (V U : FVec Ideal S512x512 .f32)
/-- One head's product over one chunk. -/
theorem piece (p q p1 p2 p3 p4 p5 e1 e2 e3) (a d : Fin 128) :
    truncf .bf16 (mulf (extractStridedSlice S128x128 ![o0, o1] U p1)
      (addf (matmul dot_S128x128_S128x128_S128x128_1_0_0_1_n_n none (truncf .bf16 (wm wt hd p q) e1)
          (truncf .bf16 (extractStridedSlice S128x128 ![o0, o1] V p2) e2) (constant S128x128 .f32 0x00000000#32))
        (broadcastTo S128x128 (shapeCast S128x1 (View.ld b (Rect.unit ![0, hd] ![128, 1] p3) : FVec Ideal S128x1 .f32) p4) p5))) e3 (ix2 a d)
    = U (ix2 (pos o0 h0 a) (pos o1 h1 d))
        * ((∑ k : Fin 128, low (fun s k => wt (ix3 ⟨hd, hh⟩ s k)) a k * V (ix2 (pos o0 h0 k) (pos o1 h1 d))) + b (ix2 a ⟨hd, hh⟩)) := by
  pointwise [slice_apply o0 o1 h0 h1, wm_apply wt hd hh, b_apply b hd hh]
end kernel

section
variable (x0 : FVec Ideal S4096x1536 .f32) (x1 : FVec Ideal S512 .f32) (x2 : FVec Ideal S4x128x128 .f32) (x3 : FVec Ideal S4x128 .f32)
  (x4 : FVec Ideal S4096x1024 .bf16)
theorem v17 (i : Fin 4096) (j : Fin 512) : val_main_v17 (F := Ideal) x0 (ix2 i j) = gelu (su x0 i j) :=
  Cert.SguIdeal.Value2.v26 x0 i j
theorem v46 : val_main_v46 (F := Ideal) x0 x1 = Cert.SguRefIdeal.Read.val_main_v65 (F := Ideal) x0 x1 := rfl
theorem v57 (n : Fin 32) (s : Fin 128) (h : Fin 4) (d : Fin 128) :
    val_main_v57 (F := Ideal) x0 x1 x2 x3 (ix2 (row n s) (col h d)) = mix x0 x1 x2 x3 n s h d :=
  Cert.SguIdeal.Value2.v76 x0 x1 x2 x3 n s h d
theorem v61_left (i : Fin 4096) (j : Fin 1024) (h : j.val < 512) :
    val_main_v61 (F := Ideal) x0 x1 x2 x3 x4 (ix2 i j) = x4 (ix2 i ⟨j.val, by omega⟩) := by
  pointwise [val_main_v61, val_main_v59]
  rw [dif_pos h]
theorem v61_entry (i : Fin 4096) (j : Fin 512) : val_main_v61 (F := Ideal) x0 x1 x2 x3 x4 (ix2 i ⟨j.val + 512, by omega⟩)
    = val_main_v17 (F := Ideal) x0 (ix2 i j) * val_main_v57 (F := Ideal) x0 x1 x2 x3 (ix2 i j) := by
  pointwise [val_main_v61, val_main_v60, val_main_v58]
  rw [dif_neg (by omega)]
  simp only [Nat.add_sub_cancel]
theorem v61_right (n : Fin 32) (s : Fin 128) (h : Fin 4) (d : Fin 128) :
    val_main_v61 (F := Ideal) x0 x1 x2 x3 x4 (ix2 (row n s) ⟨(col h d).val + 512, by omega⟩)
      = gelu (su x0 (row n s) (col h d)) * mix x0 x1 x2 x3 n s h d := by
  rw [← v17, ← v57]
  exact v61_entry x0 x1 x2 x3 x4 _ _
end

variable (m : (ℓ : Loc nD τ sig) → Buf (Elt Ideal) ℓ) (c : Dev nD)

abbrev a0 : FVec Ideal S4096x1536 .f32 := m ((c : Thread nD τ).loc main_arg0)
abbrev a1 : FVec Ideal S512 .f32 := m ((c : Thread nD τ).loc main_arg1)
abbrev a2 : FVec Ideal S4x128x128 .f32 := m ((c : Thread nD τ).loc main_arg2)
abbrev a3 : FVec Ideal S4x128 .f32 := m ((c : Thread nD τ).loc main_arg3)
abbrev a4 : FVec Ideal S4096x1024 .bf16 := m ((c : Thread nD τ).loc main_arg4)

theorem idx : ∀ t : Fin cfg0.N, win0_0.index t = ![t.val, 1] ∧ win0_1.index t = ![t.val, 2] ∧ win0_2.index t = ![0, 0]
    ∧ win0_3.index t = ![0, 0, 0] ∧ win0_4.index t = ![0, 0] ∧ win0_5.index t = ![t.val, 1] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i j : Fin 512) : (iblk m c 0 t (ix2 i j) : EReal) = su (a0 m c) (rr t i) j := by
  blk_point [iblk, V, idx t, rr]
theorem blk1 (t : Fin cfg0.N) (i j : Fin 512) : (iblk m c 1 t (ix2 i j) : EReal) = sv (a0 m c) (rr t i) j := by
  blk_point [iblk, V, idx t, rr]
theorem blk2 (t : Fin cfg0.N) (j : Fin 512) : (iblk m c 2 t (ix2 0 j) : EReal) = a1 m c (ix1 j) := by
  blk_point [iblk, V, idx t, rr]
theorem blk3 (t : Fin cfg0.N) (h : Fin 4) (s k : Fin 128) : (iblk m c 3 t (ix3 h s k) : EReal) = a2 m c (ix3 h s k) := by
  blk_point [iblk, V, idx t, rr]
theorem blk4 (t : Fin cfg0.N) (s : Fin 128) (h : Fin 4) : (iblk m c 4 t (ix2 s h) : EReal) = a3 m c (ix2 h s) := by
  blk_point [iblk, V, idx t, rr]

theorem VB (t : Fin cfg0.N) (i j : Fin 512) :
    k0_pay4 (F := Ideal) (iblk m c 1 t) (iblk m c 2 t) (ix2 i j)
      = Cert.SguRefIdeal.Read.val_main_v65 (F := Ideal) (a0 m c) (a1 m c) (ix2 (rr t i) j) := by
  rw [Cert.SguIdeal.Value2.v65, ← blk1, ← blk2]
  refine (v_apply (iblk m c 1 t) (iblk m c 2 t) i j).trans (Ideal.mul_congr (Ideal.mul_congr rfl (congrArg rsq (funext fun k => ?_))) rfl)
  exact blk1 m c t i k

/-- Chunk `q` of block `t`. -/
def ch (t : Fin cfg0.N) (q : ℕ) (hq : q < 4) : Fin 32 := ⟨t.val * 4 + q, by have := t.isLt; have : cfg0.N = 8 := rfl; omega⟩
theorem rr_row (t : Fin cfg0.N) (q : ℕ) (hq : q < 4) (o0 : ℕ) (h0 : o0 + 128 ≤ 512) (e0 : o0 = 128 * q) (k : Fin 128) :
    rr t (pos o0 h0 k) = row (ch t q hq) k := Fin.ext (by subst e0; show t.val * 512 + (128 * q + k.val) = (t.val * 4 + q) * 128 + k.val; omega)
theorem pos_col (hd : ℕ) (hh : hd < 4) (o1 : ℕ) (h1 : o1 + 128 ≤ 512) (e1 : o1 = 128 * hd) (d : Fin 128) :
    pos o1 h1 d = col ⟨hd, hh⟩ d := Fin.ext (by subst e1; show 128 * hd + d.val = hd * 128 + d.val; omega)

section pieces
variable (t : Fin cfg0.N) (o0 o1 hd : ℕ) (h0 : o0 + 128 ≤ 512) (h1 : o1 + 128 ≤ 512) (hh : hd < 4) (e1 : o1 = 128 * hd)
include h0 h1 hh e1 in
theorem piece_at (e0 : o0 % 128 = 0) (p qq p1 p2 p3 p4 p5 f1 f2 f3) (x : S128x128.Idx) (y0 y1 : Fin 512)
    (hy0 : y0.val = o0 + (x 0).val) (hy1 : y1.val = o1 + (x 1).val) :
    truncf .bf16 (mulf (extractStridedSlice S128x128 ![o0, o1] (k0_pay3 (F := Ideal) (iblk m c 0 t)) p1)
      (addf (matmul dot_S128x128_S128x128_S128x128_1_0_0_1_n_n none (truncf .bf16 (wm (iblk m c 3 t) hd p qq) f1)
          (truncf .bf16 (extractStridedSlice S128x128 ![o0, o1] (k0_pay4 (F := Ideal) (iblk m c 1 t) (iblk m c 2 t)) p2) f2) (constant S128x128 .f32 0x00000000#32))
        (broadcastTo S128x128 (shapeCast S128x1 (View.ld (iblk m c 4 t) (Rect.unit ![0, hd] ![128, 1] p3) : FVec Ideal S128x1 .f32) p4) p5))) f3 x
    = val_main_v61 (F := Ideal) (a0 m c) (a1 m c) (a2 m c) (a3 m c) (a4 m c) (ix2 (rr t y0) ⟨y1.val + 512, by omega⟩) := by
  idx_vars x
  obtain rfl : y0 = pos o0 h0 x0 := Fin.ext hy0
  obtain rfl : y1 = pos o1 h1 x1 := Fin.ext hy1
  refine (piece (iblk m c 3 t) (iblk m c 4 t) o0 o1 hd h0 h1 hh _ _ p qq p1 p2 p3 p4 p5 f1 f2 f3 x0 x1).trans ?_
  have hr := rr_row t (o0 / 128) (by omega) o0 h0 (by omega)
  have hc := pos_col hd hh o1 h1 e1 x1
  have e : (ix2 (rr t (pos o0 h0 x0)) ⟨(pos o1 h1 x1).val + 512, by omega⟩ : S4096x1024.Idx)
      = ix2 (row (ch t (o0 / 128) (by omega)) x0) ⟨(col ⟨hd, hh⟩ x1).val + 512, by omega⟩ :=
    (ix2_inj ..).2 ⟨hr x0, Fin.ext (congrArg (fun z : Fin 512 => z.val + 512) hc)⟩
  rw [e, v61_right]
  refine Ideal.mul_congr ?_ ?_
  · rw [← hr, ← hc]
    exact (su_apply (iblk m c 0 t) _ _).trans (congrArg gelu (blk0 m c t _ _))
  · unfold mix
    refine Ideal.add_congr (Finset.sum_congr rfl fun k _ => Ideal.mul_congr ?_ ?_) (blk4 m c t x0 ⟨hd, hh⟩)
    · exact congrArg (fun w => low w x0 k) (funext fun s => funext fun k => blk3 m c t ⟨hd, hh⟩ s k)
    · rw [← hr, ← hc]; exact VB m c t _ _
end pieces

/-- What point `t` leaves in its block. -/
theorem after_block (t : Fin cfg0.N) (y0 y1 : Fin 512) :
    (outsAt0 m c t (ix2 y0 y1) : EReal)
      = val_main_v61 (F := Ideal) (a0 m c) (a1 m c) (a2 m c) (a3 m c) (a4 m c) (ix2 (rr t y0) ⟨y1.val + 512, by omega⟩) := by
  unfold outsAt0
  frame_out
  canon_tiles x h
  all_goals
    refine piece_at m c t _ _ _ ?_ ?_ ?_ ?_ ?_ _ _ _ _ _ _ _ _ _ _ x y0 y1 ?_ ?_
    rotate_left 5
    · first | exact h0 | exact h0.trans (Nat.zero_add _).symm
    · first | exact h1 | exact h1.trans (Nat.zero_add _).symm
    all_goals decide

theorem final : (dats m 0 c).arrAt 5 cfg0.N = val_main_v61 (F := Ideal) (a0 m c) (a1 m c) (a2 m c) (a3 m c) (a4 m c) := by
  funext y
  idx_vars y
  by_cases h : y1.val < 512
  · refine (entry5 m c _ fun t _ hm => ?_).trans ?_
    · mem_blk [idx t] at hm
      have h1 := hm.2.1
      change 512 ≤ y1.val at h1
      omega
    · rw [v61_left _ _ _ _ _ _ _ h]
      rfl
  · obtain ⟨t, ht⟩ : ∃ t : Fin cfg0.N, t.val = y0.val / 512 := ⟨⟨y0.val / 512, by have : cfg0.N = 8 := rfl; omega⟩, rfl⟩
    obtain ⟨z0, hz0⟩ : ∃ z : Fin 512, z.val = y0.val % 512 := ⟨⟨y0.val % 512, by omega⟩, rfl⟩
    obtain ⟨z1, hz1⟩ : ∃ z : Fin 512, z.val + 512 = y1.val := ⟨⟨y1.val - 512, by omega⟩, by simp only; omega⟩
    have e0 : ((win0_5.blk t).view).emb (ix2 z0 z1) = ix2 (rr t z0) ⟨z1.val + 512, by omega⟩ := by blk_ext [idx t, rr]
    have e1 : (ix2 y0 y1 : S4096x1024.Idx) = ix2 (rr t z0) ⟨z1.val + 512, by omega⟩ :=
      (ix2_inj ..).2 ⟨Fin.ext (by simp only [rr]; omega), Fin.ext hz1.symm⟩
    rw [e1]
    refine Eq.trans ?_ (after_block m c t z0 z1)
    rw [← e0]
    refine ((dats m 0 c).arrAt_emb_eq_flushed 5 disjoint5 t ((by decide +kernel : ∀ t : Fin grid0.N, win0_5.flush t = true) t) (ix2 z0 z1)).trans ?_
    blk_simp
    rw [after0_5]

end Cert.SguFwdIdeal.Value2
-- ==== Proof.SguFwdClaim.lean ====
module
public import proofs.«01_k».proof.Defs
public import proofs.«01_k».proof.Proof.Gen.SguFwd.Frame
public import proofs.«01_k».proof.Proof.Gen.SguFwdRefIdeal.Run
public import proofs.«01_k».proof.Proof.SguFwdVal
@[expose] public section
/-! The claims about the spatial gate. -/
set_option maxRecDepth 65536
noncomputable section
open Idealize.ShloMosaic Idealize.SL.Sem
namespace Cert.Proof.SguFwd

theorem frame : Cert.quiescent_SguFwd := fun m ρ _ => Cert.SguFwd.Gen.frame m ρ

theorem frameIdeal : Cert.quiescent_SguFwdIdeal := fun m ρ _ => Cert.SguFwdIdeal.Gen.frame m ρ

theorem frameRef : Cert.quiescent_SguFwdRefIdeal := fun m g _ =>
  (θ_run _ _ _).mono (fun r h => ⟨fun c => (h c).2, sem_eq_zero_of_no_sems rfl r.2⟩)
    (Cert.SguFwdRefIdeal.Value.run m g)

theorem preserves : Cert.preserves_SguFwd_SguFwdIdeal :=
  IdealRules.named_const.statement Cert.SguFwdIdeal.κ "gelu_c" .f32 0x3D372713#32 _ rfl

theorem algebraic : Cert.algebraic_SguFwdIdeal_SguFwdRefIdeal := by
  pair_intro
  · run_from Cert.SguFwdIdeal.Value.run_blocks m g
  · run_from Cert.SguFwdRefIdeal.Value.run m' g'
    · obtain ⟨e0, e1, e2, e3, e4⟩ := hagree c
      exact (Cert.SguFwdRefIdeal.Read.val_main_v61_eq m' c).trans
        ((congr (congr (congr (congr (congrArg (Cert.SguFwdRefIdeal.Read.val_main_v61 (F := Ideal)) e0) e1) e2) e3) e4).trans (Cert.SguFwdIdeal.Value2.final m c).symm)

end Cert.Proof.SguFwd
-- ==== Proof.SconvFwdVal.lean ====
module
public import proofs.«01_k».proof.Proof.Gen.SconvFwdIdeal.Frame
public import proofs.«01_k».proof.Proof.Gen.SconvFwdRefIdeal.Read
public import proofs.«01_k».proof.Proof.SconvVal
@[expose] public section
/-! The array the short convolution leaves is the reference's. -/
set_option maxRecDepth 200000
noncomputable section
open Idealize.ShloMosaic Idealize.ShloMosaic.TcCoe Idealize.SL.Sem
namespace Cert.SconvFwdIdeal.Value2
open Cert.SconvFwdIdeal Cert.SconvFwdIdeal.Gen Cert.Shift
open Cert.SconvFwdRefIdeal.Read
open Cert.SconvRefIdeal.Value2 (P)

theorem pay1_apply (v0 v1 v2 : FVec Ideal S4096x128 .f32) (a b c : FVec Ideal S1x128 .f32) (i : Fin 4096) (j : Fin 128) :
    k0_pay1 (F := Ideal) v0 v1 v2 a b c (ix2 i j)
      = col v0 j i * conv (a (ix2 0 j)) (b (ix2 0 j)) (c (ix2 0 j)) (fun r => col v1 j r * col v2 j r) i :=
  Cert.SconvIdeal.Value2.pay4_apply v2 v1 v0 a b c i j

section
variable (x0 : FVec Ideal S4096x2048 .f32) (x1 : FVec Ideal S3x512 .f32)

theorem v25 (i : Fin 4096) (j : Fin 512) :
    val_main_v25 (F := Ideal) x0 x1 (ix2 i j) = conv (x1 (ix2 0 j)) (x1 (ix2 1 j)) (x1 (ix2 2 j)) (P x0 j) i :=
  Cert.SconvRefIdeal.Value2.v26 x0 x1 i j

theorem v27 (i : Fin 4096) (j : Fin 512) : val_main_v27 (F := Ideal) x0 x1 (ix2 i j)
    = x0 (ix2 i ⟨512 + j.val, by omega⟩) * conv (x1 (ix2 0 j)) (x1 (ix2 1 j)) (x1 (ix2 2 j)) (P x0 j) i := by
  pointwise [val_main_v27, val_main_v26, val_main_v1, v25]
end

variable (m : (ℓ : Loc nD τ sig) → Buf (Elt Ideal) ℓ) (c : Dev nD)

theorem idx : ∀ t : Fin cfg0.N, win0_0.index t = ![0, t.val] ∧ win0_1.index t = ![0, 4 + t.val] ∧ win0_2.index t = ![0, 8 + t.val]
    ∧ win0_3.index t = ![0, t.val] ∧ win0_4.index t = ![0, t.val] :=
  (by decide +kernel : ∀ t : Fin grid0.N, _)

abbrev a0 : FVec Ideal S4096x2048 .f32 := m ((c : Thread nD τ).loc main_arg0)
abbrev a1 : FVec Ideal S3x512 .f32 := m ((c : Thread nD τ).loc main_arg1)

/-- Column `j` of block `t` is column `128 t + j`. -/
def cc (t : Fin cfg0.N) (j : Fin 128) : Fin 512 := ⟨128 * t.val + j.val, by have := t.isLt; have : cfg0.N = 4 := rfl; omega⟩

theorem blk0 (t : Fin cfg0.N) (i : Fin 4096) (j : Fin 128) :
    (iblk m c 0 t (ix2 i j) : EReal) = a0 m c (ix2 i ⟨(cc t j).val, by omega⟩) := by
  blk_point [iblk, V, idx t, cc]
theorem blk1 (t : Fin cfg0.N) (i : Fin 4096) (j : Fin 128) :
    (iblk m c 1 t (ix2 i j) : EReal) = a0 m c (ix2 i ⟨512 + (cc t j).val, by omega⟩) := by
  blk_point [iblk, V, idx t, cc]
theorem blk2 (t : Fin cfg0.N) (i : Fin 4096) (j : Fin 128) :
    (iblk m c 2 t (ix2 i j) : EReal) = a0 m c (ix2 i ⟨1024 + (cc t j).val, by omega⟩) := by
  blk_point [iblk, V, idx t, cc]

theorem tap0 (t : Fin cfg0.N) (j : Fin 128) : (View.ld (iblk m c 3 t) r0_1 (ix2 0 j) : EReal) = a1 m c (ix2 0 (cc t j)) := by
  blk_point [iblk, V, idx t, cc, r0_1]
theorem tap1 (t : Fin cfg0.N) (j : Fin 128) : (View.ld (iblk m c 3 t) r0_2 (ix2 0 j) : EReal) = a1 m c (ix2 1 (cc t j)) := by
  blk_point [iblk, V, idx t, cc, r0_2]
theorem tap2 (t : Fin cfg0.N) (j : Fin 128) : (View.ld (iblk m c 3 t) r0_3 (ix2 0 j) : EReal) = a1 m c (ix2 2 (cc t j)) := by
  blk_point [iblk, V, idx t, cc, r0_3]

/-- The product's column in block `t`. -/
theorem colP (t : Fin cfg0.N) (j : Fin 128) :
    (fun r => col (iblk m c 2 t) j r * col (iblk m c 0 t) j r) = P (a0 m c) (cc t j) := by
  funext r
  rw [SconvRefIdeal.Value2.P_eq]
  exact Ideal.mul_congr (blk2 m c t r j) (blk0 m c t r j)

theorem idx_inj : ∀ t t' : Fin cfg0.N, win0_4.index t = win0_4.index t' → t = t' :=
  (by decide +kernel : ∀ t t' : Fin grid0.N, win0_4.index t = win0_4.index t' → t = t')

theorem left_half (i : Fin 4096) (j : Fin 512) :
    ((dats m 0 c).arrAt 4 cfg0.N (ix2 i ⟨j.val, by omega⟩) : EReal) = val_main_v27 (F := Ideal) (a0 m c) (a1 m c) (ix2 i j) := by
  obtain ⟨t, ht⟩ : ∃ t : Fin cfg0.N, t.val = j.val / 128 := ⟨⟨j.val / 128, by have : cfg0.N = 4 := rfl; omega⟩, rfl⟩
  obtain ⟨z, hz⟩ : ∃ z : Fin 128, z.val = j.val % 128 := ⟨⟨j.val % 128, by omega⟩, rfl⟩
  have e0 : ((win0_4.blk t).view).emb (ix2 i z) = ix2 i ⟨j.val, by omega⟩ := by blk_ext [idx t]
  have e1 : j = cc t z := Fin.ext (by simp only [cc]; omega)
  rw [← e0]
  refine ((dats m 0 c).arrAt_emb_eq_flushed 4 (fun t t' _ _ hne => (cfg0.win 4).disjoint_blk fun h => hne (idx_inj t t' h)) t
    ((by decide +kernel : ∀ t : Fin grid0.N, win0_4.flush t = true) t) (ix2 i z)).trans ?_
  blk_simp
  rw [after0_4]; frame_out
  rw [e1, v27, ← colP, ← tap0, ← tap1, ← tap2]
  exact (pay1_apply _ _ _ _ _ _ i z).trans (Ideal.mul_congr (blk1 m c t i z) rfl)

theorem final : (extractStridedSlice S4096x512 ![0, 0] ((dats m 0 c).arrAt 4 cfg0.N) slices_S4096x1024_S4096x512_0_0 : FVec Ideal S4096x512 .bf16)
      = val_main_v27 (F := Ideal) (a0 m c) (a1 m c) := by
  funext y
  idx_vars y
  refine Eq.trans ?_ (left_half m c y0 y1)
  pointwise

/-- The run with the sliced array named. -/
theorem run_blocks (ρ : Dev nD → PrngReg) : θ_run defs (onTc (τ := τ) (main (F := Ideal))) ⟨m, fun _ => 0, ρ⟩ fun r => ∀ c : Dev nD,
      r.2.mem ((c : Thread nD τ).loc main_v1) = extractStridedSlice S4096x512 ![0, 0] ((dats m 0 c).arrAt 4 cfg0.N) slices_S4096x1024_S4096x512_0_0
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.2 c⟩) (θ_run_and (run_main m ρ) (unchanged m ρ))
  refine ((h.1 c).2 main_v1 (Pipeline.mem_restRefs_of main_v1 (by decide) (by decide))).trans ?_
  unfold Pipeline.afterTail₀
  have e := Pipeline.withArrays_arr_shared spec0 c (V0 m c) (fun w => (dats m 0 c).arrAt w cfg0.N)
    (fun w w' hne he => (dats m 0 c).arrAt_in w ((by decide : ∀ w w' : Fin 5, w ≠ w' → Pipeline.arrRef spec0 w = Pipeline.arrRef spec0 w' → (cfg0.win w).isOut = false) w w' hne he) cfg0.N) 4
  refine Eq.trans ?_ (congrArg (fun x => extractStridedSlice S4096x512 ![0, 0] x slices_S4096x1024_S4096x512_0_0) e)
  show StableHlo.after hostOps1 (Pipeline.withArrays spec0 c (V0 m c) (fun w => (dats m 0 c).arrAt w cfg0.N)) (Proc.devRef .tc main_v1) = _
  after_results; try rfl

end Cert.SconvFwdIdeal.Value2
-- ==== Proof.SconvFwdClaim.lean ====
module
public import proofs.«01_k».proof.Defs
public import proofs.«01_k».proof.Proof.Gen.SconvFwd.Frame
public import proofs.«01_k».proof.Proof.Gen.SconvFwdRefIdeal.Run
public import proofs.«01_k».proof.Proof.SconvFwdVal
@[expose] public section
/-! The claims about the short convolution. -/
set_option maxRecDepth 65536
noncomputable section
open Idealize.ShloMosaic Idealize.SL.Sem
namespace Cert.Proof.SconvFwd

theorem frame : Cert.quiescent_SconvFwd := fun m ρ _ => Cert.SconvFwd.Gen.frame m ρ

theorem frameIdeal : Cert.quiescent_SconvFwdIdeal := fun m ρ _ => Cert.SconvFwdIdeal.Gen.frame m ρ

theorem frameRef : Cert.quiescent_SconvFwdRefIdeal := fun m g _ =>
  (θ_run _ _ _).mono (fun r h => ⟨fun c => (h c).2, sem_eq_zero_of_no_sems rfl r.2⟩)
    (Cert.SconvFwdRefIdeal.Value.run m g)

theorem preserves : Cert.preserves_SconvFwd_SconvFwdIdeal := trivial

theorem algebraic : Cert.algebraic_SconvFwdIdeal_SconvFwdRefIdeal := by
  pair_intro
  · run_from Cert.SconvFwdIdeal.Value2.run_blocks m g
  · run_from Cert.SconvFwdRefIdeal.Value.run m' g'
    · exact (Cert.SconvFwdRefIdeal.Read.val_main_v27_eq _ _).trans (Cert.SconvFwdIdeal.Value2.final m c).symm

end Cert.Proof.SconvFwd
-- ==== Proof.MixOutVal.lean ====
module
public import proofs.«01_k».proof.Proof.Gen.MixOutIdeal.Value
public import proofs.«01_k».proof.Proof.Gen.MixOutRefIdeal.Read
public import proofs.«01_k».proof.Proof.Norm
@[expose] public section
/-! The arrays the product after the mixers leaves are the reference's. -/
set_option maxRecDepth 200000
noncomputable section
open Idealize.ShloMosaic Idealize.ShloMosaic.TcCoe Idealize.SL.Sem
namespace Cert.MixOutIdeal.Value2
open Cert.MixOutIdeal Cert.MixOutIdeal.Gen Cert.Norm
open Cert.MixOutRefIdeal.Read

section
variable (a : FVec Ideal S1024x1024 .bf16) (w : FVec Ideal S1024x1024 .bf16) (x : FVec Ideal S1024x1024 .f32) (g : FVec Ideal S1x1x1024 .f32)
theorem pay1_apply (i : Fin 1024) (j : Fin 1024) :
    k0_pay1 (F := Ideal) a w x (ix2 i j) = (∑ k : Fin 1024, a (ix2 i k) * w (ix2 k j)) + x (ix2 i j) := by
  pointwise [k0_pay1]
theorem pay2_apply (i : Fin 1024) (j : Fin 1024) : k0_pay2 (F := Ideal) a w x g (ix2 i j)
    = k0_pay1 (F := Ideal) a w x (ix2 i j) * rms 1024 eps (fun k => k0_pay1 (F := Ideal) a w x (ix2 i k)) * g (ix3 0 0 j) := by
  unfold rms meanSq
  rw [← lit_eps, ← lit_1024]
  pointwise [k0_pay2]
end

section
variable (x0 : FVec Ideal S4096x1024 .bf16) (x1 : FVec Ideal S1024x1024 .f32) (x2 : FVec Ideal S4096x1024 .f32) (x3 : FVec Ideal S4x1024 .f32)
theorem v2 (i : Fin 4096) (j : Fin 1024) :
    val_main_v2 (F := Ideal) x0 x1 x2 (ix2 i j) = (∑ k : Fin 1024, x0 (ix2 i k) * x1 (ix2 k j)) + x2 (ix2 i j) := by
  rw [add_comm]
  pointwise [val_main_v2, val_main_v1, val_main_v0]
theorem v18 (i : Fin 4096) (j : Fin 1024) : val_main_v18 (F := Ideal) x0 x1 x2 x3 (ix2 i j)
    = val_main_v2 (F := Ideal) x0 x1 x2 (ix2 i j) * rms 1024 eps (fun k => val_main_v2 (F := Ideal) x0 x1 x2 (ix2 i k)) * x3 (ix2 3 j) := by
  unfold rms meanSq
  rw [← lit_eps, ← lit_1024]
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
end

variable (m : (ℓ : Loc nD τ sig) → Buf (Elt Ideal) ℓ) (c : Dev nD)

abbrev a0 : FVec Ideal S4096x1024 .bf16 := m ((c : Thread nD τ).loc main_arg0)
abbrev a1 : FVec Ideal S1024x1024 .f32 := m ((c : Thread nD τ).loc main_arg1)
abbrev a2 : FVec Ideal S4096x1024 .f32 := m ((c : Thread nD τ).loc main_arg2)
abbrev a3 : FVec Ideal S4x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![3, 0, 0] ∧ win0_4.index t = ![t.val, 0] ∧ win0_5.index t = ![t.val, 0] :=
  (by decide +kernel : ∀ t : Fin grid0.N, _)

/-- Row `i` of block `t` is row `1024 t + i`. -/
def rr (t : Fin cfg0.N) (i : Fin 1024) : Fin 4096 := ⟨t.val * 1024 + i.val, by have := t.isLt; have : cfg0.N = 4 := rfl; omega⟩

theorem blk0 (t : Fin cfg0.N) (i : Fin 1024) (j : Fin 1024) : (iblk m c 0 t (ix2 i j) : EReal) = a0 m c (ix2 (rr t i) j) := by
  blk_point [iblk, V, idx t, rr]
theorem blk1 (t : Fin cfg0.N) (i : Fin 1024) (j : Fin 1024) : (iblk m c 1 t (ix2 i j) : EReal) = a1 m c (ix2 i j) := by
  blk_point [iblk, V, idx t, rr]
theorem blk2 (t : Fin cfg0.N) (i : Fin 1024) (j : Fin 1024) : (iblk m c 2 t (ix2 i j) : EReal) = a2 m c (ix2 (rr t i) j) := by
  blk_point [iblk, V, idx t, rr]
theorem blk3 (t : Fin cfg0.N) (j : Fin 1024) : (iblk m c 3 t (ix3 0 0 j) : EReal) = a3 m c (ix2 3 j) := by
  blk_point [iblk, V, idx t, rr]

theorem sumB (t : Fin cfg0.N) (i : Fin 1024) (j : Fin 1024) :
    k0_pay1 (F := Ideal) (iblk m c 0 t) (iblk m c 1 t) (iblk m c 2 t) (ix2 i j)
      = val_main_v2 (F := Ideal) (a0 m c) (a1 m c) (a2 m c) (ix2 (rr t i) j) := by
  rw [v2]
  refine (pay1_apply (iblk m c 0 t) (iblk m c 1 t) (iblk m c 2 t) i j).trans
    (Ideal.add_congr (Finset.sum_congr rfl fun k _ => Ideal.mul_congr (blk0 m c t i k) (blk1 m c t k j)) (blk2 m c t i j))

theorem final4 : (dats m 0 c).arrAt 4 cfg0.N = val_main_v2 (F := Ideal) (a0 m c) (a1 m c) (a2 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e, ← sumB, after0_4]
  frame_out

theorem final5 : (dats m 0 c).arrAt 5 cfg0.N = val_main_v18 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e, v18]
  have e0 : (fun k => k0_pay1 (F := Ideal) (iblk m c 0 t) (iblk m c 1 t) (iblk m c 2 t) (ix2 y0 k))
      = fun k => val_main_v2 (F := Ideal) (a0 m c) (a1 m c) (a2 m c) (ix2 (rr t y0) k) := funext fun k => sumB m c t y0 k
  refine Eq.trans ?_ ((pay2_apply (iblk m c 0 t) (iblk m c 1 t) (iblk m c 2 t) (iblk m c 3 t) y0 y1).trans
    (Ideal.mul_congr (Ideal.mul_congr (sumB m c t y0 y1) (congrArg (rms 1024 eps) e0)) (blk3 m c t y1)))
  rw [after0_5]
  frame_out

end Cert.MixOutIdeal.Value2
-- ==== Proof.MixOutClaim.lean ====
module
public import proofs.«01_k».proof.Defs
public import proofs.«01_k».proof.Proof.Gen.MixOut.Frame
public import proofs.«01_k».proof.Proof.Gen.MixOutRefIdeal.Run
public import proofs.«01_k».proof.Proof.MixOutVal
@[expose] public section
/-! The claims about the product after the mixers, with its norm. -/
set_option maxRecDepth 65536
noncomputable section
open Idealize.ShloMosaic Idealize.SL.Sem
namespace Cert.Proof.MixOut

theorem frame : Cert.quiescent_MixOut := fun m ρ _ => Cert.MixOut.Gen.frame m ρ

theorem frameIdeal : Cert.quiescent_MixOutIdeal := fun m ρ _ => Cert.MixOutIdeal.Gen.frame m ρ

theorem frameRef : Cert.quiescent_MixOutRefIdeal := fun m g _ =>
  (θ_run _ _ _).mono (fun r h => ⟨fun c => (h c).2.2, sem_eq_zero_of_no_sems rfl r.2⟩)
    (Cert.MixOutRefIdeal.Value.run m g)

theorem preserves : Cert.preserves_MixOut_MixOutIdeal := trivial

theorem algebraic : Cert.algebraic_MixOutIdeal_MixOutRefIdeal := by
  pair_intro
  · run_from Cert.MixOutIdeal.Value.run_blocks m g
  · run_from Cert.MixOutRefIdeal.Value.run m' g'
    · exact (Cert.MixOutRefIdeal.Read.val_main_v2_eq _ _ _).trans (Cert.MixOutIdeal.Value2.final4 m c).symm
    · exact (Cert.MixOutRefIdeal.Read.val_main_v18_eq _ _ _ _).trans (Cert.MixOutIdeal.Value2.final5 m c).symm

end Cert.Proof.MixOut
-- ==== Proof.DownVal.lean ====
module
public import proofs.«01_k».proof.Proof.Gen.DownIdeal.Value
public import proofs.«01_k».proof.Proof.Gen.DownRefIdeal.Read
public import proofs.«01_k».proof.Proof.Norm
@[expose] public section
/-! The arrays the last product of a feed-forward block leaves are the reference's. -/
set_option maxRecDepth 200000
noncomputable section
open Idealize.ShloMosaic Idealize.ShloMosaic.TcCoe Idealize.SL.Sem
namespace Cert.DownIdeal.Value2
open Cert.DownIdeal Cert.DownIdeal.Gen Cert.Norm
open Cert.DownRefIdeal.Read

section
variable (a : FVec Ideal S512x2816 .bf16) (w : FVec Ideal S2816x1024 .bf16) (x : FVec Ideal S512x1024 .f32) (g : FVec Ideal S1x1x1024 .f32)
theorem pay1_apply (i : Fin 512) (j : Fin 1024) :
    k0_pay1 (F := Ideal) a w x (ix2 i j) = (∑ k : Fin 2816, a (ix2 i k) * w (ix2 k j)) + x (ix2 i j) := by
  pointwise [k0_pay1]
theorem pay2_apply (i : Fin 512) (j : Fin 1024) : k0_pay2 (F := Ideal) a w x g (ix2 i j)
    = k0_pay1 (F := Ideal) a w x (ix2 i j) * rms 1024 eps (fun k => k0_pay1 (F := Ideal) a w x (ix2 i k)) * g (ix3 0 0 j) := by
  unfold rms meanSq
  rw [← lit_eps, ← lit_1024]
  pointwise [k0_pay2]
end

section
variable (x0 : FVec Ideal S4096x2816 .bf16) (x1 : FVec Ideal S2816x1024 .f32) (x2 : FVec Ideal S4096x1024 .f32) (x3 : FVec Ideal S4x1024 .f32)
theorem v2 (i : Fin 4096) (j : Fin 1024) :
    val_main_v2 (F := Ideal) x0 x1 x2 (ix2 i j) = (∑ k : Fin 2816, x0 (ix2 i k) * x1 (ix2 k j)) + x2 (ix2 i j) := by
  rw [add_comm]
  pointwise [val_main_v2, val_main_v1, val_main_v0]
theorem v18 (i : Fin 4096) (j : Fin 1024) : val_main_v18 (F := Ideal) x0 x1 x2 x3 (ix2 i j)
    = val_main_v2 (F := Ideal) x0 x1 x2 (ix2 i j) * rms 1024 eps (fun k => val_main_v2 (F := Ideal) x0 x1 x2 (ix2 i k)) * x3 (ix2 2 j) := by
  unfold rms meanSq
  rw [← lit_eps, ← lit_1024]
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
end

variable (m : (ℓ : Loc nD τ sig) → Buf (Elt Ideal) ℓ) (c : Dev nD)

abbrev a0 : FVec Ideal S4096x2816 .bf16 := m ((c : Thread nD τ).loc main_arg0)
abbrev a1 : FVec Ideal S2816x1024 .f32 := m ((c : Thread nD τ).loc main_arg1)
abbrev a2 : FVec Ideal S4096x1024 .f32 := m ((c : Thread nD τ).loc main_arg2)
abbrev a3 : FVec Ideal S4x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![2, 0, 0] ∧ win0_4.index t = ![t.val, 0] ∧ win0_5.index t = ![t.val, 0] :=
  (by decide +kernel : ∀ t : Fin grid0.N, _)

/-- Row `i` of block `t` is row `512 t + i`. -/
def rr (t : Fin cfg0.N) (i : Fin 512) : Fin 4096 := ⟨t.val * 512 + i.val, by have := t.isLt; have : cfg0.N = 8 := rfl; omega⟩

theorem blk0 (t : Fin cfg0.N) (i : Fin 512) (j : Fin 2816) : (iblk m c 0 t (ix2 i j) : EReal) = a0 m c (ix2 (rr t i) j) := by
  blk_point [iblk, V, idx t, rr]
theorem blk1 (t : Fin cfg0.N) (i : Fin 2816) (j : Fin 1024) : (iblk m c 1 t (ix2 i j) : EReal) = a1 m c (ix2 i j) := by
  blk_point [iblk, V, idx t, rr]
theorem blk2 (t : Fin cfg0.N) (i : Fin 512) (j : Fin 1024) : (iblk m c 2 t (ix2 i j) : EReal) = a2 m c (ix2 (rr t i) j) := by
  blk_point [iblk, V, idx t, rr]
theorem blk3 (t : Fin cfg0.N) (j : Fin 1024) : (iblk m c 3 t (ix3 0 0 j) : EReal) = a3 m c (ix2 2 j) := by
  blk_point [iblk, V, idx t, rr]

theorem sumB (t : Fin cfg0.N) (i : Fin 512) (j : Fin 1024) :
    k0_pay1 (F := Ideal) (iblk m c 0 t) (iblk m c 1 t) (iblk m c 2 t) (ix2 i j)
      = val_main_v2 (F := Ideal) (a0 m c) (a1 m c) (a2 m c) (ix2 (rr t i) j) := by
  rw [v2]
  refine (pay1_apply (iblk m c 0 t) (iblk m c 1 t) (iblk m c 2 t) i j).trans
    (Ideal.add_congr (Finset.sum_congr rfl fun k _ => Ideal.mul_congr (blk0 m c t i k) (blk1 m c t k j)) (blk2 m c t i j))

theorem final4 : (dats m 0 c).arrAt 4 cfg0.N = val_main_v2 (F := Ideal) (a0 m c) (a1 m c) (a2 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e, ← sumB, after0_4]
  frame_out

theorem final5 : (dats m 0 c).arrAt 5 cfg0.N = val_main_v18 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e, v18]
  have e0 : (fun k => k0_pay1 (F := Ideal) (iblk m c 0 t) (iblk m c 1 t) (iblk m c 2 t) (ix2 y0 k))
      = fun k => val_main_v2 (F := Ideal) (a0 m c) (a1 m c) (a2 m c) (ix2 (rr t y0) k) := funext fun k => sumB m c t y0 k
  refine Eq.trans ?_ ((pay2_apply (iblk m c 0 t) (iblk m c 1 t) (iblk m c 2 t) (iblk m c 3 t) y0 y1).trans
    (Ideal.mul_congr (Ideal.mul_congr (sumB m c t y0 y1) (congrArg (rms 1024 eps) e0)) (blk3 m c t y1)))
  rw [after0_5]
  frame_out

end Cert.DownIdeal.Value2
-- ==== Proof.DownClaim.lean ====
module
public import proofs.«01_k».proof.Defs
public import proofs.«01_k».proof.Proof.Gen.Down.Frame
public import proofs.«01_k».proof.Proof.Gen.DownRefIdeal.Run
public import proofs.«01_k».proof.Proof.DownVal
@[expose] public section
/-! The claims about the last product of a feed-forward block, with its norm. -/
set_option maxRecDepth 65536
noncomputable section
open Idealize.ShloMosaic Idealize.SL.Sem
namespace Cert.Proof.Down

theorem frame : Cert.quiescent_Down := fun m ρ _ => Cert.Down.Gen.frame m ρ

theorem frameIdeal : Cert.quiescent_DownIdeal := fun m ρ _ => Cert.DownIdeal.Gen.frame m ρ

theorem frameRef : Cert.quiescent_DownRefIdeal := fun m g _ =>
  (θ_run _ _ _).mono (fun r h => ⟨fun c => (h c).2.2, sem_eq_zero_of_no_sems rfl r.2⟩)
    (Cert.DownRefIdeal.Value.run m g)

theorem preserves : Cert.preserves_Down_DownIdeal := trivial

theorem algebraic : Cert.algebraic_DownIdeal_DownRefIdeal := by
  pair_intro
  · run_from Cert.DownIdeal.Value.run_blocks m g
  · run_from Cert.DownRefIdeal.Value.run m' g'
    · exact (Cert.DownRefIdeal.Read.val_main_v2_eq _ _ _).trans (Cert.DownIdeal.Value2.final4 m c).symm
    · exact (Cert.DownRefIdeal.Read.val_main_v18_eq _ _ _ _).trans (Cert.DownIdeal.Value2.final5 m c).symm

end Cert.Proof.Down
-- ==== Proof.S5FwdIdealFrame.lean ====
/-
  The frame of `S5FwdIdeal`: the forward call of the state-space layer runs from any memory and leaves its arguments as they
  were. Nothing is said of the two results: the proof data leaves them unnamed, the carried rows (the scratch) are at some
  contents between any two points, and one run of the body at each side of its conditional closes the obligation.
-/
module

public import proofs.«01_k».proof.Proof.Gen.S5FwdIdeal.Frame
public import proofs.«01_k».proof.Proof.Gen.S5FwdIdeal.Loops
public import proofs.«01_k».proof.Proof.Gen.S5FwdIdeal.Skeleton
public import Idealize.ShloMosaic.Lib.Pipeline.Frame
public import Idealize.ShloMosaic.Lib.Tactic

@[expose] public section

set_option maxRecDepth 16384

noncomputable section

namespace Cert.S5FwdIdeal.Hand

open Cert.S5FwdIdeal Cert.S5FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of rows is the first of its group: the carried rows start from zero. -/
abbrev starts (i : grid0.Coords) : Prop :=
  Scalar.cmpi .ne (Scalar.extui (Scalar.cmpi .eq (BitVec.ofNat 32 (i 1).val) 0#32) : BitVec 32) 0#32 = 1#1

set_option maxHeartbeats 4000000 in
set_option warn.classDefReducibility false in
/-- The loop over the groups of rows, nothing said of the contents it leaves: before any trip the coefficients are held as they
    were found and the states at some contents. -/
@[sl_loop] def rowsLoop (𝒱 : Variants) (c : Dev nD) (bd : Option 𝒱.V) (E : Set ℕ) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x128 .f32) (harg5 : arg5.IsWhole) (arg6 : Memref sig .tc .vmem S1x4x8x1024 .f32) (harg6 : arg6.IsWhole) (arg7 : Memref sig .tc .vmem S512x1024 .f32) (harg7 : arg7.IsWhole) (arg8 : Memref sig .tc .vmem S512x128 .f32) (harg8 : arg8.IsWhole)
    (arg9 : Memref sig .tc .vmem S8x1024 .f32) (harg9 : arg9.IsWhole) (X : BufTy.Contents (Elt F) arg6.view.ty)
    (init : Vec F S8x128 .f32 × Vec F S8x128 .f32 × Vec F S8x128 .f32 × Vec F S8x128 .f32 × Vec F S8x128 .f32 × Vec F S8x128 .f32 × Vec F S8x128 .f32 × Vec F S8x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 init where
  inv _ _ := iprop((arg6.view.loc (c : Thread nD τ) ↦[arg6.view.set]{fullShare} X)
    ∗ (∃ f, arg7.view.loc (c : Thread nD τ) ↦[arg7.view.set]{fullShare} f))
  step k acc := by
    have hk : k.val < 64 := Nat.lt_of_lt_of_le k.isLt k0_t1_abs.2.1
    iintro ⟨H4, ⟨%f, H5⟩⟩
    unfold k0_t1_body
    sl_exec
    sl_step
    isplitl [H4]; · iexact H4
    iexists _; iexact H5

set_option maxHeartbeats 4000000 in
/-- The body where the carried rows start from zero: from the inputs' memrefs at their contents, the outputs' memrefs and the scratch at anything, the body
    runs to its return and hands everything back, the inputs' contents unchanged. -/
theorem kernelRun_A (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x128 .f32) (harg5 : arg5.IsWhole) (arg6 : Memref sig .tc .vmem S1x4x8x1024 .f32) (harg6 : arg6.IsWhole) (arg7 : Memref sig .tc .vmem S512x1024 .f32) (harg7 : arg7.IsWhole) (arg8 : Memref sig .tc .vmem S512x128 .f32) (harg8 : arg8.IsWhole)
    (arg9 : Memref sig .tc .vmem S8x1024 .f32) (harg9 : arg9.IsWhole) (hc : starts i) (x0 : Vec F S512x128 .f32) (x1 : Vec F S1x128x1024 .bf16) (x2 : Vec F S1x1024x128 .bf16) (x3 : Vec F S1x128 .f32) (x4 : Vec F S1x4x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_s5_fwd i arg2 harg2 arg3 harg3 arg4 harg4 arg5 harg5 arg6 harg6 arg7 harg7 arg8 harg8 arg9 harg9) K := by
  simp only [cc0_s5_fwd_eq_skeleton]; unfold cc0_s5_fwd_skel
  simp only [k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

set_option maxHeartbeats 4000000 in
/-- The body where the rows are carried on: from the inputs' memrefs at their contents, the outputs' memrefs and the scratch at anything, the body
    runs to its return and hands everything back, the inputs' contents unchanged. -/
theorem kernelRun_B (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x128 .f32) (harg5 : arg5.IsWhole) (arg6 : Memref sig .tc .vmem S1x4x8x1024 .f32) (harg6 : arg6.IsWhole) (arg7 : Memref sig .tc .vmem S512x1024 .f32) (harg7 : arg7.IsWhole) (arg8 : Memref sig .tc .vmem S512x128 .f32) (harg8 : arg8.IsWhole)
    (arg9 : Memref sig .tc .vmem S8x1024 .f32) (harg9 : arg9.IsWhole) (hc : ¬ starts i) (x0 : Vec F S512x128 .f32) (x1 : Vec F S1x128x1024 .bf16) (x2 : Vec F S1x1024x128 .bf16) (x3 : Vec F S1x128 .f32) (x4 : Vec F S1x4x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_s5_fwd i arg2 harg2 arg3 harg3 arg4 harg4 arg5 harg5 arg6 harg6 arg7 harg7 arg8 harg8 arg9 harg9) K := by
  simp only [cc0_s5_fwd_eq_skeleton]; unfold cc0_s5_fwd_skel
  simp only [k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-! ## The proof data -/

/-- The two results are unnamed: windows 5 and 6. -/
def forgets0 : Fin 7 → Bool := ![false, false, false, false, false, true, true]

/-- The proof data: each array as the region finds it, each input's block at every point, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant: the carried rows at some contents, the generator register at some state. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d) ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d) ∗ (∃ d, owns (c : Thread nD τ) (ms0_6 t) fullShare d))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq,
    after0_0, after0_1, after0_2, after0_3, after0_4]
  iintro ⟨⟨HS, Hg⟩, Ho, ⟨%d0, H0⟩, ⟨%d1, H1⟩, ⟨%d2, H2⟩, ⟨%d3, H3⟩, ⟨%d4, H4⟩, H5, H6⟩
  by_cases hc : starts (grid0.coords t)
  · iapply (kernelRun_A c (grid0.coords t) _ _ _ _ _ _ _ _ _ _ _ _ _ _ _ _ hc (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (kernelRun_B c (grid0.coords t) _ _ _ _ _ _ _ _ _ _ _ _ _ _ _ _ hc (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

/-- The body at every point, the two results unnamed. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: every array read ends as the region found it, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.S5FwdIdeal.Hand

end
-- ==== Proof.S5BwdIdealFrame.lean ====
/-
  The frame of `S5BwdIdeal`: the backward call of the state-space layer runs from any memory and leaves its arguments as they
  were. Nothing is said of the five results: the proof data leaves them unnamed, the carried row gradient and the rows' gradients (the two scratches)
  are at some contents between any two points, and one run of the body at each side of its conditional closes the obligation.
-/
module

public import proofs.«01_k».proof.Proof.Gen.S5BwdIdeal.Frame
public import proofs.«01_k».proof.Proof.Gen.S5BwdIdeal.Loops
public import proofs.«01_k».proof.Proof.Gen.S5BwdIdeal.Skeleton
public import Idealize.ShloMosaic.Lib.Pipeline.Frame
public import Idealize.ShloMosaic.Lib.Tactic

@[expose] public section

set_option maxRecDepth 16384

noncomputable section

namespace Cert.S5BwdIdeal.Hand

open Cert.S5BwdIdeal Cert.S5BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of rows is the first of its group: the carried rows start from zero. -/
abbrev starts (i : grid0.Coords) : Prop :=
  Scalar.cmpi .ne (Scalar.extui (Scalar.cmpi .eq (BitVec.ofNat 32 (i 1).val) 0#32) : BitVec 32) 0#32 = 1#1

set_option maxHeartbeats 4000000 in
set_option warn.classDefReducibility false in
/-- The loop over the groups of rows, nothing said of the contents it leaves: before any trip the coefficients are held as they
    were found and the states at some contents. -/
@[sl_loop] def rowsLoop (𝒱 : Variants) (c : Dev nD) (bd : Option 𝒱.V) (E : Set ℕ) (i : grid0.Coords) (arg2 : Memref sig .tc .vmem S512x128 .f32) (harg2 : arg2.IsWhole) (arg3 : Memref sig .tc .vmem S512x128 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S1x128x1024 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x4x8x1024 .f32) (harg9 : arg9.IsWhole) (arg10 : Memref sig .tc .vmem S512x128 .bf16) (harg10 : arg10.IsWhole) (arg11 : Memref sig .tc .vmem S1x128x1024 .f32) (harg11 : arg11.IsWhole) (arg12 : Memref sig .tc .vmem S1x1024x128 .f32) (harg12 : arg12.IsWhole) (arg13 : Memref sig .tc .vmem S1x1x1024 .f32) (harg13 : arg13.IsWhole) (arg14 : Memref sig .tc .vmem S1x128 .f32) (harg14 : arg14.IsWhole)
    (arg15 : Memref sig .tc .vmem S512x1024 .f32) (harg15 : arg15.IsWhole) (arg16 : Memref sig .tc .vmem S8x1024 .f32) (harg16 : arg16.IsWhole) (X : BufTy.Contents (Elt F) arg9.view.ty)
    (init : Vec F S8x128 .f32 × Vec F S8x128 .f32 × Vec F S8x128 .f32 × Vec F S8x128 .f32 × Vec F S8x128 .f32 × Vec F S8x128 .f32 × Vec F S8x128 .f32 × Vec F S8x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 init where
  inv _ _ := iprop((arg9.view.loc (c : Thread nD τ) ↦[arg9.view.set]{fullShare} X)
    ∗ (∃ f, arg15.view.loc (c : Thread nD τ) ↦[arg15.view.set]{fullShare} f))
  step k acc := by
    have hk : k.val < 64 := Nat.lt_of_lt_of_le k.isLt k0_t1_abs.2.1
    iintro ⟨H4, ⟨%f, H5⟩⟩
    unfold k0_t1_body
    sl_exec
    sl_step
    isplitl [H4]; · iexact H4
    iexists _; iexact H5

set_option maxHeartbeats 4000000 in
/-- The body where the carried rows start from zero: from the inputs' memrefs at their contents, the outputs' memrefs and the scratch at anything, the body
    runs to its return and hands everything back, the inputs' contents unchanged. -/
theorem kernelRun_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S1x128x1024 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x4x8x1024 .f32) (harg9 : arg9.IsWhole) (arg10 : Memref sig .tc .vmem S512x128 .bf16) (harg10 : arg10.IsWhole) (arg11 : Memref sig .tc .vmem S1x128x1024 .f32) (harg11 : arg11.IsWhole) (arg12 : Memref sig .tc .vmem S1x1024x128 .f32) (harg12 : arg12.IsWhole) (arg13 : Memref sig .tc .vmem S1x1x1024 .f32) (harg13 : arg13.IsWhole) (arg14 : Memref sig .tc .vmem S1x128 .f32) (harg14 : arg14.IsWhole)
    (arg15 : Memref sig .tc .vmem S512x1024 .f32) (harg15 : arg15.IsWhole) (arg16 : Memref sig .tc .vmem S8x1024 .f32) (harg16 : arg16.IsWhole) (hc : starts i) (x0 : Vec F S512x128 .f32) (x1 : Vec F S512x128 .f32) (x2 : Vec F S512x1024 .f32) (x3 : Vec F S8x1024 .f32) (x4 : Vec F S1x128x1024 .bf16) (x5 : Vec F S1x1024x128 .bf16) (x6 : Vec F S1x128 .f32) (x7 : Vec F S1x4x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_s5_bwd_eq_skeleton]; unfold cc0_s5_bwd_skel
  simp only [k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- The body where the rows are carried on: from the inputs' memrefs at their contents, the outputs' memrefs and the scratch at anything, the body
    runs to its return and hands everything back, the inputs' contents unchanged. -/
theorem kernelRun_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S1x128x1024 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x4x8x1024 .f32) (harg9 : arg9.IsWhole) (arg10 : Memref sig .tc .vmem S512x128 .bf16) (harg10 : arg10.IsWhole) (arg11 : Memref sig .tc .vmem S1x128x1024 .f32) (harg11 : arg11.IsWhole) (arg12 : Memref sig .tc .vmem S1x1024x128 .f32) (harg12 : arg12.IsWhole) (arg13 : Memref sig .tc .vmem S1x1x1024 .f32) (harg13 : arg13.IsWhole) (arg14 : Memref sig .tc .vmem S1x128 .f32) (harg14 : arg14.IsWhole)
    (arg15 : Memref sig .tc .vmem S512x1024 .f32) (harg15 : arg15.IsWhole) (arg16 : Memref sig .tc .vmem S8x1024 .f32) (harg16 : arg16.IsWhole) (hc : ¬ starts i) (x0 : Vec F S512x128 .f32) (x1 : Vec F S512x128 .f32) (x2 : Vec F S512x1024 .f32) (x3 : Vec F S8x1024 .f32) (x4 : Vec F S1x128x1024 .bf16) (x5 : Vec F S1x1024x128 .bf16) (x6 : Vec F S1x128 .f32) (x7 : Vec F S1x4x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_s5_bwd_eq_skeleton]; unfold cc0_s5_bwd_skel
  simp only [k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

/-! ## The proof data -/

/-- The five results are unnamed: windows 8 to 12. -/
def forgets0 : Fin 13 → Bool := ![false, false, false, false, false, false, false, false, true, true, true, true, true]

/-- The proof data: each array as the region finds it, each input's block at every point, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The invariant: the carried rows at some contents, the generator register at some state. -/
theorem inv_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq,
    after0_0, after0_1, after0_2, after0_3, after0_4, after0_5, after0_6, after0_7]
  iintro ⟨⟨⟨HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  by_cases hc : starts (grid0.coords t)
  · iapply (kernelRun_A c (grid0.coords t) _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    isplitl [HT]; · iexact HT
    iintro ⟨H0, H1, H2, H3, H4, H5, H6, H7, H8, H9, H10, H11, H12, HS, HT⟩
    isplitl [HS HT Hg]
    · isplitl [HS HT]
      · isplitl [HS]; · iexact HS
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iapply (kernelRun_B c (grid0.coords t) _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    isplitl [HT]; · iexact HT
    iintro ⟨H0, H1, H2, H3, H4, H5, H6, H7, H8, H9, H10, H11, H12, HS, HT⟩
    isplitl [HS HT Hg]
    · isplitl [HS HT]
      · isplitl [HS]; · iexact HS
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

/-- The body at every point, the five results unnamed. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: every array read ends as the region found it, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 2000000 in
/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((Pipeline.RDat.FramePost.arr_in h.1 c 0 rfl).trans (A_eq m c 0)).trans (V_main_arg0 m c),
      ((Pipeline.RDat.FramePost.arr_in h.1 c 1 rfl).trans (A_eq m c 1)).trans (V_main_arg1 m c),
      ((Pipeline.RDat.FramePost.arr_in h.1 c 3 rfl).trans (A_eq m c 3)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.S5BwdIdeal.Hand

end
-- ==== Proof.DownDxVal.lean ====
module
public import proofs.«01_k».proof.Proof.Gen.DownDxIdeal.Value
public import proofs.«01_k».proof.Proof.Gen.DownDxRefIdeal.Read
public import proofs.«01_k».proof.Proof.Norm
@[expose] public section
/-! The array of the down projection's input gradient is the reference's. -/
set_option maxRecDepth 200000
noncomputable section
open Idealize.ShloMosaic Idealize.ShloMosaic.TcCoe Idealize.SL.Sem
namespace Cert.DownDxIdeal.Value2
open Cert.DownDxIdeal Cert.DownDxIdeal.Gen
open Cert.DownDxRefIdeal.Read

/-- The product of two blocks at a point. -/
theorem pay1_apply (a : FVec Ideal S1024x1024 .bf16) (w : FVec Ideal S2816x1024 .bf16) (i : Fin 1024) (j : Fin 2816) :
    k0_pay1 (F := Ideal) a w (ix2 i j) = ∑ k : Fin 1024, a (ix2 i k) * w (ix2 j k) := by
  pointwise [k0_pay1]

/-- The reference's product at a point. -/
theorem ref_apply (a : FVec Ideal S4096x1024 .bf16) (w : FVec Ideal S2816x1024 .bf16) (i : Fin 4096) (j : Fin 2816) :
    val_main_v4 (F := Ideal) a w (ix2 i j) = ∑ k : Fin 1024, a (ix2 i k) * w (ix2 j k) := by
  pointwise [val_main_v4, val_main_v3, val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S2816x1024 .bf16 := m ((c : Thread nD τ).loc main_arg1)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

/-- Row `i` of block `t` in the whole array. -/
def row (t : Fin cfg0.N) (i : Fin 1024) : Fin 4096 := ⟨t.val / 1 * 1024 + i.val, by have := t.isLt; have : cfg0.N = 4 := rfl; omega⟩
/-- Column `j` of block `t` in the whole array. -/
def col (t : Fin cfg0.N) (j : Fin 2816) : Fin 2816 := ⟨t.val % 1 * 2816 + j.val, by omega⟩

theorem blk0 (t : Fin cfg0.N) (i : Fin 1024) (k : Fin 1024) : (iblk m c 0 t (ix2 i k) : EReal) = a0 m c (ix2 (row t i) k) := by
  blk_point [iblk, V, idx t, row]
theorem blk1 (t : Fin cfg0.N) (j : Fin 2816) (k : Fin 1024) : (iblk m c 1 t (ix2 j k) : EReal) = a1 m c (ix2 (col t j) k) := by
  blk_point [iblk, V, idx t, col]

theorem prodB (t : Fin cfg0.N) (i : Fin 1024) (j : Fin 2816) :
    k0_pay1 (F := Ideal) (iblk m c 0 t) (iblk m c 1 t) (ix2 i j) = val_main_v4 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v4 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.DownDxIdeal.Value2
-- ==== Proof.DownDxClaim.lean ====
module
public import proofs.«01_k».proof.Defs
public import proofs.«01_k».proof.Proof.Gen.DownDx.Frame
public import proofs.«01_k».proof.Proof.Gen.DownDxRefIdeal.Run
public import proofs.«01_k».proof.Proof.DownDxVal
@[expose] public section
/-! The claims about the down projection's input gradient. -/
set_option maxRecDepth 65536
noncomputable section
open Idealize.ShloMosaic Idealize.SL.Sem
namespace Cert.Proof.DownDx

theorem frame : Cert.quiescent_DownDx := fun m ρ _ => Cert.DownDx.Gen.frame m ρ

theorem frameIdeal : Cert.quiescent_DownDxIdeal := fun m ρ _ => Cert.DownDxIdeal.Gen.frame m ρ

theorem frameRef : Cert.quiescent_DownDxRefIdeal := fun m g _ =>
  (θ_run _ _ _).mono (fun r h => ⟨fun c => (h c).2, sem_eq_zero_of_no_sems rfl r.2⟩)
    (Cert.DownDxRefIdeal.Value.run m g)

theorem preserves : Cert.preserves_DownDx_DownDxIdeal := trivial

theorem algebraic : Cert.algebraic_DownDxIdeal_DownDxRefIdeal := by
  pair_intro
  · run_from Cert.DownDxIdeal.Value.run_blocks m g
  · run_from Cert.DownDxRefIdeal.Value.run m' g'
    · exact (Cert.DownDxRefIdeal.Read.val_main_v4_eq _ _).trans (Cert.DownDxIdeal.Value2.final m c).symm

end Cert.Proof.DownDx
-- ==== Proof.DownDwVal.lean ====
module
public import proofs.«01_k».proof.Proof.Gen.DownDwIdeal.Value
public import proofs.«01_k».proof.Proof.Gen.DownDwRefIdeal.Read
public import proofs.«01_k».proof.Proof.Norm
@[expose] public section
/-! The array of the down projection's weight gradient is the reference's. -/
set_option maxRecDepth 200000
noncomputable section
open Idealize.ShloMosaic Idealize.ShloMosaic.TcCoe Idealize.SL.Sem
namespace Cert.DownDwIdeal.Value2
open Cert.DownDwIdeal Cert.DownDwIdeal.Gen
open Cert.DownDwRefIdeal.Read

/-- The product of two blocks at a point. -/
theorem pay1_apply (a : FVec Ideal S4096x256 .bf16) (w : FVec Ideal S4096x1024 .bf16) (i : Fin 256) (j : Fin 1024) :
    k0_pay1 (F := Ideal) a w (ix2 i j) = ∑ k : Fin 4096, a (ix2 k i) * w (ix2 k j) := by
  pointwise [k0_pay1]

/-- The reference's product at a point. -/
theorem ref_apply (a : FVec Ideal S4096x2816 .bf16) (w : FVec Ideal S4096x1024 .bf16) (i : Fin 2816) (j : Fin 1024) :
    val_main_v4 (F := Ideal) a w (ix2 i j) = ∑ k : Fin 4096, a (ix2 k i) * w (ix2 k j) := by
  pointwise [val_main_v4, val_main_v3, val_main_v2, val_main_v1, val_main_v0]

variable (m : (ℓ : Loc nD τ sig) → Buf (Elt Ideal) ℓ) (c : Dev nD)

abbrev a0 : FVec Ideal S4096x2816 .bf16 := m ((c : Thread nD τ).loc main_arg0)
abbrev a1 : FVec Ideal S4096x1024 .bf16 := m ((c : Thread nD τ).loc main_arg1)

theorem idx : ∀ t : Fin cfg0.N, win0_0.index t = ![0, t.val / 1] ∧ win0_1.index t = ![0, t.val % 1] ∧ win0_2.index t = ![t.val / 1, t.val % 1] :=
  (by decide +kernel : ∀ t : Fin grid0.N, _)

/-- Row `i` of block `t` in the whole array. -/
def row (t : Fin cfg0.N) (i : Fin 256) : Fin 2816 := ⟨t.val / 1 * 256 + i.val, by have := t.isLt; have : cfg0.N = 11 := rfl; omega⟩
/-- Column `j` of block `t` in the whole array. -/
def col (t : Fin cfg0.N) (j : Fin 1024) : Fin 1024 := ⟨t.val % 1 * 1024 + j.val, by omega⟩

theorem blk0 (t : Fin cfg0.N) (i : Fin 256) (k : Fin 4096) : (iblk m c 0 t (ix2 k i) : EReal) = a0 m c (ix2 k (row t i)) := by
  blk_point [iblk, V, idx t, row]
theorem blk1 (t : Fin cfg0.N) (j : Fin 1024) (k : Fin 4096) : (iblk m c 1 t (ix2 k j) : EReal) = a1 m c (ix2 k (col t j)) := by
  blk_point [iblk, V, idx t, col]

theorem prodB (t : Fin cfg0.N) (i : Fin 256) (j : Fin 1024) :
    k0_pay1 (F := Ideal) (iblk m c 0 t) (iblk m c 1 t) (ix2 i j) = val_main_v4 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v4 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.DownDwIdeal.Value2
-- ==== Proof.DownDwClaim.lean ====
module
public import proofs.«01_k».proof.Defs
public import proofs.«01_k».proof.Proof.Gen.DownDw.Frame
public import proofs.«01_k».proof.Proof.Gen.DownDwRefIdeal.Run
public import proofs.«01_k».proof.Proof.DownDwVal
@[expose] public section
/-! The claims about the down projection's weight gradient. -/
set_option maxRecDepth 65536
noncomputable section
open Idealize.ShloMosaic Idealize.SL.Sem
namespace Cert.Proof.DownDw

theorem frame : Cert.quiescent_DownDw := fun m ρ _ => Cert.DownDw.Gen.frame m ρ

theorem frameIdeal : Cert.quiescent_DownDwIdeal := fun m ρ _ => Cert.DownDwIdeal.Gen.frame m ρ

theorem frameRef : Cert.quiescent_DownDwRefIdeal := fun m g _ =>
  (θ_run _ _ _).mono (fun r h => ⟨fun c => (h c).2, sem_eq_zero_of_no_sems rfl r.2⟩)
    (Cert.DownDwRefIdeal.Value.run m g)

theorem preserves : Cert.preserves_DownDw_DownDwIdeal := trivial

theorem algebraic : Cert.algebraic_DownDwIdeal_DownDwRefIdeal := by
  pair_intro
  · run_from Cert.DownDwIdeal.Value.run_blocks m g
  · run_from Cert.DownDwRefIdeal.Value.run m' g'
    · exact (Cert.DownDwRefIdeal.Read.val_main_v4_eq _ _).trans (Cert.DownDwIdeal.Value2.final m c).symm

end Cert.Proof.DownDw
-- ==== Proof.MixOutDxVal.lean ====
module
public import proofs.«01_k».proof.Proof.Gen.MixOutDxIdeal.Value
public import proofs.«01_k».proof.Proof.Gen.MixOutDxRefIdeal.Read
public import proofs.«01_k».proof.Proof.Norm
@[expose] public section
/-! The array of the output projection's input gradient is the reference's. -/
set_option maxRecDepth 200000
noncomputable section
open Idealize.ShloMosaic Idealize.ShloMosaic.TcCoe Idealize.SL.Sem
namespace Cert.MixOutDxIdeal.Value2
open Cert.MixOutDxIdeal Cert.MixOutDxIdeal.Gen
open Cert.MixOutDxRefIdeal.Read

/-- The product of two blocks at a point. -/
theorem pay1_apply (a : FVec Ideal S2048x1024 .bf16) (w : FVec Ideal S1024x1024 .bf16) (i : Fin 2048) (j : Fin 1024) :
    k0_pay1 (F := Ideal) a w (ix2 i j) = ∑ k : Fin 1024, a (ix2 i k) * w (ix2 j k) := by
  pointwise [k0_pay1]

/-- The reference's product at a point. -/
theorem ref_apply (a : FVec Ideal S4096x1024 .bf16) (w : FVec Ideal S1024x1024 .bf16) (i : Fin 4096) (j : Fin 1024) :
    val_main_v3 (F := Ideal) a w (ix2 i j) = ∑ k : Fin 1024, a (ix2 i k) * w (ix2 j k) := by
  pointwise [val_main_v3, val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S1024x1024 .bf16 := m ((c : Thread nD τ).loc main_arg1)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

/-- Row `i` of block `t` in the whole array. -/
def row (t : Fin cfg0.N) (i : Fin 2048) : Fin 4096 := ⟨t.val / 1 * 2048 + i.val, by have := t.isLt; have : cfg0.N = 2 := rfl; omega⟩
/-- Column `j` of block `t` in the whole array. -/
def col (t : Fin cfg0.N) (j : Fin 1024) : Fin 1024 := ⟨t.val % 1 * 1024 + j.val, by omega⟩

theorem blk0 (t : Fin cfg0.N) (i : Fin 2048) (k : Fin 1024) : (iblk m c 0 t (ix2 i k) : EReal) = a0 m c (ix2 (row t i) k) := by
  blk_point [iblk, V, idx t, row]
theorem blk1 (t : Fin cfg0.N) (j : Fin 1024) (k : Fin 1024) : (iblk m c 1 t (ix2 j k) : EReal) = a1 m c (ix2 (col t j) k) := by
  blk_point [iblk, V, idx t, col]

theorem prodB (t : Fin cfg0.N) (i : Fin 2048) (j : Fin 1024) :
    k0_pay1 (F := Ideal) (iblk m c 0 t) (iblk m c 1 t) (ix2 i j) = val_main_v3 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v3 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.MixOutDxIdeal.Value2
-- ==== Proof.MixOutDxClaim.lean ====
module
public import proofs.«01_k».proof.Defs
public import proofs.«01_k».proof.Proof.Gen.MixOutDx.Frame
public import proofs.«01_k».proof.Proof.Gen.MixOutDxRefIdeal.Run
public import proofs.«01_k».proof.Proof.MixOutDxVal
@[expose] public section
/-! The claims about the output projection's input gradient. -/
set_option maxRecDepth 65536
noncomputable section
open Idealize.ShloMosaic Idealize.SL.Sem
namespace Cert.Proof.MixOutDx

theorem frame : Cert.quiescent_MixOutDx := fun m ρ _ => Cert.MixOutDx.Gen.frame m ρ

theorem frameIdeal : Cert.quiescent_MixOutDxIdeal := fun m ρ _ => Cert.MixOutDxIdeal.Gen.frame m ρ

theorem frameRef : Cert.quiescent_MixOutDxRefIdeal := fun m g _ =>
  (θ_run _ _ _).mono (fun r h => ⟨fun c => (h c).2, sem_eq_zero_of_no_sems rfl r.2⟩)
    (Cert.MixOutDxRefIdeal.Value.run m g)

theorem preserves : Cert.preserves_MixOutDx_MixOutDxIdeal := trivial

theorem algebraic : Cert.algebraic_MixOutDxIdeal_MixOutDxRefIdeal := by
  pair_intro
  · run_from Cert.MixOutDxIdeal.Value.run_blocks m g
  · run_from Cert.MixOutDxRefIdeal.Value.run m' g'
    · exact (Cert.MixOutDxRefIdeal.Read.val_main_v3_eq _ _).trans (Cert.MixOutDxIdeal.Value2.final m c).symm

end Cert.Proof.MixOutDx
-- ==== Proof.MixOutDwVal.lean ====
module
public import proofs.«01_k».proof.Proof.Gen.MixOutDwIdeal.Value
public import proofs.«01_k».proof.Proof.Gen.MixOutDwRefIdeal.Read
public import proofs.«01_k».proof.Proof.Norm
@[expose] public section
/-! The array of the output projection's weight gradient is the reference's. -/
set_option maxRecDepth 200000
noncomputable section
open Idealize.ShloMosaic Idealize.ShloMosaic.TcCoe Idealize.SL.Sem
namespace Cert.MixOutDwIdeal.Value2
open Cert.MixOutDwIdeal Cert.MixOutDwIdeal.Gen
open Cert.MixOutDwRefIdeal.Read

/-- The product of two blocks at a point. -/
theorem pay1_apply (a : FVec Ideal S4096x1024 .bf16) (w : FVec Ideal S4096x512 .bf16) (i : Fin 1024) (j : Fin 512) :
    k0_pay1 (F := Ideal) a w (ix2 i j) = ∑ k : Fin 4096, a (ix2 k i) * w (ix2 k j) := by
  pointwise [k0_pay1]

/-- The reference's product at a point. -/
theorem ref_apply (a : FVec Ideal S4096x1024 .bf16) (w : FVec Ideal S4096x1024 .bf16) (i : Fin 1024) (j : Fin 1024) :
    val_main_v4 (F := Ideal) a w (ix2 i j) = ∑ k : Fin 4096, a (ix2 k i) * w (ix2 k j) := by
  pointwise [val_main_v4, val_main_v3, val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S4096x1024 .bf16 := m ((c : Thread nD τ).loc main_arg1)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- Row `i` of block `t` in the whole array. -/
def row (t : Fin cfg0.N) (i : Fin 1024) : Fin 1024 := ⟨t.val / 2 * 1024 + i.val, by have := t.isLt; have : cfg0.N = 2 := rfl; omega⟩
/-- Column `j` of block `t` in the whole array. -/
def col (t : Fin cfg0.N) (j : Fin 512) : Fin 1024 := ⟨t.val % 2 * 512 + j.val, by omega⟩

theorem blk0 (t : Fin cfg0.N) (i : Fin 1024) (k : Fin 4096) : (iblk m c 0 t (ix2 k i) : EReal) = a0 m c (ix2 k (row t i)) := by
  blk_point [iblk, V, idx t, row]
theorem blk1 (t : Fin cfg0.N) (j : Fin 512) (k : Fin 4096) : (iblk m c 1 t (ix2 k j) : EReal) = a1 m c (ix2 k (col t j)) := by
  blk_point [iblk, V, idx t, col]

theorem prodB (t : Fin cfg0.N) (i : Fin 1024) (j : Fin 512) :
    k0_pay1 (F := Ideal) (iblk m c 0 t) (iblk m c 1 t) (ix2 i j) = val_main_v4 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v4 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.MixOutDwIdeal.Value2
-- ==== Proof.MixOutDwClaim.lean ====
module
public import proofs.«01_k».proof.Defs
public import proofs.«01_k».proof.Proof.Gen.MixOutDw.Frame
public import proofs.«01_k».proof.Proof.Gen.MixOutDwRefIdeal.Run
public import proofs.«01_k».proof.Proof.MixOutDwVal
@[expose] public section
/-! The claims about the output projection's weight gradient. -/
set_option maxRecDepth 65536
noncomputable section
open Idealize.ShloMosaic Idealize.SL.Sem
namespace Cert.Proof.MixOutDw

theorem frame : Cert.quiescent_MixOutDw := fun m ρ _ => Cert.MixOutDw.Gen.frame m ρ

theorem frameIdeal : Cert.quiescent_MixOutDwIdeal := fun m ρ _ => Cert.MixOutDwIdeal.Gen.frame m ρ

theorem frameRef : Cert.quiescent_MixOutDwRefIdeal := fun m g _ =>
  (θ_run _ _ _).mono (fun r h => ⟨fun c => (h c).2, sem_eq_zero_of_no_sems rfl r.2⟩)
    (Cert.MixOutDwRefIdeal.Value.run m g)

theorem preserves : Cert.preserves_MixOutDw_MixOutDwIdeal := trivial

theorem algebraic : Cert.algebraic_MixOutDwIdeal_MixOutDwRefIdeal := by
  pair_intro
  · run_from Cert.MixOutDwIdeal.Value.run_blocks m g
  · run_from Cert.MixOutDwRefIdeal.Value.run m' g'
    · exact (Cert.MixOutDwRefIdeal.Read.val_main_v4_eq _ _).trans (Cert.MixOutDwIdeal.Value2.final m c).symm

end Cert.Proof.MixOutDw
-- ==== Proof.UpVal.lean ====
module
public import proofs.«01_k».proof.Proof.Gen.UpIdeal.Value
public import proofs.«01_k».proof.Proof.Gen.UpRefIdeal.Read
public import proofs.«01_k».proof.Proof.Norm
@[expose] public section
/-! The array of the up projection is the reference's. -/
set_option maxRecDepth 200000
noncomputable section
open Idealize.ShloMosaic Idealize.ShloMosaic.TcCoe Idealize.SL.Sem
namespace Cert.UpIdeal.Value2
open Cert.UpIdeal Cert.UpIdeal.Gen
open Cert.UpRefIdeal.Read

/-- The product of two blocks at a point. -/
theorem pay1_apply (a : FVec Ideal S4096x1024 .bf16) (w : FVec Ideal S1024x512 .bf16) (i : Fin 4096) (j : Fin 512) :
    k0_pay1 (F := Ideal) a w (ix2 i j) = ∑ k : Fin 1024, a (ix2 i k) * w (ix2 k j) := by
  pointwise [k0_pay1]

/-- The reference's product at a point. -/
theorem ref_apply (a : FVec Ideal S4096x1024 .bf16) (w : FVec Ideal S1024x5632 .bf16) (i : Fin 4096) (j : Fin 5632) :
    val_main_v2 (F := Ideal) a w (ix2 i j) = ∑ k : Fin 1024, a (ix2 i k) * w (ix2 k j) := by
  pointwise [val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S1024x5632 .bf16 := m ((c : Thread nD τ).loc main_arg1)

theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- Row `i` of block `t` in the whole array. -/
def row (t : Fin cfg0.N) (i : Fin 4096) : Fin 4096 := ⟨t.val / 11 * 4096 + i.val, by have := t.isLt; have : cfg0.N = 11 := rfl; omega⟩
/-- Column `j` of block `t` in the whole array. -/
def col (t : Fin cfg0.N) (j : Fin 512) : Fin 5632 := ⟨t.val % 11 * 512 + j.val, by omega⟩

theorem blk0 (t : Fin cfg0.N) (i : Fin 4096) (k : Fin 1024) : (iblk m c 0 t (ix2 i k) : EReal) = a0 m c (ix2 (row t i) k) := by
  blk_point [iblk, V, idx t, row]
theorem blk1 (t : Fin cfg0.N) (j : Fin 512) (k : Fin 1024) : (iblk m c 1 t (ix2 k j) : EReal) = a1 m c (ix2 k (col t j)) := by
  blk_point [iblk, V, idx t, col]

theorem prodB (t : Fin cfg0.N) (i : Fin 4096) (j : Fin 512) :
    k0_pay1 (F := Ideal) (iblk m c 0 t) (iblk m c 1 t) (ix2 i j) = val_main_v2 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v2 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.UpIdeal.Value2
-- ==== Proof.UpClaim.lean ====
module
public import proofs.«01_k».proof.Defs
public import proofs.«01_k».proof.Proof.Gen.Up.Frame
public import proofs.«01_k».proof.Proof.Gen.UpRefIdeal.Run
public import proofs.«01_k».proof.Proof.UpVal
@[expose] public section
/-! The claims about the up projection. -/
set_option maxRecDepth 65536
noncomputable section
open Idealize.ShloMosaic Idealize.SL.Sem
namespace Cert.Proof.Up

theorem frame : Cert.quiescent_Up := fun m ρ _ => Cert.Up.Gen.frame m ρ

theorem frameIdeal : Cert.quiescent_UpIdeal := fun m ρ _ => Cert.UpIdeal.Gen.frame m ρ

theorem frameRef : Cert.quiescent_UpRefIdeal := fun m g _ =>
  (θ_run _ _ _).mono (fun r h => ⟨fun c => (h c).2, sem_eq_zero_of_no_sems rfl r.2⟩)
    (Cert.UpRefIdeal.Value.run m g)

theorem preserves : Cert.preserves_Up_UpIdeal := trivial

theorem algebraic : Cert.algebraic_UpIdeal_UpRefIdeal := by
  pair_intro
  · run_from Cert.UpIdeal.Value.run_blocks m g
  · run_from Cert.UpRefIdeal.Value.run m' g'
    · exact (Cert.UpRefIdeal.Read.val_main_v2_eq _ _).trans (Cert.UpIdeal.Value2.final m c).symm

end Cert.Proof.Up
-- ==== Proof.EvenInVal.lean ====
module
public import proofs.«01_k».proof.Proof.Gen.EvenInIdeal.Value
public import proofs.«01_k».proof.Proof.Gen.EvenInRefIdeal.Read
public import proofs.«01_k».proof.Proof.Norm
@[expose] public section
/-! The array of the input projection of an even layer is the reference's. -/
set_option maxRecDepth 200000
noncomputable section
open Idealize.ShloMosaic Idealize.ShloMosaic.TcCoe Idealize.SL.Sem
namespace Cert.EvenInIdeal.Value2
open Cert.EvenInIdeal Cert.EvenInIdeal.Gen
open Cert.EvenInRefIdeal.Read

/-- The product of two blocks at a point. -/
theorem pay1_apply (a : FVec Ideal S2048x1024 .bf16) (w : FVec Ideal S1024x1024 .bf16) (i : Fin 2048) (j : Fin 1024) :
    k0_pay1 (F := Ideal) a w (ix2 i j) = ∑ k : Fin 1024, a (ix2 i k) * w (ix2 k j) := by
  pointwise [k0_pay1]

/-- The reference's product at a point. -/
theorem ref_apply (a : FVec Ideal S4096x1024 .bf16) (w : FVec Ideal S1024x2048 .bf16) (i : Fin 4096) (j : Fin 2048) :
    val_main_v2 (F := Ideal) a w (ix2 i j) = ∑ k : Fin 1024, a (ix2 i k) * w (ix2 k j) := by
  pointwise [val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S1024x2048 .bf16 := m ((c : Thread nD τ).loc main_arg1)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Row `i` of block `t` in the whole array. -/
def row (t : Fin cfg0.N) (i : Fin 2048) : Fin 4096 := ⟨t.val / 2 * 2048 + i.val, by have := t.isLt; have : cfg0.N = 4 := rfl; omega⟩
/-- Column `j` of block `t` in the whole array. -/
def col (t : Fin cfg0.N) (j : Fin 1024) : Fin 2048 := ⟨t.val % 2 * 1024 + j.val, by omega⟩

theorem blk0 (t : Fin cfg0.N) (i : Fin 2048) (k : Fin 1024) : (iblk m c 0 t (ix2 i k) : EReal) = a0 m c (ix2 (row t i) k) := by
  blk_point [iblk, V, idx t, row]
theorem blk1 (t : Fin cfg0.N) (j : Fin 1024) (k : Fin 1024) : (iblk m c 1 t (ix2 k j) : EReal) = a1 m c (ix2 k (col t j)) := by
  blk_point [iblk, V, idx t, col]

theorem prodB (t : Fin cfg0.N) (i : Fin 2048) (j : Fin 1024) :
    k0_pay1 (F := Ideal) (iblk m c 0 t) (iblk m c 1 t) (ix2 i j) = val_main_v2 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v2 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.EvenInIdeal.Value2
-- ==== Proof.EvenInClaim.lean ====
module
public import proofs.«01_k».proof.Defs
public import proofs.«01_k».proof.Proof.Gen.EvenIn.Frame
public import proofs.«01_k».proof.Proof.Gen.EvenInRefIdeal.Run
public import proofs.«01_k».proof.Proof.EvenInVal
@[expose] public section
/-! The claims about the input projection of an even layer. -/
set_option maxRecDepth 65536
noncomputable section
open Idealize.ShloMosaic Idealize.SL.Sem
namespace Cert.Proof.EvenIn

theorem frame : Cert.quiescent_EvenIn := fun m ρ _ => Cert.EvenIn.Gen.frame m ρ

theorem frameIdeal : Cert.quiescent_EvenInIdeal := fun m ρ _ => Cert.EvenInIdeal.Gen.frame m ρ

theorem frameRef : Cert.quiescent_EvenInRefIdeal := fun m g _ =>
  (θ_run _ _ _).mono (fun r h => ⟨fun c => (h c).2, sem_eq_zero_of_no_sems rfl r.2⟩)
    (Cert.EvenInRefIdeal.Value.run m g)

theorem preserves : Cert.preserves_EvenIn_EvenInIdeal := trivial

theorem algebraic : Cert.algebraic_EvenInIdeal_EvenInRefIdeal := by
  pair_intro
  · run_from Cert.EvenInIdeal.Value.run_blocks m g
  · run_from Cert.EvenInRefIdeal.Value.run m' g'
    · exact (Cert.EvenInRefIdeal.Read.val_main_v2_eq _ _).trans (Cert.EvenInIdeal.Value2.final m c).symm

end Cert.Proof.EvenIn
-- ==== Proof.DownLastVal.lean ====
module
public import proofs.«01_k».proof.Proof.Gen.DownLastIdeal.Value
public import proofs.«01_k».proof.Proof.Gen.DownLastRefIdeal.Read
public import proofs.«01_k».proof.Proof.Norm
@[expose] public section
/-! The array of the last down projection and its residual sum is the reference's. -/
set_option maxRecDepth 200000
noncomputable section
open Idealize.ShloMosaic Idealize.ShloMosaic.TcCoe Idealize.SL.Sem
namespace Cert.DownLastIdeal.Value2
open Cert.DownLastIdeal Cert.DownLastIdeal.Gen
open Cert.DownLastRefIdeal.Read

/-- The product of two blocks at a point. -/
theorem pay1_apply (a : FVec Ideal S512x2816 .bf16) (w : FVec Ideal S2816x1024 .bf16) (x : FVec Ideal S512x1024 .f32) (i : Fin 512) (j : Fin 1024) :
    k0_pay1 (F := Ideal) a w x (ix2 i j) = (∑ k : Fin 2816, a (ix2 i k) * w (ix2 k j)) + x (ix2 i j) := by
  pointwise [k0_pay1]

/-- The reference's product at a point. -/
theorem ref_apply (a : FVec Ideal S4096x2816 .bf16) (w : FVec Ideal S2816x1024 .bf16) (x : FVec Ideal S4096x1024 .f32) (i : Fin 4096) (j : Fin 1024) :
    val_main_v3 (F := Ideal) a w x (ix2 i j) = (∑ k : Fin 2816, a (ix2 i k) * w (ix2 k j)) + x (ix2 i j) := by
  pointwise [val_main_v3, val_main_v2, val_main_v1, val_main_v0]

variable (m : (ℓ : Loc nD τ sig) → Buf (Elt Ideal) ℓ) (c : Dev nD)

abbrev a0 : FVec Ideal S4096x2816 .bf16 := m ((c : Thread nD τ).loc main_arg0)
abbrev a1 : FVec Ideal S2816x1024 .bf16 := m ((c : Thread nD τ).loc main_arg1)
abbrev a2 : FVec Ideal S4096x1024 .f32 := m ((c : Thread nD τ).loc main_arg2)

theorem idx : ∀ t : Fin cfg0.N, win0_0.index t = ![t.val / 1, 0] ∧ win0_1.index t = ![0, t.val % 1] ∧ win0_2.index t = ![t.val / 1, t.val % 1] ∧ win0_3.index t = ![t.val / 1, t.val % 1] :=
  (by decide +kernel : ∀ t : Fin grid0.N, _)

/-- Row `i` of block `t` in the whole array. -/
def row (t : Fin cfg0.N) (i : Fin 512) : Fin 4096 := ⟨t.val / 1 * 512 + i.val, by have := t.isLt; have : cfg0.N = 8 := rfl; omega⟩
/-- Column `j` of block `t` in the whole array. -/
def col (t : Fin cfg0.N) (j : Fin 1024) : Fin 1024 := ⟨t.val % 1 * 1024 + j.val, by omega⟩

theorem blk0 (t : Fin cfg0.N) (i : Fin 512) (k : Fin 2816) : (iblk m c 0 t (ix2 i k) : EReal) = a0 m c (ix2 (row t i) k) := by
  blk_point [iblk, V, idx t, row]
theorem blk1 (t : Fin cfg0.N) (j : Fin 1024) (k : Fin 2816) : (iblk m c 1 t (ix2 k j) : EReal) = a1 m c (ix2 k (col t j)) := by
  blk_point [iblk, V, idx t, col]
theorem blk2 (t : Fin cfg0.N) (i : Fin 512) (j : Fin 1024) : (iblk m c 2 t (ix2 i j) : EReal) = a2 m c (ix2 (row t i) (col t j)) := by
  blk_point [iblk, V, idx t, row, col]

theorem prodB (t : Fin cfg0.N) (i : Fin 512) (j : Fin 1024) :
    k0_pay1 (F := Ideal) (iblk m c 0 t) (iblk m c 1 t) (iblk m c 2 t) (ix2 i j) = val_main_v3 (F := Ideal) (a0 m c) (a1 m c) (a2 m c) (ix2 (row t i) (col t j)) := by
  rw [ref_apply]
  exact (pay1_apply _ _ _ i j).trans (Ideal.add_congr (Finset.sum_congr rfl fun k _ => Ideal.mul_congr (blk0 m c t i k) (blk1 m c t j k)) (blk2 m c t i j))

theorem final : (dats m 0 c).arrAt 3 cfg0.N = val_main_v3 (F := Ideal) (a0 m c) (a1 m c) (a2 m c) := by
  refine (dats m 0 c).arrAt_eq_of_covers 3 _ (by decide +kernel) fun t _ y => ?_
  blk_simp
  idx_vars y
  have e : ((win0_3.blk t).view).emb (ix2 y0 y1) = ix2 (row t y0) (col t y1) := by blk_ext [idx t, row, col]
  rw [e]
  refine Eq.trans ?_ (prodB m c t y0 y1)
  rw [after0_3]
  frame_out

end Cert.DownLastIdeal.Value2
-- ==== Proof.DownLastClaim.lean ====
module
public import proofs.«01_k».proof.Defs
public import proofs.«01_k».proof.Proof.Gen.DownLast.Frame
public import proofs.«01_k».proof.Proof.Gen.DownLastRefIdeal.Run
public import proofs.«01_k».proof.Proof.DownLastVal
@[expose] public section
/-! The claims about the last down projection and its residual sum. -/
set_option maxRecDepth 65536
noncomputable section
open Idealize.ShloMosaic Idealize.SL.Sem
namespace Cert.Proof.DownLast

theorem frame : Cert.quiescent_DownLast := fun m ρ _ => Cert.DownLast.Gen.frame m ρ

theorem frameIdeal : Cert.quiescent_DownLastIdeal := fun m ρ _ => Cert.DownLastIdeal.Gen.frame m ρ

theorem frameRef : Cert.quiescent_DownLastRefIdeal := fun m g _ =>
  (θ_run _ _ _).mono (fun r h => ⟨fun c => (h c).2, sem_eq_zero_of_no_sems rfl r.2⟩)
    (Cert.DownLastRefIdeal.Value.run m g)

theorem preserves : Cert.preserves_DownLast_DownLastIdeal := trivial

theorem algebraic : Cert.algebraic_DownLastIdeal_DownLastRefIdeal := by
  pair_intro
  · run_from Cert.DownLastIdeal.Value.run_blocks m g
  · run_from Cert.DownLastRefIdeal.Value.run m' g'
    · exact (Cert.DownLastRefIdeal.Read.val_main_v3_eq _ _ _).trans (Cert.DownLastIdeal.Value2.final m c).symm

end Cert.Proof.DownLast
-- ==== Proof.EvenInDwVal.lean ====
module
public import proofs.«01_k».proof.Proof.Gen.EvenInDwIdeal.Value
public import proofs.«01_k».proof.Proof.Gen.EvenInDwRefIdeal.Read
public import proofs.«01_k».proof.Proof.Norm
@[expose] public section
/-! The array of the weight gradient of an even layer's input projection is the reference's. -/
set_option maxRecDepth 200000
noncomputable section
open Idealize.ShloMosaic Idealize.ShloMosaic.TcCoe Idealize.SL.Sem
namespace Cert.EvenInDwIdeal.Value2
open Cert.EvenInDwIdeal Cert.EvenInDwIdeal.Gen
open Cert.EvenInDwRefIdeal.Read

/-- The product of two blocks at a point. -/
theorem pay1_apply (a : FVec Ideal S4096x1024 .bf16) (w : FVec Ideal S4096x512 .bf16) (i : Fin 1024) (j : Fin 512) :
    k0_pay1 (F := Ideal) a w (ix2 i j) = ∑ k : Fin 4096, a (ix2 k i) * w (ix2 k j) := by
  pointwise [k0_pay1]

/-- The reference's product at a point. -/
theorem ref_apply (a : FVec Ideal S4096x1024 .bf16) (w : FVec Ideal S4096x2048 .bf16) (i : Fin 1024) (j : Fin 2048) :
    val_main_v4 (F := Ideal) a w (ix2 i j) = ∑ k : Fin 4096, a (ix2 k i) * w (ix2 k j) := by
  pointwise [val_main_v4, val_main_v3, val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S4096x2048 .bf16 := m ((c : Thread nD τ).loc main_arg1)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- Row `i` of block `t` in the whole array. -/
def row (t : Fin cfg0.N) (i : Fin 1024) : Fin 1024 := ⟨t.val / 4 * 1024 + i.val, by have := t.isLt; have : cfg0.N = 4 := rfl; omega⟩
/-- Column `j` of block `t` in the whole array. -/
def col (t : Fin cfg0.N) (j : Fin 512) : Fin 2048 := ⟨t.val % 4 * 512 + j.val, by omega⟩

theorem blk0 (t : Fin cfg0.N) (i : Fin 1024) (k : Fin 4096) : (iblk m c 0 t (ix2 k i) : EReal) = a0 m c (ix2 k (row t i)) := by
  blk_point [iblk, V, idx t, row]
theorem blk1 (t : Fin cfg0.N) (j : Fin 512) (k : Fin 4096) : (iblk m c 1 t (ix2 k j) : EReal) = a1 m c (ix2 k (col t j)) := by
  blk_point [iblk, V, idx t, col]

theorem prodB (t : Fin cfg0.N) (i : Fin 1024) (j : Fin 512) :
    k0_pay1 (F := Ideal) (iblk m c 0 t) (iblk m c 1 t) (ix2 i j) = val_main_v4 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v4 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.EvenInDwIdeal.Value2
-- ==== Proof.EvenInDwClaim.lean ====
module
public import proofs.«01_k».proof.Defs
public import proofs.«01_k».proof.Proof.Gen.EvenInDw.Frame
public import proofs.«01_k».proof.Proof.Gen.EvenInDwRefIdeal.Run
public import proofs.«01_k».proof.Proof.EvenInDwVal
@[expose] public section
/-! The claims about the weight gradient of an even layer's input projection. -/
set_option maxRecDepth 65536
noncomputable section
open Idealize.ShloMosaic Idealize.SL.Sem
namespace Cert.Proof.EvenInDw

theorem frame : Cert.quiescent_EvenInDw := fun m ρ _ => Cert.EvenInDw.Gen.frame m ρ

theorem frameIdeal : Cert.quiescent_EvenInDwIdeal := fun m ρ _ => Cert.EvenInDwIdeal.Gen.frame m ρ

theorem frameRef : Cert.quiescent_EvenInDwRefIdeal := fun m g _ =>
  (θ_run _ _ _).mono (fun r h => ⟨fun c => (h c).2, sem_eq_zero_of_no_sems rfl r.2⟩)
    (Cert.EvenInDwRefIdeal.Value.run m g)

theorem preserves : Cert.preserves_EvenInDw_EvenInDwIdeal := trivial

theorem algebraic : Cert.algebraic_EvenInDwIdeal_EvenInDwRefIdeal := by
  pair_intro
  · run_from Cert.EvenInDwIdeal.Value.run_blocks m g
  · run_from Cert.EvenInDwRefIdeal.Value.run m' g'
    · exact (Cert.EvenInDwRefIdeal.Read.val_main_v4_eq _ _).trans (Cert.EvenInDwIdeal.Value2.final m c).symm

end Cert.Proof.EvenInDw
-- ==== Proof.OddInVal.lean ====
module
public import proofs.«01_k».proof.Proof.Gen.OddInIdeal.Value
public import proofs.«01_k».proof.Proof.Gen.OddInRefIdeal.Read
public import proofs.«01_k».proof.Proof.Norm
@[expose] public section
/-! The array of the input projection of an odd layer is the reference's. -/
set_option maxRecDepth 200000
noncomputable section
open Idealize.ShloMosaic Idealize.ShloMosaic.TcCoe Idealize.SL.Sem
namespace Cert.OddInIdeal.Value2
open Cert.OddInIdeal Cert.OddInIdeal.Gen
open Cert.OddInRefIdeal.Read

/-- The product of two blocks at a point. -/
theorem pay1_apply (a : FVec Ideal S2048x1024 .bf16) (w : FVec Ideal S1024x768 .bf16) (i : Fin 2048) (j : Fin 768) :
    k0_pay1 (F := Ideal) a w (ix2 i j) = ∑ k : Fin 1024, a (ix2 i k) * w (ix2 k j) := by
  pointwise [k0_pay1]

/-- The reference's product at a point. -/
theorem ref_apply (a : FVec Ideal S4096x1024 .bf16) (w : FVec Ideal S1024x1536 .bf16) (i : Fin 4096) (j : Fin 1536) :
    val_main_v2 (F := Ideal) a w (ix2 i j) = ∑ k : Fin 1024, a (ix2 i k) * w (ix2 k j) := by
  pointwise [val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S1024x1536 .bf16 := m ((c : Thread nD τ).loc main_arg1)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Row `i` of block `t` in the whole array. -/
def row (t : Fin cfg0.N) (i : Fin 2048) : Fin 4096 := ⟨t.val / 2 * 2048 + i.val, by have := t.isLt; have : cfg0.N = 4 := rfl; omega⟩
/-- Column `j` of block `t` in the whole array. -/
def col (t : Fin cfg0.N) (j : Fin 768) : Fin 1536 := ⟨t.val % 2 * 768 + j.val, by omega⟩

theorem blk0 (t : Fin cfg0.N) (i : Fin 2048) (k : Fin 1024) : (iblk m c 0 t (ix2 i k) : EReal) = a0 m c (ix2 (row t i) k) := by
  blk_point [iblk, V, idx t, row]
theorem blk1 (t : Fin cfg0.N) (j : Fin 768) (k : Fin 1024) : (iblk m c 1 t (ix2 k j) : EReal) = a1 m c (ix2 k (col t j)) := by
  blk_point [iblk, V, idx t, col]

theorem prodB (t : Fin cfg0.N) (i : Fin 2048) (j : Fin 768) :
    k0_pay1 (F := Ideal) (iblk m c 0 t) (iblk m c 1 t) (ix2 i j) = val_main_v2 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v2 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.OddInIdeal.Value2
-- ==== Proof.OddInClaim.lean ====
module
public import proofs.«01_k».proof.Defs
public import proofs.«01_k».proof.Proof.Gen.OddIn.Frame
public import proofs.«01_k».proof.Proof.Gen.OddInRefIdeal.Run
public import proofs.«01_k».proof.Proof.OddInVal
@[expose] public section
/-! The claims about the input projection of an odd layer. -/
set_option maxRecDepth 65536
noncomputable section
open Idealize.ShloMosaic Idealize.SL.Sem
namespace Cert.Proof.OddIn

theorem frame : Cert.quiescent_OddIn := fun m ρ _ => Cert.OddIn.Gen.frame m ρ

theorem frameIdeal : Cert.quiescent_OddInIdeal := fun m ρ _ => Cert.OddInIdeal.Gen.frame m ρ

theorem frameRef : Cert.quiescent_OddInRefIdeal := fun m g _ =>
  (θ_run _ _ _).mono (fun r h => ⟨fun c => (h c).2, sem_eq_zero_of_no_sems rfl r.2⟩)
    (Cert.OddInRefIdeal.Value.run m g)

theorem preserves : Cert.preserves_OddIn_OddInIdeal := trivial

theorem algebraic : Cert.algebraic_OddInIdeal_OddInRefIdeal := by
  pair_intro
  · run_from Cert.OddInIdeal.Value.run_blocks m g
  · run_from Cert.OddInRefIdeal.Value.run m' g'
    · exact (Cert.OddInRefIdeal.Read.val_main_v2_eq _ _).trans (Cert.OddInIdeal.Value2.final m c).symm

end Cert.Proof.OddIn
-- ==== Proof.OddInDwVal.lean ====
module
public import proofs.«01_k».proof.Proof.Gen.OddInDwIdeal.Value
public import proofs.«01_k».proof.Proof.Gen.OddInDwRefIdeal.Read
public import proofs.«01_k».proof.Proof.Norm
@[expose] public section
/-! The array of the weight gradient of an odd layer's input projection is the reference's. -/
set_option maxRecDepth 200000
noncomputable section
open Idealize.ShloMosaic Idealize.ShloMosaic.TcCoe Idealize.SL.Sem
namespace Cert.OddInDwIdeal.Value2
open Cert.OddInDwIdeal Cert.OddInDwIdeal.Gen
open Cert.OddInDwRefIdeal.Read

/-- The product of two blocks at a point. -/
theorem pay1_apply (a : FVec Ideal S4096x1024 .bf16) (w : FVec Ideal S4096x512 .bf16) (i : Fin 1024) (j : Fin 512) :
    k0_pay1 (F := Ideal) a w (ix2 i j) = ∑ k : Fin 4096, a (ix2 k i) * w (ix2 k j) := by
  pointwise [k0_pay1]

/-- The reference's product at a point. -/
theorem ref_apply (a : FVec Ideal S4096x1024 .bf16) (w : FVec Ideal S4096x1536 .bf16) (i : Fin 1024) (j : Fin 1536) :
    val_main_v4 (F := Ideal) a w (ix2 i j) = ∑ k : Fin 4096, a (ix2 k i) * w (ix2 k j) := by
  pointwise [val_main_v4, val_main_v3, val_main_v2, val_main_v1, val_main_v0]

variable (m : (ℓ : Loc nD τ sig) → Buf (Elt Ideal) ℓ) (c : Dev nD)

abbrev a0 : FVec Ideal S4096x1024 .bf16 := m ((c : Thread nD τ).loc main_arg0)
abbrev a1 : FVec Ideal S4096x1536 .bf16 := m ((c : Thread nD τ).loc main_arg1)

theorem idx : ∀ t : Fin cfg0.N, win0_0.index t = ![0, t.val / 3] ∧ win0_1.index t = ![0, t.val % 3] ∧ win0_2.index t = ![t.val / 3, t.val % 3] :=
  (by decide +kernel : ∀ t : Fin grid0.N, _)

/-- Row `i` of block `t` in the whole array. -/
def row (t : Fin cfg0.N) (i : Fin 1024) : Fin 1024 := ⟨t.val / 3 * 1024 + i.val, by have := t.isLt; have : cfg0.N = 3 := rfl; omega⟩
/-- Column `j` of block `t` in the whole array. -/
def col (t : Fin cfg0.N) (j : Fin 512) : Fin 1536 := ⟨t.val % 3 * 512 + j.val, by omega⟩

theorem blk0 (t : Fin cfg0.N) (i : Fin 1024) (k : Fin 4096) : (iblk m c 0 t (ix2 k i) : EReal) = a0 m c (ix2 k (row t i)) := by
  blk_point [iblk, V, idx t, row]
theorem blk1 (t : Fin cfg0.N) (j : Fin 512) (k : Fin 4096) : (iblk m c 1 t (ix2 k j) : EReal) = a1 m c (ix2 k (col t j)) := by
  blk_point [iblk, V, idx t, col]

theorem prodB (t : Fin cfg0.N) (i : Fin 1024) (j : Fin 512) :
    k0_pay1 (F := Ideal) (iblk m c 0 t) (iblk m c 1 t) (ix2 i j) = val_main_v4 (F := Ideal) (a0 m c) (a1 m c) (ix2 (row t i) (col t j)) := by
  rw [ref_apply]
  exact (pay1_apply _ _ i j).trans (Finset.sum_congr rfl fun k _ => Ideal.mul_congr (blk0 m c t i k) (blk1 m c t j k))

theorem final : (dats m 0 c).arrAt 2 cfg0.N = val_main_v4 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 (row t y0) (col t y1) := by blk_ext [idx t, row, col]
  rw [e]
  refine Eq.trans ?_ (prodB m c t y0 y1)
  rw [after0_2]
  frame_out

end Cert.OddInDwIdeal.Value2
-- ==== Proof.OddInDwClaim.lean ====
module
public import proofs.«01_k».proof.Defs
public import proofs.«01_k».proof.Proof.Gen.OddInDw.Frame
public import proofs.«01_k».proof.Proof.Gen.OddInDwRefIdeal.Run
public import proofs.«01_k».proof.Proof.OddInDwVal
@[expose] public section
/-! The claims about the weight gradient of an odd layer's input projection. -/
set_option maxRecDepth 65536
noncomputable section
open Idealize.ShloMosaic Idealize.SL.Sem
namespace Cert.Proof.OddInDw

theorem frame : Cert.quiescent_OddInDw := fun m ρ _ => Cert.OddInDw.Gen.frame m ρ

theorem frameIdeal : Cert.quiescent_OddInDwIdeal := fun m ρ _ => Cert.OddInDwIdeal.Gen.frame m ρ

theorem frameRef : Cert.quiescent_OddInDwRefIdeal := fun m g _ =>
  (θ_run _ _ _).mono (fun r h => ⟨fun c => (h c).2, sem_eq_zero_of_no_sems rfl r.2⟩)
    (Cert.OddInDwRefIdeal.Value.run m g)

theorem preserves : Cert.preserves_OddInDw_OddInDwIdeal := trivial

theorem algebraic : Cert.algebraic_OddInDwIdeal_OddInDwRefIdeal := by
  pair_intro
  · run_from Cert.OddInDwIdeal.Value.run_blocks m g
  · run_from Cert.OddInDwRefIdeal.Value.run m' g'
    · exact (Cert.OddInDwRefIdeal.Read.val_main_v4_eq _ _).trans (Cert.OddInDwIdeal.Value2.final m c).symm

end Cert.Proof.OddInDw
-- ==== Proof.UpDwVal.lean ====
module
public import proofs.«01_k».proof.Proof.Gen.UpDwIdeal.Value
public import proofs.«01_k».proof.Proof.Gen.UpDwRefIdeal.Read
public import proofs.«01_k».proof.Proof.Norm
@[expose] public section
/-! The array the up projection's weight gradient leaves is the reference's. -/
set_option maxRecDepth 200000
noncomputable section
open Idealize.ShloMosaic Idealize.ShloMosaic.TcCoe Idealize.SL.Sem
namespace Cert.UpDwIdeal.Value2
open Cert.UpDwIdeal Cert.UpDwIdeal.Gen
open Cert.UpDwRefIdeal.Read

theorem pay1_apply (h : FVec Ideal S4096x1024 .bf16) (d : FVec Ideal S1x4096x1408 .bf16) (i : Fin 1024) (j : Fin 1408) :
    k0_pay1 (F := Ideal) h d (ix2 i j) = ∑ k : Fin 4096, h (ix2 k i) * d (ix3 0 k j) := by
  pointwise [k0_pay1]

section
variable (h : FVec Ideal S4096x1024 .bf16) (d : FVec Ideal S2x4096x2816 .bf16)

theorem v9 (i : Fin 1024) (j : Fin 5632) :
    val_main_v9 (F := Ideal) h d (ix2 i j) = ∑ k : Fin 4096, h (ix2 k i) * val_main_v6 (F := Ideal) d (ix2 k j) := by
  pointwise [val_main_v9, val_main_v8, val_main_v7, val_main_v1, val_main_v0]

/-- The two halves of the cotangent side by side. -/
theorem v6 (k : Fin 4096) (s : Fin 2) (j : Fin 5632) (q : Fin 2816) (e : j.val = s.val * 2816 + q.val) :
    val_main_v6 (F := Ideal) d (ix2 k j) = d (ix3 s k q) := by
  obtain ⟨s, hs⟩ := s
  interval_cases s
  · have hj : j = ⟨q.val, lt_of_lt_of_le q.isLt (by decide)⟩ := Fin.ext (by simpa using e)
    rw [hj]
    pointwise [val_main_v6, val_main_v3, val_main_v2]
  · have hj : j = ⟨q.val + 2816, by have := q.isLt; omega⟩ := Fin.ext (by simp at e; simp; omega)
    rw [hj]
    pointwise [val_main_v6, val_main_v5, val_main_v4]
    refine (dif_neg (by omega)).trans (congrArg _ ((ix3_inj ..).2 ⟨rfl, rfl, Fin.ext ?_⟩))
    exact Nat.add_sub_cancel _ _
end

variable (m : (ℓ : Loc nD τ sig) → Buf (Elt Ideal) ℓ) (c : Dev nD)

abbrev a0 : FVec Ideal S4096x1024 .bf16 := m ((c : Thread nD τ).loc main_arg0)
abbrev a1 : FVec Ideal S2x4096x2816 .bf16 := m ((c : Thread nD τ).loc main_arg1)

theorem idx : ∀ t : Fin cfg0.N, win0_0.index t = ![0, 0] ∧ win0_1.index t = ![t.val / 2, 0, t.val % 2] ∧ win0_2.index t = ![0, t.val] :=
  (by decide +kernel : ∀ t : Fin grid0.N, _)

/-- Block `t` lies in half `t / 2`. -/
def half (t : Fin cfg0.N) : Fin 2 := ⟨t.val / 2, by have := t.isLt; have : cfg0.N = 4 := rfl; omega⟩
/-- Column `j` of block `t` within its half, and in the whole. -/
def inHalf (t : Fin cfg0.N) (j : Fin 1408) : Fin 2816 := ⟨t.val % 2 * 1408 + j.val, by omega⟩
def col (t : Fin cfg0.N) (j : Fin 1408) : Fin 5632 := ⟨t.val * 1408 + j.val, by have := t.isLt; have : cfg0.N = 4 := rfl; omega⟩

theorem blk0 (t : Fin cfg0.N) (k : Fin 4096) (i : Fin 1024) : (iblk m c 0 t (ix2 k i) : EReal) = a0 m c (ix2 k i) := by
  blk_point [iblk, V, idx t]
theorem blk1 (t : Fin cfg0.N) (k : Fin 4096) (j : Fin 1408) : (iblk m c 1 t (ix3 0 k j) : EReal) = a1 m c (ix3 (half t) k (inHalf t j)) := by
  blk_point [iblk, V, idx t, half, inHalf]

theorem prodB (t : Fin cfg0.N) (i : Fin 1024) (j : Fin 1408) :
    k0_pay1 (F := Ideal) (iblk m c 0 t) (iblk m c 1 t) (ix2 i j) = val_main_v9 (F := Ideal) (a0 m c) (a1 m c) (ix2 i (col t j)) := by
  rw [v9]
  refine (pay1_apply _ _ i j).trans (Finset.sum_congr rfl fun k _ => Ideal.mul_congr (blk0 m c t k i) ((blk1 m c t k j).trans ?_))
  exact (v6 _ k (half t) (col t j) (inHalf t j) (by unfold col half inHalf; show t.val * 1408 + j.val = t.val / 2 * 2816 + (t.val % 2 * 1408 + j.val); omega)).symm

theorem final : (dats m 0 c).arrAt 2 cfg0.N = val_main_v9 (F := Ideal) (a0 m c) (a1 m c) := by
  refine (dats m 0 c).arrAt_eq_of_covers 2 _ (by decide +kernel) fun t _ y => ?_
  blk_simp
  idx_vars y
  have e : ((win0_2.blk t).view).emb (ix2 y0 y1) = ix2 y0 (col t y1) := by blk_ext [idx t, col]
  rw [e]
  refine Eq.trans ?_ (prodB m c t y0 y1)
  rw [after0_2]
  frame_out

end Cert.UpDwIdeal.Value2
-- ==== Proof.UpDwClaim.lean ====
module
public import proofs.«01_k».proof.Defs
public import proofs.«01_k».proof.Proof.Gen.UpDw.Frame
public import proofs.«01_k».proof.Proof.Gen.UpDwRefIdeal.Run
public import proofs.«01_k».proof.Proof.UpDwVal
@[expose] public section
/-! The claims about the up projection's weight gradient. -/
set_option maxRecDepth 65536
noncomputable section
open Idealize.ShloMosaic Idealize.SL.Sem
namespace Cert.Proof.UpDw

theorem frame : Cert.quiescent_UpDw := fun m ρ _ => Cert.UpDw.Gen.frame m ρ

theorem frameIdeal : Cert.quiescent_UpDwIdeal := fun m ρ _ => Cert.UpDwIdeal.Gen.frame m ρ

theorem frameRef : Cert.quiescent_UpDwRefIdeal := fun m g _ =>
  (θ_run _ _ _).mono (fun r h => ⟨fun c => (h c).2, sem_eq_zero_of_no_sems rfl r.2⟩)
    (Cert.UpDwRefIdeal.Value.run m g)

theorem preserves : Cert.preserves_UpDw_UpDwIdeal := trivial

theorem algebraic : Cert.algebraic_UpDwIdeal_UpDwRefIdeal := by
  pair_intro
  · run_from Cert.UpDwIdeal.Value.run_blocks m g
  · run_from Cert.UpDwRefIdeal.Value.run m' g'
    · exact (Cert.UpDwRefIdeal.Read.val_main_v9_eq _ _).trans (Cert.UpDwIdeal.Value2.final m c).symm

end Cert.Proof.UpDw
-- ==== Proof.AdamVal.lean ====
module
public import proofs.«01_k».proof.Proof.Gen.AdamIdeal.Value
public import proofs.«01_k».proof.Proof.Gen.AdamRefIdeal.Read
public import proofs.«01_k».proof.Proof.Norm
@[expose] public section
/-! The arrays an update of the optimiser leaves are the reference's. -/
set_option maxRecDepth 200000
noncomputable section
open Idealize.ShloMosaic Idealize.ShloMosaic.TcCoe Idealize.SL.Sem
namespace Cert.AdamIdeal.Value2
open Cert.AdamIdeal Cert.AdamIdeal.Gen
open Cert.AdamRefIdeal.Read

theorem pay4_apply (p0 p1 p2 p3 p4 p5 p6 p7 : FVec Ideal S1x256x704 .bf16) (i : Fin 256) (j : Fin 704) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S4096x704 .f32) (x3 : FVec Ideal S8x4096x704 .bf16)

theorem v1 (i : Fin 4096) (j : Fin 704) : val_main_v1 (F := Ideal) x3 (ix2 i j) = ∑ k : Fin 8, x3 (ix3 k i j) := by
  pointwise [val_main_v1, val_main_v0, val_main_cst]

variable (g w q v : FVec Ideal S256x704 .f32) (i : Fin 256) (r : Fin 4096) (j : Fin 704)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S4096x704 .f32 := m ((c : Thread nD τ).loc main_arg0)
abbrev a1 : FVec Ideal S4096x704 .f32 := m ((c : Thread nD τ).loc main_arg1)
abbrev a2 : FVec Ideal S4096x704 .f32 := m ((c : Thread nD τ).loc main_arg2)
abbrev a3 : FVec Ideal S8x4096x704 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `256 t + i`. -/
def rr (t : Fin cfg0.N) (i : Fin 256) : Fin 4096 := ⟨t.val * 256 + i.val, by have := t.isLt; have : cfg0.N = 16 := rfl; omega⟩

theorem blk0 (t : Fin cfg0.N) (i : Fin 256) (j : Fin 704) : (iblk m c 0 t (ix2 i j) : EReal) = a0 m c (ix2 (rr t i) j) := by
  blk_point [iblk, V, idx t, rr]
theorem blk1 (t : Fin cfg0.N) (i : Fin 256) (j : Fin 704) : (iblk m c 1 t (ix2 i j) : EReal) = a1 m c (ix2 (rr t i) j) := by
  blk_point [iblk, V, idx t, rr]
theorem blk2 (t : Fin cfg0.N) (i : Fin 256) (j : Fin 704) : (iblk m c 2 t (ix2 i j) : EReal) = a2 m c (ix2 (rr t i) j) := by
  blk_point [iblk, V, idx t, rr]
theorem blk3 (t : Fin cfg0.N) (k : Fin 8) (i : Fin 256) (j : Fin 704) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 256, 704] : Fin 3 → ℕ) a ≤ S8x256x704.size a) :
    FVec Ideal S1x256x704 .bf16 := View.ld (iblk m c 3 t) (Rect.unit ![k, 0, 0] ![1, 256, 704] h)

theorem part_apply (t : Fin cfg0.N) (k : Fin 8) (h) (i : Fin 256) (j : Fin 704) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 256) (j : Fin 704) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamIdeal.Value2
-- ==== Proof.AdamClaim.lean ====
module
public import proofs.«01_k».proof.Defs
public import proofs.«01_k».proof.Proof.Gen.Adam.Frame
public import proofs.«01_k».proof.Proof.Gen.AdamRefIdeal.Run
public import proofs.«01_k».proof.Proof.AdamVal
@[expose] public section
/-! The claims about the optimiser's update. -/
set_option maxRecDepth 65536
noncomputable section
open Idealize.ShloMosaic Idealize.SL.Sem
namespace Cert.Proof.Adam

theorem frame : Cert.quiescent_Adam := fun m ρ _ => Cert.Adam.Gen.frame m ρ

theorem frameIdeal : Cert.quiescent_AdamIdeal := fun m ρ _ => Cert.AdamIdeal.Gen.frame m ρ

theorem frameRef : Cert.quiescent_AdamRefIdeal := fun m g _ =>
  (θ_run _ _ _).mono (fun r h => ⟨fun c => (h c).2.2.2.2, sem_eq_zero_of_no_sems rfl r.2⟩)
    (Cert.AdamRefIdeal.Value.run m g)

theorem preserves : Cert.preserves_Adam_AdamIdeal := trivial

theorem algebraic : Cert.algebraic_AdamIdeal_AdamRefIdeal := by
  pair_intro
  · run_from Cert.AdamIdeal.Value.run_blocks m g
  · refine θ_run_mono (Cert.AdamRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamRefIdeal.Read.val_main_v1_eq _).trans (Cert.AdamIdeal.Value2.final4 m c).symm
    · rw [e0, e1, e2, e3]
      exact (Cert.AdamRefIdeal.Read.val_main_v25_eq (F := Ideal) _ _ _ _).trans (Cert.AdamIdeal.Value2.final5 m c).symm
    · rw [e1, e3]; exact (Cert.AdamRefIdeal.Read.val_main_v6_eq _ _).trans (Cert.AdamIdeal.Value2.final6 m c).symm
    · rw [e2, e3]; exact (Cert.AdamRefIdeal.Read.val_main_v12_eq _ _).trans (Cert.AdamIdeal.Value2.final7 m c).symm

end Cert.Proof.Adam
-- ==== Proof.AdamEvenInVal.lean ====
module
public import proofs.«01_k».proof.Proof.Gen.AdamEvenInIdeal.Value
public import proofs.«01_k».proof.Proof.Gen.AdamEvenInRefIdeal.Read
public import proofs.«01_k».proof.Proof.Norm
@[expose] public section
/-! The arrays the update of `even_w_in` leaves are the reference's. -/
set_option maxRecDepth 200000
noncomputable section
open Idealize.ShloMosaic Idealize.ShloMosaic.TcCoe Idealize.SL.Sem
namespace Cert.AdamEvenInIdeal.Value2
open Cert.AdamEvenInIdeal Cert.AdamEvenInIdeal.Gen
open Cert.AdamEvenInRefIdeal.Read

theorem pay4_apply (p0 p1 p2 p3 p4 p5 p6 p7 : FVec Ideal S1x1024x256 .bf16) (i : Fin 1024) (j : Fin 256) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S2048x256 .f32) (x3 : FVec Ideal S8x2048x256 .bf16)

theorem v1 (i : Fin 2048) (j : Fin 256) : val_main_v1 (F := Ideal) x3 (ix2 i j) = ∑ k : Fin 8, x3 (ix3 k i j) := by
  pointwise [val_main_v1, val_main_v0, val_main_cst]

variable (g w q v : FVec Ideal S1024x256 .f32) (i : Fin 1024) (r : Fin 2048) (j : Fin 256)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S2048x256 .f32 := m ((c : Thread nD τ).loc main_arg0)
abbrev a1 : FVec Ideal S2048x256 .f32 := m ((c : Thread nD τ).loc main_arg1)
abbrev a2 : FVec Ideal S2048x256 .f32 := m ((c : Thread nD τ).loc main_arg2)
abbrev a3 : FVec Ideal S8x2048x256 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `1024 t + i`. -/
def rr (t : Fin cfg0.N) (i : Fin 1024) : Fin 2048 := ⟨t.val * 1024 + i.val, by have := t.isLt; have : cfg0.N = 2 := rfl; omega⟩

theorem blk0 (t : Fin cfg0.N) (i : Fin 1024) (j : Fin 256) : (iblk m c 0 t (ix2 i j) : EReal) = a0 m c (ix2 (rr t i) j) := by
  blk_point [iblk, V, idx t, rr]
theorem blk1 (t : Fin cfg0.N) (i : Fin 1024) (j : Fin 256) : (iblk m c 1 t (ix2 i j) : EReal) = a1 m c (ix2 (rr t i) j) := by
  blk_point [iblk, V, idx t, rr]
theorem blk2 (t : Fin cfg0.N) (i : Fin 1024) (j : Fin 256) : (iblk m c 2 t (ix2 i j) : EReal) = a2 m c (ix2 (rr t i) j) := by
  blk_point [iblk, V, idx t, rr]
theorem blk3 (t : Fin cfg0.N) (k : Fin 8) (i : Fin 1024) (j : Fin 256) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 1024, 256] : Fin 3 → ℕ) a ≤ S8x1024x256.size a) :
    FVec Ideal S1x1024x256 .bf16 := View.ld (iblk m c 3 t) (Rect.unit ![k, 0, 0] ![1, 1024, 256] h)

theorem part_apply (t : Fin cfg0.N) (k : Fin 8) (h) (i : Fin 1024) (j : Fin 256) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 1024) (j : Fin 256) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamEvenInIdeal.Value2
-- ==== Proof.AdamEvenInClaim.lean ====
module
public import proofs.«01_k».proof.Defs
public import proofs.«01_k».proof.Proof.Gen.AdamEvenIn.Frame
public import proofs.«01_k».proof.Proof.Gen.AdamEvenInRefIdeal.Run
public import proofs.«01_k».proof.Proof.AdamEvenInVal
@[expose] public section
/-! The claims about the update of `even_w_in`. -/
set_option maxRecDepth 65536
noncomputable section
open Idealize.ShloMosaic Idealize.SL.Sem
namespace Cert.Proof.AdamEvenIn

theorem frame : Cert.quiescent_AdamEvenIn := fun m ρ _ => Cert.AdamEvenIn.Gen.frame m ρ

theorem frameIdeal : Cert.quiescent_AdamEvenInIdeal := fun m ρ _ => Cert.AdamEvenInIdeal.Gen.frame m ρ

theorem frameRef : Cert.quiescent_AdamEvenInRefIdeal := fun m g _ =>
  (θ_run _ _ _).mono (fun r h => ⟨fun c => (h c).2.2.2.2, sem_eq_zero_of_no_sems rfl r.2⟩)
    (Cert.AdamEvenInRefIdeal.Value.run m g)

theorem preserves : Cert.preserves_AdamEvenIn_AdamEvenInIdeal := trivial

theorem algebraic : Cert.algebraic_AdamEvenInIdeal_AdamEvenInRefIdeal := by
  pair_intro
  · run_from Cert.AdamEvenInIdeal.Value.run_blocks m g
  · refine θ_run_mono (Cert.AdamEvenInRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamEvenInRefIdeal.Read.val_main_v1_eq _).trans (Cert.AdamEvenInIdeal.Value2.final4 m c).symm
    · rw [e0, e1, e2, e3]
      exact (Cert.AdamEvenInRefIdeal.Read.val_main_v25_eq (F := Ideal) _ _ _ _).trans (Cert.AdamEvenInIdeal.Value2.final5 m c).symm
    · rw [e1, e3]; exact (Cert.AdamEvenInRefIdeal.Read.val_main_v6_eq _ _).trans (Cert.AdamEvenInIdeal.Value2.final6 m c).symm
    · rw [e2, e3]; exact (Cert.AdamEvenInRefIdeal.Read.val_main_v12_eq _ _).trans (Cert.AdamEvenInIdeal.Value2.final7 m c).symm

end Cert.Proof.AdamEvenIn
-- ==== Proof.AdamGluVal.lean ====
module
public import proofs.«01_k».proof.Proof.Gen.AdamGluIdeal.Value
public import proofs.«01_k».proof.Proof.Gen.AdamGluRefIdeal.Read
public import proofs.«01_k».proof.Proof.Norm
@[expose] public section
/-! The arrays the update of `ssm_glu_w` leaves are the reference's. -/
set_option maxRecDepth 200000
noncomputable section
open Idealize.ShloMosaic Idealize.ShloMosaic.TcCoe Idealize.SL.Sem
namespace Cert.AdamGluIdeal.Value2
open Cert.AdamGluIdeal Cert.AdamGluIdeal.Gen
open Cert.AdamGluRefIdeal.Read

theorem pay4_apply (p0 p1 p2 p3 p4 p5 p6 p7 : FVec Ideal S1x128x512 .bf16) (i : Fin 128) (j : Fin 512) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S128x512 .f32) (x3 : FVec Ideal S8x128x512 .bf16)

theorem v1 (i : Fin 128) (j : Fin 512) : val_main_v1 (F := Ideal) x3 (ix2 i j) = ∑ k : Fin 8, x3 (ix3 k i j) := by
  pointwise [val_main_v1, val_main_v0, val_main_cst]

variable (g w q v : FVec Ideal S128x512 .f32) (i : Fin 128) (r : Fin 128) (j : Fin 512)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S128x512 .f32 := m ((c : Thread nD τ).loc main_arg0)
abbrev a1 : FVec Ideal S128x512 .f32 := m ((c : Thread nD τ).loc main_arg1)
abbrev a2 : FVec Ideal S128x512 .f32 := m ((c : Thread nD τ).loc main_arg2)
abbrev a3 : FVec Ideal S8x128x512 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `128 t + i`. -/
def rr (t : Fin cfg0.N) (i : Fin 128) : Fin 128 := ⟨t.val * 128 + i.val, by have := t.isLt; have : cfg0.N = 1 := rfl; omega⟩

theorem blk0 (t : Fin cfg0.N) (i : Fin 128) (j : Fin 512) : (iblk m c 0 t (ix2 i j) : EReal) = a0 m c (ix2 (rr t i) j) := by
  blk_point [iblk, V, idx t, rr]
theorem blk1 (t : Fin cfg0.N) (i : Fin 128) (j : Fin 512) : (iblk m c 1 t (ix2 i j) : EReal) = a1 m c (ix2 (rr t i) j) := by
  blk_point [iblk, V, idx t, rr]
theorem blk2 (t : Fin cfg0.N) (i : Fin 128) (j : Fin 512) : (iblk m c 2 t (ix2 i j) : EReal) = a2 m c (ix2 (rr t i) j) := by
  blk_point [iblk, V, idx t, rr]
theorem blk3 (t : Fin cfg0.N) (k : Fin 8) (i : Fin 128) (j : Fin 512) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 128, 512] : Fin 3 → ℕ) a ≤ S8x128x512.size a) :
    FVec Ideal S1x128x512 .bf16 := View.ld (iblk m c 3 t) (Rect.unit ![k, 0, 0] ![1, 128, 512] h)

theorem part_apply (t : Fin cfg0.N) (k : Fin 8) (h) (i : Fin 128) (j : Fin 512) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 128) (j : Fin 512) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamGluIdeal.Value2
-- ==== Proof.AdamGluClaim.lean ====
module
public import proofs.«01_k».proof.Defs
public import proofs.«01_k».proof.Proof.Gen.AdamGlu.Frame
public import proofs.«01_k».proof.Proof.Gen.AdamGluRefIdeal.Run
public import proofs.«01_k».proof.Proof.AdamGluVal
@[expose] public section
/-! The claims about the update of `ssm_glu_w`. -/
set_option maxRecDepth 65536
noncomputable section
open Idealize.ShloMosaic Idealize.SL.Sem
namespace Cert.Proof.AdamGlu

theorem frame : Cert.quiescent_AdamGlu := fun m ρ _ => Cert.AdamGlu.Gen.frame m ρ

theorem frameIdeal : Cert.quiescent_AdamGluIdeal := fun m ρ _ => Cert.AdamGluIdeal.Gen.frame m ρ

theorem frameRef : Cert.quiescent_AdamGluRefIdeal := fun m g _ =>
  (θ_run _ _ _).mono (fun r h => ⟨fun c => (h c).2.2.2.2, sem_eq_zero_of_no_sems rfl r.2⟩)
    (Cert.AdamGluRefIdeal.Value.run m g)

theorem preserves : Cert.preserves_AdamGlu_AdamGluIdeal := trivial

theorem algebraic : Cert.algebraic_AdamGluIdeal_AdamGluRefIdeal := by
  pair_intro
  · run_from Cert.AdamGluIdeal.Value.run_blocks m g
  · refine θ_run_mono (Cert.AdamGluRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamGluRefIdeal.Read.val_main_v1_eq _).trans (Cert.AdamGluIdeal.Value2.final4 m c).symm
    · rw [e0, e1, e2, e3]
      exact (Cert.AdamGluRefIdeal.Read.val_main_v25_eq (F := Ideal) _ _ _ _).trans (Cert.AdamGluIdeal.Value2.final5 m c).symm
    · rw [e1, e3]; exact (Cert.AdamGluRefIdeal.Read.val_main_v6_eq _ _).trans (Cert.AdamGluIdeal.Value2.final6 m c).symm
    · rw [e2, e3]; exact (Cert.AdamGluRefIdeal.Read.val_main_v12_eq _ _).trans (Cert.AdamGluIdeal.Value2.final7 m c).symm

end Cert.Proof.AdamGlu
-- ==== Proof.AdamOutVal.lean ====
module
public import proofs.«01_k».proof.Proof.Gen.AdamOutIdeal.Value
public import proofs.«01_k».proof.Proof.Gen.AdamOutRefIdeal.Read
public import proofs.«01_k».proof.Proof.Norm
@[expose] public section
/-! The arrays the update of `even_w_out` leaves are the reference's. -/
set_option maxRecDepth 200000
noncomputable section
open Idealize.ShloMosaic Idealize.ShloMosaic.TcCoe Idealize.SL.Sem
namespace Cert.AdamOutIdeal.Value2
open Cert.AdamOutIdeal Cert.AdamOutIdeal.Gen
open Cert.AdamOutRefIdeal.Read

theorem pay4_apply (p0 p1 p2 p3 p4 p5 p6 p7 : FVec Ideal S1x256x1024 .bf16) (i : Fin 256) (j : Fin 1024) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S256x1024 .f32) (x3 : FVec Ideal S8x256x1024 .bf16)

theorem v1 (i : Fin 256) (j : Fin 1024) : val_main_v1 (F := Ideal) x3 (ix2 i j) = ∑ k : Fin 8, x3 (ix3 k i j) := by
  pointwise [val_main_v1, val_main_v0, val_main_cst]

variable (g w q v : FVec Ideal S256x1024 .f32) (i : Fin 256) (r : Fin 256) (j : Fin 1024)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S256x1024 .f32 := m ((c : Thread nD τ).loc main_arg0)
abbrev a1 : FVec Ideal S256x1024 .f32 := m ((c : Thread nD τ).loc main_arg1)
abbrev a2 : FVec Ideal S256x1024 .f32 := m ((c : Thread nD τ).loc main_arg2)
abbrev a3 : FVec Ideal S8x256x1024 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `256 t + i`. -/
def rr (t : Fin cfg0.N) (i : Fin 256) : Fin 256 := ⟨t.val * 256 + i.val, by have := t.isLt; have : cfg0.N = 1 := rfl; omega⟩

theorem blk0 (t : Fin cfg0.N) (i : Fin 256) (j : Fin 1024) : (iblk m c 0 t (ix2 i j) : EReal) = a0 m c (ix2 (rr t i) j) := by
  blk_point [iblk, V, idx t, rr]
theorem blk1 (t : Fin cfg0.N) (i : Fin 256) (j : Fin 1024) : (iblk m c 1 t (ix2 i j) : EReal) = a1 m c (ix2 (rr t i) j) := by
  blk_point [iblk, V, idx t, rr]
theorem blk2 (t : Fin cfg0.N) (i : Fin 256) (j : Fin 1024) : (iblk m c 2 t (ix2 i j) : EReal) = a2 m c (ix2 (rr t i) j) := by
  blk_point [iblk, V, idx t, rr]
theorem blk3 (t : Fin cfg0.N) (k : Fin 8) (i : Fin 256) (j : Fin 1024) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 256, 1024] : Fin 3 → ℕ) a ≤ S8x256x1024.size a) :
    FVec Ideal S1x256x1024 .bf16 := View.ld (iblk m c 3 t) (Rect.unit ![k, 0, 0] ![1, 256, 1024] h)

theorem part_apply (t : Fin cfg0.N) (k : Fin 8) (h) (i : Fin 256) (j : Fin 1024) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 256) (j : Fin 1024) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamOutIdeal.Value2
-- ==== Proof.AdamOutClaim.lean ====
module
public import proofs.«01_k».proof.Defs
public import proofs.«01_k».proof.Proof.Gen.AdamOut.Frame
public import proofs.«01_k».proof.Proof.Gen.AdamOutRefIdeal.Run
public import proofs.«01_k».proof.Proof.AdamOutVal
@[expose] public section
/-! The claims about the update of `even_w_out`. -/
set_option maxRecDepth 65536
noncomputable section
open Idealize.ShloMosaic Idealize.SL.Sem
namespace Cert.Proof.AdamOut

theorem frame : Cert.quiescent_AdamOut := fun m ρ _ => Cert.AdamOut.Gen.frame m ρ

theorem frameIdeal : Cert.quiescent_AdamOutIdeal := fun m ρ _ => Cert.AdamOutIdeal.Gen.frame m ρ

theorem frameRef : Cert.quiescent_AdamOutRefIdeal := fun m g _ =>
  (θ_run _ _ _).mono (fun r h => ⟨fun c => (h c).2.2.2.2, sem_eq_zero_of_no_sems rfl r.2⟩)
    (Cert.AdamOutRefIdeal.Value.run m g)

theorem preserves : Cert.preserves_AdamOut_AdamOutIdeal := trivial

theorem algebraic : Cert.algebraic_AdamOutIdeal_AdamOutRefIdeal := by
  pair_intro
  · run_from Cert.AdamOutIdeal.Value.run_blocks m g
  · refine θ_run_mono (Cert.AdamOutRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamOutRefIdeal.Read.val_main_v1_eq _).trans (Cert.AdamOutIdeal.Value2.final4 m c).symm
    · rw [e0, e1, e2, e3]
      exact (Cert.AdamOutRefIdeal.Read.val_main_v25_eq (F := Ideal) _ _ _ _).trans (Cert.AdamOutIdeal.Value2.final5 m c).symm
    · rw [e1, e3]; exact (Cert.AdamOutRefIdeal.Read.val_main_v6_eq _ _).trans (Cert.AdamOutIdeal.Value2.final6 m c).symm
    · rw [e2, e3]; exact (Cert.AdamOutRefIdeal.Read.val_main_v12_eq _ _).trans (Cert.AdamOutIdeal.Value2.final7 m c).symm

end Cert.Proof.AdamOut
-- ==== Proof.AdamOddInVal.lean ====
module
public import proofs.«01_k».proof.Proof.Gen.AdamOddInIdeal.Value
public import proofs.«01_k».proof.Proof.Gen.AdamOddInRefIdeal.Read
public import proofs.«01_k».proof.Proof.Norm
@[expose] public section
/-! The arrays the update of `odd_w_in` leaves are the reference's. -/
set_option maxRecDepth 200000
noncomputable section
open Idealize.ShloMosaic Idealize.ShloMosaic.TcCoe Idealize.SL.Sem
namespace Cert.AdamOddInIdeal.Value2
open Cert.AdamOddInIdeal Cert.AdamOddInIdeal.Gen
open Cert.AdamOddInRefIdeal.Read

theorem pay4_apply (p0 p1 p2 p3 p4 p5 p6 p7 : FVec Ideal S1x1024x192 .bf16) (i : Fin 1024) (j : Fin 192) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S2048x192 .f32) (x3 : FVec Ideal S8x2048x192 .bf16)

theorem v1 (i : Fin 2048) (j : Fin 192) : val_main_v1 (F := Ideal) x3 (ix2 i j) = ∑ k : Fin 8, x3 (ix3 k i j) := by
  pointwise [val_main_v1, val_main_v0, val_main_cst]

variable (g w q v : FVec Ideal S1024x192 .f32) (i : Fin 1024) (r : Fin 2048) (j : Fin 192)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S2048x192 .f32 := m ((c : Thread nD τ).loc main_arg0)
abbrev a1 : FVec Ideal S2048x192 .f32 := m ((c : Thread nD τ).loc main_arg1)
abbrev a2 : FVec Ideal S2048x192 .f32 := m ((c : Thread nD τ).loc main_arg2)
abbrev a3 : FVec Ideal S8x2048x192 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `1024 t + i`. -/
def rr (t : Fin cfg0.N) (i : Fin 1024) : Fin 2048 := ⟨t.val * 1024 + i.val, by have := t.isLt; have : cfg0.N = 2 := rfl; omega⟩

theorem blk0 (t : Fin cfg0.N) (i : Fin 1024) (j : Fin 192) : (iblk m c 0 t (ix2 i j) : EReal) = a0 m c (ix2 (rr t i) j) := by
  blk_point [iblk, V, idx t, rr]
theorem blk1 (t : Fin cfg0.N) (i : Fin 1024) (j : Fin 192) : (iblk m c 1 t (ix2 i j) : EReal) = a1 m c (ix2 (rr t i) j) := by
  blk_point [iblk, V, idx t, rr]
theorem blk2 (t : Fin cfg0.N) (i : Fin 1024) (j : Fin 192) : (iblk m c 2 t (ix2 i j) : EReal) = a2 m c (ix2 (rr t i) j) := by
  blk_point [iblk, V, idx t, rr]
theorem blk3 (t : Fin cfg0.N) (k : Fin 8) (i : Fin 1024) (j : Fin 192) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 1024, 192] : Fin 3 → ℕ) a ≤ S8x1024x192.size a) :
    FVec Ideal S1x1024x192 .bf16 := View.ld (iblk m c 3 t) (Rect.unit ![k, 0, 0] ![1, 1024, 192] h)

theorem part_apply (t : Fin cfg0.N) (k : Fin 8) (h) (i : Fin 1024) (j : Fin 192) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 1024) (j : Fin 192) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamOddInIdeal.Value2
-- ==== Proof.AdamOddInClaim.lean ====
module
public import proofs.«01_k».proof.Defs
public import proofs.«01_k».proof.Proof.Gen.AdamOddIn.Frame
public import proofs.«01_k».proof.Proof.Gen.AdamOddInRefIdeal.Run
public import proofs.«01_k».proof.Proof.AdamOddInVal
@[expose] public section
/-! The claims about the update of `odd_w_in`. -/
set_option maxRecDepth 65536
noncomputable section
open Idealize.ShloMosaic Idealize.SL.Sem
namespace Cert.Proof.AdamOddIn

theorem frame : Cert.quiescent_AdamOddIn := fun m ρ _ => Cert.AdamOddIn.Gen.frame m ρ

theorem frameIdeal : Cert.quiescent_AdamOddInIdeal := fun m ρ _ => Cert.AdamOddInIdeal.Gen.frame m ρ

theorem frameRef : Cert.quiescent_AdamOddInRefIdeal := fun m g _ =>
  (θ_run _ _ _).mono (fun r h => ⟨fun c => (h c).2.2.2.2, sem_eq_zero_of_no_sems rfl r.2⟩)
    (Cert.AdamOddInRefIdeal.Value.run m g)

theorem preserves : Cert.preserves_AdamOddIn_AdamOddInIdeal := trivial

theorem algebraic : Cert.algebraic_AdamOddInIdeal_AdamOddInRefIdeal := by
  pair_intro
  · run_from Cert.AdamOddInIdeal.Value.run_blocks m g
  · refine θ_run_mono (Cert.AdamOddInRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamOddInRefIdeal.Read.val_main_v1_eq _).trans (Cert.AdamOddInIdeal.Value2.final4 m c).symm
    · rw [e0, e1, e2, e3]
      exact (Cert.AdamOddInRefIdeal.Read.val_main_v25_eq (F := Ideal) _ _ _ _).trans (Cert.AdamOddInIdeal.Value2.final5 m c).symm
    · rw [e1, e3]; exact (Cert.AdamOddInRefIdeal.Read.val_main_v6_eq _ _).trans (Cert.AdamOddInIdeal.Value2.final6 m c).symm
    · rw [e2, e3]; exact (Cert.AdamOddInRefIdeal.Read.val_main_v12_eq _ _).trans (Cert.AdamOddInIdeal.Value2.final7 m c).symm

end Cert.Proof.AdamOddIn
-- ==== Proof.AdamDownVal.lean ====
module
public import proofs.«01_k».proof.Proof.Gen.AdamDownIdeal.Value
public import proofs.«01_k».proof.Proof.Gen.AdamDownRefIdeal.Read
public import proofs.«01_k».proof.Proof.Norm
@[expose] public section
/-! The arrays the update of `ffn_w_down` leaves are the reference's. -/
set_option maxRecDepth 200000
noncomputable section
open Idealize.ShloMosaic Idealize.ShloMosaic.TcCoe Idealize.SL.Sem
namespace Cert.AdamDownIdeal.Value2
open Cert.AdamDownIdeal Cert.AdamDownIdeal.Gen
open Cert.AdamDownRefIdeal.Read

theorem pay4_apply (p0 p1 p2 p3 p4 p5 p6 p7 : FVec Ideal S1x176x1024 .bf16) (i : Fin 176) (j : Fin 1024) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay4]

section
variable (x0 x1 x2 : FVec Ideal S1408x1024 .f32) (x3 : FVec Ideal S8x1408x1024 .bf16)

theorem v1 (i : Fin 1408) (j : Fin 1024) : val_main_v1 (F := Ideal) x3 (ix2 i j) = ∑ k : Fin 8, x3 (ix3 k i j) := by
  pointwise [val_main_v1, val_main_v0, val_main_cst]

variable (g w q v : FVec Ideal S176x1024 .f32) (i : Fin 176) (r : Fin 1408) (j : Fin 1024)

/-- The first moment at a point, from the gradient and the old moment there. -/
theorem pay1_eq (hg : g (ix2 i j) = val_main_v1 (F := Ideal) x3 (ix2 r j)) (hq : q (ix2 i j) = x1 (ix2 r j)) :
    k0_pay1 (F := Ideal) g q (ix2 i j) = val_main_v6 (F := Ideal) x1 x3 (ix2 r j) := by
  pointwise [k0_pay1, val_main_v6, val_main_v5, val_main_v4, val_main_v3, val_main_v2, val_main_cst_0, val_main_cst_1, hg, hq]

/-- The second moment. -/
theorem pay2_eq (hg : g (ix2 i j) = val_main_v1 (F := Ideal) x3 (ix2 r j)) (hv : v (ix2 i j) = x2 (ix2 r j)) :
    k0_pay2 (F := Ideal) g v (ix2 i j) = val_main_v12 (F := Ideal) x2 x3 (ix2 r j) := by
  pointwise [k0_pay2, val_main_v12, val_main_v11, val_main_v10, val_main_v9, val_main_v8, val_main_v7, val_main_cst_2, val_main_cst_3, hg, hv]

/-- The step. -/
theorem pay3_eq (hg : g (ix2 i j) = val_main_v1 (F := Ideal) x3 (ix2 r j)) (hw : w (ix2 i j) = x0 (ix2 r j)) (hq : q (ix2 i j) = x1 (ix2 r j))
    (hv : v (ix2 i j) = x2 (ix2 r j)) : k0_pay3 (F := Ideal) g q v w (ix2 i j) = val_main_v25 (F := Ideal) x0 x1 x2 x3 (ix2 r j) := by
  pointwise [k0_pay3, pay1_eq x1 x3 g q i r j hg hq, pay2_eq x2 x3 g v i r j hg hv, val_main_v25, val_main_v24, val_main_v23, val_main_v22, val_main_v21,
    val_main_v20, val_main_v19, val_main_v18, val_main_v17, val_main_v16, val_main_v15, val_main_v14, val_main_v13, val_main_cst_4, val_main_cst_5,
    val_main_cst_6, val_main_cst_7, val_main_cst_8, hw]
end

variable (m : (ℓ : Loc nD τ sig) → Buf (Elt Ideal) ℓ) (c : Dev nD)

abbrev a0 : FVec Ideal S1408x1024 .f32 := m ((c : Thread nD τ).loc main_arg0)
abbrev a1 : FVec Ideal S1408x1024 .f32 := m ((c : Thread nD τ).loc main_arg1)
abbrev a2 : FVec Ideal S1408x1024 .f32 := m ((c : Thread nD τ).loc main_arg2)
abbrev a3 : FVec Ideal S8x1408x1024 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `i` of block `t` is row `176 t + i`. -/
def rr (t : Fin cfg0.N) (i : Fin 176) : Fin 1408 := ⟨t.val * 176 + i.val, by have := t.isLt; have : cfg0.N = 8 := rfl; omega⟩

theorem blk0 (t : Fin cfg0.N) (i : Fin 176) (j : Fin 1024) : (iblk m c 0 t (ix2 i j) : EReal) = a0 m c (ix2 (rr t i) j) := by
  blk_point [iblk, V, idx t, rr]
theorem blk1 (t : Fin cfg0.N) (i : Fin 176) (j : Fin 1024) : (iblk m c 1 t (ix2 i j) : EReal) = a1 m c (ix2 (rr t i) j) := by
  blk_point [iblk, V, idx t, rr]
theorem blk2 (t : Fin cfg0.N) (i : Fin 176) (j : Fin 1024) : (iblk m c 2 t (ix2 i j) : EReal) = a2 m c (ix2 (rr t i) j) := by
  blk_point [iblk, V, idx t, rr]
theorem blk3 (t : Fin cfg0.N) (k : Fin 8) (i : Fin 176) (j : Fin 1024) : (iblk m c 3 t (ix3 k i j) : EReal) = a3 m c (ix3 k (rr t i) j) := by
  blk_point [iblk, V, idx t, rr]

/-- One device's part of the block. -/
abbrev part (t : Fin cfg0.N) (k : ℕ) (h : ∀ a, (![k, 0, 0] : Fin 3 → ℕ) a + (![1, 176, 1024] : Fin 3 → ℕ) a ≤ S8x176x1024.size a) :
    FVec Ideal S1x176x1024 .bf16 := View.ld (iblk m c 3 t) (Rect.unit ![k, 0, 0] ![1, 176, 1024] h)

theorem part_apply (t : Fin cfg0.N) (k : Fin 8) (h) (i : Fin 176) (j : Fin 1024) : part m c t k.val h (ix3 0 i j) = a3 m c (ix3 k (rr t i) j) := by
  refine Eq.trans ?_ (blk3 m c t k i j)
  unfold part; pointwise

/-- The gradient in block `t`: the sum of the parts. -/
theorem gradB (t : Fin cfg0.N) (i : Fin 176) (j : Fin 1024) :
    k0_pay5 (F := Ideal) (iblk m c 0 t) (iblk m c 1 t) (iblk m c 2 t) (iblk m c 3 t) (ix2 i j) = val_main_v1 (F := Ideal) (a3 m c) (ix2 (rr t i) j) := by
  rw [v1, Fin.sum_univ_eight]
  refine (pay4_apply _ _ _ _ _ _ _ _ i j).trans ?_
  exact Ideal.add_congr (Ideal.add_congr (Ideal.add_congr (Ideal.add_congr (Ideal.add_congr (Ideal.add_congr (Ideal.add_congr (part_apply m c t 0 _ i j)
    (part_apply m c t 1 _ i j)) (part_apply m c t 2 _ i j)) (part_apply m c t 3 _ i j)) (part_apply m c t 4 _ i j)) (part_apply m c t 5 _ i j))
    (part_apply m c t 6 _ i j)) (part_apply m c t 7 _ i j)

theorem final4 : (dats m 0 c).arrAt 4 cfg0.N = val_main_v1 (F := Ideal) (a3 m c) := by
  refine (dats m 0 c).arrAt_eq_of_covers 4 _ (by decide +kernel) fun t _ y => ?_
  blk_simp
  idx_vars y
  have e : ((win0_4.blk t).view).emb (ix2 y0 y1) = ix2 (rr t y0) y1 := by blk_ext [idx t, rr]
  rw [e]
  refine Eq.trans ?_ (gradB m c t y0 y1)
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 (rr t y0) y1 := by blk_ext [idx t, rr]
  rw [e]
  refine Eq.trans ?_ (pay3_eq _ _ _ _ _ _ _ _ y0 (rr t y0) y1 (gradB m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 (rr t y0) y1 := by blk_ext [idx t, rr]
  rw [e]
  refine Eq.trans ?_ (pay1_eq _ _ _ _ y0 (rr t y0) y1 (gradB m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 (rr t y0) y1 := by blk_ext [idx t, rr]
  rw [e]
  refine Eq.trans ?_ (pay2_eq _ _ _ _ y0 (rr t y0) y1 (gradB m c t y0 y1) (blk2 m c t y0 y1))
  rw [after0_7]
  frame_out

end Cert.AdamDownIdeal.Value2
-- ==== Proof.AdamDownClaim.lean ====
module
public import proofs.«01_k».proof.Defs
public import proofs.«01_k».proof.Proof.Gen.AdamDown.Frame
public import proofs.«01_k».proof.Proof.Gen.AdamDownRefIdeal.Run
public import proofs.«01_k».proof.Proof.AdamDownVal
@[expose] public section
/-! The claims about the update of `ffn_w_down`. -/
set_option maxRecDepth 65536
noncomputable section
open Idealize.ShloMosaic Idealize.SL.Sem
namespace Cert.Proof.AdamDown

theorem frame : Cert.quiescent_AdamDown := fun m ρ _ => Cert.AdamDown.Gen.frame m ρ

theorem frameIdeal : Cert.quiescent_AdamDownIdeal := fun m ρ _ => Cert.AdamDownIdeal.Gen.frame m ρ

theorem frameRef : Cert.quiescent_AdamDownRefIdeal := fun m g _ =>
  (θ_run _ _ _).mono (fun r h => ⟨fun c => (h c).2.2.2.2, sem_eq_zero_of_no_sems rfl r.2⟩)
    (Cert.AdamDownRefIdeal.Value.run m g)

theorem preserves : Cert.preserves_AdamDown_AdamDownIdeal := trivial

theorem algebraic : Cert.algebraic_AdamDownIdeal_AdamDownRefIdeal := by
  pair_intro
  · run_from Cert.AdamDownIdeal.Value.run_blocks m g
  · refine θ_run_mono (Cert.AdamDownRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamDownRefIdeal.Read.val_main_v1_eq _).trans (Cert.AdamDownIdeal.Value2.final4 m c).symm
    · rw [e0, e1, e2, e3]
      exact (Cert.AdamDownRefIdeal.Read.val_main_v25_eq (F := Ideal) _ _ _ _).trans (Cert.AdamDownIdeal.Value2.final5 m c).symm
    · rw [e1, e3]; exact (Cert.AdamDownRefIdeal.Read.val_main_v6_eq _ _).trans (Cert.AdamDownIdeal.Value2.final6 m c).symm
    · rw [e2, e3]; exact (Cert.AdamDownRefIdeal.Read.val_main_v12_eq _ _).trans (Cert.AdamDownIdeal.Value2.final7 m c).symm

end Cert.Proof.AdamDown
-- ==== Proof.AdamSmallVal.lean ====
module
public import proofs.«01_k».proof.Proof.Gen.AdamSmallIdeal.Value
public import proofs.«01_k».proof.Proof.Gen.AdamSmallRefIdeal.Read
public import proofs.«01_k».proof.Proof.Norm
@[expose] public section
/-! The arrays the update of the packed small weights leaves are the reference's. -/
set_option maxRecDepth 200000
noncomputable section
open Idealize.ShloMosaic Idealize.ShloMosaic.TcCoe Idealize.SL.Sem
namespace Cert.AdamSmallIdeal.Value2
open Cert.AdamSmallIdeal Cert.AdamSmallIdeal.Gen
open Cert.AdamSmallRefIdeal.Read

section
variable (x0 x1 x2 : FVec Ideal S16x36480 .f32) (x3 : FVec Ideal S1x16x36480 .f32)

theorem v0 (i : Fin 16) (j : Fin 36480) : val_main_v0 (F := Ideal) x3 (ix2 i j) = x3 (ix3 0 i j) := by
  pointwise [val_main_v0]

theorem v1 (i : Fin 16) (j : Fin 36480) : val_main_v1 (F := Ideal) x3 (ix2 i j) = x3 (ix3 0 i j) := by
  pointwise [val_main_v1]

variable (g : FVec Ideal S1x16x7296 .f32) (w q v : FVec Ideal S16x7296 .f32) (i : Fin 16) (j : Fin 7296) (k : Fin 36480)

/-- The gradient at a point. -/
theorem pay2_apply : k0_pay2 (F := Ideal) g (ix2 i j) = g (ix3 0 i j) := by
  pointwise [k0_pay2]

/-- The first moment at a point, from the gradient and the old moment there. -/
theorem pay3_eq (hg : g (ix3 0 i j) = x3 (ix3 0 i k)) (hq : q (ix2 i j) = x1 (ix2 i k)) :
    k0_pay3 (F := Ideal) g q (ix2 i j) = val_main_v6 (F := Ideal) x1 x3 (ix2 i k) := by
  pointwise [k0_pay3, pay2_apply, val_main_v6, val_main_v5, val_main_v4, val_main_v3, val_main_v2, v1, val_main_cst_0, val_main_cst, hg, hq]

/-- The second moment. -/
theorem pay4_eq (hg : g (ix3 0 i j) = x3 (ix3 0 i k)) (hv : v (ix2 i j) = x2 (ix2 i k)) :
    k0_pay4 (F := Ideal) g v (ix2 i j) = val_main_v12 (F := Ideal) x2 x3 (ix2 i k) := by
  pointwise [k0_pay4, pay2_apply, val_main_v12, val_main_v11, val_main_v10, val_main_v9, val_main_v8, val_main_v7, v1, val_main_cst_2, val_main_cst_1, hg, hv]

/-- The step. -/
theorem pay1_eq (hg : g (ix3 0 i j) = x3 (ix3 0 i k)) (hw : w (ix2 i j) = x0 (ix2 i k)) (hq : q (ix2 i j) = x1 (ix2 i k)) (hv : v (ix2 i j) = x2 (ix2 i k)) :
    k0_pay1 (F := Ideal) (k0_pay5 (F := Ideal) g q v w) (k0_pay6 (F := Ideal)) (ix2 i j) = val_main_v25 (F := Ideal) x0 x1 x2 x3 (ix2 i k) := by
  pointwise [k0_pay1, k0_pay5, k0_pay6, pay3_eq x1 x3 g q i j k hg hq, pay4_eq x2 x3 g v i j k hg hv, val_main_v25, val_main_v24, val_main_v23, val_main_v22,
    val_main_v21, val_main_v20, val_main_v19, val_main_v18, val_main_v17, val_main_v16, val_main_v15, val_main_v14, val_main_v13, val_main_cst_3,
    val_main_cst_4, val_main_cst_5, val_main_cst_6, val_main_cst_7, hw]
end

variable (m : (ℓ : Loc nD τ sig) → Buf (Elt Ideal) ℓ) (c : Dev nD)

abbrev a0 : FVec Ideal S16x36480 .f32 := m ((c : Thread nD τ).loc main_arg0)
abbrev a1 : FVec Ideal S16x36480 .f32 := m ((c : Thread nD τ).loc main_arg1)
abbrev a2 : FVec Ideal S16x36480 .f32 := m ((c : Thread nD τ).loc main_arg2)
abbrev a3 : FVec Ideal S1x16x36480 .f32 := m ((c : Thread nD τ).loc main_arg3)

theorem idx : ∀ t : Fin cfg0.N, win0_0.index t = ![0, t.val] ∧ win0_1.index t = ![0, t.val] ∧ win0_2.index t = ![0, t.val]
    ∧ win0_3.index t = ![0, 0, t.val] ∧ win0_4.index t = ![0, t.val] ∧ win0_5.index t = ![0, t.val] ∧ win0_6.index t = ![0, t.val]
    ∧ win0_7.index t = ![0, t.val] :=
  (by decide +kernel : ∀ t : Fin grid0.N, _)

/-- Column `j` of block `t` is column `7296 t + j`. -/
def cc (t : Fin cfg0.N) (j : Fin 7296) : Fin 36480 := ⟨t.val * 7296 + j.val, by have := t.isLt; have : cfg0.N = 5 := rfl; omega⟩

theorem blk0 (t : Fin cfg0.N) (i : Fin 16) (j : Fin 7296) : (iblk m c 0 t (ix2 i j) : EReal) = a0 m c (ix2 i (cc t j)) := by
  blk_point [iblk, V, idx t, cc]
theorem blk1 (t : Fin cfg0.N) (i : Fin 16) (j : Fin 7296) : (iblk m c 1 t (ix2 i j) : EReal) = a1 m c (ix2 i (cc t j)) := by
  blk_point [iblk, V, idx t, cc]
theorem blk2 (t : Fin cfg0.N) (i : Fin 16) (j : Fin 7296) : (iblk m c 2 t (ix2 i j) : EReal) = a2 m c (ix2 i (cc t j)) := by
  blk_point [iblk, V, idx t, cc]
theorem blk3 (t : Fin cfg0.N) (i : Fin 16) (j : Fin 7296) : (iblk m c 3 t (ix3 0 i j) : EReal) = a3 m c (ix3 0 i (cc t j)) := by
  blk_point [iblk, V, idx t, cc]

theorem final4 : (dats m 0 c).arrAt 4 cfg0.N = val_main_v0 (F := Ideal) (a3 m c) := by
  refine (dats m 0 c).arrAt_eq_of_covers 4 _ (by decide +kernel) fun t _ y => ?_
  blk_simp
  idx_vars y
  have e : ((win0_4.blk t).view).emb (ix2 y0 y1) = ix2 y0 (cc t y1) := by blk_ext [idx t, cc]
  rw [e]
  refine Eq.trans ?_ ((pay2_apply _ y0 y1).trans ((blk3 m c t y0 y1).trans (v0 _ y0 (cc t y1)).symm))
  rw [after0_4]
  frame_out

theorem final5 : (dats m 0 c).arrAt 5 cfg0.N = val_main_v25 (F := Ideal) (a0 m c) (a1 m c) (a2 m c) (a3 m c) := by
  refine (dats m 0 c).arrAt_eq_of_covers 5 _ (by decide +kernel) fun t _ y => ?_
  blk_simp
  idx_vars y
  have e : ((win0_5.blk t).view).emb (ix2 y0 y1) = ix2 y0 (cc t y1) := by blk_ext [idx t, cc]
  rw [e]
  refine Eq.trans ?_ (pay1_eq _ _ _ _ _ _ _ _ y0 y1 (cc t y1) (blk3 m c t y0 y1) (blk0 m c t y0 y1) (blk1 m c t y0 y1) (blk2 m c t y0 y1))
  rw [after0_5]
  frame_out

theorem final6 : (dats m 0 c).arrAt 6 cfg0.N = val_main_v6 (F := Ideal) (a1 m c) (a3 m c) := by
  refine (dats m 0 c).arrAt_eq_of_covers 6 _ (by decide +kernel) fun t _ y => ?_
  blk_simp
  idx_vars y
  have e : ((win0_6.blk t).view).emb (ix2 y0 y1) = ix2 y0 (cc t y1) := by blk_ext [idx t, cc]
  rw [e]
  refine Eq.trans ?_ (pay3_eq _ _ _ _ y0 y1 (cc t y1) (blk3 m c t y0 y1) (blk1 m c t y0 y1))
  rw [after0_6]
  frame_out

theorem final7 : (dats m 0 c).arrAt 7 cfg0.N = val_main_v12 (F := Ideal) (a2 m c) (a3 m c) := by
  refine (dats m 0 c).arrAt_eq_of_covers 7 _ (by decide +kernel) fun t _ y => ?_
  blk_simp
  idx_vars y
  have e : ((win0_7.blk t).view).emb (ix2 y0 y1) = ix2 y0 (cc t y1) := by blk_ext [idx t, cc]
  rw [e]
  refine Eq.trans ?_ (pay4_eq _ _ _ _ y0 y1 (cc t y1) (blk3 m c t y0 y1) (blk2 m c t y0 y1))
  rw [after0_7]
  frame_out

end Cert.AdamSmallIdeal.Value2
-- ==== Proof.AdamSmallClaim.lean ====
module
public import proofs.«01_k».proof.Defs
public import proofs.«01_k».proof.Proof.Gen.AdamSmall.Frame
public import proofs.«01_k».proof.Proof.Gen.AdamSmallRefIdeal.Run
public import proofs.«01_k».proof.Proof.AdamSmallVal
@[expose] public section
/-! The claims about the update of the packed small weights. -/
set_option maxRecDepth 65536
noncomputable section
open Idealize.ShloMosaic Idealize.SL.Sem
namespace Cert.Proof.AdamSmall

theorem frame : Cert.quiescent_AdamSmall := fun m ρ _ => Cert.AdamSmall.Gen.frame m ρ

theorem frameIdeal : Cert.quiescent_AdamSmallIdeal := fun m ρ _ => Cert.AdamSmallIdeal.Gen.frame m ρ

theorem frameRef : Cert.quiescent_AdamSmallRefIdeal := fun m g _ =>
  (θ_run _ _ _).mono (fun r h => ⟨fun c => (h c).2.2.2.2, sem_eq_zero_of_no_sems rfl r.2⟩)
    (Cert.AdamSmallRefIdeal.Value.run m g)

theorem preserves : Cert.preserves_AdamSmall_AdamSmallIdeal := trivial

theorem algebraic : Cert.algebraic_AdamSmallIdeal_AdamSmallRefIdeal := by
  pair_intro
  · run_from Cert.AdamSmallIdeal.Value.run_blocks m g
  · refine θ_run_mono (Cert.AdamSmallRefIdeal.Value.run m' g') fun r hr c => ?_
    obtain ⟨h1, h2, h3, h4, h5⟩ := hr c
    obtain ⟨e0, e1, e2, e3⟩ := hagree c
    refine ⟨h1.trans ?_, h2.trans ?_, h3.trans ?_, h4.trans ?_, h5⟩
    · rw [e3]; exact (Cert.AdamSmallRefIdeal.Read.val_main_v0_eq _).trans (Cert.AdamSmallIdeal.Value2.final4 m c).symm
    · rw [e0, e1, e2, e3]
      exact (Cert.AdamSmallRefIdeal.Read.val_main_v25_eq (F := Ideal) _ _ _ _).trans (Cert.AdamSmallIdeal.Value2.final5 m c).symm
    · rw [e1, e3]; exact (Cert.AdamSmallRefIdeal.Read.val_main_v6_eq _ _).trans (Cert.AdamSmallIdeal.Value2.final6 m c).symm
    · rw [e2, e3]; exact (Cert.AdamSmallRefIdeal.Read.val_main_v12_eq _ _).trans (Cert.AdamSmallIdeal.Value2.final7 m c).symm

end Cert.Proof.AdamSmall
-- ==== Proof.SumPartsVal.lean ====
module
public import proofs.«01_k».proof.Proof.Gen.SumPartsIdeal.Value
public import proofs.«01_k».proof.Proof.Gen.SumPartsRefIdeal.Read
public import proofs.«01_k».proof.Proof.Norm
@[expose] public section
/-! The array the sum of the devices' parts leaves is the reference's. -/
set_option maxRecDepth 200000
noncomputable section
open Idealize.ShloMosaic Idealize.ShloMosaic.TcCoe Idealize.SL.Sem
namespace Cert.SumPartsIdeal.Value2
open Cert.SumPartsIdeal Cert.SumPartsIdeal.Gen
open Cert.SumPartsRefIdeal.Read

theorem pay1_apply (p0 p1 p2 p3 p4 p5 p6 p7 : FVec Ideal S1x16x5120 .f32) (i : Fin 16) (j : Fin 5120) :
    k0_pay1 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  pointwise [k0_pay1]

theorem v0 (x : FVec Ideal S8x16x5120 .f32) (i : Fin 16) (j : Fin 5120) :
    val_main_v0 (F := Ideal) x (ix2 i j) = ∑ k : Fin 8, x (ix3 k i j) := by
  pointwise [val_main_v0, val_main_cst]

variable (m : (ℓ : Loc nD τ sig) → Buf (Elt Ideal) ℓ) (c : Dev nD)

abbrev a0 : FVec Ideal S8x16x5120 .f32 := m ((c : Thread nD τ).loc main_arg0)

theorem idx : ∀ t : Fin cfg0.N, win0_0.index t = ![0, 0, 0] ∧ win0_1.index t = ![0, 0] :=
  (by decide +kernel : ∀ t : Fin grid0.N, _)

theorem blk0 (t : Fin cfg0.N) (k : Fin 8) (i : Fin 16) (j : Fin 5120) : (iblk m c 0 t (ix3 k i j) : EReal) = a0 m c (ix3 k i j) := by
  blk_point [iblk, V, idx t]

/-- One device's part of the block. -/
abbrev part (t : Fin cfg0.N) (k : ℕ) (h : ∀ a, (![k, 0, 0] : Fin 3 → ℕ) a + (![1, 16, 5120] : Fin 3 → ℕ) a ≤ S8x16x5120.size a) : FVec Ideal S1x16x5120 .f32 := View.ld (iblk m c 0 t) (Rect.unit ![k, 0, 0] ![1, 16, 5120] h)

theorem part_apply (t : Fin cfg0.N) (k : Fin 8) (h) (i : Fin 16) (j : Fin 5120) : part m c t k.val h (ix3 0 i j) = a0 m c (ix3 k i j) := by
  refine Eq.trans ?_ (blk0 m c t k i j)
  unfold part; pointwise

theorem sumB (t : Fin cfg0.N) (h0 h1 h2 h3 h4 h5 h6 h7) (i : Fin 16) (j : Fin 5120) :
    k0_pay1 (F := Ideal) (part m c t 0 h0) (part m c t 1 h1) (part m c t 2 h2) (part m c t 3 h3) (part m c t 4 h4) (part m c t 5 h5) (part m c t 6 h6)
      (part m c t 7 h7) (ix2 i j) = val_main_v0 (F := Ideal) (a0 m c) (ix2 i j) := by
  rw [v0, Fin.sum_univ_eight]
  refine (pay1_apply _ _ _ _ _ _ _ _ i j).trans ?_
  exact Ideal.add_congr (Ideal.add_congr (Ideal.add_congr (Ideal.add_congr (Ideal.add_congr (Ideal.add_congr (Ideal.add_congr (part_apply m c t 0 h0 i j)
    (part_apply m c t 1 h1 i j)) (part_apply m c t 2 h2 i j)) (part_apply m c t 3 h3 i j)) (part_apply m c t 4 h4 i j)) (part_apply m c t 5 h5 i j))
    (part_apply m c t 6 h6 i j)) (part_apply m c t 7 h7 i j)

theorem final : (dats m 0 c).arrAt 1 cfg0.N = val_main_v0 (F := Ideal) (a0 m c) := by
  refine (dats m 0 c).arrAt_eq_of_covers 1 _ (by decide +kernel) fun t _ y => ?_
  blk_simp
  idx_vars y
  have e : ((win0_1.blk t).view).emb (ix2 y0 y1) = ix2 y0 y1 := by blk_ext [idx t]
  rw [e]
  refine Eq.trans ?_ (sumB m c t inb_S8x16x5120_S1x16x5120_0_0_0 inb_S8x16x5120_S1x16x5120_1_0_0 inb_S8x16x5120_S1x16x5120_2_0_0
    inb_S8x16x5120_S1x16x5120_3_0_0 inb_S8x16x5120_S1x16x5120_4_0_0 inb_S8x16x5120_S1x16x5120_5_0_0 inb_S8x16x5120_S1x16x5120_6_0_0
    inb_S8x16x5120_S1x16x5120_7_0_0 y0 y1)
  rw [after0_1]
  frame_out
  rfl

end Cert.SumPartsIdeal.Value2
-- ==== Proof.SumPartsClaim.lean ====
module
public import proofs.«01_k».proof.Defs
public import proofs.«01_k».proof.Proof.Gen.SumParts.Frame
public import proofs.«01_k».proof.Proof.Gen.SumPartsRefIdeal.Run
public import proofs.«01_k».proof.Proof.SumPartsVal
@[expose] public section
/-! The claims about the sum of the devices' parts. -/
set_option maxRecDepth 65536
noncomputable section
open Idealize.ShloMosaic Idealize.SL.Sem
namespace Cert.Proof.SumParts

theorem frame : Cert.quiescent_SumParts := fun m ρ _ => Cert.SumParts.Gen.frame m ρ

theorem frameIdeal : Cert.quiescent_SumPartsIdeal := fun m ρ _ => Cert.SumPartsIdeal.Gen.frame m ρ

theorem frameRef : Cert.quiescent_SumPartsRefIdeal := fun m g _ =>
  (θ_run _ _ _).mono (fun r h => ⟨fun c => (h c).2, sem_eq_zero_of_no_sems rfl r.2⟩)
    (Cert.SumPartsRefIdeal.Value.run m g)

theorem preserves : Cert.preserves_SumParts_SumPartsIdeal := trivial

theorem algebraic : Cert.algebraic_SumPartsIdeal_SumPartsRefIdeal := by
  pair_intro
  · run_from Cert.SumPartsIdeal.Value.run_blocks m g
  · refine θ_run_mono (Cert.SumPartsRefIdeal.Value.run m' g') fun r hr c => ⟨(hr c).1.trans ?_, (hr c).2⟩
    rw [hagree c]
    exact (Cert.SumPartsRefIdeal.Read.val_main_v0_eq _).trans (Cert.SumPartsIdeal.Value2.final m c).symm

end Cert.Proof.SumParts
-- ==== Proof.lean ====
module

public import proofs.«01_k».proof.Defs
public import proofs.«01_k».proof.Proof.SconvClaim
public import proofs.«01_k».proof.Proof.Gen.Sconv
public import proofs.«01_k».proof.Proof.Gen.SconvIdeal
public import proofs.«01_k».proof.Proof.Gen.SconvRefIdeal
public import proofs.«01_k».proof.Proof.LossClaim
public import proofs.«01_k».proof.Proof.Gen.Loss
public import proofs.«01_k».proof.Proof.Gen.LossIdeal
public import proofs.«01_k».proof.Proof.Gen.LossRefIdeal
public import proofs.«01_k».proof.Proof.UpDxClaim
public import proofs.«01_k».proof.Proof.Gen.UpDx
public import proofs.«01_k».proof.Proof.Gen.UpDxIdeal
public import proofs.«01_k».proof.Proof.Gen.UpDxRefIdeal
public import proofs.«01_k».proof.Proof.InDxClaim
public import proofs.«01_k».proof.Proof.Gen.InDx
public import proofs.«01_k».proof.Proof.Gen.InDxIdeal
public import proofs.«01_k».proof.Proof.Gen.InDxRefIdeal
public import proofs.«01_k».proof.Proof.OddInDxClaim
public import proofs.«01_k».proof.Proof.Gen.OddInDx
public import proofs.«01_k».proof.Proof.Gen.OddInDxIdeal
public import proofs.«01_k».proof.Proof.Gen.OddInDxRefIdeal
public import proofs.«01_k».proof.Proof.GluClaim
public import proofs.«01_k».proof.Proof.Gen.Glu
public import proofs.«01_k».proof.Proof.Gen.GluIdeal
public import proofs.«01_k».proof.Proof.Gen.GluRefIdeal
public import proofs.«01_k».proof.Proof.PoolClaim
public import proofs.«01_k».proof.Proof.Gen.Pool
public import proofs.«01_k».proof.Proof.Gen.PoolIdeal
public import proofs.«01_k».proof.Proof.Gen.PoolRefIdeal
public import proofs.«01_k».proof.Proof.SguClaim
public import proofs.«01_k».proof.Proof.Gen.Sgu
public import proofs.«01_k».proof.Proof.Gen.SguIdeal
public import proofs.«01_k».proof.Proof.Gen.SguRefIdeal
public import proofs.«01_k».proof.Proof.FfnClaim
public import proofs.«01_k».proof.Proof.Gen.Ffn
public import proofs.«01_k».proof.Proof.Gen.FfnIdeal
public import proofs.«01_k».proof.Proof.Gen.FfnRefIdeal
public import proofs.«01_k».proof.Proof.GluFwdClaim
public import proofs.«01_k».proof.Proof.Gen.GluFwd
public import proofs.«01_k».proof.Proof.Gen.GluFwdIdeal
public import proofs.«01_k».proof.Proof.Gen.GluFwdRefIdeal
public import proofs.«01_k».proof.Proof.RmsFwdClaim
public import proofs.«01_k».proof.Proof.Gen.RmsFwd
public import proofs.«01_k».proof.Proof.Gen.RmsFwdIdeal
public import proofs.«01_k».proof.Proof.Gen.RmsFwdRefIdeal
public import proofs.«01_k».proof.Proof.PoolFwdClaim
public import proofs.«01_k».proof.Proof.Gen.PoolFwd
public import proofs.«01_k».proof.Proof.Gen.PoolFwdIdeal
public import proofs.«01_k».proof.Proof.Gen.PoolFwdRefIdeal
public import proofs.«01_k».proof.Proof.SguFwdClaim
public import proofs.«01_k».proof.Proof.Gen.SguFwd
public import proofs.«01_k».proof.Proof.Gen.SguFwdIdeal
public import proofs.«01_k».proof.Proof.Gen.SguFwdRefIdeal
public import proofs.«01_k».proof.Proof.SconvFwdClaim
public import proofs.«01_k».proof.Proof.Gen.SconvFwd
public import proofs.«01_k».proof.Proof.Gen.SconvFwdIdeal
public import proofs.«01_k».proof.Proof.Gen.SconvFwdRefIdeal
public import proofs.«01_k».proof.Proof.MixOutClaim
public import proofs.«01_k».proof.Proof.Gen.MixOut
public import proofs.«01_k».proof.Proof.Gen.MixOutIdeal
public import proofs.«01_k».proof.Proof.Gen.MixOutRefIdeal
public import proofs.«01_k».proof.Proof.DownClaim
public import proofs.«01_k».proof.Proof.Gen.Down
public import proofs.«01_k».proof.Proof.Gen.DownIdeal
public import proofs.«01_k».proof.Proof.Gen.DownRefIdeal
public import proofs.«01_k».proof.Proof.S5FwdFrame
public import proofs.«01_k».proof.Proof.S5FwdIdealFrame
public import proofs.«01_k».proof.Proof.Gen.S5Fwd
public import proofs.«01_k».proof.Proof.Gen.S5FwdIdeal
public import proofs.«01_k».proof.Proof.S5BwdFrame
public import proofs.«01_k».proof.Proof.S5BwdIdealFrame
public import proofs.«01_k».proof.Proof.Gen.S5Bwd
public import proofs.«01_k».proof.Proof.Gen.S5BwdIdeal
public import proofs.«01_k».proof.Proof.DownDxClaim
public import proofs.«01_k».proof.Proof.Gen.DownDx
public import proofs.«01_k».proof.Proof.Gen.DownDxIdeal
public import proofs.«01_k».proof.Proof.Gen.DownDxRefIdeal
public import proofs.«01_k».proof.Proof.DownDwClaim
public import proofs.«01_k».proof.Proof.Gen.DownDw
public import proofs.«01_k».proof.Proof.Gen.DownDwIdeal
public import proofs.«01_k».proof.Proof.Gen.DownDwRefIdeal
public import proofs.«01_k».proof.Proof.MixOutDxClaim
public import proofs.«01_k».proof.Proof.Gen.MixOutDx
public import proofs.«01_k».proof.Proof.Gen.MixOutDxIdeal
public import proofs.«01_k».proof.Proof.Gen.MixOutDxRefIdeal
public import proofs.«01_k».proof.Proof.MixOutDwClaim
public import proofs.«01_k».proof.Proof.Gen.MixOutDw
public import proofs.«01_k».proof.Proof.Gen.MixOutDwIdeal
public import proofs.«01_k».proof.Proof.Gen.MixOutDwRefIdeal
public import proofs.«01_k».proof.Proof.UpClaim
public import proofs.«01_k».proof.Proof.Gen.Up
public import proofs.«01_k».proof.Proof.Gen.UpIdeal
public import proofs.«01_k».proof.Proof.Gen.UpRefIdeal
public import proofs.«01_k».proof.Proof.EvenInClaim
public import proofs.«01_k».proof.Proof.Gen.EvenIn
public import proofs.«01_k».proof.Proof.Gen.EvenInIdeal
public import proofs.«01_k».proof.Proof.Gen.EvenInRefIdeal
public import proofs.«01_k».proof.Proof.DownLastClaim
public import proofs.«01_k».proof.Proof.Gen.DownLast
public import proofs.«01_k».proof.Proof.Gen.DownLastIdeal
public import proofs.«01_k».proof.Proof.Gen.DownLastRefIdeal
public import proofs.«01_k».proof.Proof.EvenInDwClaim
public import proofs.«01_k».proof.Proof.Gen.EvenInDw
public import proofs.«01_k».proof.Proof.Gen.EvenInDwIdeal
public import proofs.«01_k».proof.Proof.Gen.EvenInDwRefIdeal
public import proofs.«01_k».proof.Proof.OddInClaim
public import proofs.«01_k».proof.Proof.Gen.OddIn
public import proofs.«01_k».proof.Proof.Gen.OddInIdeal
public import proofs.«01_k».proof.Proof.Gen.OddInRefIdeal
public import proofs.«01_k».proof.Proof.OddInDwClaim
public import proofs.«01_k».proof.Proof.Gen.OddInDw
public import proofs.«01_k».proof.Proof.Gen.OddInDwIdeal
public import proofs.«01_k».proof.Proof.Gen.OddInDwRefIdeal
public import proofs.«01_k».proof.Proof.UpDwClaim
public import proofs.«01_k».proof.Proof.Gen.UpDw
public import proofs.«01_k».proof.Proof.Gen.UpDwIdeal
public import proofs.«01_k».proof.Proof.Gen.UpDwRefIdeal
public import proofs.«01_k».proof.Proof.AdamClaim
public import proofs.«01_k».proof.Proof.Gen.Adam
public import proofs.«01_k».proof.Proof.Gen.AdamIdeal
public import proofs.«01_k».proof.Proof.Gen.AdamRefIdeal
public import proofs.«01_k».proof.Proof.AdamEvenInClaim
public import proofs.«01_k».proof.Proof.Gen.AdamEvenIn
public import proofs.«01_k».proof.Proof.Gen.AdamEvenInIdeal
public import proofs.«01_k».proof.Proof.Gen.AdamEvenInRefIdeal
public import proofs.«01_k».proof.Proof.AdamGluClaim
public import proofs.«01_k».proof.Proof.Gen.AdamGlu
public import proofs.«01_k».proof.Proof.Gen.AdamGluIdeal
public import proofs.«01_k».proof.Proof.Gen.AdamGluRefIdeal
public import proofs.«01_k».proof.Proof.AdamOutClaim
public import proofs.«01_k».proof.Proof.Gen.AdamOut
public import proofs.«01_k».proof.Proof.Gen.AdamOutIdeal
public import proofs.«01_k».proof.Proof.Gen.AdamOutRefIdeal
public import proofs.«01_k».proof.Proof.AdamOddInClaim
public import proofs.«01_k».proof.Proof.Gen.AdamOddIn
public import proofs.«01_k».proof.Proof.Gen.AdamOddInIdeal
public import proofs.«01_k».proof.Proof.Gen.AdamOddInRefIdeal
public import proofs.«01_k».proof.Proof.AdamDownClaim
public import proofs.«01_k».proof.Proof.Gen.AdamDown
public import proofs.«01_k».proof.Proof.Gen.AdamDownIdeal
public import proofs.«01_k».proof.Proof.Gen.AdamDownRefIdeal
public import proofs.«01_k».proof.Proof.AdamSmallClaim
public import proofs.«01_k».proof.Proof.Gen.AdamSmall
public import proofs.«01_k».proof.Proof.Gen.AdamSmallIdeal
public import proofs.«01_k».proof.Proof.Gen.AdamSmallRefIdeal
public import proofs.«01_k».proof.Proof.SumPartsClaim
public import proofs.«01_k».proof.Proof.Gen.SumParts
public import proofs.«01_k».proof.Proof.Gen.SumPartsIdeal
public import proofs.«01_k».proof.Proof.Gen.SumPartsRefIdeal

@[expose] public section

set_option maxRecDepth 65536

noncomputable section

namespace Cert.Proof

open Idealize.ShloMosaic Idealize.SL.Sem

theorem claim : Cert.Claim :=
  ⟨Cert.Sconv.Gen.facts, Cert.SconvIdeal.Gen.facts, Cert.SconvRefIdeal.Gen.facts,
    Cert.Loss.Gen.facts, Cert.LossIdeal.Gen.facts, Cert.LossRefIdeal.Gen.facts,
    Cert.UpDx.Gen.facts, Cert.UpDxIdeal.Gen.facts, Cert.UpDxRefIdeal.Gen.facts,
    Cert.InDx.Gen.facts, Cert.InDxIdeal.Gen.facts, Cert.InDxRefIdeal.Gen.facts,
    Cert.OddInDx.Gen.facts, Cert.OddInDxIdeal.Gen.facts, Cert.OddInDxRefIdeal.Gen.facts,
    Cert.Glu.Gen.facts, Cert.GluIdeal.Gen.facts, Cert.GluRefIdeal.Gen.facts,
    Cert.Pool.Gen.facts, Cert.PoolIdeal.Gen.facts, Cert.PoolRefIdeal.Gen.facts,
    Cert.Sgu.Gen.facts, Cert.SguIdeal.Gen.facts, Cert.SguRefIdeal.Gen.facts,
    Cert.Ffn.Gen.facts, Cert.FfnIdeal.Gen.facts, Cert.FfnRefIdeal.Gen.facts,
    Cert.GluFwd.Gen.facts, Cert.GluFwdIdeal.Gen.facts, Cert.GluFwdRefIdeal.Gen.facts,
    Cert.RmsFwd.Gen.facts, Cert.RmsFwdIdeal.Gen.facts, Cert.RmsFwdRefIdeal.Gen.facts,
    Cert.PoolFwd.Gen.facts, Cert.PoolFwdIdeal.Gen.facts, Cert.PoolFwdRefIdeal.Gen.facts,
    Cert.SguFwd.Gen.facts, Cert.SguFwdIdeal.Gen.facts, Cert.SguFwdRefIdeal.Gen.facts,
    Cert.SconvFwd.Gen.facts, Cert.SconvFwdIdeal.Gen.facts, Cert.SconvFwdRefIdeal.Gen.facts,
    Cert.MixOut.Gen.facts, Cert.MixOutIdeal.Gen.facts, Cert.MixOutRefIdeal.Gen.facts,
    Cert.Down.Gen.facts, Cert.DownIdeal.Gen.facts, Cert.DownRefIdeal.Gen.facts,
    Cert.S5Fwd.Gen.facts, Cert.S5FwdIdeal.Gen.facts, Cert.S5Bwd.Gen.facts,
    Cert.S5BwdIdeal.Gen.facts, Cert.DownDx.Gen.facts, Cert.DownDxIdeal.Gen.facts,
    Cert.DownDxRefIdeal.Gen.facts, Cert.DownDw.Gen.facts, Cert.DownDwIdeal.Gen.facts,
    Cert.DownDwRefIdeal.Gen.facts, Cert.MixOutDx.Gen.facts, Cert.MixOutDxIdeal.Gen.facts,
    Cert.MixOutDxRefIdeal.Gen.facts, Cert.MixOutDw.Gen.facts, Cert.MixOutDwIdeal.Gen.facts,
    Cert.MixOutDwRefIdeal.Gen.facts, Cert.Up.Gen.facts, Cert.UpIdeal.Gen.facts,
    Cert.UpRefIdeal.Gen.facts, Cert.EvenIn.Gen.facts, Cert.EvenInIdeal.Gen.facts,
    Cert.EvenInRefIdeal.Gen.facts, Cert.DownLast.Gen.facts, Cert.DownLastIdeal.Gen.facts,
    Cert.DownLastRefIdeal.Gen.facts, Cert.EvenInDw.Gen.facts, Cert.EvenInDwIdeal.Gen.facts,
    Cert.EvenInDwRefIdeal.Gen.facts, Cert.OddIn.Gen.facts, Cert.OddInIdeal.Gen.facts,
    Cert.OddInRefIdeal.Gen.facts, Cert.OddInDw.Gen.facts, Cert.OddInDwIdeal.Gen.facts,
    Cert.OddInDwRefIdeal.Gen.facts, Cert.UpDw.Gen.facts, Cert.UpDwIdeal.Gen.facts,
    Cert.UpDwRefIdeal.Gen.facts, Cert.Adam.Gen.facts, Cert.AdamIdeal.Gen.facts,
    Cert.AdamRefIdeal.Gen.facts, Cert.AdamEvenIn.Gen.facts, Cert.AdamEvenInIdeal.Gen.facts,
    Cert.AdamEvenInRefIdeal.Gen.facts, Cert.AdamGlu.Gen.facts, Cert.AdamGluIdeal.Gen.facts,
    Cert.AdamGluRefIdeal.Gen.facts, Cert.AdamOut.Gen.facts, Cert.AdamOutIdeal.Gen.facts,
    Cert.AdamOutRefIdeal.Gen.facts, Cert.AdamOddIn.Gen.facts, Cert.AdamOddInIdeal.Gen.facts,
    Cert.AdamOddInRefIdeal.Gen.facts, Cert.AdamDown.Gen.facts, Cert.AdamDownIdeal.Gen.facts,
    Cert.AdamDownRefIdeal.Gen.facts, Cert.AdamSmall.Gen.facts, Cert.AdamSmallIdeal.Gen.facts,
    Cert.AdamSmallRefIdeal.Gen.facts, Cert.SumParts.Gen.facts, Cert.SumPartsIdeal.Gen.facts,
    Cert.SumPartsRefIdeal.Gen.facts, Glu.preFacts, Pool.preFacts,
    Sgu.preFacts, Ffn.preFacts, PoolFwd.preFacts,
    Sconv.frame, Sconv.frameIdeal, Sconv.frameRef, Loss.frame,
    Loss.frameIdeal, Loss.frameRef, UpDx.frame, UpDx.frameIdeal,
    UpDx.frameRef, InDx.frame, InDx.frameIdeal, InDx.frameRef,
    OddInDx.frame, OddInDx.frameIdeal, OddInDx.frameRef, Glu.frame,
    Glu.frameIdeal, Glu.framePre, Glu.frameRef, Glu.frameRefPre,
    Pool.frame, Pool.frameIdeal, Pool.framePre, Pool.frameRef,
    Pool.frameRefPre, Sgu.frame, Sgu.frameIdeal, Sgu.framePre,
    Sgu.frameRef, Sgu.frameRefPre, Ffn.frame, Ffn.frameIdeal,
    Ffn.framePre, Ffn.frameRef, Ffn.frameRefPre, GluFwd.frame,
    GluFwd.frameIdeal, GluFwd.frameRef, RmsFwd.frame, RmsFwd.frameIdeal,
    RmsFwd.frameRef, PoolFwd.frame, PoolFwd.frameIdeal, PoolFwd.framePre,
    PoolFwd.frameRef, PoolFwd.frameRefPre, SguFwd.frame, SguFwd.frameIdeal,
    SguFwd.frameRef, SconvFwd.frame, SconvFwd.frameIdeal, SconvFwd.frameRef,
    MixOut.frame, MixOut.frameIdeal, MixOut.frameRef, Down.frame,
    Down.frameIdeal, Down.frameRef, (fun m g _ => Cert.S5Fwd.Hand.frame m g), (fun m g _ => Cert.S5FwdIdeal.Hand.frame m g),
    (fun m g _ => Cert.S5Bwd.Hand.frame m g), (fun m g _ => Cert.S5BwdIdeal.Hand.frame m g), DownDx.frame, DownDx.frameIdeal,
    DownDx.frameRef, DownDw.frame, DownDw.frameIdeal, DownDw.frameRef,
    MixOutDx.frame, MixOutDx.frameIdeal, MixOutDx.frameRef, MixOutDw.frame,
    MixOutDw.frameIdeal, MixOutDw.frameRef, Up.frame, Up.frameIdeal,
    Up.frameRef, EvenIn.frame, EvenIn.frameIdeal, EvenIn.frameRef,
    DownLast.frame, DownLast.frameIdeal, DownLast.frameRef, EvenInDw.frame,
    EvenInDw.frameIdeal, EvenInDw.frameRef, OddIn.frame, OddIn.frameIdeal,
    OddIn.frameRef, OddInDw.frame, OddInDw.frameIdeal, OddInDw.frameRef,
    UpDw.frame, UpDw.frameIdeal, UpDw.frameRef, Adam.frame,
    Adam.frameIdeal, Adam.frameRef, AdamEvenIn.frame, AdamEvenIn.frameIdeal,
    AdamEvenIn.frameRef, AdamGlu.frame, AdamGlu.frameIdeal, AdamGlu.frameRef,
    AdamOut.frame, AdamOut.frameIdeal, AdamOut.frameRef, AdamOddIn.frame,
    AdamOddIn.frameIdeal, AdamOddIn.frameRef, AdamDown.frame, AdamDown.frameIdeal,
    AdamDown.frameRef, AdamSmall.frame, AdamSmall.frameIdeal, AdamSmall.frameRef,
    SumParts.frame, SumParts.frameIdeal, SumParts.frameRef, Sconv.preserves,
    Sconv.algebraic, Loss.preserves, Loss.algebraic, UpDx.preserves,
    UpDx.algebraic, InDx.preserves, InDx.algebraic, OddInDx.preserves,
    OddInDx.algebraic, Glu.preserves, Glu.algebraic, Pool.preserves,
    Pool.algebraic, Sgu.preserves, Sgu.algebraic, Ffn.preserves,
    Ffn.algebraic, GluFwd.preserves, GluFwd.algebraic, RmsFwd.preserves,
    RmsFwd.algebraic, PoolFwd.preserves, PoolFwd.algebraic, SguFwd.preserves,
    SguFwd.algebraic, SconvFwd.preserves, SconvFwd.algebraic, MixOut.preserves,
    MixOut.algebraic, Down.preserves, Down.algebraic, trivial,
    trivial, DownDx.preserves, DownDx.algebraic, DownDw.preserves,
    DownDw.algebraic, MixOutDx.preserves, MixOutDx.algebraic, MixOutDw.preserves,
    MixOutDw.algebraic, Up.preserves, Up.algebraic, EvenIn.preserves,
    EvenIn.algebraic, DownLast.preserves, DownLast.algebraic, EvenInDw.preserves,
    EvenInDw.algebraic, OddIn.preserves, OddIn.algebraic, OddInDw.preserves,
    OddInDw.algebraic, UpDw.preserves, UpDw.algebraic, Adam.preserves,
    Adam.algebraic, AdamEvenIn.preserves, AdamEvenIn.algebraic, AdamGlu.preserves,
    AdamGlu.algebraic, AdamOut.preserves, AdamOut.algebraic, AdamOddIn.preserves,
    AdamOddIn.algebraic, AdamDown.preserves, AdamDown.algebraic, AdamSmall.preserves,
    AdamSmall.algebraic, SumParts.preserves, SumParts.algebraic⟩

end Cert.Proof

end
